-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_v141) = v1 c
          ∧ r.2.mem ((c.tc : Thread Cert.Reference2Ideal.nD Cert.Reference2Ideal.τ).loc Cert.Reference2Ideal.main_v147) = v2 c
          ∧ r.2.mem ((c.tc : Thread Cert.Reference2Ideal.nD Cert.Reference2Ideal.τ).loc Cert.Reference2Ideal.main_v151) = v3 c
          ∧ r.2.mem ((c.tc : Thread Cert.Reference2Ideal.nD Cert.Reference2Ideal.τ).loc Cert.Reference2Ideal.main_v157) = v4 c
          ∧ r.2.mem ((c.tc : Thread Cert.Reference2Ideal.nD Cert.Reference2Ideal.τ).loc Cert.Reference2Ideal.main_v163) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S4x64 : Shape := ⟨2, ![4, 64]⟩
abbrev S128 : Shape := ⟨1, ![128]⟩
abbrev S_ : Shape := ⟨0, ![]⟩

class Facts : Prop where
  bcast_S_S4x8192x4x2x64 : S_.BroadcastsInDim S4x8192x4x2x64 (![] : Fin 0 → Fin S4x8192x4x2x64.rank)
  reducesTo_S4x8192x4x2x64_S_d0_1_2_3_4 : S4x8192x4x2x64.ReducesTo [0, 1, 2, 3, 4] S_
  h_S_ : 0 < S_.numel
  bcast_S_S4x256x4x2x64 : S_.BroadcastsInDim S4x256x4x2x64 (![] : Fin 0 → Fin S4x256x4x2x64.rank)
  reducesTo_S4x256x4x2x64_S_d0_1_2_3_4 : S4x256x4x2x64.ReducesTo [0, 1, 2, 3, 4] S_
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x8192x4x128 .f32) (main_arg5 : FVec F S4x256x4x128 .f32) (main_arg6 : FVec F S4x64 .f32) (main_v13 : IVec S_ 1) (main_v16 : IVec S4x256x4x2x64 1) : IVec S_ 1 :=
  let main_c_5 : IVec S_ 1 := constantI S_ 1 1#1
  let main_v17 : IVec S_ 1 := (fun x v => Host.reduce IntOp.andi x v reducesTo_S4x256x4x2x64_S_d0_1_2_3_4 h_S_) main_v16 main_c_5
  let main_v18 : IVec S_ 1 := andi main_v13 main_v17
  let main_v19 : FVec F S4x8192x4x128 .f32 := Host.absf main_arg4
  let main_cst_6 : FVec F S_ .f32 := constant S_ .f32 0x7F800000#32
  let main_v20 : FVec F S4x8192x4x128 .f32 := broadcastInDim S4x8192x4x128 ![] bcast_S_S4x8192x4x128 main_cst_6
  let main_v21 : IVec S4x8192x4x128 1 := cmpf .olt main_v19 main_v20
  let main_c_7 : IVec S_ 1 := constantI S_ 1 1#1
  let main_v22 : IVec S_ 1 := (fun x v => Host.reduce IntOp.andi x v reducesTo_S4x8192x4x128_S_d0_1_2_3 h_S_) main_v21 main_c_7
  let main_v23 : IVec S_ 1 := andi main_v18 main_v22
  let main_v24 : FVec F S4x256x4x128 .f32 := Host.absf main_arg5
  let main_cst_8 : FVec F S_ .f32 := constant S_ .f32 0x7F800000#32
  let main_v25 : FVec F S4x256x4x128 .f32 := broadcastInDim S4x256x4x128 ![] bcast_S_S4x256x4x128 main_cst_8
  let main_v26 : IVec S4x256x4x128 1 := cmpf .olt main_v24 main_v25
  let main_c_9 : IVec S_ 1 := constantI S_ 1 1#1
  let main_v27 : IVec S_ 1 := (fun x v => Host.reduce IntOp.andi x v reducesTo_S4x256x4x128_S_d0_1_2_3 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S4x8192x4x2x64 .f32) (main_arg1 : FVec F S4x256x4x2x64 .f32) (main_arg2 : FVec F S4x8192x4x2x64 .f32) (main_arg3 : FVec F S4x256x4x2x64 .f32) (main_arg4 : FVec F S4x8192x4x128 .f32) (main_arg5 : FVec F S4x256x4x128 .f32) (main_arg6 : FVec F S4x64 .f32) (main_arg7 : FVec F S128 .f32) : IVec S_ 1 :=
  let main_v0 : FVec F S4x8192x4x2x64 .f32 := Host.absf main_arg0
  let main_cst : FVec F S_ .f32 := constant S_ .f32 0x7F800000#32
  let main_v1 : FVec F S4x8192x4x2x64 .f32 := broadcastInDim S4x8192x4x2x64 ![] bcast_S_S4x8192x4x2x64 main_cst
  let main_v2 : IVec S4x8192x4x2x64 1 := cmpf .olt main_v0 main_v1
  let main_c : IVec S_ 1 := constantI S_ 1 1#1
  let main_v3 : IVec S_ 1 := (fun x v => Host.reduce IntOp.andi x v reducesTo_S4x8192x4x2x64_S_d0_1_2_3_4 h_S_) main_v2 main_c
  let main_v4 : FVec F S4x256x4x2x64 .f32 := Host.absf main_arg1
  let main_cst_0 : FVec F S_ .f32 := constant S_ .f32 0x7F800000#32
  let main_v5 : FVec F S4x256x4x2x64 .f32 := broadcastInDim S4x256x4x2x64 ![] bcast_S_S4x256x4x2x64 main_cst_0
  let main_v6 : IVec S4x256x4x2x64 1 := cmpf .olt main_v4 main_v5
  let main_c_1 : IVec S_ 1 := constantI S_ 1 1#1
  let main_v7 : IVec S_ 1 := (fun x v => Host.reduce IntOp.andi x v reducesTo_S4x256x4x2x64_S_d0_1_2_3_4 h_S_) main_v6 main_c_1
  let main_v8 : IVec S_ 1 := andi main_v3 main_v7
  let main_v9 : FVec F S4x8192x4x2x64 .f32 := Host.absf main_arg2
  let main_cst_2 : FVec F S_ .f32 := constant S_ .f32 0x7F800000#32
  let main_v10 : FVec F S4x8192x4x2x64 .f32 := broadcastInDim S4x8192x4x2x64 ![] bcast_S_S4x8192x4x2x64 main_cst_2
  let main_v11 : IVec S4x8192x4x2x64 1 := cmpf .olt main_v9 main_v10
  let main_c_3 : IVec S_ 1 := constantI S_ 1 1#1
  let main_v12 : IVec S_ 1 := (fun x v => Host.reduce IntOp.andi x v reducesTo_S4x8192x4x2x64_S_d0_1_2_3_4 h_S_) main_v11 main_c_3
  let main_v13 : IVec S_ 1 := andi main_v8 main_v12
  let main_v14 : FVec F S4x256x4x2x64 .f32 := Host.absf main_arg3
  let main_cst_4 : FVec F S_ .f32 := constant S_ .f32 0x7F800000#32
  let main_v15 : FVec F S4x256x4x2x64 .f32 := broadcastInDim S4x256x4x2x64 ![] bcast_S_S4x256x4x2x64 main_cst_4
  let main_v16 : IVec S4x256x4x2x64 1 := cmpf .olt main_v14 main_v15
  fn_part1 (F := F) main_arg4 main_arg5 main_arg6 main_v13 main_v16
-- ==== Kernel.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S4x64 : Shape := ⟨2, ![4, 64]⟩
abbrev S128 : Shape := ⟨1, ![128]⟩
abbrev S32768x512 : Shape := ⟨2, ![32768, 512]⟩
abbrev S1024x512 : Shape := ⟨2, ![1024, 512]⟩
abbrev S33792x512 : Shape := ⟨2, ![33792, 512]⟩
abbrev S_ : Shape := ⟨0, ![]⟩
abbrev S132x256x512 : Shape := ⟨3, ![132, 256, 512]⟩
abbrev S132x512x256 : Shape := ⟨3, ![132, 512, 256]⟩
abbrev S1x128 : Shape := ⟨2, ![1, 128]⟩
abbrev S256x512 : Shape := ⟨2, ![256, 512]⟩
abbrev S8192x512 : Shape := ⟨2, ![8192, 512]⟩
abbrev S32x512x256 : Shape := ⟨3, ![32, 512, 256]⟩
abbrev S1x512x256 : Shape := ⟨3, ![1, 512, 256]⟩
abbrev S8x256x128 : Shape := ⟨3, ![8, 256, 128]⟩
abbrev S8x1x256 : Shape := ⟨3, ![8, 1, 256]⟩
abbrev S8x144x256 : Shape := ⟨3, ![8, 144, 256]⟩
abbrev S1x64 : Shape := ⟨2, ![1, 64]⟩
abbrev S1 : Shape := ⟨1, ![1]⟩
abbrev S1x1 : Shape := ⟨2, ![1, 1]⟩
abbrev S16x256 : Shape := ⟨2, ![16, 256]⟩
abbrev S256x128 : Shape := ⟨2, ![256, 128]⟩
abbrev S1x256x128 : Shape := ⟨3, ![1, 256, 128]⟩
abbrev S1x128x256 : Shape := ⟨3, ![1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S256x1 : Shape := ⟨2, ![256, 1]⟩

abbrev nBuf : Space → Nat
  | .hbm => 27
  | .vmem => 15
  | .smem => 0
  | _ => 0

abbrev bufTy : (tb : Table) → Fin (tcTables nBuf tb) → BufTy
  | .hbm, ⟨0, _⟩ => ⟨S4x8192x4x2x64, .f32⟩
  | .hbm, ⟨1, _⟩ => ⟨S4x256x4x2x64, .f32⟩
  | .hbm, ⟨2, _⟩ => ⟨S4x8192x4x2x64, .f32⟩
  | .hbm, ⟨3, _⟩ => ⟨S4x256x4x2x64, .f32⟩
  | .hbm, ⟨4, _⟩ => ⟨S4x8192x4x128, .f32⟩
  | .hbm, ⟨5, _⟩ => ⟨S4x256x4x128, .f32⟩
  | .hbm, ⟨6, _⟩ => ⟨S4x64, .f32⟩
  | .hbm, ⟨7, _⟩ => ⟨S128, .f32⟩
  | .hbm, ⟨8, _⟩ => ⟨S32768x512, .f32⟩
  | .hbm, ⟨9, _⟩ => ⟨S1024x512, .f32⟩
  | .hbm, ⟨10, _⟩ => ⟨S33792x512, .f32⟩
  | .hbm, ⟨11, _⟩ => ⟨S_, .f32⟩
  | .hbm, ⟨12, _⟩ => ⟨S33792x512, .f32⟩
  | .hbm, ⟨13, _⟩ => ⟨S33792x512, .f32⟩
  | .hbm, ⟨14, _⟩ => ⟨S33792x512, .bf16⟩
  | .hbm, ⟨15, _⟩ => ⟨S32768x512, .f32⟩
  | .hbm, ⟨16, _⟩ => ⟨S1024x512, .f32⟩
  | .hbm, ⟨17, _⟩ => ⟨S33792x512, .f32⟩
  | .hbm, ⟨18, _⟩ => ⟨S33792x512, .bf16⟩
  | .hbm, ⟨19, _⟩ => ⟨S32768x512, .f32⟩
  | .hbm, ⟨20, _⟩ => ⟨S1024x512, .f32⟩
  | .hbm, ⟨21, _⟩ => ⟨S33792x512, .f32⟩
  | .hbm, ⟨22, _⟩ => ⟨S132x256x512, .f32⟩
  | .hbm, ⟨23, _⟩ => ⟨S132x512x256, .f32⟩
  | .hbm, ⟨24, _⟩ => ⟨S132x512x256, .bf16⟩
  | .hbm, ⟨25, _⟩ => ⟨S1x128, .f32⟩
  | .hbm, ⟨26, _⟩ => ⟨S33792x512, .bf16⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S32x512x256, .bf16⟩
  | .local _ .vmem, ⟨4, _⟩ => ⟨S256x512, .bf16⟩
  | .local _ .vmem, ⟨5, _⟩ => ⟨S256x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x64, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S8x256x128, .bf16⟩
  | .local _ .vmem, ⟨13, _⟩ => ⟨S8x1x256, .f32⟩
  | .local _ .vmem, ⟨14, _⟩ => ⟨S8x144x256, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 33], ![false, false]⟩

def k0_cond1 (i : grid0.Coords) : BitVec 1 :=
  let arg1 : BitVec 32 := BitVec.ofNat 32 (i 1).val
  let c32_i32 : BitVec 32 := 32#32
  let v358 : BitVec 1 := Scalar.cmpi .slt arg1 c32_i32
  let v359 : BitVec 32 := Scalar.extui v358
  let c0_i32 : BitVec 32 := 0#32
  let v360 : BitVec 1 := Scalar.cmpi .ne v359 c0_i32
  v360

def k0_mult1 : BitVec 32 :=
  let c0_i32_265 : BitVec 32 := 0#32
  let c32_i32_266 : BitVec 32 := 32#32
  let v497 : BitVec 32 := Scalar.muli c0_i32_265 c32_i32_266
  let c0_i32_267 : BitVec 32 := 0#32
  let v498 : BitVec 32 := Scalar.addi v497 c0_i32_267
  let c256_i32 : BitVec 32 := 256#32
  let v499 : BitVec 32 := Scalar.muli v498 c256_i32
  v499
def k0_off1 (c0_i32_267 : BitVec 32) : Fin 2 → Nat :=
  let c0_i32_265 : BitVec 32 := 0#32
  let c32_i32_266 : BitVec 32 := 32#32
  let v497 : BitVec 32 := Scalar.muli c0_i32_265 c32_i32_266
  let v498 : BitVec 32 := Scalar.addi v497 c0_i32_267
  let c256_i32 : BitVec 32 := 256#32
  let v499 : BitVec 32 := Scalar.muli v498 c256_i32
  let v500 : BitVec 32 := v499
  let v501 : Index := Scalar.indexCast v500
  let c0_268 : Index := 0#32
  ![v501.toNat, 0]
def k0_off2 (c0_i32_267 : BitVec 32) : Fin 3 → Nat :=
  let c0_i32_265 : BitVec 32 := 0#32
  let c32_i32_266 : BitVec 32 := 32#32
  let v497 : BitVec 32 := Scalar.muli c0_i32_265 c32_i32_266
  let v498 : BitVec 32 := Scalar.addi v497 c0_i32_267
  let v504 : Index := Scalar.indexCast v498
  let c0_269 : Index := 0#32
  let c0_270 : Index := 0#32
  ![v504.toNat, 0, 0]
def k0_mult2 : BitVec 32 :=
  let c0_i32_265 : BitVec 32 := 0#32
  let c32_i32_271 : BitVec 32 := 32#32
  let v507 : BitVec 32 := Scalar.muli c0_i32_265 c32_i32_271
  let c1_i32 : BitVec 32 := 1#32
  let v508 : BitVec 32 := Scalar.addi v507 c1_i32
  let c256_i32_272 : BitVec 32 := 256#32
  let v509 : BitVec 32 := Scalar.muli v508 c256_i32_272
  v509
def k0_mult3 : BitVec 32 :=
  let c0_i32_265 : BitVec 32 := 0#32
  let c32_i32_276 : BitVec 32 := 32#32
  let v517 : BitVec 32 := Scalar.muli c0_i32_265 c32_i32_276
  let c2_i32 : BitVec 32 := 2#32
  let v518 : BitVec 32 := Scalar.addi v517 c2_i32
  let c256_i32_277 : BitVec 32 := 256#32
  let v519 : BitVec 32 := Scalar.muli v518 c256_i32_277
  v519
def k0_mult4 : BitVec 32 :=
  let c0_i32_265 : BitVec 32 := 0#32
  let c32_i32_281 : BitVec 32 := 32#32
  let v527 : BitVec 32 := Scalar.muli c0_i32_265 c32_i32_281
  let c3_i32 : BitVec 32 := 3#32
  let v528 : BitVec 32 := Scalar.addi v527 c3_i32
  let c256_i32_282 : BitVec 32 := 256#32
  let v529 : BitVec 32 := Scalar.muli v528 c256_i32_282
  v529
def k0_mult5 : BitVec 32 :=
  let c0_i32_265 : BitVec 32 := 0#32
  let c32_i32_286 : BitVec 32 := 32#32
  let v537 : BitVec 32 := Scalar.muli c0_i32_265 c32_i32_286
  let c4_i32 : BitVec 32 := 4#32
  let v538 : BitVec 32 := Scalar.addi v537 c4_i32
  let c256_i32_287 : BitVec 32 := 256#32
  let v539 : BitVec 32 := Scalar.muli v538 c256_i32_287
  v539
def k0_mult6 : BitVec 32 :=
  let c0_i32_265 : BitVec 32 := 0#32
  let c32_i32_291 : BitVec 32 := 32#32
  let v547 : BitVec 32 := Scalar.muli c0_i32_265 c32_i32_291
  let c5_i32 : BitVec 32 := 5#32
  let v548 : BitVec 32 := Scalar.addi v547 c5_i32
  let c256_i32_292 : BitVec 32 := 256#32
  let v549 : BitVec 32 := Scalar.muli v548 c256_i32_292
  v549
def k0_mult7 : BitVec 32 :=
  let c0_i32_265 : BitVec 32 := 0#32
  let c32_i32_296 : BitVec 32 := 32#32
  let v557 : BitVec 32 := Scalar.muli c0_i32_265 c32_i32_296
  let c6_i32 : BitVec 32 := 6#32
  let v558 : BitVec 32 := Scalar.addi v557 c6_i32
  let c256_i32_297 : BitVec 32 := 256#32
  let v559 : BitVec 32 := Scalar.muli v558 c256_i32_297
  v559
def k0_mult8 : BitVec 32 :=
  let c0_i32_265 : BitVec 32 := 0#32
  let c32_i32_301 : BitVec 32 := 32#32
  let v567 : BitVec 32 := Scalar.muli c0_i32_265 c32_i32_301
  let c7_i32 : BitVec 32 := 7#32
  let v568 : BitVec 32 := Scalar.addi v567 c7_i32
  let c256_i32_302 : BitVec 32 := 256#32
  let v569 : BitVec 32 := Scalar.muli v568 c256_i32_302
  v569
def k0_mult9 : BitVec 32 :=
  let c0_i32_265 : BitVec 32 := 0#32
  let c32_i32_306 : BitVec 32 := 32#32
  let v577 : BitVec 32 := Scalar.muli c0_i32_265 c32_i32_306
  let c8_i32 : BitVec 32 := 8#32
  let v578 : BitVec 32 := Scalar.addi v577 c8_i32
  let c256_i32_307 : BitVec 32 := 256#32
  let v579 : BitVec 32 := Scalar.muli v578 c256_i32_307
  v579
def k0_mult10 : BitVec 32 :=
  let c0_i32_265 : BitVec 32 := 0#32
  let c32_i32_311 : BitVec 32 := 32#32
  let v587 : BitVec 32 := Scalar.muli c0_i32_265 c32_i32_311
  let c9_i32 : BitVec 32 := 9#32
  let v588 : BitVec 32 := Scalar.addi v587 c9_i32
  let c256_i32_312 : BitVec 32 := 256#32
  let v589 : BitVec 32 := Scalar.muli v588 c256_i32_312
  v589
def k0_mult11 : BitVec 32 :=
  let c0_i32_265 : BitVec 32 := 0#32
  let c32_i32_316 : BitVec 32 := 32#32
  let v597 : BitVec 32 := Scalar.muli c0_i32_265 c32_i32_316
  let c10_i32 : BitVec 32 := 10#32
  let v598 : BitVec 32 := Scalar.addi v597 c10_i32
  let c256_i32_317 : BitVec 32 := 256#32
  let v599 : BitVec 32 := Scalar.muli v598 c256_i32_317
  v599
def k0_mult12 : BitVec 32 :=
  let c0_i32_265 : BitVec 32 := 0#32
  let c32_i32_321 : BitVec 32 := 32#32
  let v607 : BitVec 32 := Scalar.muli c0_i32_265 c32_i32_321
  let c11_i32 : BitVec 32 := 11#32
  let v608 : BitVec 32 := Scalar.addi v607 c11_i32
  let c256_i32_322 : BitVec 32 := 256#32
  let v609 : BitVec 32 := Scalar.muli v608 c256_i32_322
  v609
def k0_mult13 : BitVec 32 :=
  let c0_i32_265 : BitVec 32 := 0#32
  let c32_i32_326 : BitVec 32 := 32#32
  let v617 : BitVec 32 := Scalar.muli c0_i32_265 c32_i32_326
  let c12_i32 : BitVec 32 := 12#32
  let v618 : BitVec 32 := Scalar.addi v617 c12_i32
  let c256_i32_327 : BitVec 32 := 256#32
  let v619 : BitVec 32 := Scalar.muli v618 c256_i32_327
  v619
def k0_mult14 : BitVec 32 :=
  let c0_i32_265 : BitVec 32 := 0#32
  let c32_i32_331 : BitVec 32 := 32#32
  let v627 : BitVec 32 := Scalar.muli c0_i32_265 c32_i32_331
  let c13_i32 : BitVec 32 := 13#32
  let v628 : BitVec 32 := Scalar.addi v627 c13_i32
  let c256_i32_332 : BitVec 32 := 256#32
  let v629 : BitVec 32 := Scalar.muli v628 c256_i32_332
  v629
def k0_mult15 : BitVec 32 :=
  let c0_i32_265 : BitVec 32 := 0#32
  let c32_i32_336 : BitVec 32 := 32#32
  let v637 : BitVec 32 := Scalar.muli c0_i32_265 c32_i32_336
  let c14_i32 : BitVec 32 := 14#32
  let v638 : BitVec 32 := Scalar.addi v637 c14_i32
  let c256_i32_337 : BitVec 32 := 256#32
  let v639 : BitVec 32 := Scalar.muli v638 c256_i32_337
  v639
def k0_mult16 : BitVec 32 :=
  let c0_i32_265 : BitVec 32 := 0#32
  let c32_i32_341 : BitVec 32 := 32#32
  let v647 : BitVec 32 := Scalar.muli c0_i32_265 c32_i32_341
  let c15_i32 : BitVec 32 := 15#32
  let v648 : BitVec 32 := Scalar.addi v647 c15_i32
  let c256_i32_342 : BitVec 32 := 256#32
  let v649 : BitVec 32 := Scalar.muli v648 c256_i32_342
  v649
def k0_mult17 : BitVec 32 :=
  let c0_i32_265 : BitVec 32 := 0#32
  let c32_i32_346 : BitVec 32 := 32#32
  let v657 : BitVec 32 := Scalar.muli c0_i32_265 c32_i32_346
  let c16_i32 : BitVec 32 := 16#32
  let v658 : BitVec 32 := Scalar.addi v657 c16_i32
  let c256_i32_347 : BitVec 32 := 256#32
  let v659 : BitVec 32 := Scalar.muli v658 c256_i32_347
  v659
def k0_mult18 : BitVec 32 :=
  let c0_i32_265 : BitVec 32 := 0#32
  let c32_i32_351 : BitVec 32 := 32#32
  let v667 : BitVec 32 := Scalar.muli c0_i32_265 c32_i32_351
  let c17_i32 : BitVec 32 := 17#32
  let v668 : BitVec 32 := Scalar.addi v667 c17_i32
  let c256_i32_352 : BitVec 32 := 256#32
  let v669 : BitVec 32 := Scalar.muli v668 c256_i32_352
  v669
def k0_mult19 : BitVec 32 :=
  let c0_i32_265 : BitVec 32 := 0#32
  let c32_i32_356 : BitVec 32 := 32#32
  let v677 : BitVec 32 := Scalar.muli c0_i32_265 c32_i32_356
  let c18_i32 : BitVec 32 := 18#32
  let v678 : BitVec 32 := Scalar.addi v677 c18_i32
  let c256_i32_357 : BitVec 32 := 256#32
  let v679 : BitVec 32 := Scalar.muli v678 c256_i32_357
  v679
def k0_mult20 : BitVec 32 :=
  let c0_i32_265 : BitVec 32 := 0#32
  let c32_i32_361 : BitVec 32 := 32#32
  let v687 : BitVec 32 := Scalar.muli c0_i32_265 c32_i32_361
  let c19_i32 : BitVec 32 := 19#32
  let v688 : BitVec 32 := Scalar.addi v687 c19_i32
  let c256_i32_362 : BitVec 32 := 256#32
  let v689 : BitVec 32 := Scalar.muli v688 c256_i32_362
  v689
def k0_mult21 : BitVec 32 :=
  let c0_i32_265 : BitVec 32 := 0#32
  let c32_i32_366 : BitVec 32 := 32#32
  let v697 : BitVec 32 := Scalar.muli c0_i32_265 c32_i32_366
  let c20_i32 : BitVec 32 := 20#32
  let v698 : BitVec 32 := Scalar.addi v697 c20_i32
  let c256_i32_367 : BitVec 32 := 256#32
  let v699 : BitVec 32 := Scalar.muli v698 c256_i32_367
  v699
def k0_mult22 : BitVec 32 :=
  let c0_i32_265 : BitVec 32 := 0#32
  let c32_i32_371 : BitVec 32 := 32#32
  let v707 : BitVec 32 := Scalar.muli c0_i32_265 c32_i32_371
  let c21_i32 : BitVec 32 := 21#32
  let v708 : BitVec 32 := Scalar.addi v707 c21_i32
  let c256_i32_372 : BitVec 32 := 256#32
  let v709 : BitVec 32 := Scalar.muli v708 c256_i32_372
  v709
def k0_mult23 : BitVec 32 :=
  let c0_i32_265 : BitVec 32 := 0#32
  let c32_i32_376 : BitVec 32 := 32#32
  let v717 : BitVec 32 := Scalar.muli c0_i32_265 c32_i32_376
  let c22_i32 : BitVec 32 := 22#32
  let v718 : BitVec 32 := Scalar.addi v717 c22_i32
  let c256_i32_377 : BitVec 32 := 256#32
  let v719 : BitVec 32 := Scalar.muli v718 c256_i32_377
  v719
def k0_mult24 : BitVec 32 :=
  let c0_i32_265 : BitVec 32 := 0#32
  let c32_i32_381 : BitVec 32 := 32#32
  let v727 : BitVec 32 := Scalar.muli c0_i32_265 c32_i32_381
  let c23_i32 : BitVec 32 := 23#32
  let v728 : BitVec 32 := Scalar.addi v727 c23_i32
  let c256_i32_382 : BitVec 32 := 256#32
  let v729 : BitVec 32 := Scalar.muli v728 c256_i32_382
  v729
def k0_mult25 : BitVec 32 :=
  let c0_i32_265 : BitVec 32 := 0#32
  let c32_i32_386 : BitVec 32 := 32#32
  let v737 : BitVec 32 := Scalar.muli c0_i32_265 c32_i32_386
  let c24_i32 : BitVec 32 := 24#32
  let v738 : BitVec 32 := Scalar.addi v737 c24_i32
  let c256_i32_387 : BitVec 32 := 256#32
  let v739 : BitVec 32 := Scalar.muli v738 c256_i32_387
  v739
def k0_mult26 : BitVec 32 :=
  let c0_i32_265 : BitVec 32 := 0#32
  let c32_i32_391 : BitVec 32 := 32#32
  let v747 : BitVec 32 := Scalar.muli c0_i32_265 c32_i32_391
  let c25_i32 : BitVec 32 := 25#32
  let v748 : BitVec 32 := Scalar.addi v747 c25_i32
  let c256_i32_392 : BitVec 32 := 256#32
  let v749 : BitVec 32 := Scalar.muli v748 c256_i32_392
  v749
def k0_mult27 : BitVec 32 :=
  let c0_i32_265 : BitVec 32 := 0#32
  let c32_i32_396 : BitVec 32 := 32#32
  let v757 : BitVec 32 := Scalar.muli c0_i32_265 c32_i32_396
  let c26_i32 : BitVec 32 := 26#32
  let v758 : BitVec 32 := Scalar.addi v757 c26_i32
  let c256_i32_397 : BitVec 32 := 256#32
  let v759 : BitVec 32 := Scalar.muli v758 c256_i32_397
  v759
def k0_mult28 : BitVec 32 :=
  let c0_i32_265 : BitVec 32 := 0#32
  let c32_i32_401 : BitVec 32 := 32#32
  let v767 : BitVec 32 := Scalar.muli c0_i32_265 c32_i32_401
  let c27_i32 : BitVec 32 := 27#32
  let v768 : BitVec 32 := Scalar.addi v767 c27_i32
  let c256_i32_402 : BitVec 32 := 256#32
  let v769 : BitVec 32 := Scalar.muli v768 c256_i32_402
  v769
def k0_mult29 : BitVec 32 :=
  let c0_i32_265 : BitVec 32 := 0#32
  let c32_i32_406 : BitVec 32 := 32#32
  let v777 : BitVec 32 := Scalar.muli c0_i32_265 c32_i32_406
  let c28_i32 : BitVec 32 := 28#32
  let v778 : BitVec 32 := Scalar.addi v777 c28_i32
  let c256_i32_407 : BitVec 32 := 256#32
  let v779 : BitVec 32 := Scalar.muli v778 c256_i32_407
  v779
def k0_mult30 : BitVec 32 :=
  let c0_i32_265 : BitVec 32 := 0#32
  let c32_i32_411 : BitVec 32 := 32#32
  let v787 : BitVec 32 := Scalar.muli c0_i32_265 c32_i32_411
  let c29_i32 : BitVec 32 := 29#32
  let v788 : BitVec 32 := Scalar.addi v787 c29_i32
  let c256_i32_412 : BitVec 32 := 256#32
  let v789 : BitVec 32 := Scalar.muli v788 c256_i32_412
  v789
def k0_mult31 : BitVec 32 :=
  let c0_i32_265 : BitVec 32 := 0#32
  let c32_i32_416 : BitVec 32 := 32#32
  let v797 : BitVec 32 := Scalar.muli c0_i32_265 c32_i32_416
  let c30_i32 : BitVec 32 := 30#32
  let v798 : BitVec 32 := Scalar.addi v797 c30_i32
  let c256_i32_417 : BitVec 32 := 256#32
  let v799 : BitVec 32 := Scalar.muli v798 c256_i32_417
  v799
def k0_mult32 : BitVec 32 :=
  let c0_i32_265 : BitVec 32 := 0#32
  let c32_i32_421 : BitVec 32 := 32#32
  let v807 : BitVec 32 := Scalar.muli c0_i32_265 c32_i32_421
  let c31_i32 : BitVec 32 := 31#32
  let v808 : BitVec 32 := Scalar.addi v807 c31_i32
  let c256_i32_422 : BitVec 32 := 256#32
  let v809 : BitVec 32 := Scalar.muli v808 c256_i32_422
  v809
def k0_mult33 : BitVec 32 :=
  let c0_i32_265 : BitVec 32 := 0#32
  let c32_i32_426 : BitVec 32 := 32#32
  let v817 : BitVec 32 := Scalar.muli c0_i32_265 c32_i32_426
  let c0_i32_427 : BitVec 32 := 0#32
  let v818 : BitVec 32 := Scalar.addi v817 c0_i32_427
  let c256_i32_428 : BitVec 32 := 256#32
  let v819 : BitVec 32 := Scalar.muli v818 c256_i32_428
  v819
def k0_off3 (c0_i32_427 : BitVec 32) : Fin 2 → Nat :=
  let c0_i32_265 : BitVec 32 := 0#32
  let c32_i32_426 : BitVec 32 := 32#32
  let v817 : BitVec 32 := Scalar.muli c0_i32_265 c32_i32_426
  let v818 : BitVec 32 := Scalar.addi v817 c0_i32_427
  let c256_i32_428 : BitVec 32 := 256#32
  let v819 : BitVec 32 := Scalar.muli v818 c256_i32_428
  let v820 : BitVec 32 := v819
  let v821 : Index := Scalar.indexCast v820
  let c128_429 : Index := 128#32
  ![v821.toNat, 128]
def k0_off4 (c0_i32_427 : BitVec 32) : Fin 3 → Nat :=
  let c0_i32_265 : BitVec 32 := 0#32
  let c32_i32_426 : BitVec 32 := 32#32
  let v817 : BitVec 32 := Scalar.muli c0_i32_265 c32_i32_426
  let v818 : BitVec 32 := Scalar.addi v817 c0_i32_427
  let v824 : Index := Scalar.indexCast v818
  let c128_430 : Index := 128#32
  let c0_431 : Index := 0#32
  ![v824.toNat, 128, 0]
def k0_mult34 : BitVec 32 :=
  let c0_i32_265 : BitVec 32 := 0#32
  let c32_i32_432 : BitVec 32 := 32#32
  let v827 : BitVec 32 := Scalar.muli c0_i32_265 c32_i32_432
  let c1_i32_433 : BitVec 32 := 1#32
  let v828 : BitVec 32 := Scalar.addi v827 c1_i32_433
  let c256_i32_434 : BitVec 32 := 256#32
  let v829 : BitVec 32 := Scalar.muli v828 c256_i32_434
  v829
def k0_mult35 : BitVec 32 :=
  let c0_i32_265 : BitVec 32 := 0#32
  let c32_i32_438 : BitVec 32 := 32#32
  let v837 : BitVec 32 := Scalar.muli c0_i32_265 c32_i32_438
  let c2_i32_439 : BitVec 32 := 2#32
  let v838 : BitVec 32 := Scalar.addi v837 c2_i32_439
  let c256_i32_440 : BitVec 32 := 256#32
  let v839 : BitVec 32 := Scalar.muli v838 c256_i32_440
  v839
def k0_mult36 : BitVec 32 :=
  let c0_i32_265 : BitVec 32 := 0#32
  let c32_i32_444 : BitVec 32 := 32#32
  let v847 : BitVec 32 := Scalar.muli c0_i32_265 c32_i32_444
  let c3_i32_445 : BitVec 32 := 3#32
  let v848 : BitVec 32 := Scalar.addi v847 c3_i32_445
  let c256_i32_446 : BitVec 32 := 256#32
  let v849 : BitVec 32 := Scalar.muli v848 c256_i32_446
  v849
def k0_mult37 : BitVec 32 :=
  let c0_i32_265 : BitVec 32 := 0#32
  let c32_i32_450 : BitVec 32 := 32#32
  let v857 : BitVec 32 := Scalar.muli c0_i32_265 c32_i32_450
  let c4_i32_451 : BitVec 32 := 4#32
  let v858 : BitVec 32 := Scalar.addi v857 c4_i32_451
  let c256_i32_452 : BitVec 32 := 256#32
  let v859 : BitVec 32 := Scalar.muli v858 c256_i32_452
  v859
def k0_mult38 : BitVec 32 :=
  let c0_i32_265 : BitVec 32 := 0#32
  let c32_i32_456 : BitVec 32 := 32#32
  let v867 : BitVec 32 := Scalar.muli c0_i32_265 c32_i32_456
  let c5_i32_457 : BitVec 32 := 5#32
  let v868 : BitVec 32 := Scalar.addi v867 c5_i32_457
  let c256_i32_458 : BitVec 32 := 256#32
  let v869 : BitVec 32 := Scalar.muli v868 c256_i32_458
  v869
def k0_mult39 : BitVec 32 :=
  let c0_i32_265 : BitVec 32 := 0#32
  let c32_i32_462 : BitVec 32 := 32#32
  let v877 : BitVec 32 := Scalar.muli c0_i32_265 c32_i32_462
  let c6_i32_463 : BitVec 32 := 6#32
  let v878 : BitVec 32 := Scalar.addi v877 c6_i32_463
  let c256_i32_464 : BitVec 32 := 256#32
  let v879 : BitVec 32 := Scalar.muli v878 c256_i32_464
  v879
def k0_mult40 : BitVec 32 :=
  let c0_i32_265 : BitVec 32 := 0#32
  let c32_i32_468 : BitVec 32 := 32#32
  let v887 : BitVec 32 := Scalar.muli c0_i32_265 c32_i32_468
  let c7_i32_469 : BitVec 32 := 7#32
  let v888 : BitVec 32 := Scalar.addi v887 c7_i32_469
  let c256_i32_470 : BitVec 32 := 256#32
  let v889 : BitVec 32 := Scalar.muli v888 c256_i32_470
  v889
def k0_mult41 : BitVec 32 :=
  let c0_i32_265 : BitVec 32 := 0#32
  let c32_i32_474 : BitVec 32 := 32#32
  let v897 : BitVec 32 := Scalar.muli c0_i32_265 c32_i32_474
  let c8_i32_475 : BitVec 32 := 8#32
  let v898 : BitVec 32 := Scalar.addi v897 c8_i32_475
  let c256_i32_476 : BitVec 32 := 256#32
  let v899 : BitVec 32 := Scalar.muli v898 c256_i32_476
  v899
def k0_mult42 : BitVec 32 :=
  let c0_i32_265 : BitVec 32 := 0#32
  let c32_i32_480 : BitVec 32 := 32#32
  let v907 : BitVec 32 := Scalar.muli c0_i32_265 c32_i32_480
  let c9_i32_481 : BitVec 32 := 9#32
  let v908 : BitVec 32 := Scalar.addi v907 c9_i32_481
  let c256_i32_482 : BitVec 32 := 256#32
  let v909 : BitVec 32 := Scalar.muli v908 c256_i32_482
  v909
def k0_mult43 : BitVec 32 :=
  let c0_i32_265 : BitVec 32 := 0#32
  let c32_i32_486 : BitVec 32 := 32#32
  let v917 : BitVec 32 := Scalar.muli c0_i32_265 c32_i32_486
  let c10_i32_487 : BitVec 32 := 10#32
  let v918 : BitVec 32 := Scalar.addi v917 c10_i32_487
  let c256_i32_488 : BitVec 32 := 256#32
  let v919 : BitVec 32 := Scalar.muli v918 c256_i32_488
  v919
def k0_mult44 : BitVec 32 :=
  let c0_i32_265 : BitVec 32 := 0#32
  let c32_i32_492 : BitVec 32 := 32#32
  let v927 : BitVec 32 := Scalar.muli c0_i32_265 c32_i32_492
  let c11_i32_493 : BitVec 32 := 11#32
  let v928 : BitVec 32 := Scalar.addi v927 c11_i32_493
  let c256_i32_494 : BitVec 32 := 256#32
  let v929 : BitVec 32 := Scalar.muli v928 c256_i32_494
  v929
def k0_mult45 : BitVec 32 :=
  let c0_i32_265 : BitVec 32 := 0#32
  let c32_i32_498 : BitVec 32 := 32#32
  let v937 : BitVec 32 := Scalar.muli c0_i32_265 c32_i32_498
  let c12_i32_499 : BitVec 32 := 12#32
  let v938 : BitVec 32 := Scalar.addi v937 c12_i32_499
  let c256_i32_500 : BitVec 32 := 256#32
  let v939 : BitVec 32 := Scalar.muli v938 c256_i32_500
  v939
def k0_mult46 : BitVec 32 :=
  let c0_i32_265 : BitVec 32 := 0#32
  let c32_i32_504 : BitVec 32 := 32#32
  let v947 : BitVec 32 := Scalar.muli c0_i32_265 c32_i32_504
  let c13_i32_505 : BitVec 32 := 13#32
  let v948 : BitVec 32 := Scalar.addi v947 c13_i32_505
  let c256_i32_506 : BitVec 32 := 256#32
  let v949 : BitVec 32 := Scalar.muli v948 c256_i32_506
  v949
def k0_mult47 : BitVec 32 :=
  let c0_i32_265 : BitVec 32 := 0#32
  let c32_i32_510 : BitVec 32 := 32#32
  let v957 : BitVec 32 := Scalar.muli c0_i32_265 c32_i32_510
  let c14_i32_511 : BitVec 32 := 14#32
  let v958 : BitVec 32 := Scalar.addi v957 c14_i32_511
  let c256_i32_512 : BitVec 32 := 256#32
  let v959 : BitVec 32 := Scalar.muli v958 c256_i32_512
  v959
def k0_mult48 : BitVec 32 :=
  let c0_i32_265 : BitVec 32 := 0#32
  let c32_i32_516 : BitVec 32 := 32#32
  let v967 : BitVec 32 := Scalar.muli c0_i32_265 c32_i32_516
  let c15_i32_517 : BitVec 32 := 15#32
  let v968 : BitVec 32 := Scalar.addi v967 c15_i32_517
  let c256_i32_518 : BitVec 32 := 256#32
  let v969 : BitVec 32 := Scalar.muli v968 c256_i32_518
  v969
def k0_mult49 : BitVec 32 :=
  let c0_i32_265 : BitVec 32 := 0#32
  let c32_i32_522 : BitVec 32 := 32#32
  let v977 : BitVec 32 := Scalar.muli c0_i32_265 c32_i32_522
  let c16_i32_523 : BitVec 32 := 16#32
  let v978 : BitVec 32 := Scalar.addi v977 c16_i32_523
  let c256_i32_524 : BitVec 32 := 256#32
  let v979 : BitVec 32 := Scalar.muli v978 c256_i32_524
  v979
def k0_mult50 : BitVec 32 :=
  let c0_i32_265 : BitVec 32 := 0#32
  let c32_i32_528 : BitVec 32 := 32#32
  let v987 : BitVec 32 := Scalar.muli c0_i32_265 c32_i32_528
  let c17_i32_529 : BitVec 32 := 17#32
  let v988 : BitVec 32 := Scalar.addi v987 c17_i32_529
  let c256_i32_530 : BitVec 32 := 256#32
  let v989 : BitVec 32 := Scalar.muli v988 c256_i32_530
  v989
def k0_mult51 : BitVec 32 :=
  let c0_i32_265 : BitVec 32 := 0#32
  let c32_i32_534 : BitVec 32 := 32#32
  let v997 : BitVec 32 := Scalar.muli c0_i32_265 c32_i32_534
  let c18_i32_535 : BitVec 32 := 18#32
  let v998 : BitVec 32 := Scalar.addi v997 c18_i32_535
  let c256_i32_536 : BitVec 32 := 256#32
  let v999 : BitVec 32 := Scalar.muli v998 c256_i32_536
  v999
def k0_mult52 : BitVec 32 :=
  let c0_i32_265 : BitVec 32 := 0#32
  let c32_i32_540 : BitVec 32 := 32#32
  let v1007 : BitVec 32 := Scalar.muli c0_i32_265 c32_i32_540
  let c19_i32_541 : BitVec 32 := 19#32
  let v1008 : BitVec 32 := Scalar.addi v1007 c19_i32_541
  let c256_i32_542 : BitVec 32 := 256#32
  let v1009 : BitVec 32 := Scalar.muli v1008 c256_i32_542
  v1009
def k0_mult53 : BitVec 32 :=
  let c0_i32_265 : BitVec 32 := 0#32
  let c32_i32_546 : BitVec 32 := 32#32
  let v1017 : BitVec 32 := Scalar.muli c0_i32_265 c32_i32_546
  let c20_i32_547 : BitVec 32 := 20#32
  let v1018 : BitVec 32 := Scalar.addi v1017 c20_i32_547
  let c256_i32_548 : BitVec 32 := 256#32
  let v1019 : BitVec 32 := Scalar.muli v1018 c256_i32_548
  v1019
def k0_mult54 : BitVec 32 :=
  let c0_i32_265 : BitVec 32 := 0#32
  let c32_i32_552 : BitVec 32 := 32#32
  let v1027 : BitVec 32 := Scalar.muli c0_i32_265 c32_i32_552
  let c21_i32_553 : BitVec 32 := 21#32
  let v1028 : BitVec 32 := Scalar.addi v1027 c21_i32_553
  let c256_i32_554 : BitVec 32 := 256#32
  let v1029 : BitVec 32 := Scalar.muli v1028 c256_i32_554
  v1029
def k0_mult55 : BitVec 32 :=
  let c0_i32_265 : BitVec 32 := 0#32
  let c32_i32_558 : BitVec 32 := 32#32
  let v1037 : BitVec 32 := Scalar.muli c0_i32_265 c32_i32_558
  let c22_i32_559 : BitVec 32 := 22#32
  let v1038 : BitVec 32 := Scalar.addi v1037 c22_i32_559
  let c256_i32_560 : BitVec 32 := 256#32
  let v1039 : BitVec 32 := Scalar.muli v1038 c256_i32_560
  v1039
def k0_mult56 : BitVec 32 :=
  let c0_i32_265 : BitVec 32 := 0#32
  let c32_i32_564 : BitVec 32 := 32#32
  let v1047 : BitVec 32 := Scalar.muli c0_i32_265 c32_i32_564
  let c23_i32_565 : BitVec 32 := 23#32
  let v1048 : BitVec 32 := Scalar.addi v1047 c23_i32_565
  let c256_i32_566 : BitVec 32 := 256#32
  let v1049 : BitVec 32 := Scalar.muli v1048 c256_i32_566
  v1049
def k0_mult57 : BitVec 32 :=
  let c0_i32_265 : BitVec 32 := 0#32
  let c32_i32_570 : BitVec 32 := 32#32
  let v1057 : BitVec 32 := Scalar.muli c0_i32_265 c32_i32_570
  let c24_i32_571 : BitVec 32 := 24#32
  let v1058 : BitVec 32 := Scalar.addi v1057 c24_i32_571
  let c256_i32_572 : BitVec 32 := 256#32
  let v1059 : BitVec 32 := Scalar.muli v1058 c256_i32_572
  v1059
def k0_mult58 : BitVec 32 :=
  let c0_i32_265 : BitVec 32 := 0#32
  let c32_i32_576 : BitVec 32 := 32#32
  let v1067 : BitVec 32 := Scalar.muli c0_i32_265 c32_i32_576
  let c25_i32_577 : BitVec 32 := 25#32
  let v1068 : BitVec 32 := Scalar.addi v1067 c25_i32_577
  let c256_i32_578 : BitVec 32 := 256#32
  let v1069 : BitVec 32 := Scalar.muli v1068 c256_i32_578
  v1069
def k0_mult59 : BitVec 32 :=
  let c0_i32_265 : BitVec 32 := 0#32
  let c32_i32_582 : BitVec 32 := 32#32
  let v1077 : BitVec 32 := Scalar.muli c0_i32_265 c32_i32_582
  let c26_i32_583 : BitVec 32 := 26#32
  let v1078 : BitVec 32 := Scalar.addi v1077 c26_i32_583
  let c256_i32_584 : BitVec 32 := 256#32
  let v1079 : BitVec 32 := Scalar.muli v1078 c256_i32_584
  v1079
def k0_mult60 : BitVec 32 :=
  let c0_i32_265 : BitVec 32 := 0#32
  let c32_i32_588 : BitVec 32 := 32#32
  let v1087 : BitVec 32 := Scalar.muli c0_i32_265 c32_i32_588
  let c27_i32_589 : BitVec 32 := 27#32
  let v1088 : BitVec 32 := Scalar.addi v1087 c27_i32_589
  let c256_i32_590 : BitVec 32 := 256#32
  let v1089 : BitVec 32 := Scalar.muli v1088 c256_i32_590
  v1089
def k0_mult61 : BitVec 32 :=
  let c0_i32_265 : BitVec 32 := 0#32
  let c32_i32_594 : BitVec 32 := 32#32
  let v1097 : BitVec 32 := Scalar.muli c0_i32_265 c32_i32_594
  let c28_i32_595 : BitVec 32 := 28#32
  let v1098 : BitVec 32 := Scalar.addi v1097 c28_i32_595
  let c256_i32_596 : BitVec 32 := 256#32
  let v1099 : BitVec 32 := Scalar.muli v1098 c256_i32_596
  v1099
def k0_mult62 : BitVec 32 :=
  let c0_i32_265 : BitVec 32 := 0#32
  let c32_i32_600 : BitVec 32 := 32#32
  let v1107 : BitVec 32 := Scalar.muli c0_i32_265 c32_i32_600
  let c29_i32_601 : BitVec 32 := 29#32
  let v1108 : BitVec 32 := Scalar.addi v1107 c29_i32_601
  let c256_i32_602 : BitVec 32 := 256#32
  let v1109 : BitVec 32 := Scalar.muli v1108 c256_i32_602
  v1109
def k0_mult63 : BitVec 32 :=
  let c0_i32_265 : BitVec 32 := 0#32
  let c32_i32_606 : BitVec 32 := 32#32
  let v1117 : BitVec 32 := Scalar.muli c0_i32_265 c32_i32_606
  let c30_i32_607 : BitVec 32 := 30#32
  let v1118 : BitVec 32 := Scalar.addi v1117 c30_i32_607
  let c256_i32_608 : BitVec 32 := 256#32
  let v1119 : BitVec 32 := Scalar.muli v1118 c256_i32_608
  v1119
def k0_mult64 : BitVec 32 :=
  let c0_i32_265 : BitVec 32 := 0#32
  let c32_i32_612 : BitVec 32 := 32#32
  let v1127 : BitVec 32 := Scalar.muli c0_i32_265 c32_i32_612
  let c31_i32_613 : BitVec 32 := 31#32
  let v1128 : BitVec 32 := Scalar.addi v1127 c31_i32_613
  let c256_i32_614 : BitVec 32 := 256#32
  let v1129 : BitVec 32 := Scalar.muli v1128 c256_i32_614
  v1129
def k0_mult65 : BitVec 32 :=
  let c0_i32_265 : BitVec 32 := 0#32
  let c32_i32_618 : BitVec 32 := 32#32
  let v1137 : BitVec 32 := Scalar.muli c0_i32_265 c32_i32_618
  let c0_i32_619 : BitVec 32 := 0#32
  let v1138 : BitVec 32 := Scalar.addi v1137 c0_i32_619
  let c256_i32_620 : BitVec 32 := 256#32
  let v1139 : BitVec 32 := Scalar.muli v1138 c256_i32_620
  v1139
def k0_off5 (c0_i32_619 : BitVec 32) : Fin 2 → Nat :=
  let c0_i32_265 : BitVec 32 := 0#32
  let c32_i32_618 : BitVec 32 := 32#32
  let v1137 : BitVec 32 := Scalar.muli c0_i32_265 c32_i32_618
  let v1138 : BitVec 32 := Scalar.addi v1137 c0_i32_619
  let c256_i32_620 : BitVec 32 := 256#32
  let v1139 : BitVec 32 := Scalar.muli v1138 c256_i32_620
  let v1140 : BitVec 32 := v1139
  let v1141 : Index := Scalar.indexCast v1140
  let c256_621 : Index := 256#32
  ![v1141.toNat, 256]
def k0_off6 (c0_i32_619 : BitVec 32) : Fin 3 → Nat :=
  let c0_i32_265 : BitVec 32 := 0#32
  let c32_i32_618 : BitVec 32 := 32#32
  let v1137 : BitVec 32 := Scalar.muli c0_i32_265 c32_i32_618
  let v1138 : BitVec 32 := Scalar.addi v1137 c0_i32_619
  let v1144 : Index := Scalar.indexCast v1138
  let c256_622 : Index := 256#32
  let c0_623 : Index := 0#32
  ![v1144.toNat, 256, 0]
def k0_mult66 : BitVec 32 :=
  let c0_i32_265 : BitVec 32 := 0#32
  let c32_i32_624 : BitVec 32 := 32#32
  let v1147 : BitVec 32 := Scalar.muli c0_i32_265 c32_i32_624
  let c1_i32_625 : BitVec 32 := 1#32
  let v1148 : BitVec 32 := Scalar.addi v1147 c1_i32_625
  let c256_i32_626 : BitVec 32 := 256#32
  let v1149 : BitVec 32 := Scalar.muli v1148 c256_i32_626
  v1149
def k0_mult67 : BitVec 32 :=
  let c0_i32_265 : BitVec 32 := 0#32
  let c32_i32_630 : BitVec 32 := 32#32
  let v1157 : BitVec 32 := Scalar.muli c0_i32_265 c32_i32_630
  let c2_i32_631 : BitVec 32 := 2#32
  let v1158 : BitVec 32 := Scalar.addi v1157 c2_i32_631
  let c256_i32_632 : BitVec 32 := 256#32
  let v1159 : BitVec 32 := Scalar.muli v1158 c256_i32_632
  v1159
def k0_mult68 : BitVec 32 :=
  let c0_i32_265 : BitVec 32 := 0#32
  let c32_i32_636 : BitVec 32 := 32#32
  let v1167 : BitVec 32 := Scalar.muli c0_i32_265 c32_i32_636
  let c3_i32_637 : BitVec 32 := 3#32
  let v1168 : BitVec 32 := Scalar.addi v1167 c3_i32_637
  let c256_i32_638 : BitVec 32 := 256#32
  let v1169 : BitVec 32 := Scalar.muli v1168 c256_i32_638
  v1169
def k0_mult69 : BitVec 32 :=
  let c0_i32_265 : BitVec 32 := 0#32
  let c32_i32_642 : BitVec 32 := 32#32
  let v1177 : BitVec 32 := Scalar.muli c0_i32_265 c32_i32_642
  let c4_i32_643 : BitVec 32 := 4#32
  let v1178 : BitVec 32 := Scalar.addi v1177 c4_i32_643
  let c256_i32_644 : BitVec 32 := 256#32
  let v1179 : BitVec 32 := Scalar.muli v1178 c256_i32_644
  v1179
def k0_mult70 : BitVec 32 :=
  let c0_i32_265 : BitVec 32 := 0#32
  let c32_i32_648 : BitVec 32 := 32#32
  let v1187 : BitVec 32 := Scalar.muli c0_i32_265 c32_i32_648
  let c5_i32_649 : BitVec 32 := 5#32
  let v1188 : BitVec 32 := Scalar.addi v1187 c5_i32_649
  let c256_i32_650 : BitVec 32 := 256#32
  let v1189 : BitVec 32 := Scalar.muli v1188 c256_i32_650
  v1189
def k0_mult71 : BitVec 32 :=
  let c0_i32_265 : BitVec 32 := 0#32
  let c32_i32_654 : BitVec 32 := 32#32
  let v1197 : BitVec 32 := Scalar.muli c0_i32_265 c32_i32_654
  let c6_i32_655 : BitVec 32 := 6#32
  let v1198 : BitVec 32 := Scalar.addi v1197 c6_i32_655
  let c256_i32_656 : BitVec 32 := 256#32
  let v1199 : BitVec 32 := Scalar.muli v1198 c256_i32_656
  v1199
def k0_mult72 : BitVec 32 :=
  let c0_i32_265 : BitVec 32 := 0#32
  let c32_i32_660 : BitVec 32 := 32#32
  let v1207 : BitVec 32 := Scalar.muli c0_i32_265 c32_i32_660
  let c7_i32_661 : BitVec 32 := 7#32
  let v1208 : BitVec 32 := Scalar.addi v1207 c7_i32_661
  let c256_i32_662 : BitVec 32 := 256#32
  let v1209 : BitVec 32 := Scalar.muli v1208 c256_i32_662
  v1209
def k0_mult73 : BitVec 32 :=
  let c0_i32_265 : BitVec 32 := 0#32
  let c32_i32_666 : BitVec 32 := 32#32
  let v1217 : BitVec 32 := Scalar.muli c0_i32_265 c32_i32_666
  let c8_i32_667 : BitVec 32 := 8#32
  let v1218 : BitVec 32 := Scalar.addi v1217 c8_i32_667
  let c256_i32_668 : BitVec 32 := 256#32
  let v1219 : BitVec 32 := Scalar.muli v1218 c256_i32_668
  v1219
def k0_mult74 : BitVec 32 :=
  let c0_i32_265 : BitVec 32 := 0#32
  let c32_i32_672 : BitVec 32 := 32#32
  let v1227 : BitVec 32 := Scalar.muli c0_i32_265 c32_i32_672
  let c9_i32_673 : BitVec 32 := 9#32
  let v1228 : BitVec 32 := Scalar.addi v1227 c9_i32_673
  let c256_i32_674 : BitVec 32 := 256#32
  let v1229 : BitVec 32 := Scalar.muli v1228 c256_i32_674
  v1229
def k0_mult75 : BitVec 32 :=
  let c0_i32_265 : BitVec 32 := 0#32
  let c32_i32_678 : BitVec 32 := 32#32
  let v1237 : BitVec 32 := Scalar.muli c0_i32_265 c32_i32_678
  let c10_i32_679 : BitVec 32 := 10#32
  let v1238 : BitVec 32 := Scalar.addi v1237 c10_i32_679
  let c256_i32_680 : BitVec 32 := 256#32
  let v1239 : BitVec 32 := Scalar.muli v1238 c256_i32_680
  v1239
def k0_mult76 : BitVec 32 :=
  let c0_i32_265 : BitVec 32 := 0#32
  let c32_i32_684 : BitVec 32 := 32#32
  let v1247 : BitVec 32 := Scalar.muli c0_i32_265 c32_i32_684
  let c11_i32_685 : BitVec 32 := 11#32
  let v1248 : BitVec 32 := Scalar.addi v1247 c11_i32_685
  let c256_i32_686 : BitVec 32 := 256#32
  let v1249 : BitVec 32 := Scalar.muli v1248 c256_i32_686
  v1249
def k0_mult77 : BitVec 32 :=
  let c0_i32_265 : BitVec 32 := 0#32
  let c32_i32_690 : BitVec 32 := 32#32
  let v1257 : BitVec 32 := Scalar.muli c0_i32_265 c32_i32_690
  let c12_i32_691 : BitVec 32 := 12#32
  let v1258 : BitVec 32 := Scalar.addi v1257 c12_i32_691
  let c256_i32_692 : BitVec 32 := 256#32
  let v1259 : BitVec 32 := Scalar.muli v1258 c256_i32_692
  v1259
def k0_mult78 : BitVec 32 :=
  let c0_i32_265 : BitVec 32 := 0#32
  let c32_i32_696 : BitVec 32 := 32#32
  let v1267 : BitVec 32 := Scalar.muli c0_i32_265 c32_i32_696
  let c13_i32_697 : BitVec 32 := 13#32
  let v1268 : BitVec 32 := Scalar.addi v1267 c13_i32_697
  let c256_i32_698 : BitVec 32 := 256#32
  let v1269 : BitVec 32 := Scalar.muli v1268 c256_i32_698
  v1269
def k0_mult79 : BitVec 32 :=
  let c0_i32_265 : BitVec 32 := 0#32
  let c32_i32_702 : BitVec 32 := 32#32
  let v1277 : BitVec 32 := Scalar.muli c0_i32_265 c32_i32_702
  let c14_i32_703 : BitVec 32 := 14#32
  let v1278 : BitVec 32 := Scalar.addi v1277 c14_i32_703
  let c256_i32_704 : BitVec 32 := 256#32
  let v1279 : BitVec 32 := Scalar.muli v1278 c256_i32_704
  v1279
def k0_mult80 : BitVec 32 :=
  let c0_i32_265 : BitVec 32 := 0#32
  let c32_i32_708 : BitVec 32 := 32#32
  let v1287 : BitVec 32 := Scalar.muli c0_i32_265 c32_i32_708
  let c15_i32_709 : BitVec 32 := 15#32
  let v1288 : BitVec 32 := Scalar.addi v1287 c15_i32_709
  let c256_i32_710 : BitVec 32 := 256#32
  let v1289 : BitVec 32 := Scalar.muli v1288 c256_i32_710
  v1289
def k0_mult81 : BitVec 32 :=
  let c0_i32_265 : BitVec 32 := 0#32
  let c32_i32_714 : BitVec 32 := 32#32
  let v1297 : BitVec 32 := Scalar.muli c0_i32_265 c32_i32_714
  let c16_i32_715 : BitVec 32 := 16#32
  let v1298 : BitVec 32 := Scalar.addi v1297 c16_i32_715
  let c256_i32_716 : BitVec 32 := 256#32
  let v1299 : BitVec 32 := Scalar.muli v1298 c256_i32_716
  v1299
def k0_mult82 : BitVec 32 :=
  let c0_i32_265 : BitVec 32 := 0#32
  let c32_i32_720 : BitVec 32 := 32#32
  let v1307 : BitVec 32 := Scalar.muli c0_i32_265 c32_i32_720
  let c17_i32_721 : BitVec 32 := 17#32
  let v1308 : BitVec 32 := Scalar.addi v1307 c17_i32_721
  let c256_i32_722 : BitVec 32 := 256#32
  let v1309 : BitVec 32 := Scalar.muli v1308 c256_i32_722
  v1309
def k0_mult83 : BitVec 32 :=
  let c0_i32_265 : BitVec 32 := 0#32
  let c32_i32_726 : BitVec 32 := 32#32
  let v1317 : BitVec 32 := Scalar.muli c0_i32_265 c32_i32_726
  let c18_i32_727 : BitVec 32 := 18#32
  let v1318 : BitVec 32 := Scalar.addi v1317 c18_i32_727
  let c256_i32_728 : BitVec 32 := 256#32
  let v1319 : BitVec 32 := Scalar.muli v1318 c256_i32_728
  v1319
def k0_mult84 : BitVec 32 :=
  let c0_i32_265 : BitVec 32 := 0#32
  let c32_i32_732 : BitVec 32 := 32#32
  let v1327 : BitVec 32 := Scalar.muli c0_i32_265 c32_i32_732
  let c19_i32_733 : BitVec 32 := 19#32
  let v1328 : BitVec 32 := Scalar.addi v1327 c19_i32_733
  let c256_i32_734 : BitVec 32 := 256#32
  let v1329 : BitVec 32 := Scalar.muli v1328 c256_i32_734
  v1329
def k0_mult85 : BitVec 32 :=
  let c0_i32_265 : BitVec 32 := 0#32
  let c32_i32_738 : BitVec 32 := 32#32
  let v1337 : BitVec 32 := Scalar.muli c0_i32_265 c32_i32_738
  let c20_i32_739 : BitVec 32 := 20#32
  let v1338 : BitVec 32 := Scalar.addi v1337 c20_i32_739
  let c256_i32_740 : BitVec 32 := 256#32
  let v1339 : BitVec 32 := Scalar.muli v1338 c256_i32_740
  v1339
def k0_mult86 : BitVec 32 :=
  let c0_i32_265 : BitVec 32 := 0#32
  let c32_i32_744 : BitVec 32 := 32#32
  let v1347 : BitVec 32 := Scalar.muli c0_i32_265 c32_i32_744
  let c21_i32_745 : BitVec 32 := 21#32
  let v1348 : BitVec 32 := Scalar.addi v1347 c21_i32_745
  let c256_i32_746 : BitVec 32 := 256#32
  let v1349 : BitVec 32 := Scalar.muli v1348 c256_i32_746
  v1349
def k0_mult87 : BitVec 32 :=
  let c0_i32_265 : BitVec 32 := 0#32
  let c32_i32_750 : BitVec 32 := 32#32
  let v1357 : BitVec 32 := Scalar.muli c0_i32_265 c32_i32_750
  let c22_i32_751 : BitVec 32 := 22#32
  let v1358 : BitVec 32 := Scalar.addi v1357 c22_i32_751
  let c256_i32_752 : BitVec 32 := 256#32
  let v1359 : BitVec 32 := Scalar.muli v1358 c256_i32_752
  v1359
def k0_mult88 : BitVec 32 :=
  let c0_i32_265 : BitVec 32 := 0#32
  let c32_i32_756 : BitVec 32 := 32#32
  let v1367 : BitVec 32 := Scalar.muli c0_i32_265 c32_i32_756
  let c23_i32_757 : BitVec 32 := 23#32
  let v1368 : BitVec 32 := Scalar.addi v1367 c23_i32_757
  let c256_i32_758 : BitVec 32 := 256#32
  let v1369 : BitVec 32 := Scalar.muli v1368 c256_i32_758
  v1369
def k0_mult89 : BitVec 32 :=
  let c0_i32_265 : BitVec 32 := 0#32
  let c32_i32_762 : BitVec 32 := 32#32
  let v1377 : BitVec 32 := Scalar.muli c0_i32_265 c32_i32_762
  let c24_i32_763 : BitVec 32 := 24#32
  let v1378 : BitVec 32 := Scalar.addi v1377 c24_i32_763
  let c256_i32_764 : BitVec 32 := 256#32
  let v1379 : BitVec 32 := Scalar.muli v1378 c256_i32_764
  v1379
def k0_mult90 : BitVec 32 :=
  let c0_i32_265 : BitVec 32 := 0#32
  let c32_i32_768 : BitVec 32 := 32#32
  let v1387 : BitVec 32 := Scalar.muli c0_i32_265 c32_i32_768
  let c25_i32_769 : BitVec 32 := 25#32
  let v1388 : BitVec 32 := Scalar.addi v1387 c25_i32_769
  let c256_i32_770 : BitVec 32 := 256#32
  let v1389 : BitVec 32 := Scalar.muli v1388 c256_i32_770
  v1389
def k0_mult91 : BitVec 32 :=
  let c0_i32_265 : BitVec 32 := 0#32
  let c32_i32_774 : BitVec 32 := 32#32
  let v1397 : BitVec 32 := Scalar.muli c0_i32_265 c32_i32_774
  let c26_i32_775 : BitVec 32 := 26#32
  let v1398 : BitVec 32 := Scalar.addi v1397 c26_i32_775
  let c256_i32_776 : BitVec 32 := 256#32
  let v1399 : BitVec 32 := Scalar.muli v1398 c256_i32_776
  v1399
def k0_mult92 : BitVec 32 :=
  let c0_i32_265 : BitVec 32 := 0#32
  let c32_i32_780 : BitVec 32 := 32#32
  let v1407 : BitVec 32 := Scalar.muli c0_i32_265 c32_i32_780
  let c27_i32_781 : BitVec 32 := 27#32
  let v1408 : BitVec 32 := Scalar.addi v1407 c27_i32_781
  let c256_i32_782 : BitVec 32 := 256#32
  let v1409 : BitVec 32 := Scalar.muli v1408 c256_i32_782
  v1409
def k0_mult93 : BitVec 32 :=
  let c0_i32_265 : BitVec 32 := 0#32
  let c32_i32_786 : BitVec 32 := 32#32
  let v1417 : BitVec 32 := Scalar.muli c0_i32_265 c32_i32_786
  let c28_i32_787 : BitVec 32 := 28#32
  let v1418 : BitVec 32 := Scalar.addi v1417 c28_i32_787
  let c256_i32_788 : BitVec 32 := 256#32
  let v1419 : BitVec 32 := Scalar.muli v1418 c256_i32_788
  v1419
def k0_mult94 : BitVec 32 :=
  let c0_i32_265 : BitVec 32 := 0#32
  let c32_i32_792 : BitVec 32 := 32#32
  let v1427 : BitVec 32 := Scalar.muli c0_i32_265 c32_i32_792
  let c29_i32_793 : BitVec 32 := 29#32
  let v1428 : BitVec 32 := Scalar.addi v1427 c29_i32_793
  let c256_i32_794 : BitVec 32 := 256#32
  let v1429 : BitVec 32 := Scalar.muli v1428 c256_i32_794
  v1429
def k0_mult95 : BitVec 32 :=
  let c0_i32_265 : BitVec 32 := 0#32
  let c32_i32_798 : BitVec 32 := 32#32
  let v1437 : BitVec 32 := Scalar.muli c0_i32_265 c32_i32_798
  let c30_i32_799 : BitVec 32 := 30#32
  let v1438 : BitVec 32 := Scalar.addi v1437 c30_i32_799
  let c256_i32_800 : BitVec 32 := 256#32
  let v1439 : BitVec 32 := Scalar.muli v1438 c256_i32_800
  v1439
def k0_mult96 : BitVec 32 :=
  let c0_i32_265 : BitVec 32 := 0#32
  let c32_i32_804 : BitVec 32 := 32#32
  let v1447 : BitVec 32 := Scalar.muli c0_i32_265 c32_i32_804
  let c31_i32_805 : BitVec 32 := 31#32
  let v1448 : BitVec 32 := Scalar.addi v1447 c31_i32_805
  let c256_i32_806 : BitVec 32 := 256#32
  let v1449 : BitVec 32 := Scalar.muli v1448 c256_i32_806
  v1449
def k0_mult97 : BitVec 32 :=
  let c0_i32_265 : BitVec 32 := 0#32
  let c32_i32_810 : BitVec 32 := 32#32
  let v1457 : BitVec 32 := Scalar.muli c0_i32_265 c32_i32_810
  let c0_i32_811 : BitVec 32 := 0#32
  let v1458 : BitVec 32 := Scalar.addi v1457 c0_i32_811
  let c256_i32_812 : BitVec 32 := 256#32
  let v1459 : BitVec 32 := Scalar.muli v1458 c256_i32_812
  v1459
def k0_off7 (c0_i32_811 : BitVec 32) : Fin 2 → Nat :=
  let c0_i32_265 : BitVec 32 := 0#32
  let c32_i32_810 : BitVec 32 := 32#32
  let v1457 : BitVec 32 := Scalar.muli c0_i32_265 c32_i32_810
  let v1458 : BitVec 32 := Scalar.addi v1457 c0_i32_811
  let c256_i32_812 : BitVec 32 := 256#32
  let v1459 : BitVec 32 := Scalar.muli v1458 c256_i32_812
  let v1460 : BitVec 32 := v1459
  let v1461 : Index := Scalar.indexCast v1460
  let c384_813 : Index := 384#32
  ![v1461.toNat, 384]
def k0_off8 (c0_i32_811 : BitVec 32) : Fin 3 → Nat :=
  let c0_i32_265 : BitVec 32 := 0#32
  let c32_i32_810 : BitVec 32 := 32#32
  let v1457 : BitVec 32 := Scalar.muli c0_i32_265 c32_i32_810
  let v1458 : BitVec 32 := Scalar.addi v1457 c0_i32_811
  let v1464 : Index := Scalar.indexCast v1458
  let c384_814 : Index := 384#32
  let c0_815 : Index := 0#32
  ![v1464.toNat, 384, 0]
def k0_mult98 : BitVec 32 :=
  let c0_i32_265 : BitVec 32 := 0#32
  let c32_i32_816 : BitVec 32 := 32#32
  let v1467 : BitVec 32 := Scalar.muli c0_i32_265 c32_i32_816
  let c1_i32_817 : BitVec 32 := 1#32
  let v1468 : BitVec 32 := Scalar.addi v1467 c1_i32_817
  let c256_i32_818 : BitVec 32 := 256#32
  let v1469 : BitVec 32 := Scalar.muli v1468 c256_i32_818
  v1469
def k0_mult99 : BitVec 32 :=
  let c0_i32_265 : BitVec 32 := 0#32
  let c32_i32_822 : BitVec 32 := 32#32
  let v1477 : BitVec 32 := Scalar.muli c0_i32_265 c32_i32_822
  let c2_i32_823 : BitVec 32 := 2#32
  let v1478 : BitVec 32 := Scalar.addi v1477 c2_i32_823
  let c256_i32_824 : BitVec 32 := 256#32
  let v1479 : BitVec 32 := Scalar.muli v1478 c256_i32_824
  v1479
def k0_mult100 : BitVec 32 :=
  let c0_i32_265 : BitVec 32 := 0#32
  let c32_i32_828 : BitVec 32 := 32#32
  let v1487 : BitVec 32 := Scalar.muli c0_i32_265 c32_i32_828
  let c3_i32_829 : BitVec 32 := 3#32
  let v1488 : BitVec 32 := Scalar.addi v1487 c3_i32_829
  let c256_i32_830 : BitVec 32 := 256#32
  let v1489 : BitVec 32 := Scalar.muli v1488 c256_i32_830
  v1489
def k0_mult101 : BitVec 32 :=
  let c0_i32_265 : BitVec 32 := 0#32
  let c32_i32_834 : BitVec 32 := 32#32
  let v1497 : BitVec 32 := Scalar.muli c0_i32_265 c32_i32_834
  let c4_i32_835 : BitVec 32 := 4#32
  let v1498 : BitVec 32 := Scalar.addi v1497 c4_i32_835
  let c256_i32_836 : BitVec 32 := 256#32
  let v1499 : BitVec 32 := Scalar.muli v1498 c256_i32_836
  v1499
def k0_mult102 : BitVec 32 :=
  let c0_i32_265 : BitVec 32 := 0#32
  let c32_i32_840 : BitVec 32 := 32#32
  let v1507 : BitVec 32 := Scalar.muli c0_i32_265 c32_i32_840
  let c5_i32_841 : BitVec 32 := 5#32
  let v1508 : BitVec 32 := Scalar.addi v1507 c5_i32_841
  let c256_i32_842 : BitVec 32 := 256#32
  let v1509 : BitVec 32 := Scalar.muli v1508 c256_i32_842
  v1509
def k0_mult103 : BitVec 32 :=
  let c0_i32_265 : BitVec 32 := 0#32
  let c32_i32_846 : BitVec 32 := 32#32
  let v1517 : BitVec 32 := Scalar.muli c0_i32_265 c32_i32_846
  let c6_i32_847 : BitVec 32 := 6#32
  let v1518 : BitVec 32 := Scalar.addi v1517 c6_i32_847
  let c256_i32_848 : BitVec 32 := 256#32
  let v1519 : BitVec 32 := Scalar.muli v1518 c256_i32_848
  v1519
def k0_mult104 : BitVec 32 :=
  let c0_i32_265 : BitVec 32 := 0#32
  let c32_i32_852 : BitVec 32 := 32#32
  let v1527 : BitVec 32 := Scalar.muli c0_i32_265 c32_i32_852
  let c7_i32_853 : BitVec 32 := 7#32
  let v1528 : BitVec 32 := Scalar.addi v1527 c7_i32_853
  let c256_i32_854 : BitVec 32 := 256#32
  let v1529 : BitVec 32 := Scalar.muli v1528 c256_i32_854
  v1529
def k0_mult105 : BitVec 32 :=
  let c0_i32_265 : BitVec 32 := 0#32
  let c32_i32_858 : BitVec 32 := 32#32
  let v1537 : BitVec 32 := Scalar.muli c0_i32_265 c32_i32_858
  let c8_i32_859 : BitVec 32 := 8#32
  let v1538 : BitVec 32 := Scalar.addi v1537 c8_i32_859
  let c256_i32_860 : BitVec 32 := 256#32
  let v1539 : BitVec 32 := Scalar.muli v1538 c256_i32_860
  v1539
def k0_mult106 : BitVec 32 :=
  let c0_i32_265 : BitVec 32 := 0#32
  let c32_i32_864 : BitVec 32 := 32#32
  let v1547 : BitVec 32 := Scalar.muli c0_i32_265 c32_i32_864
  let c9_i32_865 : BitVec 32 := 9#32
  let v1548 : BitVec 32 := Scalar.addi v1547 c9_i32_865
  let c256_i32_866 : BitVec 32 := 256#32
  let v1549 : BitVec 32 := Scalar.muli v1548 c256_i32_866
  v1549
def k0_mult107 : BitVec 32 :=
  let c0_i32_265 : BitVec 32 := 0#32
  let c32_i32_870 : BitVec 32 := 32#32
  let v1557 : BitVec 32 := Scalar.muli c0_i32_265 c32_i32_870
  let c10_i32_871 : BitVec 32 := 10#32
  let v1558 : BitVec 32 := Scalar.addi v1557 c10_i32_871
  let c256_i32_872 : BitVec 32 := 256#32
  let v1559 : BitVec 32 := Scalar.muli v1558 c256_i32_872
  v1559
def k0_mult108 : BitVec 32 :=
  let c0_i32_265 : BitVec 32 := 0#32
  let c32_i32_876 : BitVec 32 := 32#32
  let v1567 : BitVec 32 := Scalar.muli c0_i32_265 c32_i32_876
  let c11_i32_877 : BitVec 32 := 11#32
  let v1568 : BitVec 32 := Scalar.addi v1567 c11_i32_877
  let c256_i32_878 : BitVec 32 := 256#32
  let v1569 : BitVec 32 := Scalar.muli v1568 c256_i32_878
  v1569
def k0_mult109 : BitVec 32 :=
  let c0_i32_265 : BitVec 32 := 0#32
  let c32_i32_882 : BitVec 32 := 32#32
  let v1577 : BitVec 32 := Scalar.muli c0_i32_265 c32_i32_882
  let c12_i32_883 : BitVec 32 := 12#32
  let v1578 : BitVec 32 := Scalar.addi v1577 c12_i32_883
  let c256_i32_884 : BitVec 32 := 256#32
  let v1579 : BitVec 32 := Scalar.muli v1578 c256_i32_884
  v1579
def k0_mult110 : BitVec 32 :=
  let c0_i32_265 : BitVec 32 := 0#32
  let c32_i32_888 : BitVec 32 := 32#32
  let v1587 : BitVec 32 := Scalar.muli c0_i32_265 c32_i32_888
  let c13_i32_889 : BitVec 32 := 13#32
  let v1588 : BitVec 32 := Scalar.addi v1587 c13_i32_889
  let c256_i32_890 : BitVec 32 := 256#32
  let v1589 : BitVec 32 := Scalar.muli v1588 c256_i32_890
  v1589
def k0_mult111 : BitVec 32 :=
  let c0_i32_265 : BitVec 32 := 0#32
  let c32_i32_894 : BitVec 32 := 32#32
  let v1597 : BitVec 32 := Scalar.muli c0_i32_265 c32_i32_894
  let c14_i32_895 : BitVec 32 := 14#32
  let v1598 : BitVec 32 := Scalar.addi v1597 c14_i32_895
  let c256_i32_896 : BitVec 32 := 256#32
  let v1599 : BitVec 32 := Scalar.muli v1598 c256_i32_896
  v1599
def k0_mult112 : BitVec 32 :=
  let c0_i32_265 : BitVec 32 := 0#32
  let c32_i32_900 : BitVec 32 := 32#32
  let v1607 : BitVec 32 := Scalar.muli c0_i32_265 c32_i32_900
  let c15_i32_901 : BitVec 32 := 15#32
  let v1608 : BitVec 32 := Scalar.addi v1607 c15_i32_901
  let c256_i32_902 : BitVec 32 := 256#32
  let v1609 : BitVec 32 := Scalar.muli v1608 c256_i32_902
  v1609
def k0_mult113 : BitVec 32 :=
  let c0_i32_265 : BitVec 32 := 0#32
  let c32_i32_906 : BitVec 32 := 32#32
  let v1617 : BitVec 32 := Scalar.muli c0_i32_265 c32_i32_906
  let c16_i32_907 : BitVec 32 := 16#32
  let v1618 : BitVec 32 := Scalar.addi v1617 c16_i32_907
  let c256_i32_908 : BitVec 32 := 256#32
  let v1619 : BitVec 32 := Scalar.muli v1618 c256_i32_908
  v1619
def k0_mult114 : BitVec 32 :=
  let c0_i32_265 : BitVec 32 := 0#32
  let c32_i32_912 : BitVec 32 := 32#32
  let v1627 : BitVec 32 := Scalar.muli c0_i32_265 c32_i32_912
  let c17_i32_913 : BitVec 32 := 17#32
  let v1628 : BitVec 32 := Scalar.addi v1627 c17_i32_913
  let c256_i32_914 : BitVec 32 := 256#32
  let v1629 : BitVec 32 := Scalar.muli v1628 c256_i32_914
  v1629
def k0_mult115 : BitVec 32 :=
  let c0_i32_265 : BitVec 32 := 0#32
  let c32_i32_918 : BitVec 32 := 32#32
  let v1637 : BitVec 32 := Scalar.muli c0_i32_265 c32_i32_918
  let c18_i32_919 : BitVec 32 := 18#32
  let v1638 : BitVec 32 := Scalar.addi v1637 c18_i32_919
  let c256_i32_920 : BitVec 32 := 256#32
  let v1639 : BitVec 32 := Scalar.muli v1638 c256_i32_920
  v1639
def k0_mult116 : BitVec 32 :=
  let c0_i32_265 : BitVec 32 := 0#32
  let c32_i32_924 : BitVec 32 := 32#32
  let v1647 : BitVec 32 := Scalar.muli c0_i32_265 c32_i32_924
  let c19_i32_925 : BitVec 32 := 19#32
  let v1648 : BitVec 32 := Scalar.addi v1647 c19_i32_925
  let c256_i32_926 : BitVec 32 := 256#32
  let v1649 : BitVec 32 := Scalar.muli v1648 c256_i32_926
  v1649
def k0_mult117 : BitVec 32 :=
  let c0_i32_265 : BitVec 32 := 0#32
  let c32_i32_930 : BitVec 32 := 32#32
  let v1657 : BitVec 32 := Scalar.muli c0_i32_265 c32_i32_930
  let c20_i32_931 : BitVec 32 := 20#32
  let v1658 : BitVec 32 := Scalar.addi v1657 c20_i32_931
  let c256_i32_932 : BitVec 32 := 256#32
  let v1659 : BitVec 32 := Scalar.muli v1658 c256_i32_932
  v1659
def k0_mult118 : BitVec 32 :=
  let c0_i32_265 : BitVec 32 := 0#32
  let c32_i32_936 : BitVec 32 := 32#32
  let v1667 : BitVec 32 := Scalar.muli c0_i32_265 c32_i32_936
  let c21_i32_937 : BitVec 32 := 21#32
  let v1668 : BitVec 32 := Scalar.addi v1667 c21_i32_937
  let c256_i32_938 : BitVec 32 := 256#32
  let v1669 : BitVec 32 := Scalar.muli v1668 c256_i32_938
  v1669
def k0_mult119 : BitVec 32 :=
  let c0_i32_265 : BitVec 32 := 0#32
  let c32_i32_942 : BitVec 32 := 32#32
  let v1677 : BitVec 32 := Scalar.muli c0_i32_265 c32_i32_942
  let c22_i32_943 : BitVec 32 := 22#32
  let v1678 : BitVec 32 := Scalar.addi v1677 c22_i32_943
  let c256_i32_944 : BitVec 32 := 256#32
  let v1679 : BitVec 32 := Scalar.muli v1678 c256_i32_944
  v1679
def k0_mult120 : BitVec 32 :=
  let c0_i32_265 : BitVec 32 := 0#32
  let c32_i32_948 : BitVec 32 := 32#32
  let v1687 : BitVec 32 := Scalar.muli c0_i32_265 c32_i32_948
  let c23_i32_949 : BitVec 32 := 23#32
  let v1688 : BitVec 32 := Scalar.addi v1687 c23_i32_949
  let c256_i32_950 : BitVec 32 := 256#32
  let v1689 : BitVec 32 := Scalar.muli v1688 c256_i32_950
  v1689
def k0_mult121 : BitVec 32 :=
  let c0_i32_265 : BitVec 32 := 0#32
  let c32_i32_954 : BitVec 32 := 32#32
  let v1697 : BitVec 32 := Scalar.muli c0_i32_265 c32_i32_954
  let c24_i32_955 : BitVec 32 := 24#32
  let v1698 : BitVec 32 := Scalar.addi v1697 c24_i32_955
  let c256_i32_956 : BitVec 32 := 256#32
  let v1699 : BitVec 32 := Scalar.muli v1698 c256_i32_956
  v1699
def k0_mult122 : BitVec 32 :=
  let c0_i32_265 : BitVec 32 := 0#32
  let c32_i32_960 : BitVec 32 := 32#32
  let v1707 : BitVec 32 := Scalar.muli c0_i32_265 c32_i32_960
  let c25_i32_961 : BitVec 32 := 25#32
  let v1708 : BitVec 32 := Scalar.addi v1707 c25_i32_961
  let c256_i32_962 : BitVec 32 := 256#32
  let v1709 : BitVec 32 := Scalar.muli v1708 c256_i32_962
  v1709
def k0_mult123 : BitVec 32 :=
  let c0_i32_265 : BitVec 32 := 0#32
  let c32_i32_966 : BitVec 32 := 32#32
  let v1717 : BitVec 32 := Scalar.muli c0_i32_265 c32_i32_966
  let c26_i32_967 : BitVec 32 := 26#32
  let v1718 : BitVec 32 := Scalar.addi v1717 c26_i32_967
  let c256_i32_968 : BitVec 32 := 256#32
  let v1719 : BitVec 32 := Scalar.muli v1718 c256_i32_968
  v1719
def k0_mult124 : BitVec 32 :=
  let c0_i32_265 : BitVec 32 := 0#32
  let c32_i32_972 : BitVec 32 := 32#32
  let v1727 : BitVec 32 := Scalar.muli c0_i32_265 c32_i32_972
  let c27_i32_973 : BitVec 32 := 27#32
  let v1728 : BitVec 32 := Scalar.addi v1727 c27_i32_973
  let c256_i32_974 : BitVec 32 := 256#32
  let v1729 : BitVec 32 := Scalar.muli v1728 c256_i32_974
  v1729
def k0_mult125 : BitVec 32 :=
  let c0_i32_265 : BitVec 32 := 0#32
  let c32_i32_978 : BitVec 32 := 32#32
  let v1737 : BitVec 32 := Scalar.muli c0_i32_265 c32_i32_978
  let c28_i32_979 : BitVec 32 := 28#32
  let v1738 : BitVec 32 := Scalar.addi v1737 c28_i32_979
  let c256_i32_980 : BitVec 32 := 256#32
  let v1739 : BitVec 32 := Scalar.muli v1738 c256_i32_980
  v1739
def k0_mult126 : BitVec 32 :=
  let c0_i32_265 : BitVec 32 := 0#32
  let c32_i32_984 : BitVec 32 := 32#32
  let v1747 : BitVec 32 := Scalar.muli c0_i32_265 c32_i32_984
  let c29_i32_985 : BitVec 32 := 29#32
  let v1748 : BitVec 32 := Scalar.addi v1747 c29_i32_985
  let c256_i32_986 : BitVec 32 := 256#32
  let v1749 : BitVec 32 := Scalar.muli v1748 c256_i32_986
  v1749
def k0_mult127 : BitVec 32 :=
  let c0_i32_265 : BitVec 32 := 0#32
  let c32_i32_990 : BitVec 32 := 32#32
  let v1757 : BitVec 32 := Scalar.muli c0_i32_265 c32_i32_990
  let c30_i32_991 : BitVec 32 := 30#32
  let v1758 : BitVec 32 := Scalar.addi v1757 c30_i32_991
  let c256_i32_992 : BitVec 32 := 256#32
  let v1759 : BitVec 32 := Scalar.muli v1758 c256_i32_992
  v1759
def k0_mult128 : BitVec 32 :=
  let c0_i32_265 : BitVec 32 := 0#32
  let c32_i32_996 : BitVec 32 := 32#32
  let v1767 : BitVec 32 := Scalar.muli c0_i32_265 c32_i32_996
  let c31_i32_997 : BitVec 32 := 31#32
  let v1768 : BitVec 32 := Scalar.addi v1767 c31_i32_997
  let c256_i32_998 : BitVec 32 := 256#32
  let v1769 : BitVec 32 := Scalar.muli v1768 c256_i32_998
  v1769
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c1_i32 : BitVec 32 := 1#32
  let v3 : BitVec 32 := Scalar.muli arg0 c1_i32
  let c128_i32 : BitVec 32 := 128#32
  let v4 : BitVec 32 := Scalar.addi c128_i32 v3
  let c32_i32_1 : BitVec 32 := 32#32
  let v5 : BitVec 32 := Scalar.subi arg1 c32_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c1_i32 : BitVec 32 := 1#32
  let v3 : BitVec 32 := Scalar.muli arg0 c1_i32
  let c128_i32 : BitVec 32 := 128#32
  let v4 : BitVec 32 := Scalar.addi c128_i32 v3
  let c32_i32_1 : BitVec 32 := 32#32
  let v5 : BitVec 32 := Scalar.subi arg1 c32_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4x8448x4x2x64 : Shape := ⟨5, ![4, 8448, 4, 2, 64]⟩
abbrev S4x8448x4x128 : Shape := ⟨4, ![4, 8448, 4, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x4x2x256x256 : Shape := ⟨5, ![4, 4, 2, 256, 256]⟩
abbrev S4x4x2x256 : Shape := ⟨4, ![4, 4, 2, 256]⟩
abbrev S4x4x2x256x1 : Shape := ⟨5, ![4, 4, 2, 256, 1]⟩
abbrev S4x4x1x256x256 : Shape := ⟨5, ![4, 4, 1, 256, 256]⟩
abbrev S4x4x256x256 : Shape := ⟨4, ![4, 4, 256, 256]⟩
abbrev S4x4x128x256 : Shape := ⟨4, ![4, 4, 128, 256]⟩
abbrev S4x256x4 : Shape := ⟨3, ![4, 256, 4]⟩
abbrev S4x256x4x1 : Shape := ⟨4, ![4, 256, 4, 1]⟩
abbrev S32768x512 : Shape := ⟨2, ![32768, 512]⟩
abbrev S1024x512 : Shape := ⟨2, ![1024, 512]⟩
abbrev S33792x512 : Shape := ⟨2, ![33792, 512]⟩

abbrev nBuf : Space → Nat
  | .hbm => 125
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x256x4x2x64, .f32⟩
  | .hbm, ⟨2, _⟩ => ⟨S4x8192x4x2x64, .f32⟩
  | .hbm, ⟨3, _⟩ => ⟨S4x256x4x2x64, .f32⟩
  | .hbm, ⟨4, _⟩ => ⟨S4x8192x4x128, .f32⟩
  | .hbm, ⟨5, _⟩ => ⟨S4x256x4x128, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8448x4x2x64, .f32⟩
  | .hbm, ⟨28, _⟩ => ⟨S4x8448x4x128, .f32⟩
  | .hbm, ⟨29, _⟩ => ⟨S4x4x2x8192x8448, .f32⟩
  | .hbm, ⟨30, _⟩ => ⟨S_, .f32⟩
  | .hbm, ⟨31, _⟩ => ⟨S4x4x2x8192x8448, .f32⟩
  | .hbm, ⟨32, _⟩ => ⟨S4x4x2x8192x8448, .f32⟩
  | .hbm, ⟨33, _⟩ => ⟨S_, .f32⟩
  | .hbm, ⟨34, _⟩ => ⟨S4x4x2x8192, .f32⟩
  | .hbm, ⟨35, _⟩ => ⟨S_, .f32⟩
  | .hbm, ⟨36, _⟩ => ⟨S4x4x2x8192, .f32⟩
  | .hbm, ⟨37, _⟩ => ⟨S4x4x2x8192, .f32⟩
  | .hbm, ⟨38, _⟩ => ⟨S4x4x2x8192x1, .f32⟩
  | .hbm, ⟨39, _⟩ => ⟨S4x4x2x8192x8448, .f32⟩
  | .hbm, ⟨40, _⟩ => ⟨S4x4x2x8192x8448, .f32⟩
  | .hbm, ⟨41, _⟩ => ⟨S4x4x2x8192x8448, .f32⟩
  | .hbm, ⟨42, _⟩ => ⟨S_, .f32⟩
  | .hbm, ⟨43, _⟩ => ⟨S4x4x2x8192, .f32⟩
  | .hbm, ⟨44, _⟩ => ⟨S4x4x2x8192x1, .f32⟩
  | .hbm, ⟨45, _⟩ => ⟨S4x4x2x8192x8448, .f32⟩
  | .hbm, ⟨46, _⟩ => ⟨S4x4x2x8192x8448, .f32⟩
  | .hbm, ⟨47, _⟩ => ⟨S4x4x1x8192x8448, .f32⟩
  | .hbm, ⟨48, _⟩ => ⟨S4x4x8192x8448, .f32⟩
  | .hbm, ⟨49, _⟩ => ⟨S4x4x1x8192x8448, .f32⟩
  | .hbm, ⟨50, _⟩ => ⟨S4x4x8192x8448, .f32⟩
  | .hbm, ⟨51, _⟩ => ⟨S4x4x8192x8448, .f32⟩
  | .hbm, ⟨52, _⟩ => ⟨S4x4x8192x8448, .f32⟩
  | .hbm, ⟨53, _⟩ => ⟨S4x4x8192x8448, .f32⟩
  | .hbm, ⟨54, _⟩ => ⟨S4x4x128x8192, .f32⟩
  | .hbm, ⟨55, _⟩ => ⟨S4x8192x4x128, .f32⟩
  | .hbm, ⟨56, _⟩ => ⟨S4x8192x4x128, .f32⟩
  | .hbm, ⟨57, _⟩ => ⟨S_, .f32⟩
  | .hbm, ⟨58, _⟩ => ⟨S4x8192x4, .f32⟩
  | .hbm, ⟨59, _⟩ => ⟨S4x8192x4x1, .f32⟩
  | .hbm, ⟨60, _⟩ => ⟨S_, .f32⟩
  | .hbm, ⟨61, _⟩ => ⟨S4x8192x4x1, .f32⟩
  | .hbm, ⟨62, _⟩ => ⟨S4x8192x4x1, .f32⟩
  | .hbm, ⟨63, _⟩ => ⟨S_, .f32⟩
  | .hbm, ⟨64, _⟩ => ⟨S4x8192x4x1, .f32⟩
  | .hbm, ⟨65, _⟩ => ⟨S4x8192x4x1, .f32⟩
  | .hbm, ⟨66, _⟩ => ⟨S4x8192x4x1, .f32⟩
  | .hbm, ⟨67, _⟩ => ⟨S4x8192x4x128, .f32⟩
  | .hbm, ⟨68, _⟩ => ⟨S4x8192x4x128, .f32⟩
  | .hbm, ⟨69, _⟩ => ⟨S1x1x1x128, .f32⟩
  | .hbm, ⟨70, _⟩ => ⟨S4x8192x4x128, .f32⟩
  | .hbm, ⟨71, _⟩ => ⟨S4x8192x4x128, .f32⟩
  | .hbm, ⟨72, _⟩ => ⟨S_, .f32⟩
  | .hbm, ⟨73, _⟩ => ⟨S4x8192x4x128, .f32⟩
  | .hbm, ⟨74, _⟩ => ⟨S4x8192x4x128, .f32⟩
  | .hbm, ⟨75, _⟩ => ⟨S4x4x2x256x256, .f32⟩
  | .hbm, ⟨76, _⟩ => ⟨S_, .f32⟩
  | .hbm, ⟨77, _⟩ => ⟨S4x4x2x256x256, .f32⟩
  | .hbm, ⟨78, _⟩ => ⟨S4x4x2x256x256, .f32⟩
  | .hbm, ⟨79, _⟩ => ⟨S_, .f32⟩
  | .hbm, ⟨80, _⟩ => ⟨S4x4x2x256, .f32⟩
  | .hbm, ⟨81, _⟩ => ⟨S_, .f32⟩
  | .hbm, ⟨82, _⟩ => ⟨S4x4x2x256, .f32⟩
  | .hbm, ⟨83, _⟩ => ⟨S4x4x2x256, .f32⟩
  | .hbm, ⟨84, _⟩ => ⟨S4x4x2x256x1, .f32⟩
  | .hbm, ⟨85, _⟩ => ⟨S4x4x2x256x256, .f32⟩
  | .hbm, ⟨86, _⟩ => ⟨S4x4x2x256x256, .f32⟩
  | .hbm, ⟨87, _⟩ => ⟨S4x4x2x256x256, .f32⟩
  | .hbm, ⟨88, _⟩ => ⟨S_, .f32⟩
  | .hbm, ⟨89, _⟩ => ⟨S4x4x2x256, .f32⟩
  | .hbm, ⟨90, _⟩ => ⟨S4x4x2x256x1, .f32⟩
  | .hbm, ⟨91, _⟩ => ⟨S4x4x2x256x256, .f32⟩
  | .hbm, ⟨92, _⟩ => ⟨S4x4x2x256x256, .f32⟩
  | .hbm, ⟨93, _⟩ => ⟨S4x4x1x256x256, .f32⟩
  | .hbm, ⟨94, _⟩ => ⟨S4x4x256x256, .f32⟩
  | .hbm, ⟨95, _⟩ => ⟨S4x4x1x256x256, .f32⟩
  | .hbm, ⟨96, _⟩ => ⟨S4x4x256x256, .f32⟩
  | .hbm, ⟨97, _⟩ => ⟨S4x4x256x256, .f32⟩
  | .hbm, ⟨98, _⟩ => ⟨S4x4x256x256, .f32⟩
  | .hbm, ⟨99, _⟩ => ⟨S4x4x256x256, .f32⟩
  | .hbm, ⟨100, _⟩ => ⟨S4x4x128x256, .f32⟩
  | .hbm, ⟨101, _⟩ => ⟨S4x256x4x128, .f32⟩
  | .hbm, ⟨102, _⟩ => ⟨S4x256x4x128, .f32⟩
  | .hbm, ⟨103, _⟩ => ⟨S_, .f32⟩
  | .hbm, ⟨104, _⟩ => ⟨S4x256x4, .f32⟩
  | .hbm, ⟨105, _⟩ => ⟨S4x256x4x1, .f32⟩
  | .hbm, ⟨106, _⟩ => ⟨S_, .f32⟩
  | .hbm, ⟨107, _⟩ => ⟨S4x256x4x1, .f32⟩
  | .hbm, ⟨108, _⟩ => ⟨S4x256x4x1, .f32⟩
  | .hbm, ⟨109, _⟩ => ⟨S_, .f32⟩
  | .hbm, ⟨110, _⟩ => ⟨S4x256x4x1, .f32⟩
  | .hbm, ⟨111, _⟩ => ⟨S4x256x4x1, .f32⟩
  | .hbm, ⟨112, _⟩ => ⟨S4x256x4x1, .f32⟩
  | .hbm, ⟨113, _⟩ => ⟨S4x256x4x128, .f32⟩
  | .hbm, ⟨114, _⟩ => ⟨S4x256x4x128, .f32⟩
  | .hbm, ⟨115, _⟩ => ⟨S1x1x1x128, .f32⟩
  | .hbm, ⟨116, _⟩ => ⟨S4x256x4x128, .f32⟩
  | .hbm, ⟨117, _⟩ => ⟨S4x256x4x128, .f32⟩
  | .hbm, ⟨118, _⟩ => ⟨S_, .f32⟩
  | .hbm, ⟨119, _⟩ => ⟨S4x256x4x128, .f32⟩
  | .hbm, ⟨120, _⟩ => ⟨S4x256x4x128, .f32⟩
  | .hbm, ⟨121, _⟩ => ⟨S32768x512, .f32⟩
  | .hbm, ⟨122, _⟩ => ⟨S1024x512, .f32⟩
  | .hbm, ⟨123, _⟩ => ⟨S33792x512, .f32⟩
  | .hbm, ⟨124, _⟩ => ⟨S33792x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_14 : Ref sig .tc := ⟨.hbm, 103, rfl⟩
abbrev main_v80 : Ref sig .tc := ⟨.hbm, 104, rfl⟩
abbrev main_v81 : Ref sig .tc := ⟨.hbm, 105, rfl⟩
abbrev main_cst_15 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_17 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x2304 : Shape := ⟨2, ![1024, 2304]⟩
abbrev S8192x32 : Shape := ⟨2, ![8192, 32]⟩
abbrev S32768x1024 : Shape := ⟨2, ![32768, 1024]⟩
abbrev S1024x1024 : Shape := ⟨2, ![1024, 1024]⟩
abbrev S33792x1024 : Shape := ⟨2, ![33792, 1024]⟩
abbrev S1x6x1024 : Shape := ⟨3, ![1, 6, 1024]⟩
abbrev S_ : Shape := ⟨0, ![]⟩
abbrev S3x6x1024 : Shape := ⟨3, ![3, 6, 1024]⟩
abbrev S8x6x1024 : Shape := ⟨3, ![8, 6, 1024]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x128 : Shape := ⟨2, ![1024, 128]⟩
abbrev S9216x128 : Shape := ⟨2, ![9216, 128]⟩
abbrev S1x1024 : Shape := ⟨2, ![1, 1024]⟩
abbrev S33792x512 : Shape := ⟨2, ![33792, 512]⟩
abbrev S33792x128 : Shape := ⟨2, ![33792, 128]⟩
abbrev S132x128x256 : Shape := ⟨3, ![132, 128, 256]⟩
abbrev S132x512x256 : Shape := ⟨3, ![132, 512, 256]⟩
abbrev S1024x512 : Shape := ⟨2, ![1024, 512]⟩
abbrev S4x128x256 : Shape := ⟨3, ![4, 128, 256]⟩
abbrev S4x512x256 : Shape := ⟨3, ![4, 512, 256]⟩
abbrev S1x1x1024 : Shape := ⟨3, ![1, 1, 1024]⟩
abbrev S1024x1 : Shape := ⟨2, ![1024, 1]⟩
abbrev S1x128 : Shape := ⟨2, ![1, 128]⟩
abbrev S256x128 : Shape := ⟨2, ![256, 128]⟩
abbrev S128x256 : Shape := ⟨2, ![128, 256]⟩
abbrev S1x128x256 : Shape := ⟨3, ![1, 128, 256]⟩
abbrev S256x512 : Shape := ⟨2, ![256, 512]⟩
abbrev S512x256 : Shape := ⟨2, ![512, 256]⟩
abbrev S1x512x256 : Shape := ⟨3, ![1, 512, 256]⟩

abbrev nBuf : Space → Nat
  | .hbm => 37
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6x1024, .f32⟩
  | .hbm, ⟨3, _⟩ => ⟨S6x1024, .f32⟩
  | .hbm, ⟨4, _⟩ => ⟨S1024, .f32⟩
  | .hbm, ⟨5, _⟩ => ⟨S1024x2304, .f32⟩
  | .hbm, ⟨6, _⟩ => ⟨S8192x32, .f32⟩
  | .hbm, ⟨7, _⟩ => ⟨S8192x32, .f32⟩
  | .hbm, ⟨8, _⟩ => ⟨S32768x1024, .f32⟩
  | .hbm, ⟨9, _⟩ => ⟨S1024x1024, .f32⟩
  | .hbm, ⟨10, _⟩ => ⟨S33792x1024, .f32⟩
  | .hbm, ⟨11, _⟩ => ⟨S1x6x1024, .f32⟩
  | .hbm, ⟨12, _⟩ => ⟨S_, .f32⟩
  | .hbm, ⟨13, _⟩ => ⟨S3x6x1024, .f32⟩
  | .hbm, ⟨14, _⟩ => ⟨S8x6x1024, .f32⟩
  | .hbm, ⟨15, _⟩ => ⟨S1x8192x1x32, .f32⟩
  | .hbm, ⟨16, _⟩ => ⟨S1x8192x4x32, .f32⟩
  | .hbm, ⟨17, _⟩ => ⟨S8192x128, .f32⟩
  | .hbm, ⟨18, _⟩ => ⟨S8192x32, .f32⟩
  | .hbm, ⟨19, _⟩ => ⟨S8192x64, .f32⟩
  | .hbm, ⟨20, _⟩ => ⟨S1x8192x1x64, .f32⟩
  | .hbm, ⟨21, _⟩ => ⟨S1x8192x2x64, .f32⟩
  | .hbm, ⟨22, _⟩ => ⟨S8192x128, .f32⟩
  | .hbm, ⟨23, _⟩ => ⟨S_, .f32⟩
  | .hbm, ⟨24, _⟩ => ⟨S1024x128, .f32⟩
  | .hbm, ⟨25, _⟩ => ⟨S9216x128, .f32⟩
  | .hbm, ⟨26, _⟩ => ⟨S_, .f32⟩
  | .hbm, ⟨27, _⟩ => ⟨S1024x128, .f32⟩
  | .hbm, ⟨28, _⟩ => ⟨S9216x128, .f32⟩
  | .hbm, ⟨29, _⟩ => ⟨S1x1024, .f32⟩
  | .hbm, ⟨30, _⟩ => ⟨S1024x2304, .bf16⟩
  | .hbm, ⟨31, _⟩ => ⟨S33792x512, .bf16⟩
  | .hbm, ⟨32, _⟩ => ⟨S33792x128, .bf16⟩
  | .hbm, ⟨33, _⟩ => ⟨S33792x512, .bf16⟩
  | .hbm, ⟨34, _⟩ => ⟨S33792x512, .bf16⟩
  | .hbm, ⟨35, _⟩ => ⟨S132x128x256, .bf16⟩
  | .hbm, ⟨36, _⟩ => ⟨S132x512x256, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2304, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S4x128x256, .bf16⟩
  | .local _ .vmem, ⟨19, _⟩ => ⟨S4x128x256, .bf16⟩
  | .local _ .vmem, ⟨20, _⟩ => ⟨S4x512x256, .bf16⟩
  | .local _ .vmem, ⟨21, _⟩ => ⟨S4x512x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x2304 : Shape := ⟨2, ![1024, 2304]⟩
abbrev S8192x32 : Shape := ⟨2, ![8192, 32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256 : Shape := ⟨2, ![4, 256]⟩
abbrev S4x256x1 : Shape := ⟨3, ![4, 256, 1]⟩
abbrev S1x1024 : Shape := ⟨2, ![1, 1024]⟩
abbrev S4x8192x2304 : Shape := ⟨3, ![4, 8192, 2304]⟩
abbrev S4x8192x512 : Shape := ⟨3, ![4, 8192, 512]⟩
abbrev S4x8192x128 : Shape := ⟨3, ![4, 8192, 128]⟩
abbrev S4x8192x8x64 : Shape := ⟨4, ![4, 8192, 8, 64]⟩
abbrev S4x8192x2x64 : Shape := ⟨4, ![4, 8192, 2, 64]⟩
abbrev S4x8192x4x2x64 : Shape := ⟨5, ![4, 8192, 4, 2, 64]⟩
abbrev S4x256x2304 : Shape := ⟨3, ![4, 256, 2304]⟩
abbrev S4x256x512 : Shape := ⟨3, ![4, 256, 512]⟩
abbrev S4x256x128 : Shape := ⟨3, ![4, 256, 128]⟩
abbrev S4x256x8x64 : Shape := ⟨4, ![4, 256, 8, 64]⟩
abbrev S4x256x2x64 : Shape := ⟨4, ![4, 256, 2, 64]⟩
abbrev S4x256x4x2x64 : Shape := ⟨5, ![4, 256, 4, 2, 64]⟩
abbrev S1x8192x1x32 : Shape := ⟨4, ![1, 8192, 1, 32]⟩
abbrev S4x8192x8x32 : Shape := ⟨4, ![4, 8192, 8, 32]⟩
abbrev S4x8192x2x32 : Shape := ⟨4, ![4, 8192, 2, 32]⟩
abbrev S1x8192x1x1x32 : Shape := ⟨5, ![1, 8192, 1, 1, 32]⟩
abbrev S4x8192x4x2x32 : Shape := ⟨5, ![4, 8192, 4, 2, 32]⟩
abbrev S32768x512 : Shape := ⟨2, ![32768, 512]⟩
abbrev S1024x512 : Shape := ⟨2, ![1024, 512]⟩
abbrev S33792x512 : Shape := ⟨2, ![33792, 512]⟩
abbrev S32768x128 : Shape := ⟨2, ![32768, 128]⟩
abbrev S1024x128 : Shape := ⟨2, ![1024, 128]⟩
abbrev S33792x128 : Shape := ⟨2, ![33792, 128]⟩
abbrev S132x256x128 : Shape := ⟨3, ![132, 256, 128]⟩
abbrev S132x128x256 : Shape := ⟨3, ![132, 128, 256]⟩
abbrev S132x256x512 : Shape := ⟨3, ![132, 256, 512]⟩
abbrev S132x512x256 : Shape := ⟨3, ![132, 512, 256]⟩

abbrev nBuf : Space → Nat
  | .hbm => 182
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x6x1024, .f32⟩
  | 3 => ⟨S6x1024, .f32⟩
  | 4 => ⟨S1024, .f32⟩
  | 5 => ⟨S1024x2304, .f32⟩
  | 6 => ⟨S8192x32, .f32⟩
  | 7 => ⟨S8192x32, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S4x1x1024, .f32⟩
  | 25 => ⟨S4x1024, .f32⟩
  | 26 => ⟨S4x1x1024, .f32⟩
  | 27 => ⟨S4x1x1024, .f32⟩
  | 28 => ⟨S4x1024, .f32⟩
  | 29 => ⟨S4x1x1024, .f32⟩
  | 30 => ⟨S_, .f32⟩
  | 31 => ⟨S4x1x1024, .f32⟩
  | 32 => ⟨S4x1x1024, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x256x1024, .f32⟩
  | 38 => ⟨S_, .f32⟩
  | 39 => ⟨S4x256, .f32⟩
  | 40 => ⟨S4x256x1, .f32⟩
  | 41 => ⟨S_, .f32⟩
  | 42 => ⟨S4x256x1, .f32⟩
  | 43 => ⟨S4x256x1, .f32⟩
  | 44 => ⟨S_, .f32⟩
  | 45 => ⟨S4x256x1, .f32⟩
  | 46 => ⟨S4x256x1, .f32⟩
  | 47 => ⟨S4x256x1, .f32⟩
  | 48 => ⟨S4x256x1024, .f32⟩
  | 49 => ⟨S4x256x1024, .f32⟩
  | 50 => ⟨S1x1x1024, .f32⟩
  | 51 => ⟨S4x256x1024, .f32⟩
  | 52 => ⟨S4x256x1024, .f32⟩
  | 53 => ⟨S1x1024, .f32⟩
  | 54 => ⟨S1024, .f32⟩
  | 55 => ⟨S1x1024, .f32⟩
  | 56 => ⟨S1024, .f32⟩
  | 57 => ⟨S_, .f32⟩
  | 58 => ⟨S1024, .f32⟩
  | 59 => ⟨S1024, .f32⟩
  | 60 => ⟨S1x1x1024, .f32⟩
  | 61 => ⟨S4x256x1024, .f32⟩
  | 62 => ⟨S4x256x1024, .f32⟩
  | 63 => ⟨S1x1x1024, .f32⟩
  | 64 => ⟨S4x256x1024, .f32⟩
  | 65 => ⟨S4x256x1024, .f32⟩
  | 66 => ⟨S4x8192x2304, .f32⟩
  | 67 => ⟨S4x8192x512, .f32⟩
  | 68 => ⟨S4x8192x128, .f32⟩
  | 69 => ⟨S4x8192x128, .f32⟩
  | 70 => ⟨S4x8192x512, .f32⟩
  | 71 => ⟨S4x8192x512, .f32⟩
  | 72 => ⟨S4x8192x512, .f32⟩
  | 73 => ⟨S4x8192x8x64, .f32⟩
  | 74 => ⟨S4x8192x2x64, .f32⟩
  | 75 => ⟨S4x8192x4x2x64, .f32⟩
  | 76 => ⟨S4x8192x4x2x64, .f32⟩
  | 77 => ⟨S4x256x2304, .f32⟩
  | 78 => ⟨S4x256x512, .f32⟩
  | 79 => ⟨S4x256x128, .f32⟩
  | 80 => ⟨S4x256x128, .f32⟩
  | 81 => ⟨S4x256x512, .f32⟩
  | 82 => ⟨S4x256x512, .f32⟩
  | 83 => ⟨S4x256x512, .f32⟩
  | 84 => ⟨S4x256x8x64, .f32⟩
  | 85 => ⟨S4x256x2x64, .f32⟩
  | 86 => ⟨S4x256x4x2x64, .f32⟩
  | 87 => ⟨S4x256x4x2x64, .f32⟩
  | 88 => ⟨S1x8192x1x32, .f32⟩
  | 89 => ⟨S1x8192x1x32, .f32⟩
  | 90 => ⟨S4x8192x8x32, .f32⟩
  | 91 => ⟨S4x8192x8x32, .f32⟩
  | 92 => ⟨S4x8192x8x32, .f32⟩
  | 93 => ⟨S4x8192x8x32, .f32⟩
  | 94 => ⟨S4x8192x8x32, .f32⟩
  | 95 => ⟨S4x8192x8x32, .f32⟩
  | 96 => ⟨S4x8192x8x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x64, .f32⟩
  | 103 => ⟨S1x8192x1x32, .f32⟩
  | 104 => ⟨S1x8192x1x32, .f32⟩
  | 105 => ⟨S4x8192x2x32, .f32⟩
  | 106 => ⟨S4x8192x2x32, .f32⟩
  | 107 => ⟨S4x8192x2x32, .f32⟩
  | 108 => ⟨S4x8192x2x32, .f32⟩
  | 109 => ⟨S4x8192x2x32, .f32⟩
  | 110 => ⟨S4x8192x2x32, .f32⟩
  | 111 => ⟨S4x8192x2x32, .f32⟩
  | 112 => ⟨S4x8192x2x32, .f32⟩
  | 113 => ⟨S4x8192x2x32, .f32⟩
  | 114 => ⟨S4x8192x2x32, .f32⟩
  | 115 => ⟨S4x8192x2x32, .f32⟩
  | 116 => ⟨S4x8192x2x32, .f32⟩
  | 117 => ⟨S4x8192x2x64, .f32⟩
  | 118 => ⟨S1x8192x1x1x32, .f32⟩
  | 119 => ⟨S1x8192x1x1x32, .f32⟩
  | 120 => ⟨S4x8192x4x2x32, .f32⟩
  | 121 => ⟨S4x8192x4x2x32, .f32⟩
  | 122 => ⟨S4x8192x4x2x32, .f32⟩
  | 123 => ⟨S4x8192x4x2x32, .f32⟩
  | 124 => ⟨S4x8192x4x2x32, .f32⟩
  | 125 => ⟨S4x8192x4x2x32, .f32⟩
  | 126 => ⟨S4x8192x4x2x32, .f32⟩
  | 127 => ⟨S4x8192x4x2x32, .f32⟩
  | _ => ⟨S4x8192x1024, .f32⟩

abbrev hbmTy0_1 (i : Nat) : BufTy := match i % 128 with
  | 0 => ⟨S4x8192x4x2x32, .f32⟩
  | 1 => ⟨S4x8192x4x2x32, .f32⟩
  | 2 => ⟨S4x8192x4x2x32, .f32⟩
  | 3 => ⟨S4x8192x4x2x32, .f32⟩
  | 4 => ⟨S4x8192x4x2x64, .f32⟩
  | 5 => ⟨S1x8192x1x1x32, .f32⟩
  | 6 => ⟨S1x8192x1x1x32, .f32⟩
  | 7 => ⟨S4x8192x4x2x32, .f32⟩
  | 8 => ⟨S4x8192x4x2x32, .f32⟩
  | 9 => ⟨S4x8192x4x2x32, .f32⟩
  | 10 => ⟨S4x8192x4x2x32, .f32⟩
  | 11 => ⟨S4x8192x4x2x32, .f32⟩
  | 12 => ⟨S4x8192x4x2x32, .f32⟩
  | 13 => ⟨S4x8192x4x2x32, .f32⟩
  | 14 => ⟨S4x8192x4x2x32, .f32⟩
  | 15 => ⟨S4x8192x4x2x32, .f32⟩
  | 16 => ⟨S4x8192x4x2x32, .f32⟩
  | 17 => ⟨S4x8192x4x2x32, .f32⟩
  | 18 => ⟨S4x8192x4x2x32, .f32⟩
  | 19 => ⟨S4x8192x4x2x64, .f32⟩
  | 20 => ⟨S32768x512, .f32⟩
  | 21 => ⟨S1024x512, .f32⟩
  | 22 => ⟨S33792x512, .f32⟩
  | 23 => ⟨S_, .f32⟩
  | 24 => ⟨S33792x512, .f32⟩
  | 25 => ⟨S33792x512, .f32⟩
  | 26 => ⟨S33792x512, .bf16⟩
  | 27 => ⟨S32768x128, .f32⟩
  | 28 => ⟨S1024x128, .f32⟩
  | 29 => ⟨S33792x128, .f32⟩
  | 30 => ⟨S33792x128, .bf16⟩
  | 31 => ⟨S32768x512, .f32⟩
  | 32 => ⟨S1024x512, .f32⟩
  | 33 => ⟨S33792x512, .f32⟩
  | 34 => ⟨S_, .f32⟩
  | 35 => ⟨S33792x512, .f32⟩
  | 36 => ⟨S33792x512, .f32⟩
  | 37 => ⟨S33792x512, .bf16⟩
  | 38 => ⟨S32768x512, .f32⟩
  | 39 => ⟨S1024x512, .f32⟩
  | 40 => ⟨S33792x512, .f32⟩
  | 41 => ⟨S33792x512, .bf16⟩
  | 42 => ⟨S32768x128, .f32⟩
  | 43 => ⟨S1024x128, .f32⟩
  | 44 => ⟨S33792x128, .f32⟩
  | 45 => ⟨S132x256x128, .f32⟩
  | 46 => ⟨S132x128x256, .f32⟩
  | 47 => ⟨S132x128x256, .bf16⟩
  | 48 => ⟨S32768x512, .f32⟩
  | 49 => ⟨S1024x512, .f32⟩
  | 50 => ⟨S33792x512, .f32⟩
  | 51 => ⟨S132x256x512, .f32⟩
  | 52 => ⟨S132x512x256, .f32⟩
  | 53 => ⟨S132x512x256, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_7 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_cst_8 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1536 : Shape := ⟨2, ![1024, 1536]⟩
abbrev S32768x1024 : Shape := ⟨2, ![32768, 1024]⟩
abbrev S1024x1024 : Shape := ⟨2, ![1024, 1024]⟩
abbrev S33792x1024 : Shape := ⟨2, ![33792, 1024]⟩
abbrev S1x6x1024 : Shape := ⟨3, ![1, 6, 1024]⟩
abbrev S_ : Shape := ⟨0, ![]⟩
abbrev S3x6x1024 : Shape := ⟨3, ![3, 6, 1024]⟩
abbrev S8x6x1024 : Shape := ⟨3, ![8, 6, 1024]⟩
abbrev S1x1024 : Shape := ⟨2, ![1, 1024]⟩
abbrev S33792x512 : Shape := ⟨2, ![33792, 512]⟩
abbrev S1024x512 : Shape := ⟨2, ![1024, 512]⟩
abbrev S1x1x1024 : Shape := ⟨3, ![1, 1, 1024]⟩
abbrev S1024x1 : Shape := ⟨2, ![1024, 1]⟩

abbrev nBuf : Space → Nat
  | .hbm => 18
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6x1024, .f32⟩
  | .hbm, ⟨3, _⟩ => ⟨S6x1024, .f32⟩
  | .hbm, ⟨4, _⟩ => ⟨S1024, .f32⟩
  | .hbm, ⟨5, _⟩ => ⟨S1024x1536, .f32⟩
  | .hbm, ⟨6, _⟩ => ⟨S32768x1024, .f32⟩
  | .hbm, ⟨7, _⟩ => ⟨S1024x1024, .f32⟩
  | .hbm, ⟨8, _⟩ => ⟨S33792x1024, .f32⟩
  | .hbm, ⟨9, _⟩ => ⟨S1x6x1024, .f32⟩
  | .hbm, ⟨10, _⟩ => ⟨S_, .f32⟩
  | .hbm, ⟨11, _⟩ => ⟨S3x6x1024, .f32⟩
  | .hbm, ⟨12, _⟩ => ⟨S8x6x1024, .f32⟩
  | .hbm, ⟨13, _⟩ => ⟨S1x1024, .f32⟩
  | .hbm, ⟨14, _⟩ => ⟨S1024x1536, .bf16⟩
  | .hbm, ⟨15, _⟩ => ⟨S33792x512, .f32⟩
  | .hbm, ⟨16, _⟩ => ⟨S33792x512, .f32⟩
  | .hbm, ⟨17, _⟩ => ⟨S33792x512, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1536 : Shape := ⟨2, ![1024, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256 : Shape := ⟨2, ![4, 256]⟩
abbrev S4x256x1 : Shape := ⟨3, ![4, 256, 1]⟩
abbrev S1x1024 : Shape := ⟨2, ![1, 1024]⟩
abbrev S4x8192x1536 : Shape := ⟨3, ![4, 8192, 1536]⟩
abbrev S4x8192x512 : Shape := ⟨3, ![4, 8192, 512]⟩
abbrev S4x256x1536 : Shape := ⟨3, ![4, 256, 1536]⟩
abbrev S4x256x512 : Shape := ⟨3, ![4, 256, 512]⟩
abbrev S32768x512 : Shape := ⟨2, ![32768, 512]⟩
abbrev S1024x512 : Shape := ⟨2, ![1024, 512]⟩
abbrev S33792x512 : Shape := ⟨2, ![33792, 512]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6x1024, .f32⟩
  | .hbm, ⟨3, _⟩ => ⟨S6x1024, .f32⟩
  | .hbm, ⟨4, _⟩ => ⟨S1024, .f32⟩
  | .hbm, ⟨5, _⟩ => ⟨S1024x1536, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1x1024, .f32⟩
  | .hbm, ⟨26, _⟩ => ⟨S4x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x256x1024, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x1024, .f32⟩
  | .hbm, ⟨47, _⟩ => ⟨S4x256x1024, .f32⟩
  | .hbm, ⟨48, _⟩ => ⟨S1x1x1024, .f32⟩
  | .hbm, ⟨49, _⟩ => ⟨S4x256x1024, .f32⟩
  | .hbm, ⟨50, _⟩ => ⟨S4x256x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S4x8192x1536, .f32⟩
  | .hbm, ⟨65, _⟩ => ⟨S4x8192x512, .f32⟩
  | .hbm, ⟨66, _⟩ => ⟨S4x8192x512, .f32⟩
  | .hbm, ⟨67, _⟩ => ⟨S4x8192x512, .f32⟩
  | .hbm, ⟨68, _⟩ => ⟨S4x256x1536, .f32⟩
  | .hbm, ⟨69, _⟩ => ⟨S4x256x512, .f32⟩
  | .hbm, ⟨70, _⟩ => ⟨S4x256x512, .f32⟩
  | .hbm, ⟨71, _⟩ => ⟨S4x256x512, .f32⟩
  | .hbm, ⟨72, _⟩ => ⟨S32768x512, .f32⟩
  | .hbm, ⟨73, _⟩ => ⟨S1024x512, .f32⟩
  | .hbm, ⟨74, _⟩ => ⟨S33792x512, .f32⟩
  | .hbm, ⟨75, _⟩ => ⟨S32768x512, .f32⟩
  | .hbm, ⟨76, _⟩ => ⟨S1024x512, .f32⟩
  | .hbm, ⟨77, _⟩ => ⟨S33792x512, .f32⟩
  | .hbm, ⟨78, _⟩ => ⟨S32768x512, .f32⟩
  | .hbm, ⟨79, _⟩ => ⟨S1024x512, .f32⟩
  | .hbm, ⟨80, _⟩ => ⟨S33792x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Kernel4.lean ====
abbrev S4x8192x512 : Shape := ⟨3, ![4, 8192, 512]⟩
abbrev S4x256x512 : Shape := ⟨3, ![4, 256, 512]⟩
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1024 : Shape := ⟨2, ![1024, 1024]⟩
abbrev S1x6x1024 : Shape := ⟨3, ![1, 6, 1024]⟩
abbrev S_ : Shape := ⟨0, ![]⟩
abbrev S3x6x1024 : Shape := ⟨3, ![3, 6, 1024]⟩
abbrev S8x6x1024 : Shape := ⟨3, ![8, 6, 1024]⟩
abbrev S32768x512 : Shape := ⟨2, ![32768, 512]⟩
abbrev S1024x512 : Shape := ⟨2, ![1024, 512]⟩
abbrev S33792x512 : Shape := ⟨2, ![33792, 512]⟩
abbrev S32768x1024 : Shape := ⟨2, ![32768, 1024]⟩
abbrev S33792x1024 : Shape := ⟨2, ![33792, 1024]⟩
abbrev S1x1024 : Shape := ⟨2, ![1, 1024]⟩
abbrev S512x1024 : Shape := ⟨2, ![512, 1024]⟩
abbrev S1x1x1024 : Shape := ⟨3, ![1, 1, 1024]⟩
abbrev S1024x1 : Shape := ⟨2, ![1024, 1]⟩

abbrev nBuf : Space → Nat
  | .hbm => 29
  | .vmem => 14
  | .smem => 0
  | _ => 0

abbrev bufTy : (tb : Table) → Fin (tcTables nBuf tb) → BufTy
  | .hbm, ⟨0, _⟩ => ⟨S4x8192x512, .f32⟩
  | .hbm, ⟨1, _⟩ => ⟨S4x256x512, .f32⟩
  | .hbm, ⟨2, _⟩ => ⟨S4x8192x512, .f32⟩
  | .hbm, ⟨3, _⟩ => ⟨S4x256x512, .f32⟩
  | .hbm, ⟨4, _⟩ => ⟨S4x8192x1024, .f32⟩
  | .hbm, ⟨5, _⟩ => ⟨S4x256x1024, .f32⟩
  | .hbm, ⟨6, _⟩ => ⟨S4x6x1024, .f32⟩
  | .hbm, ⟨7, _⟩ => ⟨S6x1024, .f32⟩
  | .hbm, ⟨8, _⟩ => ⟨S1024, .f32⟩
  | .hbm, ⟨9, _⟩ => ⟨S1024x1024, .f32⟩
  | .hbm, ⟨10, _⟩ => ⟨S1x6x1024, .f32⟩
  | .hbm, ⟨11, _⟩ => ⟨S_, .f32⟩
  | .hbm, ⟨12, _⟩ => ⟨S3x6x1024, .f32⟩
  | .hbm, ⟨13, _⟩ => ⟨S8x6x1024, .f32⟩
  | .hbm, ⟨14, _⟩ => ⟨S32768x512, .f32⟩
  | .hbm, ⟨15, _⟩ => ⟨S1024x512, .f32⟩
  | .hbm, ⟨16, _⟩ => ⟨S33792x512, .f32⟩
  | .hbm, ⟨17, _⟩ => ⟨S33792x512, .bf16⟩
  | .hbm, ⟨18, _⟩ => ⟨S32768x512, .f32⟩
  | .hbm, ⟨19, _⟩ => ⟨S1024x512, .f32⟩
  | .hbm, ⟨20, _⟩ => ⟨S33792x512, .f32⟩
  | .hbm, ⟨21, _⟩ => ⟨S33792x512, .bf16⟩
  | .hbm, ⟨22, _⟩ => ⟨S32768x1024, .f32⟩
  | .hbm, ⟨23, _⟩ => ⟨S1024x1024, .f32⟩
  | .hbm, ⟨24, _⟩ => ⟨S33792x1024, .f32⟩
  | .hbm, ⟨25, _⟩ => ⟨S1x1024, .f32⟩
  | .hbm, ⟨26, _⟩ => ⟨S1024x1024, .bf16⟩
  | .hbm, ⟨27, _⟩ => ⟨S33792x1024, .f32⟩
  | .hbm, ⟨28, _⟩ => ⟨S33792x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x8192x512 : Shape := ⟨3, ![4, 8192, 512]⟩
abbrev S4x256x512 : Shape := ⟨3, ![4, 256, 512]⟩
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1024 : Shape := ⟨2, ![1024, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024 : Shape := ⟨2, ![1, 1024]⟩
abbrev S4x256 : Shape := ⟨2, ![4, 256]⟩
abbrev S4x256x1 : Shape := ⟨3, ![4, 256, 1]⟩
abbrev S32768x1024 : Shape := ⟨2, ![32768, 1024]⟩
abbrev S33792x1024 : Shape := ⟨2, ![33792, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x256x512, .f32⟩
  | .hbm, ⟨2, _⟩ => ⟨S4x8192x512, .f32⟩
  | .hbm, ⟨3, _⟩ => ⟨S4x256x512, .f32⟩
  | .hbm, ⟨4, _⟩ => ⟨S4x8192x1024, .f32⟩
  | .hbm, ⟨5, _⟩ => ⟨S4x256x1024, .f32⟩
  | .hbm, ⟨6, _⟩ => ⟨S4x6x1024, .f32⟩
  | .hbm, ⟨7, _⟩ => ⟨S6x1024, .f32⟩
  | .hbm, ⟨8, _⟩ => ⟨S1024, .f32⟩
  | .hbm, ⟨9, _⟩ => ⟨S1024x1024, .f32⟩
  | .hbm, ⟨10, _⟩ => ⟨S4x8192x1024, .f32⟩
  | .hbm, ⟨11, _⟩ => ⟨S4x8192x1024, .f32⟩
  | .hbm, ⟨12, _⟩ => ⟨S4x256x1024, .f32⟩
  | .hbm, ⟨13, _⟩ => ⟨S4x256x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x1x1024, .f32⟩
  | .hbm, ⟨37, _⟩ => ⟨S4x1024, .f32⟩
  | .hbm, ⟨38, _⟩ => ⟨S4x1x1024, .f32⟩
  | .hbm, ⟨39, _⟩ => ⟨S4x1x1024, .f32⟩
  | .hbm, ⟨40, _⟩ => ⟨S4x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | .hbm, ⟨55, _⟩ => ⟨S4x256x1024, .f32⟩
  | .hbm, ⟨56, _⟩ => ⟨S_, .f32⟩
  | .hbm, ⟨57, _⟩ => ⟨S4x256, .f32⟩
  | .hbm, ⟨58, _⟩ => ⟨S4x256x1, .f32⟩
  | .hbm, ⟨59, _⟩ => ⟨S_, .f32⟩
  | .hbm, ⟨60, _⟩ => ⟨S4x256x1, .f32⟩
  | .hbm, ⟨61, _⟩ => ⟨S4x256x1, .f32⟩
  | .hbm, ⟨62, _⟩ => ⟨S_, .f32⟩
  | .hbm, ⟨63, _⟩ => ⟨S4x256x1, .f32⟩
  | .hbm, ⟨64, _⟩ => ⟨S4x256x1, .f32⟩
  | .hbm, ⟨65, _⟩ => ⟨S4x256x1, .f32⟩
  | .hbm, ⟨66, _⟩ => ⟨S4x256x1024, .f32⟩
  | .hbm, ⟨67, _⟩ => ⟨S4x256x1024, .f32⟩
  | .hbm, ⟨68, _⟩ => ⟨S1x1x1024, .f32⟩
  | .hbm, ⟨69, _⟩ => ⟨S4x256x1024, .f32⟩
  | .hbm, ⟨70, _⟩ => ⟨S4x256x1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S1x1x1024, .f32⟩
  | .hbm, ⟨79, _⟩ => ⟨S4x256x1024, .f32⟩
  | .hbm, ⟨80, _⟩ => ⟨S4x256x1024, .f32⟩
  | .hbm, ⟨81, _⟩ => ⟨S1x1x1024, .f32⟩
  | .hbm, ⟨82, _⟩ => ⟨S4x256x1024, .f32⟩
  | .hbm, ⟨83, _⟩ => ⟨S4x256x1024, .f32⟩
  | .hbm, ⟨84, _⟩ => ⟨S32768x1024, .f32⟩
  | .hbm, ⟨85, _⟩ => ⟨S1024x1024, .f32⟩
  | .hbm, ⟨86, _⟩ => ⟨S33792x1024, .f32⟩
  | .hbm, ⟨87, _⟩ => ⟨S32768x1024, .f32⟩
  | .hbm, ⟨88, _⟩ => ⟨S1024x1024, .f32⟩
  | .hbm, ⟨89, _⟩ => ⟨S33792x1024, .f32⟩
  | .hbm, ⟨90, _⟩ => ⟨S33792x1024, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Kernel5.lean ====
abbrev S4x8192x512 : Shape := ⟨3, ![4, 8192, 512]⟩
abbrev S4x256x512 : Shape := ⟨3, ![4, 256, 512]⟩
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1024 : Shape := ⟨2, ![1024, 1024]⟩
abbrev S1x6x1024 : Shape := ⟨3, ![1, 6, 1024]⟩
abbrev S_ : Shape := ⟨0, ![]⟩
abbrev S3x6x1024 : Shape := ⟨3, ![3, 6, 1024]⟩
abbrev S8x6x1024 : Shape := ⟨3, ![8, 6, 1024]⟩
abbrev S32768x512 : Shape := ⟨2, ![32768, 512]⟩
abbrev S1024x512 : Shape := ⟨2, ![1024, 512]⟩
abbrev S33792x512 : Shape := ⟨2, ![33792, 512]⟩
abbrev S32768x1024 : Shape := ⟨2, ![32768, 1024]⟩
abbrev S33792x1024 : Shape := ⟨2, ![33792, 1024]⟩
abbrev S1x1024 : Shape := ⟨2, ![1, 1024]⟩
abbrev S512x1024 : Shape := ⟨2, ![512, 1024]⟩
abbrev S1x1x1024 : Shape := ⟨3, ![1, 1, 1024]⟩
abbrev S1024x1 : Shape := ⟨2, ![1024, 1]⟩

abbrev nBuf : Space → Nat
  | .hbm => 38
  | .vmem => 18
  | .smem => 0
  | _ => 0

abbrev bufTy : (tb : Table) → Fin (tcTables nBuf tb) → BufTy
  | .hbm, ⟨0, _⟩ => ⟨S4x8192x512, .f32⟩
  | .hbm, ⟨1, _⟩ => ⟨S4x256x512, .f32⟩
  | .hbm, ⟨2, _⟩ => ⟨S4x8192x512, .f32⟩
  | .hbm, ⟨3, _⟩ => ⟨S4x256x512, .f32⟩
  | .hbm, ⟨4, _⟩ => ⟨S4x8192x512, .f32⟩
  | .hbm, ⟨5, _⟩ => ⟨S4x256x512, .f32⟩
  | .hbm, ⟨6, _⟩ => ⟨S4x8192x512, .f32⟩
  | .hbm, ⟨7, _⟩ => ⟨S4x256x512, .f32⟩
  | .hbm, ⟨8, _⟩ => ⟨S4x8192x1024, .f32⟩
  | .hbm, ⟨9, _⟩ => ⟨S4x256x1024, .f32⟩
  | .hbm, ⟨10, _⟩ => ⟨S4x6x1024, .f32⟩
  | .hbm, ⟨11, _⟩ => ⟨S6x1024, .f32⟩
  | .hbm, ⟨12, _⟩ => ⟨S1024, .f32⟩
  | .hbm, ⟨13, _⟩ => ⟨S1024x1024, .f32⟩
  | .hbm, ⟨14, _⟩ => ⟨S1x6x1024, .f32⟩
  | .hbm, ⟨15, _⟩ => ⟨S_, .f32⟩
  | .hbm, ⟨16, _⟩ => ⟨S3x6x1024, .f32⟩
  | .hbm, ⟨17, _⟩ => ⟨S8x6x1024, .f32⟩
  | .hbm, ⟨18, _⟩ => ⟨S32768x512, .f32⟩
  | .hbm, ⟨19, _⟩ => ⟨S1024x512, .f32⟩
  | .hbm, ⟨20, _⟩ => ⟨S33792x512, .f32⟩
  | .hbm, ⟨21, _⟩ => ⟨S33792x512, .bf16⟩
  | .hbm, ⟨22, _⟩ => ⟨S32768x512, .f32⟩
  | .hbm, ⟨23, _⟩ => ⟨S1024x512, .f32⟩
  | .hbm, ⟨24, _⟩ => ⟨S33792x512, .f32⟩
  | .hbm, ⟨25, _⟩ => ⟨S32768x512, .f32⟩
  | .hbm, ⟨26, _⟩ => ⟨S1024x512, .f32⟩
  | .hbm, ⟨27, _⟩ => ⟨S33792x512, .f32⟩
  | .hbm, ⟨28, _⟩ => ⟨S32768x512, .f32⟩
  | .hbm, ⟨29, _⟩ => ⟨S1024x512, .f32⟩
  | .hbm, ⟨30, _⟩ => ⟨S33792x512, .f32⟩
  | .hbm, ⟨31, _⟩ => ⟨S32768x1024, .f32⟩
  | .hbm, ⟨32, _⟩ => ⟨S1024x1024, .f32⟩
  | .hbm, ⟨33, _⟩ => ⟨S33792x1024, .f32⟩
  | .hbm, ⟨34, _⟩ => ⟨S1x1024, .f32⟩
  | .hbm, ⟨35, _⟩ => ⟨S1024x1024, .bf16⟩
  | .hbm, ⟨36, _⟩ => ⟨S33792x1024, .f32⟩
  | .hbm, ⟨37, _⟩ => ⟨S33792x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .f32⟩
  | .local _ .vmem, ⟨9, _⟩ => ⟨S1024x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x8192x512 : Shape := ⟨3, ![4, 8192, 512]⟩
abbrev S4x256x512 : Shape := ⟨3, ![4, 256, 512]⟩
abbrev S4x8192x1024 : Shape := ⟨3, ![4, 8192, 1024]⟩
abbrev S4x256x1024 : Shape := ⟨3, ![4, 256, 1024]⟩
abbrev S4x6x1024 : Shape := ⟨3, ![4, 6, 1024]⟩
abbrev S6x1024 : Shape := ⟨2, ![6, 1024]⟩
abbrev S1024 : Shape := ⟨1, ![1024]⟩
abbrev S1024x1024 : Shape := ⟨2, ![1024, 1024]⟩
abbrev S_ : Shape := ⟨0, ![]⟩
abbrev S4x1x1024 : Shape := ⟨3, ![4, 1, 1024]⟩
abbrev S4x1024 : Shape := ⟨2, ![4, 1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024 : Shape := ⟨2, ![1, 1024]⟩
abbrev S4x256 : Shape := ⟨2, ![4, 256]⟩
abbrev S4x256x1 : Shape := ⟨3, ![4, 256, 1]⟩
abbrev S32768x1024 : Shape := ⟨2, ![32768, 1024]⟩
abbrev S33792x1024 : Shape := ⟨2, ![33792, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x256x512, .f32⟩
  | .hbm, ⟨2, _⟩ => ⟨S4x8192x512, .f32⟩
  | .hbm, ⟨3, _⟩ => ⟨S4x256x512, .f32⟩
  | .hbm, ⟨4, _⟩ => ⟨S4x8192x512, .f32⟩
  | .hbm, ⟨5, _⟩ => ⟨S4x256x512, .f32⟩
  | .hbm, ⟨6, _⟩ => ⟨S4x8192x512, .f32⟩
  | .hbm, ⟨7, _⟩ => ⟨S4x256x512, .f32⟩
  | .hbm, ⟨8, _⟩ => ⟨S4x8192x1024, .f32⟩
  | .hbm, ⟨9, _⟩ => ⟨S4x256x1024, .f32⟩
  | .hbm, ⟨10, _⟩ => ⟨S4x6x1024, .f32⟩
  | .hbm, ⟨11, _⟩ => ⟨S6x1024, .f32⟩
  | .hbm, ⟨12, _⟩ => ⟨S1024, .f32⟩
  | .hbm, ⟨13, _⟩ => ⟨S1024x1024, .f32⟩
  | .hbm, ⟨14, _⟩ => ⟨S4x8192x512, .f32⟩
  | .hbm, ⟨15, _⟩ => ⟨S_, .f32⟩
  | .hbm, ⟨16, _⟩ => ⟨S4x8192x512, .f32⟩
  | .hbm, ⟨17, _⟩ => ⟨S4x8192x512, .f32⟩
  | .hbm, ⟨18, _⟩ => ⟨S4x8192x512, .f32⟩
  | .hbm, ⟨19, _⟩ => ⟨S_, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x1024, .f32⟩
  | .hbm, ⟨26, _⟩ => ⟨S4x8192x1024, .f32⟩
  | .hbm, ⟨27, _⟩ => ⟨S4x256x512, .f32⟩
  | .hbm, ⟨28, _⟩ => ⟨S_, .f32⟩
  | .hbm, ⟨29, _⟩ => ⟨S4x256x512, .f32⟩
  | .hbm, ⟨30, _⟩ => ⟨S4x256x512, .f32⟩
  | .hbm, ⟨31, _⟩ => ⟨S4x256x512, .f32⟩
  | .hbm, ⟨32, _⟩ => ⟨S_, .f32⟩
  | .hbm, ⟨33, _⟩ => ⟨S4x256x512, .f32⟩
  | .hbm, ⟨34, _⟩ => ⟨S4x256x512, .f32⟩
  | .hbm, ⟨35, _⟩ => ⟨S4x256x512, .f32⟩
  | .hbm, ⟨36, _⟩ => ⟨S4x256x512, .f32⟩
  | .hbm, ⟨37, _⟩ => ⟨S4x256x512, .f32⟩
  | .hbm, ⟨38, _⟩ => ⟨S4x256x1024, .f32⟩
  | .hbm, ⟨39, _⟩ => ⟨S4x256x1024, .f32⟩
  | .hbm, ⟨40, _⟩ => ⟨S4x1x1024, .f32⟩
  | .hbm, ⟨41, _⟩ => ⟨S4x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | .hbm, ⟨62, _⟩ => ⟨S4x1x1024, .f32⟩
  | .hbm, ⟨63, _⟩ => ⟨S4x1024, .f32⟩
  | .hbm, ⟨64, _⟩ => ⟨S4x1x1024, .f32⟩
  | .hbm, ⟨65, _⟩ => ⟨S4x1x1024, .f32⟩
  | .hbm, ⟨66, _⟩ => ⟨S4x1024, .f32⟩
  | .hbm, ⟨67, _⟩ => ⟨S4x1x1024, .f32⟩
  | .hbm, ⟨68, _⟩ => ⟨S_, .f32⟩
  | .hbm, ⟨69, _⟩ => ⟨S4x1x1024, .f32⟩
  | .hbm, ⟨70, _⟩ => ⟨S4x1x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S1x1024, .f32⟩
  | .hbm, ⟨76, _⟩ => ⟨S1024, .f32⟩
  | .hbm, ⟨77, _⟩ => ⟨S1x1x1024, .f32⟩
  | .hbm, ⟨78, _⟩ => ⟨S4x256x1024, .f32⟩
  | .hbm, ⟨79, _⟩ => ⟨S4x256x1024, .f32⟩
  | .hbm, ⟨80, _⟩ => ⟨S4x256x1024, .f32⟩
  | .hbm, ⟨81, _⟩ => ⟨S4x256x1024, .f32⟩
  | .hbm, ⟨82, _⟩ => ⟨S_, .f32⟩
  | .hbm, ⟨83, _⟩ => ⟨S4x256, .f32⟩
  | .hbm, ⟨84, _⟩ => ⟨S4x256x1, .f32⟩
  | .hbm, ⟨85, _⟩ => ⟨S_, .f32⟩
  | .hbm, ⟨86, _⟩ => ⟨S4x256x1, .f32⟩
  | .hbm, ⟨87, _⟩ => ⟨S4x256x1, .f32⟩
  | .hbm, ⟨88, _⟩ => ⟨S_, .f32⟩
  | .hbm, ⟨89, _⟩ => ⟨S4x256x1, .f32⟩
  | .hbm, ⟨90, _⟩ => ⟨S4x256x1, .f32⟩
  | .hbm, ⟨91, _⟩ => ⟨S4x256x1, .f32⟩
  | .hbm, ⟨92, _⟩ => ⟨S4x256x1024, .f32⟩
  | .hbm, ⟨93, _⟩ => ⟨S4x256x1024, .f32⟩
  | .hbm, ⟨94, _⟩ => ⟨S1x1x1024, .f32⟩
  | .hbm, ⟨95, _⟩ => ⟨S4x256x1024, .f32⟩
  | .hbm, ⟨96, _⟩ => ⟨S4x256x1024, .f32⟩
  | .hbm, ⟨97, _⟩ => ⟨S1x1024, .f32⟩
  | .hbm, ⟨98, _⟩ => ⟨S1024, .f32⟩
  | .hbm, ⟨99, _⟩ => ⟨S1x1024, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S1024, .f32⟩
  | .hbm, ⟨104, _⟩ => ⟨S1x1x1024, .f32⟩
  | .hbm, ⟨105, _⟩ => ⟨S4x256x1024, .f32⟩
  | .hbm, ⟨106, _⟩ => ⟨S4x256x1024, .f32⟩
  | .hbm, ⟨107, _⟩ => ⟨S1x1x1024, .f32⟩
  | .hbm, ⟨108, _⟩ => ⟨S4x256x1024, .f32⟩
  | .hbm, ⟨109, _⟩ => ⟨S4x256x1024, .f32⟩
  | .hbm, ⟨110, _⟩ => ⟨S32768x1024, .f32⟩
  | .hbm, ⟨111, _⟩ => ⟨S1024x1024, .f32⟩
  | .hbm, ⟨112, _⟩ => ⟨S33792x1024, .f32⟩
  | .hbm, ⟨113, _⟩ => ⟨S32768x1024, .f32⟩
  | .hbm, ⟨114, _⟩ => ⟨S1024x1024, .f32⟩
  | .hbm, ⟨115, _⟩ => ⟨S33792x1024, .f32⟩
  | .hbm, ⟨116, _⟩ => ⟨S33792x1024, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x6144x4 : Shape := ⟨3, ![4, 6144, 4]⟩
abbrev S4x4x6144 : Shape := ⟨3, ![4, 4, 6144]⟩
abbrev S4x1x6144 : Shape := ⟨3, ![4, 1, 6144]⟩
abbrev S4x3x6144 : Shape := ⟨3, ![4, 3, 6144]⟩
abbrev S4x8x6144 : Shape := ⟨3, ![4, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S4x6144x4, .f32⟩
  | .hbm, ⟨23, _⟩ => ⟨S4x4x6144, .f32⟩
  | .hbm, ⟨24, _⟩ => ⟨S4x1x6144, .f32⟩
  | .hbm, ⟨25, _⟩ => ⟨S4x4x6144, .f32⟩
  | .hbm, ⟨26, _⟩ => ⟨S4x4x6144, .f32⟩
  | .hbm, ⟨27, _⟩ => ⟨S4x6144, .f32⟩
  | .hbm, ⟨28, _⟩ => ⟨S4x6144, .f32⟩
  | .hbm, ⟨29, _⟩ => ⟨S4x1x6144, .f32⟩
  | .hbm, ⟨30, _⟩ => ⟨S4x3x6144, .f32⟩
  | .hbm, ⟨31, _⟩ => ⟨S4x1x6144, .f32⟩
  | .hbm, ⟨32, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.Finite.lean ====
/- What the precondition says: every entry of the queries, keys, values and lambda rows is a real number. -/
module

public import proofs.«01_k».proof.Defs
public import proofs.«01_k».proof.Proof.Gen.Pre_finite
public import Idealize.ShloMosaic.Lib.ReduceAll
public import Idealize.ShloMosaic.PureOps.Ideal.Laws

@[expose] public section

noncomputable section

namespace Cert.Pre_finite.Real

open Idealize.ShloMosaic Cert.Pre_finite

/-- A number whose absolute value is below the word of infinity is real. -/
theorem real_of_abs_lt (x : Ideal .f32) (h : FloatOps.cmpf .olt (FloatOps.absf x) (FloatOps.ofBits .f32 0x7F800000#32) = 1#1) :
    ((EReal.toReal x : ℝ) : EReal) = x := by
  have ht : Ideal.ofBits .f32 0x7F800000#32 = ⊤ := by simp [Ideal.ofBits, Ideal.ieee]
  have h' : (max x (-x) : EReal) < ⊤ := by
    by_contra hc
    have hh : BitVec.ofBool (decide ((max x (-x) : EReal) < Ideal.ofBits .f32 0x7F800000#32)) = 1#1 := h
    rw [ht, decide_eq_false hc] at hh
    exact absurd hh (by decide)
  refine EReal.coe_toReal (fun e => ?_) (fun e => ?_)
  · subst e; simp at h'
  · subst e; simp at h'

/-- An array all of whose entries the predicate finds finite is an array of reals. -/
theorem real_of_all {s : Shape} {axes} (x : FVec Ideal s .f32) (bc) (rd : s.ReducesTo axes S_) (hS) (j : S_.Idx)
    (h : Host.reduce IntOp.andi (cmpf .olt (Host.absf x) (broadcastInDim s ![] bc (constant S_ .f32 0x7F800000#32))) (constantI S_ 1 1#1) rd hS j = 1#1)
    (i : s.Idx) : ((EReal.toReal (x i) : ℝ) : EReal) = x i := by
  have h1 := Host.reduce_andi_eq_one _ _ rd hS j h i (funext fun a => a.elim0)
  exact real_of_abs_lt (x i) h1

variable [Facts]

/-- What the precondition gives: seven arrays of reals. -/
theorem fn_real (a0 : FVec Ideal S4x8192x4x2x64 .f32) (a1 : FVec Ideal S4x256x4x2x64 .f32) (a2 : FVec Ideal S4x8192x4x2x64 .f32)
    (a3 : FVec Ideal S4x256x4x2x64 .f32) (a4 : FVec Ideal S4x8192x4x128 .f32) (a5 : FVec Ideal S4x256x4x128 .f32)
    (a6 : FVec Ideal S4x64 .f32) (a7 : FVec Ideal S128 .f32)
    (h : fn (F := Ideal) a0 a1 a2 a3 a4 a5 a6 a7 = fun _ => 1#1) :
    (∀ i, ((EReal.toReal (a0 i) : ℝ) : EReal) = a0 i) ∧ (∀ i, ((EReal.toReal (a1 i) : ℝ) : EReal) = a1 i) ∧
    (∀ i, ((EReal.toReal (a2 i) : ℝ) : EReal) = a2 i) ∧ (∀ i, ((EReal.toReal (a3 i) : ℝ) : EReal) = a3 i) ∧
    (∀ i, ((EReal.toReal (a4 i) : ℝ) : EReal) = a4 i) ∧ (∀ i, ((EReal.toReal (a5 i) : ℝ) : EReal) = a5 i) ∧
    (∀ i, ((EReal.toReal (a6 i) : ℝ) : EReal) = a6 i) := by
  have h1 := congrFun h (fun a => a.elim0)
  unfold fn fn_part1 at h1
  obtain ⟨h1, e6⟩ := IntOp.andi_eq_one.mp h1
  obtain ⟨h1, e5⟩ := IntOp.andi_eq_one.mp h1
  obtain ⟨h1, e4⟩ := IntOp.andi_eq_one.mp h1
  obtain ⟨h1, e3⟩ := IntOp.andi_eq_one.mp h1
  obtain ⟨h1, e2⟩ := IntOp.andi_eq_one.mp h1
  obtain ⟨e0, e1⟩ := IntOp.andi_eq_one.mp h1
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

end Cert.Pre_finite.Real

end
-- ==== Proof.Words.lean ====
/- The body of the differential-attention kernel in a few words: scores of one key block, the running maximum and
   the running weighted sum of one chain, the two passes over the eight chains (context keys, then latent keys), and
   the normalised, combined and scaled rows that it stores. Everything is stated over any float instance. -/
module

public import proofs.«01_k».proof.Proof.Gen.KernelIdeal.Skeleton
public import Idealize.ShloMosaic.Lib.Pipeline.FrameBody
public import Idealize.ShloMosaic.Lib.Pipeline.ReadBack
public import Idealize.ShloMosaic.Lib.Tactic

@[expose] public section

noncomputable section

namespace Cert.KernelIdeal.DiffAttn

open Idealize.ShloMosaic Idealize.ShloMosaic.TcCoe
open Cert.KernelIdeal Cert.KernelIdeal.Gen

variable {F : FTy → Type} [FloatOps F]

/-- The number of latent key blocks of a batch. -/
def nLat : ℕ := 32

/-- The scores of a key block against the (masked) queries of one chain. -/
def scoreV (k : FVec F S256x128 .bf16) (q : Vec F S1x256x128 .bf16) : FVec F S256x256 .f32 :=
  matmul dot_S256x128_S256x128_S256x256_1_1_0_0_n_n none k (shapeCast S256x128 q shapeCasts_S1x256x128_S256x128)
    (constant S256x256 .f32 0x00000000#32)

/-- The largest score of each query in one block. -/
def colMax (s : FVec F S256x256 .f32) : FVec F S1x256 .f32 :=
  shapeCast S1x256 (multiReduction .maximumf [0] S256 s 0xFF800000#32 reduces_S256x256_S256 (.inl rfl) rfl)
    shapeCasts_S256_S1x256

/-- The largest score of each query in blocks `0 … n`. -/
def blocksMax (s : ℕ → FVec F S256x256 .f32) (n : ℕ) : FVec F S1x256 .f32 :=
  Nat.rec (colMax (s 0)) (fun i m => maximumf m (colMax (s (i + 1)))) n

/-- The new running maximum. -/
def newMax (m : Vec F S1x1x256 .f32) (s : ℕ → FVec F S256x256 .f32) (n : ℕ) : FVec F S1x256 .f32 :=
  maximumf (shapeCast S1x256 m shapeCasts_S1x1x256_S1x256)
    (extf .f32 (truncf .bf16 (blocksMax s n) bitsLt_bf16_f32) bitsLt_bf16_f32)

/-- The unnormalised weights of one block. -/
def weightV (s : FVec F S256x256 .f32) (m : FVec F S1x256 .f32) : FVec F S256x256 .bf16 :=
  exp (subf (truncf .bf16 s bitsLt_bf16_f32)
    (broadcastTo S256x256 (truncf .bf16 m bitsLt_bf16_f32) broadcasts_S1x256_S256x256))

/-- A value block with the sixteen rows of ones below it. -/
def stackV (v : FVec F S128x256 .bf16) : FVec F S144x256 .bf16 :=
  concatenate S144x256 0 [⟨S128x256, v⟩, ⟨S16x256, broadcast S16x256 (Scalar.ofBits .bf16 0x3F80#16)⟩]
    concatenates_S128x256_S16x256_S144x256_d0

/-- One block added to the running sum. -/
def addBlock (a : FVec F S144x256 .f32) (v : FVec F S128x256 .bf16) (s : FVec F S256x256 .f32)
    (m : FVec F S1x256 .f32) : FVec F S144x256 .f32 :=
  addf a (matmul dot_S144x256_S256x256_S144x256_1_0_0_1_n_n none (stackV v) (weightV s m)
    (constant S144x256 .f32 0x00000000#32))

/-- The running sum brought to the new maximum. -/
def rescale (m : Vec F S1x1x256 .f32) (m' : FVec F S1x256 .f32) (a : Vec F S1x144x256 .f32) : FVec F S144x256 .f32 :=
  mulf (broadcastTo S144x256 (exp (subf (shapeCast S1x256 m shapeCasts_S1x1x256_S1x256) m')) broadcasts_S1x256_S144x256)
    (shapeCast S144x256 a shapeCasts_S1x144x256_S144x256)

/-- Blocks `0 … n - 1` added to a running sum. -/
def addBlocks (a : FVec F S144x256 .f32) (v : ℕ → FVec F S128x256 .bf16) (s : ℕ → FVec F S256x256 .f32)
    (m : FVec F S1x256 .f32) (n : ℕ) : FVec F S144x256 .f32 :=
  Nat.rec a (fun i a => addBlock a (v i) (s i) m) n

theorem inbQ (k : ℕ) : ∀ a, (![k % 8, 0, 0] : Fin 3 → ℕ) a + S1x256x128.size a ≤ S8x256x128.size a := by
  intro a; have := Nat.mod_lt k (show 0 < 8 by decide)
  fin_cases a
  · show k % 8 + 1 ≤ 8; omega
  · exact le_of_eq (by rfl)
  · exact le_of_eq (by rfl)

theorem inbM (k : ℕ) : ∀ a, (![k % 8, 0, 0] : Fin 3 → ℕ) a + S1x1x256.size a ≤ S8x1x256.size a := by
  intro a; have := Nat.mod_lt k (show 0 < 8 by decide)
  fin_cases a
  · show k % 8 + 1 ≤ 8; omega
  · exact le_of_eq (by rfl)
  · exact le_of_eq (by rfl)

theorem inbA (k : ℕ) : ∀ a, (![k % 8, 0, 0] : Fin 3 → ℕ) a + S1x144x256.size a ≤ S8x144x256.size a := by
  intro a; have := Nat.mod_lt k (show 0 < 8 by decide)
  fin_cases a
  · show k % 8 + 1 ≤ 8; omega
  · exact le_of_eq (by rfl)
  · exact le_of_eq (by rfl)

theorem inbH (h : ℕ) : ∀ a, (![0, 128 * (h % 4)] : Fin 2 → ℕ) a + S256x128.size a ≤ S256x512.size a := by
  intro a; have := Nat.mod_lt h (show 0 < 4 by decide)
  fin_cases a
  · exact le_of_eq (by rfl)
  · show 128 * (h % 4) + 128 ≤ 512; omega

theorem inbK (h i : ℕ) : ∀ a, (![256 * (i % 32), 128 * (h % 4)] : Fin 2 → ℕ) a + S256x128.size a ≤ S8192x512.size a := by
  intro a; have := Nat.mod_lt h (show 0 < 4 by decide); have := Nat.mod_lt i (show 0 < 32 by decide)
  fin_cases a
  · show 256 * (i % 32) + 256 ≤ 8192; omega
  · show 128 * (h % 4) + 128 ≤ 512; omega

theorem inbV (h i : ℕ) : ∀ a, (![i % 32, 128 * (h % 4), 0] : Fin 3 → ℕ) a + S1x128x256.size a ≤ S32x512x256.size a := by
  intro a; have := Nat.mod_lt h (show 0 < 4 by decide); have := Nat.mod_lt i (show 0 < 32 by decide)
  fin_cases a
  · show i % 32 + 1 ≤ 32; omega
  · show 128 * (h % 4) + 128 ≤ 512; omega
  · exact le_of_eq (by rfl)

theorem inbVc (h : ℕ) : ∀ a, (![0, 128 * (h % 4), 0] : Fin 3 → ℕ) a + S1x128x256.size a ≤ S1x512x256.size a := by
  intro a; have := Nat.mod_lt h (show 0 < 4 by decide)
  fin_cases a
  · exact le_of_eq (by rfl)
  · show 128 * (h % 4) + 128 ≤ 512; omega
  · show 0 + 256 ≤ 256; omega

/-- Row `k` of the query scratch, of the maximum scratch, of the sum scratch. -/
def rectQ (k : ℕ) : Rect S8x256x128 := Rect.unit ![k % 8, 0, 0] S1x256x128.size (inbQ k)
def rectM (k : ℕ) : Rect S8x1x256 := Rect.unit ![k % 8, 0, 0] S1x1x256.size (inbM k)
def rectA (k : ℕ) : Rect S8x144x256 := Rect.unit ![k % 8, 0, 0] S1x144x256.size (inbA k)

/-- The lanes of a head that chain `k` keeps: the first half for an even chain, the second for an odd one. -/
def laneMask (k : ℕ) : IVec S256x128 1 :=
  broadcastTo S256x128 (shapeCast S1x128 (cmpi (bif k % 2 == 0 then .slt else .sge)
    (iota .tc S1x128 32 [1] iota_S1x128_d1_w32) (broadcast S1x128 64#32)) shapeCasts_S1x128_S1x128)
    broadcasts_S1x128_S256x128

/-- The queries of chain `k`, zero off its lanes. -/
def maskedQ (q : ℕ → Vec F S256x128 .bf16) (k : ℕ) : FVec F S1x256x128 .bf16 :=
  shapeCast S1x256x128 (select (laneMask k) (shapeCast S256x128 (q (k / 2)) shapeCasts_S256x128_S256x128)
    (broadcast S256x128 (Scalar.ofBits .bf16 0x0000#16))) shapeCasts_S256x128_S1x256x128

/-- The query scratch after the first `n` rows are stored. -/
def qList (q : ℕ → Vec F S256x128 .bf16) (n : ℕ) : List (View.Piece (Elt F) S8x256x128 .bf16) :=
  Nat.rec [] (fun k L => ⟨rectQ k, maskedQ q k⟩ :: L) n

/-- The maximum scratch at the start: minus infinity everywhere. -/
def mInit : List (View.Piece (Elt F) S8x1x256 .f32) :=
  [⟨Rect.unit ![0, 0, 0] S8x1x256.size inb_S8x1x256_S8x1x256_0_0_0,
    shapeCast S8x1x256 (broadcast S8x1x256 (Scalar.ofBits .f32 0xFF800000#32) : FVec F S8x1x256 .f32) shapeCasts_S8x1x256_S8x1x256⟩]

/-- The sum scratch at the start: zero everywhere. -/
def aInit : List (View.Piece (Elt F) S8x144x256 .f32) :=
  [⟨Rect.unit ![0, 0, 0] S8x144x256.size inb_S8x144x256_S8x144x256_0_0_0,
    shapeCast S8x144x256 (broadcast S8x144x256 (Scalar.ofBits .f32 0x00000000#32) : FVec F S8x144x256 .f32) shapeCasts_S8x144x256_S8x144x256⟩]

section Run

variable (arg10 : Memref sig .tc .vmem S8x256x128 .bf16) (arg11 : Memref sig .tc .vmem S8x1x256 .f32)
  (arg12 : Memref sig .tc .vmem S8x144x256 .f32)

/-- What a chain loads of the query scratch. -/
def ldQ (q : ℕ → Vec F S256x128 .bf16) (k : ℕ) : Vec F S1x256x128 .bf16 :=
  arg10.view.readCov (qList q 8) (rectQ k).toLoadRect

/-- Chain `k`'s scores of block `i`. -/
def chainScore (q : ℕ → Vec F S256x128 .bf16) (K : ℕ → ℕ → FVec F S256x128 .bf16) (k i : ℕ) : FVec F S256x256 .f32 :=
  scoreV (K (k / 2) i) (ldQ arg10 q k)

/-- The maximum scratch after the first `k` chains of a pass over blocks `0 … n`. -/
def mPass (q : ℕ → Vec F S256x128 .bf16) (K : ℕ → ℕ → FVec F S256x128 .bf16) (n : ℕ)
    (M : List (View.Piece (Elt F) S8x1x256 .f32)) (k : ℕ) : List (View.Piece (Elt F) S8x1x256 .f32) :=
  Nat.rec M (fun k L => ⟨rectM k, shapeCast S1x1x256
    (newMax (arg11.view.readCov L (rectM k).toLoadRect) (chainScore arg10 q K k) n) shapeCasts_S1x256_S1x1x256⟩ :: L) k

/-- The maximum that chain `k` finds, and the one it leaves. -/
def oldM (q : ℕ → Vec F S256x128 .bf16) (K : ℕ → ℕ → FVec F S256x128 .bf16) (n : ℕ)
    (M : List (View.Piece (Elt F) S8x1x256 .f32)) (k : ℕ) : Vec F S1x1x256 .f32 :=
  arg11.view.readCov (mPass arg10 arg11 q K n M k) (rectM k).toLoadRect

def chainM (q : ℕ → Vec F S256x128 .bf16) (K : ℕ → ℕ → FVec F S256x128 .bf16) (n : ℕ)
    (M : List (View.Piece (Elt F) S8x1x256 .f32)) (k : ℕ) : FVec F S1x256 .f32 :=
  newMax (oldM arg10 arg11 q K n M k) (chainScore arg10 q K k) n

/-- The sum scratch after the first `k` chains of a pass over blocks `0 … n`. -/
def aPass (q : ℕ → Vec F S256x128 .bf16) (K : ℕ → ℕ → FVec F S256x128 .bf16) (V : ℕ → ℕ → FVec F S128x256 .bf16) (n : ℕ)
    (M : List (View.Piece (Elt F) S8x1x256 .f32)) (A : List (View.Piece (Elt F) S8x144x256 .f32)) (k : ℕ) :
    List (View.Piece (Elt F) S8x144x256 .f32) :=
  Nat.rec A (fun k L => ⟨rectA k, shapeCast S1x144x256
    (addBlocks (rescale (oldM arg10 arg11 q K n M k) (chainM arg10 arg11 q K n M k)
        (arg12.view.readCov L (rectA k).toLoadRect)) (V (k / 2)) (chainScore arg10 q K k)
      (chainM arg10 arg11 q K n M k) (n + 1)) shapeCasts_S144x256_S1x144x256⟩ :: L) k

end Run

/-- One chain's weighted average: the value rows over the row of weights' sums. -/
def normV (a : Vec F S1x144x256 .f32) : FVec F S128x256 .f32 :=
  divf (extractStridedSlice S128x256 ![0, 0] (shapeCast S144x256 a shapeCasts_S1x144x256_S144x256) slices_S144x256_o0_0_S128x256)
    (broadcastTo S128x256 (extractStridedSlice S1x256 ![128, 0] (shapeCast S144x256 a shapeCasts_S1x144x256_S144x256)
      slices_S144x256_o128_0_S1x256) broadcasts_S1x256_S128x256)

/-- The scalar that weighs the second average. -/
def lamV (x : Vec F S4x64 .f32) : FVec F S1x1 .f32 :=
  addf (subf
    (exp (shapeCast S1x1 (multiReduction .add [1] S1 (mulf (extractStridedSlice S1x64 ![0, 0] x slices_S4x64_o0_0_S1x64)
      (extractStridedSlice S1x64 ![1, 0] x slices_S4x64_o1_0_S1x64)) 0x00000000#32 reduces_S1x64_S1 (.inl rfl) rfl) shapeCasts_S1_S1x1))
    (exp (shapeCast S1x1 (multiReduction .add [1] S1 (mulf (extractStridedSlice S1x64 ![2, 0] x slices_S4x64_o2_0_S1x64)
      (extractStridedSlice S1x64 ![3, 0] x slices_S4x64_o3_0_S1x64)) 0x00000000#32 reduces_S1x64_S1 (.inl rfl) rfl) shapeCasts_S1_S1x1)))
    (broadcast S1x1 (Scalar.ofBits .f32 0x3E4CCCCD#32))

/-- The two averages combined, rows by queries. -/
def diffV (lam : FVec F S1x1 .f32) (a b : Vec F S1x144x256 .f32) : FVec F S256x128 .f32 :=
  transpose S256x128 [1, 0] (subf (normV a) (mulf (broadcastTo S128x256 lam broadcasts_S1x1_S128x256) (normV b)))
    transposes_S128x256_p1_0_S256x128

/-- The reciprocal root of each row's mean square. -/
def rootV (o : FVec F S256x128 .f32) : FVec F S256x1 .f32 :=
  rsqrt (addf (divf (shapeCast S256x1 (multiReduction .add [1] S256 (mulf o o) 0x00000000#32 reduces_S256x128_S256 (.inl rfl) rfl)
    shapeCasts_S256_S256x1) (broadcast S256x1 (Scalar.ofBits .f32 0x43000000#32)))
    (broadcast S256x1 (Scalar.ofBits .f32 0x358637BD#32)))

/-- The rows scaled, weighed and stored. -/
def tailV (o : FVec F S256x128 .f32) (w : Vec F S1x128 .f32) : FVec F S256x128 .bf16 :=
  truncf .bf16 (mulf (mulf (mulf o (broadcastTo S256x128 (rootV o) broadcasts_S256x1_S256x128))
    (broadcastTo S256x128 (shapeCast S1x128 w shapeCasts_S1x128_S1x128) broadcasts_S1x128_S256x128))
    (broadcast S256x128 (Scalar.ofBits .f32 0x3F4CCCCD#32))) bitsLt_bf16_f32

/-- A head's columns of a query or result block, its columns of the context values, and a block of a head's latent keys and values. -/
def rectH (h : ℕ) : Rect S256x512 := Rect.unit ![0, 128 * (h % 4)] S256x128.size (inbH h)
def rectVc (h : ℕ) : Rect S1x512x256 := Rect.unit ![0, 128 * (h % 4), 0] S1x128x256.size (inbVc h)
def rectK (h i : ℕ) : Rect S8192x512 := Rect.unit ![256 * (i % 32), 128 * (h % 4)] S256x128.size (inbK h i)
def rectV (h i : ℕ) : Rect S32x512x256 := Rect.unit ![i % 32, 128 * (h % 4), 0] S1x128x256.size (inbV h i)

/-- The four stores of the result, the last first. -/
def outList (arg12 : Memref sig .tc .vmem S8x144x256 .f32) (A : List (View.Piece (Elt F) S8x144x256 .f32))
    (x : Vec F S4x64 .f32) (w : Vec F S1x128 .f32) (n : ℕ) : List (View.Piece (Elt F) S256x512 .bf16) :=
  Nat.rec [] (fun h L => ⟨rectH h,
    tailV (diffV (lamV x) (arg12.view.readCov A (rectA (2 * h)).toLoadRect) (arg12.view.readCov A (rectA (2 * h + 1)).toLoadRect)) w⟩ :: L) n

section Reads

variable (arg2 : Memref sig .tc .vmem S256x512 .bf16) (harg2 : arg2.IsWhole) (arg3 : Memref sig .tc .vmem S8192x512 .bf16) (harg3 : arg3.IsWhole)
  (arg4 : Memref sig .tc .vmem S32x512x256 .bf16) (harg4 : arg4.IsWhole) (arg5 : Memref sig .tc .vmem S256x512 .bf16) (harg5 : arg5.IsWhole)
  (arg6 : Memref sig .tc .vmem S1x512x256 .bf16) (harg6 : arg6.IsWhole)

/-- What the body loads of its blocks: a head of the queries, a block of a head's keys and of its transposed values. -/
def rdQ (x0 : Vec F S256x512 .bf16) (h : ℕ) : Vec F S256x128 .bf16 :=
  View.readAt (Elt F) arg2.view (rectH h).toLoadRect (harg2.unread x0)

def rdK (x1 : Vec F S8192x512 .bf16) (h i : ℕ) : FVec F S256x128 .bf16 :=
  shapeCast S256x128 (View.readAt (Elt F) arg3.view (rectK h i).toLoadRect
    (harg3.unread x1)) shapeCasts_S256x128_S256x128

def rdV (x2 : Vec F S32x512x256 .bf16) (h i : ℕ) : FVec F S128x256 .bf16 :=
  shapeCast S128x256 (View.readAt (Elt F) arg4.view (rectV h i).toLoadRect
    (harg4.unread x2)) shapeCasts_S1x128x256_S128x256

def rdKc (x3 : Vec F S256x512 .bf16) (h : ℕ) (_ : ℕ) : FVec F S256x128 .bf16 :=
  shapeCast S256x128 (View.readAt (Elt F) arg5.view (rectH h).toLoadRect
    (harg5.unread x3)) shapeCasts_S256x128_S256x128

def rdVc (x4 : Vec F S1x512x256 .bf16) (h : ℕ) (_ : ℕ) : FVec F S128x256 .bf16 :=
  shapeCast S128x256 (View.readAt (Elt F) arg6.view (rectVc h).toLoadRect
    (harg6.unread x4)) shapeCasts_S1x128x256_S128x256

end Reads

end Cert.KernelIdeal.DiffAttn

end
-- ==== Proof.WordsAt.lean ====
/- Each of the body's words read at an index, at the ideal values. -/
module

public import proofs.«01_k».proof.Proof.Words
public import Idealize.ShloMosaic.Lib.Pointwise
public import Idealize.ShloMosaic.Lib.IdealHost

@[expose] public section
noncomputable section
namespace Cert.KernelIdeal.DiffAttn
open Idealize.ShloMosaic Idealize.ShloMosaic.TcCoe
open Cert.KernelIdeal Cert.KernelIdeal.Gen

theorem scoreV_at (k : FVec Ideal S256x128 .bf16) (q : Vec Ideal S1x256x128 .bf16) (i r : Fin 256) :
    scoreV k q (ix2 i r) = ∑ d : Fin 128, k (ix2 i d) * q (ix3 0 r d) := by
  pointwise [scoreV]
theorem colMax_at (s : FVec Ideal S256x256 .f32) (r : Fin 256) :
    colMax s (ix2 0 r) = (Finset.univ : Finset (Fin 256)).fold max ⊥ fun k => s (ix2 k r) := by
  have hb : Ideal.ofBits .f32 0xFF800000#32 = ⊥ := by simp [Ideal.ofBits, Ideal.ieee]
  pointwise [colMax]
  rw [hb]
theorem newMax_at (m : Vec Ideal S1x1x256 .f32) (s : ℕ → FVec Ideal S256x256 .f32) (n : ℕ) (r : Fin 256) :
    newMax m s n (ix2 0 r) = max (m (ix3 0 0 r)) (blocksMax s n (ix2 0 r)) := by
  pointwise [newMax]
theorem weightV_at (s : FVec Ideal S256x256 .f32) (m : FVec Ideal S1x256 .f32) (k r : Fin 256) :
    weightV s m (ix2 k r) = Ideal.exp (s (ix2 k r) - m (ix2 0 r)) := by
  pointwise [weightV]
theorem stackV_at (v : FVec Ideal S128x256 .bf16) (e : Fin 144) (k : Fin 256) :
    stackV v (ix2 e k) = if h : e.val < 128 then v (ix2 ⟨e, h⟩ k) else ((1 : ℝ) : EReal) := by
  pointwise [stackV]
  rw [EReal.coe_one]
theorem addBlock_at (a : FVec Ideal S144x256 .f32) (v : FVec Ideal S128x256 .bf16) (s : FVec Ideal S256x256 .f32)
    (m : FVec Ideal S1x256 .f32) (e : Fin 144) (r : Fin 256) :
    addBlock a v s m (ix2 e r) = a (ix2 e r) + ∑ k : Fin 256, stackV v (ix2 e k) * weightV s m (ix2 k r) := by
  pointwise [addBlock]
theorem rescale_at (m : Vec Ideal S1x1x256 .f32) (m' : FVec Ideal S1x256 .f32) (a : Vec Ideal S1x144x256 .f32) (e : Fin 144) (r : Fin 256) :
    rescale m m' a (ix2 e r) = Ideal.exp (m (ix3 0 0 r) - m' (ix2 0 r)) * a (ix3 0 e r) := by
  pointwise [rescale]
theorem maskedQ_at (q : ℕ → Vec Ideal S256x128 .bf16) (k : ℕ) (r : Fin 256) (d : Fin 128) :
    maskedQ q k (ix3 0 r d) = if (d.val < 64 ↔ k % 2 = 0) then q (k / 2) (ix2 r d) else 0 := by
  pointwise [maskedQ, laneMask]
  have hd : ∀ d : Fin 128, (IntOp.cmpi CmpIPredicate.slt (BitVec.ofNat 32 d.val) 64#32 = if d.val < 64 then 1#1 else 0#1)
      ∧ (IntOp.cmpi CmpIPredicate.sge (BitVec.ofNat 32 d.val) 64#32 = if d.val < 64 then 0#1 else 1#1) := by decide +kernel
  rcases Nat.mod_two_eq_zero_or_one k with h | h <;> simp only [h] <;> by_cases hl : d.val < 64 <;>
    simp [(hd d).1, (hd d).2, hl, Scalar.select]
theorem normV_at (a : Vec Ideal S1x144x256 .f32) (e : Fin 128) (r : Fin 256) :
    normV a (ix2 e r) = Ideal.div (a (ix3 0 ⟨e, by omega⟩ r)) (a (ix3 0 128 r)) := by
  pointwise [normV]
theorem lamV_at (x : Vec Ideal S4x64 .f32) :
    lamV x (ix2 0 0) = Ideal.exp (∑ d : Fin 64, x (ix2 0 d) * x (ix2 1 d)) - Ideal.exp (∑ d : Fin 64, x (ix2 2 d) * x (ix2 3 d)) + Ideal.ofBits .f32 0x3E4CCCCD#32 := by
  pointwise [lamV]
theorem diffV_at (lam : FVec Ideal S1x1 .f32) (a b : Vec Ideal S1x144x256 .f32) (r : Fin 256) (e : Fin 128) :
    diffV lam a b (ix2 r e) = normV a (ix2 e r) - lam (ix2 0 0) * normV b (ix2 e r) := by
  pointwise [diffV]
theorem rootV_at (o : FVec Ideal S256x128 .f32) (r : Fin 256) :
    rootV o (ix2 r 0) = Ideal.rsqrt (Ideal.div (∑ e : Fin 128, o (ix2 r e) * o (ix2 r e)) (Ideal.ofBits .f32 0x43000000#32) + Ideal.ofBits .f32 0x358637BD#32) := by
  pointwise [rootV]
theorem tailV_at (o : FVec Ideal S256x128 .f32) (w : Vec Ideal S1x128 .f32) (r : Fin 256) (e : Fin 128) :
    tailV o w (ix2 r e) = o (ix2 r e) * rootV o (ix2 r 0) * w (ix2 0 e) * Ideal.ofBits .f32 0x3F4CCCCD#32 := by
  pointwise [tailV]
end Cert.KernelIdeal.DiffAttn
end
-- ==== Proof.Softmax.lean ====
/- The softmax algebra behind an online (running-maximum) attention: over the extended reals, at finite scores, an accumulator that
   is rescaled whenever its maximum changes holds the numerator of the plain softmax times `exp (-m)`, whatever the maxima are. -/
module

public import Idealize.ShloMosaic.Lib.ValueIdx
public import Idealize.ShloMosaic.PureOps.Ideal.Laws

@[expose] public section

noncomputable section

namespace Cert.DiffAttn

open Idealize.ShloMosaic

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum from below of finitely many (at least one) reals is a real. -/
theorem fold_max_real {ι : Type*} (s : Finset ι) (hs : s.Nonempty) (f : ι → ℝ) :
    ∃ m : ℝ, s.fold max (⊥ : EReal) (fun i => (f i : EReal)) = (m : EReal) := by
  classical
  induction hs using Finset.Nonempty.cons_induction with
  | singleton a => exact ⟨f a, by simp⟩
  | cons a s ha _ ih =>
    obtain ⟨m, hm⟩ := ih
    exact ⟨max (f a) m, by rw [Finset.fold_cons, hm, coe_max]⟩

/-- The exponential of a difference of reals. -/
theorem exp_sub_coe (a b : ℝ) : Ideal.exp ((a : EReal) - (b : EReal)) = (Real.exp (a - b) : EReal) := by
  rw [← EReal.coe_sub, Ideal.exp_coe]

/-- The weighted block `Σ_k v_k · exp (s_k − m)` is `(Σ_k v_k · exp s_k) · exp (−m)`. -/
theorem block_sum {ι : Type*} [Fintype ι] (v s : ι → ℝ) (m : ℝ) :
    ∑ k, (v k : EReal) * Ideal.exp ((s k : EReal) - (m : EReal))
      = (((∑ k, v k * Real.exp (s k)) * Real.exp (-m) : ℝ) : EReal) := by
  rw [Finset.sum_mul, coe_sum]
  refine Finset.sum_congr rfl fun k _ => ?_
  rw [exp_sub_coe, ← EReal.coe_mul, sub_eq_add_neg, Real.exp_add, mul_assoc]

/-- One block added to an accumulator that holds `n · exp (−m)`. -/
theorem acc_block {ι : Type*} [Fintype ι] (v s : ι → ℝ) (m n : ℝ) :
    ((n * Real.exp (-m) : ℝ) : EReal) + ∑ k, (v k : EReal) * Ideal.exp ((s k : EReal) - (m : EReal))
      = (((n + ∑ k, v k * Real.exp (s k)) * Real.exp (-m) : ℝ) : EReal) := by
  rw [block_sum, ← EReal.coe_add, ← add_mul]

/-- The rescaling by `exp (m − m')` when the maximum moves from `m` to `m'`. -/
theorem acc_rescale (m m' n : ℝ) :
    Ideal.exp ((m : EReal) - (m' : EReal)) * ((n * Real.exp (-m) : ℝ) : EReal)
      = ((n * Real.exp (-m') : ℝ) : EReal) := by
  rw [exp_sub_coe, ← EReal.coe_mul]
  congr 1
  rw [mul_left_comm, ← Real.exp_add]
  congr 2
  ring

/-- The first rescaling, from the maximum `⊥` and the accumulator zero. -/
theorem acc_first (m' : ℝ) :
    Ideal.exp ((⊥ : EReal) - (m' : EReal)) * (0 : EReal) = (((0 : ℝ) * Real.exp (-m') : ℝ) : EReal) := by
  simp

/-- A quotient of reals. -/
theorem div_real (a b : ℝ) (hb : b ≠ 0) : Ideal.div (a : EReal) (b : EReal) = ((a / b : ℝ) : EReal) := by
  rw [Ideal.div_coe hb, ← EReal.coe_mul, mul_one_div]

/-- The normalised accumulator: the `exp (−m)` cancels. -/
theorem acc_normalise (n d m : ℝ) (hd : d ≠ 0) :
    Ideal.div ((n * Real.exp (-m) : ℝ) : EReal) ((d * Real.exp (-m) : ℝ) : EReal) = ((n / d : ℝ) : EReal) := by
  rw [div_real _ _ (mul_ne_zero hd (Real.exp_ne_zero _)), mul_div_mul_right _ _ (Real.exp_ne_zero _)]

/-- A softmax weight of the plain form, `exp (s − m) / Σ exp (s − m)`, is `exp s / Σ exp s`. -/
theorem softmax_weight {ι : Type*} [Fintype ι] [Nonempty ι] (s : ι → ℝ) (m : ℝ) (k : ι) :
    Ideal.div (Ideal.exp ((s k : EReal) - (m : EReal))) (0 + ∑ j, Ideal.exp ((s j : EReal) - (m : EReal)))
      = ((Real.exp (s k) / ∑ j, Real.exp (s j) : ℝ) : EReal) := by
  have h : ∀ j, Ideal.exp ((s j : EReal) - (m : EReal)) = ((Real.exp (s j) * Real.exp (-m) : ℝ) : EReal) := fun j => by
    rw [exp_sub_coe, sub_eq_add_neg, Real.exp_add]
  simp only [h, zero_add]
  rw [← coe_sum, ← Finset.sum_mul]
  exact acc_normalise _ _ _ (Finset.sum_pos (fun j _ => Real.exp_pos (s j)) Finset.univ_nonempty).ne'

end Cert.DiffAttn

end
-- ==== Proof.Chain.lean ====
/- What the chains leave, at the ideal values: a running maximum that is some real, and a running sum that is the
   exact sum of values times `exp score` over the keys seen, times `exp (−maximum)`. -/
module

public import proofs.«01_k».proof.Proof.WordsAt
public import proofs.«01_k».proof.Proof.Softmax

@[expose] public section

noncomputable section

namespace Cert.KernelIdeal.DiffAttn

open Idealize.ShloMosaic Idealize.ShloMosaic.TcCoe
open Cert.KernelIdeal Cert.KernelIdeal.Gen Cert.DiffAttn

/-- A value block with ones below, in reals. -/
def stackR (v : Fin 128 → Fin 256 → ℝ) (e : Fin 144) (κ : Fin 256) : ℝ := if h : e.val < 128 then v ⟨e.val, h⟩ κ else 1

theorem stackV_real (v : FVec Ideal S128x256 .bf16) (vr : Fin 128 → Fin 256 → ℝ)
    (h : ∀ e κ, v (ix2 e κ) = (vr e κ : EReal)) (e : Fin 144) (κ : Fin 256) :
    stackV v (ix2 e κ) = (stackR vr e κ : EReal) := by
  rw [stackV_at]; unfold stackR; split
  · exact h _ _
  · rfl

theorem scoreV_real (k : FVec Ideal S256x128 .bf16) (q : Vec Ideal S1x256x128 .bf16) (kr qr : Fin 256 → Fin 128 → ℝ)
    (hk : ∀ i d, k (ix2 i d) = (kr i d : EReal)) (hq : ∀ r d, q (ix3 0 r d) = (qr r d : EReal)) (i r : Fin 256) :
    scoreV k q (ix2 i r) = ((∑ d, kr i d * qr r d : ℝ) : EReal) := by
  rw [scoreV_at, coe_sum]
  refine Finset.sum_congr rfl fun d _ => ?_
  rw [hk, hq, EReal.coe_mul]

theorem colMax_real (s : FVec Ideal S256x256 .f32) (r : Fin 256) (sr : Fin 256 → ℝ) (h : ∀ κ, s (ix2 κ r) = (sr κ : EReal)) :
    ∃ g : ℝ, colMax s (ix2 0 r) = (g : EReal) := by
  rw [colMax_at]; simp only [h]
  exact fold_max_real _ Finset.univ_nonempty _

theorem blocksMax_real (s : ℕ → FVec Ideal S256x256 .f32) (r : Fin 256) (sr : ℕ → Fin 256 → ℝ)
    (h : ∀ i κ, s i (ix2 κ r) = (sr i κ : EReal)) (n : ℕ) : ∃ g : ℝ, blocksMax s n (ix2 0 r) = (g : EReal) := by
  induction n with
  | zero => exact colMax_real _ r _ (h 0)
  | succ n ih =>
    obtain ⟨a, ha⟩ := ih
    obtain ⟨b, hb⟩ := colMax_real _ r _ (h (n + 1))
    refine ⟨max a b, ?_⟩
    show max (blocksMax s n (ix2 0 r)) (colMax (s (n + 1)) (ix2 0 r)) = _
    rw [ha, hb, coe_max]

/-- A chain's state for one query: nothing seen, or a real maximum and the sum scaled by it. -/
def State (m : Vec Ideal S1x1x256 .f32) (a : Vec Ideal S1x144x256 .f32) (N : Fin 144 → Fin 256 → ℝ) : Prop :=
  ∀ r, (m (ix3 0 0 r) = ⊥ ∧ ∀ e, a (ix3 0 e r) = 0 ∧ N e r = 0)
    ∨ ∃ g : ℝ, m (ix3 0 0 r) = (g : EReal) ∧ ∀ e, a (ix3 0 e r) = ((N e r * Real.exp (-g) : ℝ) : EReal)

/-- The same with some key seen. -/
def Full (m : Vec Ideal S1x1x256 .f32) (a : Vec Ideal S1x144x256 .f32) (N : Fin 144 → Fin 256 → ℝ) : Prop :=
  ∀ r, ∃ g : ℝ, m (ix3 0 0 r) = (g : EReal) ∧ ∀ e, a (ix3 0 e r) = ((N e r * Real.exp (-g) : ℝ) : EReal)

theorem Full.state {m : Vec Ideal S1x1x256 .f32} {a : Vec Ideal S1x144x256 .f32} {N : Fin 144 → Fin 256 → ℝ}
    (h : Full m a N) : State m a N := fun r => Or.inr (h r)

theorem addBlocks_real (a : FVec Ideal S144x256 .f32) (v : ℕ → FVec Ideal S128x256 .bf16) (s : ℕ → FVec Ideal S256x256 .f32)
    (m : FVec Ideal S1x256 .f32) (vr : ℕ → Fin 128 → Fin 256 → ℝ) (r : Fin 256) (sr : ℕ → Fin 256 → ℝ) (g : ℝ) (N : Fin 144 → ℝ)
    (hv : ∀ i e κ, v i (ix2 e κ) = (vr i e κ : EReal)) (hs : ∀ i κ, s i (ix2 κ r) = (sr i κ : EReal))
    (hm : m (ix2 0 r) = (g : EReal)) (ha : ∀ e, a (ix2 e r) = ((N e * Real.exp (-g) : ℝ) : EReal)) (n : ℕ) (e : Fin 144) :
    addBlocks a v s m n (ix2 e r)
      = (((N e + ∑ i ∈ Finset.range n, ∑ κ, stackR (vr i) e κ * Real.exp (sr i κ)) * Real.exp (-g) : ℝ) : EReal) := by
  induction n with
  | zero => rw [Finset.sum_range_zero, add_zero]; exact ha e
  | succ n ih =>
    show addBlock (addBlocks a v s m n) (v n) (s n) m (ix2 e r) = _
    rw [addBlock_at, ih, Finset.sum_range_succ, ← add_assoc]
    have : ∀ κ : Fin 256, stackV (v n) (ix2 e κ) * weightV (s n) m (ix2 κ r)
        = (stackR (vr n) e κ : EReal) * Ideal.exp ((sr n κ : EReal) - (g : EReal)) := fun κ => by
      rw [stackV_real _ _ (hv n), weightV_at, hs, hm]
    simp only [this]
    exact acc_block _ _ _ _

theorem at_m (x : FVec Ideal S1x256 .f32) (r : Fin 256) :
    (shapeCast S1x1x256 x shapeCasts_S1x256_S1x1x256 : FVec Ideal S1x1x256 .f32) (ix3 0 0 r) = x (ix2 0 r) := by
  pointwise
theorem at_a (x : FVec Ideal S144x256 .f32) (e : Fin 144) (r : Fin 256) :
    (shapeCast S1x144x256 x shapeCasts_S144x256_S1x144x256 : FVec Ideal S1x144x256 .f32) (ix3 0 e r) = x (ix2 e r) := by
  pointwise

/-- One chain's update. -/
theorem State.step {m : Vec Ideal S1x1x256 .f32} {a : Vec Ideal S1x144x256 .f32} {N : Fin 144 → Fin 256 → ℝ} (h : State m a N)
    (v : ℕ → FVec Ideal S128x256 .bf16) (s : ℕ → FVec Ideal S256x256 .f32)
    (vr : ℕ → Fin 128 → Fin 256 → ℝ) (sr : ℕ → Fin 256 → Fin 256 → ℝ)
    (hv : ∀ i e κ, v i (ix2 e κ) = (vr i e κ : EReal)) (hs : ∀ i κ r, s i (ix2 κ r) = (sr i κ r : EReal)) (n : ℕ) :
    Full (shapeCast S1x1x256 (newMax m s n) shapeCasts_S1x256_S1x1x256 : FVec Ideal S1x1x256 .f32)
      (shapeCast S1x144x256 (addBlocks (rescale m (newMax m s n) a) v s (newMax m s n) (n + 1)) shapeCasts_S144x256_S1x144x256 : FVec Ideal S1x144x256 .f32)
      (fun e r => N e r + ∑ i ∈ Finset.range (n + 1), ∑ κ, stackR (vr i) e κ * Real.exp (sr i κ r)) := by
  intro r
  obtain ⟨b, hb⟩ := blocksMax_real s r (fun i κ => sr i κ r) (fun i κ => hs i κ r) n
  rcases h r with ⟨hm, ha⟩ | ⟨g, hm, ha⟩
  · have hM : newMax m s n (ix2 0 r) = (b : EReal) := by rw [newMax_at, hm, hb]; simp
    refine ⟨b, (at_m _ _).trans hM, fun e => (at_a _ _ _).trans ?_⟩
    refine addBlocks_real _ v s _ vr r (fun i κ => sr i κ r) b (fun e => N e r) hv (fun i κ => hs i κ r) hM (fun e => ?_) _ e
    rw [rescale_at, hm, hM, (ha e).1, (ha e).2, acc_first]
  · have hM : newMax m s n (ix2 0 r) = ((max g b : ℝ) : EReal) := by rw [newMax_at, hm, hb, coe_max]
    refine ⟨max g b, (at_m _ _).trans hM, fun e => (at_a _ _ _).trans ?_⟩
    refine addBlocks_real _ v s _ vr r (fun i κ => sr i κ r) _ (fun e => N e r) hv (fun i κ => hs i κ r) hM (fun e => ?_) _ e
    rw [rescale_at, hm, hM, ha e, acc_rescale]

/-! ## The scratch rows -/

theorem disjM (k j : ℕ) (hk : k < 8) (hj : j < 8) (h : k ≠ j) : LoadRect.disj (rectM k) (rectM j).toLoadRect = true := by
  have : ∀ k j : Fin 8, k ≠ j → LoadRect.disj (rectM k) (rectM j).toLoadRect = true := by decide +kernel
  exact this ⟨k, hk⟩ ⟨j, hj⟩ (fun e => h (congrArg Fin.val e))

theorem disjA (k j : ℕ) (hk : k < 8) (hj : j < 8) (h : k ≠ j) : LoadRect.disj (rectA k) (rectA j).toLoadRect = true := by
  have : ∀ k j : Fin 8, k ≠ j → LoadRect.disj (rectA k) (rectA j).toLoadRect = true := by decide +kernel
  exact this ⟨k, hk⟩ ⟨j, hj⟩ (fun e => h (congrArg Fin.val e))

theorem disjQ (k j : ℕ) (hk : k < 8) (hj : j < 8) (h : k ≠ j) : LoadRect.disj (rectQ k) (rectQ j).toLoadRect = true := by
  have : ∀ k j : Fin 8, k ≠ j → LoadRect.disj (rectQ k) (rectQ j).toLoadRect = true := by decide +kernel
  exact this ⟨k, hk⟩ ⟨j, hj⟩ (fun e => h (congrArg Fin.val e))

section Run

variable (arg10 : Memref sig .tc .vmem S8x256x128 .bf16) (arg11 : Memref sig .tc .vmem S8x1x256 .f32)
  (arg12 : Memref sig .tc .vmem S8x144x256 .f32)

theorem ldQ_eq (q : ℕ → Vec Ideal S256x128 .bf16) (j : ℕ) (hj : j < 8) : ldQ arg10 q j = maskedQ q j := by
  have h : ∀ n, j < n → n ≤ 8 → arg10.view.readCov (qList q n) (rectQ j).toLoadRect = maskedQ q j := by
    intro n
    induction n with
    | zero => intro h; omega
    | succ n ih =>
      intro h1 h2
      show arg10.view.readCov (⟨rectQ n, maskedQ q n⟩ :: qList q n) (rectQ j).toLoadRect = _
      by_cases e : n = j
      · subst e; exact View.readCov_cons_toLoadRect _ _ _ _
      · refine (View.readCov_skip _ _ _ _ _ (disjQ n j (by omega) hj e)).trans ?_
        exact ih (by omega) (by omega)
  exact h 8 hj le_rfl

variable (q : ℕ → Vec Ideal S256x128 .bf16) (K : ℕ → ℕ → FVec Ideal S256x128 .bf16) (V : ℕ → ℕ → FVec Ideal S128x256 .bf16) (n : ℕ)
  (M : List (View.Piece (Elt Ideal) S8x1x256 .f32)) (A : List (View.Piece (Elt Ideal) S8x144x256 .f32))

theorem mPass_todo (j : ℕ) (hj : j < 8) (k : ℕ) (hk : k ≤ j) :
    arg11.view.readCov (mPass arg10 arg11 q K n M k) (rectM j).toLoadRect = arg11.view.readCov M (rectM j).toLoadRect := by
  induction k with
  | zero => rfl
  | succ k ih =>
    show arg11.view.readCov (⟨rectM k, _⟩ :: mPass arg10 arg11 q K n M k) (rectM j).toLoadRect = _
    refine (View.readCov_skip _ _ _ _ _ (disjM k j (by omega) hj (by omega))).trans ?_
    exact ih (by omega)

theorem aPass_todo (j : ℕ) (hj : j < 8) (k : ℕ) (hk : k ≤ j) :
    arg12.view.readCov (aPass arg10 arg11 arg12 q K V n M A k) (rectA j).toLoadRect = arg12.view.readCov A (rectA j).toLoadRect := by
  induction k with
  | zero => rfl
  | succ k ih =>
    show arg12.view.readCov (⟨rectA k, _⟩ :: aPass arg10 arg11 arg12 q K V n M A k) (rectA j).toLoadRect = _
    refine (View.readCov_skip _ _ _ _ _ (disjA k j (by omega) hj (by omega))).trans ?_
    exact ih (by omega)

theorem mPass_done (j k : ℕ) (hk : k ≤ 8) (hj : j < k) :
    arg11.view.readCov (mPass arg10 arg11 q K n M k) (rectM j).toLoadRect
      = shapeCast S1x1x256 (chainM arg10 arg11 q K n M j) shapeCasts_S1x256_S1x1x256 := by
  induction k with
  | zero => omega
  | succ k ih =>
    show arg11.view.readCov (⟨rectM k, shapeCast S1x1x256 (chainM arg10 arg11 q K n M k) shapeCasts_S1x256_S1x1x256⟩ :: mPass arg10 arg11 q K n M k) (rectM j).toLoadRect = _
    by_cases e : k = j
    · subst e; exact View.readCov_cons_toLoadRect _ _ _ _
    · refine (View.readCov_skip _ _ _ _ _ (disjM k j (by omega) (by omega) e)).trans ?_
      exact ih (by omega) (by omega)

theorem aPass_done (j k : ℕ) (hk : k ≤ 8) (hj : j < k) :
    arg12.view.readCov (aPass arg10 arg11 arg12 q K V n M A k) (rectA j).toLoadRect
      = shapeCast S1x144x256 (addBlocks (rescale (oldM arg10 arg11 q K n M j) (chainM arg10 arg11 q K n M j)
          (arg12.view.readCov A (rectA j).toLoadRect)) (V (j / 2)) (chainScore arg10 q K j)
        (chainM arg10 arg11 q K n M j) (n + 1)) shapeCasts_S144x256_S1x144x256 := by
  induction k with
  | zero => omega
  | succ k ih =>
    show arg12.view.readCov (⟨rectA k, shapeCast S1x144x256 (addBlocks (rescale (oldM arg10 arg11 q K n M k) (chainM arg10 arg11 q K n M k)
          (arg12.view.readCov (aPass arg10 arg11 arg12 q K V n M A k) (rectA k).toLoadRect)) (V (k / 2)) (chainScore arg10 q K k)
        (chainM arg10 arg11 q K n M k) (n + 1)) shapeCasts_S144x256_S1x144x256⟩ :: aPass arg10 arg11 arg12 q K V n M A k) (rectA j).toLoadRect = _
    by_cases e : k = j
    · subst e
      refine (View.readCov_cons_toLoadRect _ _ _ _).trans ?_
      exact congrArg (fun a : Vec Ideal S1x144x256 .f32 => shapeCast S1x144x256 (addBlocks (rescale (oldM arg10 arg11 q K n M k)
        (chainM arg10 arg11 q K n M k) a) (V (k / 2)) (chainScore arg10 q K k) (chainM arg10 arg11 q K n M k) (n + 1)) shapeCasts_S144x256_S1x144x256)
        (aPass_todo arg10 arg11 arg12 q K V n M A k (by omega) k le_rfl)
    · refine (View.readCov_skip _ _ _ _ _ (disjA k j (by omega) (by omega) e)).trans ?_
      exact ih (by omega) (by omega)

/-- A pass takes every chain from its state to the state with the pass's keys added. -/
theorem pass_full (j : ℕ) (hj : j < 8) (kr : ℕ → ℕ → Fin 256 → Fin 128 → ℝ) (vr : ℕ → ℕ → Fin 128 → Fin 256 → ℝ)
    (qr : ℕ → Fin 256 → Fin 128 → ℝ)
    (hK : ∀ h i κ d, K h i (ix2 κ d) = (kr h i κ d : EReal)) (hV : ∀ h i e κ, V h i (ix2 e κ) = (vr h i e κ : EReal))
    (hq : ∀ r d, maskedQ q j (ix3 0 r d) = (qr j r d : EReal)) (N : Fin 144 → Fin 256 → ℝ)
    (h : State (arg11.view.readCov M (rectM j).toLoadRect) (arg12.view.readCov A (rectA j).toLoadRect) N) :
    Full (arg11.view.readCov (mPass arg10 arg11 q K n M 8) (rectM j).toLoadRect)
      (arg12.view.readCov (aPass arg10 arg11 arg12 q K V n M A 8) (rectA j).toLoadRect)
      (fun e r => N e r + ∑ i ∈ Finset.range (n + 1), ∑ κ, stackR (vr (j / 2) i) e κ * Real.exp (∑ d, kr (j / 2) i κ d * qr j r d)) := by
  rw [mPass_done arg10 arg11 q K n M j 8 le_rfl hj, aPass_done arg10 arg11 arg12 q K V n M A j 8 le_rfl hj]
  have hold : oldM arg10 arg11 q K n M j = arg11.view.readCov M (rectM j).toLoadRect :=
    mPass_todo arg10 arg11 q K n M j hj j le_rfl
  unfold chainM
  rw [hold]
  refine h.step (V (j / 2)) (chainScore arg10 q K j) (vr (j / 2)) (fun i κ r => ∑ d, kr (j / 2) i κ d * qr j r d) (hV _)
    (fun i κ r => ?_) n
  unfold chainScore
  rw [ldQ_eq arg10 q j hj]
  exact scoreV_real _ _ (kr (j / 2) i) (qr j) (hK _ _) hq κ r

theorem init_state (j : ℕ) :
    State (arg11.view.readCov mInit (rectM j).toLoadRect) (arg12.view.readCov aInit (rectA j).toLoadRect) (fun _ _ => 0) := by
  intro r
  left
  have hb : Ideal.ofBits .f32 0xFF800000#32 = ⊥ := by simp [Ideal.ofBits, Ideal.ieee]
  have hz : Ideal.ofBits .f32 0x00000000#32 = 0 := by simp [Ideal.ofBits, Ideal.ieee]
  refine ⟨?_, fun e => ⟨?_, rfl⟩⟩
  · unfold mInit
    rw [View.readCov_fill _ _ _ _ _ (by intro a; fin_cases a <;> rfl)]
    exact hb
  · unfold aInit
    rw [View.readCov_fill _ _ _ _ _ (by intro a; fin_cases a <;> rfl)]
    exact hz

end Run

end Cert.KernelIdeal.DiffAttn

end
-- ==== Proof.Target.lean ====
/- The real function that both programs compute: two softmaxes over the same keys, their difference, its normalisation. -/
module

public import proofs.«01_k».proof.Proof.Softmax

@[expose] public section

noncomputable section

namespace Cert.DiffAttn

open Idealize.ShloMosaic

/-- The score of key `κ` in map `m`. -/
def score (q : Fin 2 → Fin 64 → ℝ) (k : ℕ → Fin 2 → Fin 64 → ℝ) (m : Fin 2) (κ : ℕ) : ℝ := (∑ d, q m d * k κ m d) * (1 / 8)

/-- The denominator of map `m` over the first `n` keys. -/
def den (q : Fin 2 → Fin 64 → ℝ) (k : ℕ → Fin 2 → Fin 64 → ℝ) (n : ℕ) (m : Fin 2) : ℝ :=
  ∑ κ ∈ Finset.range n, Real.exp (score q k m κ)

/-- The numerator of map `m`, column `e`, over the first `n` keys. -/
def num (q : Fin 2 → Fin 64 → ℝ) (k : ℕ → Fin 2 → Fin 64 → ℝ) (v : ℕ → Fin 128 → ℝ) (n : ℕ) (m : Fin 2) (e : Fin 128) : ℝ :=
  ∑ κ ∈ Finset.range n, v κ e * Real.exp (score q k m κ)

/-- The difference of the two maps' outputs. -/
def diffO (q : Fin 2 → Fin 64 → ℝ) (k : ℕ → Fin 2 → Fin 64 → ℝ) (v : ℕ → Fin 128 → ℝ) (lam : ℝ) (n : ℕ) (e : Fin 128) : ℝ :=
  num q k v n 0 e / den q k n 0 - lam * (num q k v n 1 e / den q k n 1)

/-- The normalised row: `o · rsqrt(mean o² + ε) · w · (1 − λ_init)`, the constants being the rationals of their words. -/
def tailE (o : Fin 128 → ℝ) (w : Fin 128 → EReal) (e : Fin 128) : EReal :=
  (o e : EReal) * Ideal.rsqrt (Ideal.div (∑ e', (o e' : EReal) * (o e' : EReal)) (Ideal.ofBits .f32 0x43000000#32) + Ideal.ofBits .f32 0x358637BD#32)
    * w e * Ideal.ofBits .f32 0x3F4CCCCD#32

theorem den_pos (q : Fin 2 → Fin 64 → ℝ) (k : ℕ → Fin 2 → Fin 64 → ℝ) (n : ℕ) (hn : 0 < n) (m : Fin 2) : 0 < den q k n m :=
  Finset.sum_pos (fun _ _ => Real.exp_pos _) ⟨0, Finset.mem_range.2 hn⟩

/-- Values summed with the difference of the weights are the difference of the two outputs. -/
theorem diffO_eq (q : Fin 2 → Fin 64 → ℝ) (k : ℕ → Fin 2 → Fin 64 → ℝ) (v : ℕ → Fin 128 → ℝ) (lam : ℝ) (n : ℕ) (e : Fin 128) :
    ∑ κ : Fin n, v κ e * (Real.exp (score q k 0 κ) / (∑ j : Fin n, Real.exp (score q k 0 j))
        - lam * (Real.exp (score q k 1 κ) / (∑ j : Fin n, Real.exp (score q k 1 j))))
      = diffO q k v lam n e := by
  unfold diffO num den
  simp only [Finset.sum_range, Finset.sum_div, mul_sub, Finset.sum_sub_distrib, Finset.mul_sum]
  congr 1 <;> refine Finset.sum_congr rfl fun κ _ => by ring

/-- A sum over `256 n` keys, by blocks. -/
theorem range_blocks (f : ℕ → ℝ) (n : ℕ) :
    ∑ κ ∈ Finset.range (256 * n), f κ = ∑ i ∈ Finset.range n, ∑ κ : Fin 256, f (256 * i + κ.val) := by
  induction n with
  | zero => simp
  | succ n ih => rw [Nat.mul_succ, Finset.sum_range_add, ih]; exact (congrArg _ (Finset.sum_range _)).trans (Finset.sum_range_succ _ _).symm

/-- The first block, then the others. -/
theorem first_blocks (f : ℕ → ℝ) (n : ℕ) :
    ∑ κ ∈ Finset.range (256 * (n + 1)), f κ = (∑ κ : Fin 256, f κ.val) + ∑ i ∈ Finset.range n, ∑ κ : Fin 256, f (256 + (256 * i + κ.val)) := by
  rw [Nat.mul_succ, Nat.add_comm, Finset.sum_range_add]; exact congrArg₂ _ (Finset.sum_range _) (range_blocks (fun κ => f (256 + κ)) n)

/-- A product masked to one half of 128 lanes is the product over that half, for the second map (`b`) or the first. -/
theorem masked_dot (m : Fin 2) (k q : Fin 128 → ℝ) :
    ∑ d : Fin 128, k d * (if (d.val < 64 ↔ m = 0) then q d else 0)
      = ∑ d : Fin 64, k ⟨64 * m.val + d.val, by omega⟩ * q ⟨64 * m.val + d.val, by omega⟩ := by
  rw [Fin.sum_univ_add (a := 64) (b := 64)]
  obtain rfl | rfl : m = 0 ∨ m = 1 := by omega
  · have h2 : ∑ i : Fin 64, k (Fin.natAdd 64 i) * (if ((Fin.natAdd 64 i).val < 64 ↔ (0 : Fin 2) = 0) then q (Fin.natAdd 64 i) else 0) = 0 :=
      Finset.sum_eq_zero fun i _ => by simp
    rw [h2, add_zero]
    refine Finset.sum_congr rfl fun i _ => ?_
    rw [if_pos (by simp)]
    have : (Fin.castAdd 64 i : Fin 128) = ⟨64 * (0 : Fin 2).val + i.val, by have := i.isLt; simp; omega⟩ := by ext; simp
    rw [this]
  · have h2 : ∑ i : Fin 64, k (Fin.castAdd 64 i) * (if ((Fin.castAdd 64 i).val < 64 ↔ (1 : Fin 2) = 0) then q (Fin.castAdd 64 i) else 0) = 0 :=
      Finset.sum_eq_zero fun i _ => by simp
    rw [h2, zero_add]
    refine Finset.sum_congr rfl fun i _ => ?_
    rw [if_pos (by simp)]
    rfl

end Cert.DiffAttn

end
-- ==== Proof.RunEq.lean ====
/- The body's run, as the execution leaves it, is the run in the words of `Words`. -/
module

public import proofs.«01_k».proof.Proof.Words
public import proofs.«01_k».proof.Proof.Gen.KernelIdeal.Frame

@[expose] public section

set_option maxRecDepth 16384

noncomputable section

namespace Cert.KernelIdeal.DiffAttn

open Idealize.ShloMosaic Idealize.ShloMosaic.TcCoe Idealize.ShloMosaic.Tactic
open Cert.KernelIdeal Cert.KernelIdeal.Gen

variable {F : FTy → Type} [FloatOps F]

set_option maxHeartbeats 4000000 in
theorem runA_eq (c : Dev nD) (i : grid0.Coords) (arg2 : Memref sig .tc .vmem S256x512 .bf16) (harg2 : arg2.IsWhole) (arg3 : Memref sig .tc .vmem S8192x512 .bf16) (harg3 : arg3.IsWhole) (arg4 : Memref sig .tc .vmem S32x512x256 .bf16) (harg4 : arg4.IsWhole) (arg5 : Memref sig .tc .vmem S256x512 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S8x256x128 .bf16) (harg10 : arg10.IsWhole) (arg11 : Memref sig .tc .vmem S8x1x256 .f32) (harg11 : arg11.IsWhole) (arg12 : Memref sig .tc .vmem S8x144x256 .f32) (harg12 : arg12.IsWhole) (hc0 : cond0_0 i)
    (x0 : Vec F S256x512 .bf16) (x1 : Vec F S8192x512 .bf16) (x2 : Vec F S32x512x256 .bf16) (x3 : Vec F S256x512 .bf16) (x4 : Vec F S1x512x256 .bf16) (x5 : Vec F S4x64 .f32) (x6 : Vec F S1x128 .f32) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1
      = outList arg12
          (aPass arg10 arg11 arg12 (rdQ arg2 harg2 x0) (rdK arg3 harg3 x1) (rdV arg4 harg4 x2) 31
            (mPass arg10 arg11 (rdQ arg2 harg2 x0) (rdKc arg5 harg5 x3) 0 mInit 8)
            (aPass arg10 arg11 arg12 (rdQ arg2 harg2 x0) (rdKc arg5 harg5 x3) (rdVc arg6 harg6 x4) 0 mInit aInit 8) 8)
          (View.readAt (Elt F) arg7.view (Rect.unit ![0, 0] S4x64.size inb_S4x64_S4x64_0_0).toLoadRect (harg7.unread x5))
          (View.readAt (Elt F) arg8.view (Rect.unit ![0, 0] S1x128.size inb_S1x128_S1x128_0_0).toLoadRect (harg8.unread x6)) 4 := by
  sl_kernel_rfl

theorem runB_eq (c : Dev nD) (i : grid0.Coords) (arg2 : Memref sig .tc .vmem S256x512 .bf16) (harg2 : arg2.IsWhole) (arg3 : Memref sig .tc .vmem S8192x512 .bf16) (harg3 : arg3.IsWhole) (arg4 : Memref sig .tc .vmem S32x512x256 .bf16) (harg4 : arg4.IsWhole) (arg5 : Memref sig .tc .vmem S256x512 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S8x256x128 .bf16) (harg10 : arg10.IsWhole) (arg11 : Memref sig .tc .vmem S8x1x256 .f32) (harg11 : arg11.IsWhole) (arg12 : Memref sig .tc .vmem S8x144x256 .f32) (harg12 : arg12.IsWhole) (hc0 : ¬ cond0_0 i)
    (x0 : Vec F S256x512 .bf16) (x1 : Vec F S8192x512 .bf16) (x2 : Vec F S32x512x256 .bf16) (x3 : Vec F S256x512 .bf16) (x4 : Vec F S1x512x256 .bf16) (x5 : Vec F S4x64 .f32) (x6 : Vec F S1x128 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6).1
      = outList arg12
          (aPass arg10 arg11 arg12 (rdQ arg2 harg2 x0) (rdKc arg5 harg5 x3) (rdVc arg6 harg6 x4) 0 mInit aInit 8)
          (View.readAt (Elt F) arg7.view (Rect.unit ![0, 0] S4x64.size inb_S4x64_S4x64_0_0).toLoadRect (harg7.unread x5))
          (View.readAt (Elt F) arg8.view (Rect.unit ![0, 0] S1x128.size inb_S1x128_S1x128_0_0).toLoadRect (harg8.unread x6)) 4 := by
  sl_kernel_rfl

end Cert.KernelIdeal.DiffAttn

end
-- ==== Proof.Block.lean ====
/- What one block of the kernel computes, at the ideal values and at finite inputs: the real function of `Target`, for each of
   its 256 rows and each of the four heads. -/
module

public import proofs.«01_k».proof.Proof.Chain
public import proofs.«01_k».proof.Proof.Target
public import proofs.«01_k».proof.Proof.RunEq
public import Idealize.ShloMosaic.Lib.Pipeline.ValueKit.Tiles

@[expose] public section

noncomputable section

namespace Cert.KernelIdeal.DiffAttn

open Idealize.ShloMosaic Idealize.ShloMosaic.TcCoe
open Cert.KernelIdeal Cert.KernelIdeal.Gen Cert.DiffAttn

/-! ## The reads of the input blocks -/

theorem read_at {s : Shape} {e : EltTy} (a : Memref sig .tc .vmem s e) (ha : a.IsWhole) (x : Vec Ideal s e) (off size : Fin s.rank → ℕ)
    (inb : ∀ a, off a + size a ≤ s.size a) (y : (Rect.unit off size inb).shape.Idx) (i : s.Idx) (hi : ∀ a, (i a : ℕ) = off a + y a) :
    View.readAt (Elt Ideal) a.view (Rect.unit off size inb).toLoadRect (ha.unread x) y = x i := by
  rw [View.readAt_eq_ld, ha.read_unread]
  exact congrArg x (funext fun a => Fin.ext ((Rect.idx_unit_val off size inb y a).trans (hi a).symm))

theorem cast_same (v : Vec Ideal S256x128 .bf16) (κ : Fin 256) (d : Fin 128) :
    shapeCast S256x128 v shapeCasts_S256x128_S256x128 (ix2 κ d) = v (ix2 κ d) := by rw [shapeCast_self]

theorem cast_drop (v : Vec Ideal S1x128x256 .bf16) (e : Fin 128) (κ : Fin 256) :
    shapeCast S128x256 v shapeCasts_S1x128x256_S128x256 (ix2 e κ) = v (ix3 0 e κ) := by pointwise

theorem rdQ_at (arg2 : Memref sig .tc .vmem S256x512 .bf16) (harg2 : arg2.IsWhole) (x0 : Vec Ideal S256x512 .bf16) (h : ℕ) (r : Fin 256) (d : Fin 128) :
    rdQ arg2 harg2 x0 h (ix2 r d) = x0 (ix2 r ⟨128 * (h % 4) + d.val, by omega⟩) := by
  refine read_at arg2 harg2 x0 _ _ _ _ _ fun a => ?_
  fin_cases a
  · exact (Nat.zero_add _).symm
  · rfl

theorem rdK_at (arg3 : Memref sig .tc .vmem S8192x512 .bf16) (harg3 : arg3.IsWhole) (x1 : Vec Ideal S8192x512 .bf16) (h i : ℕ) (κ : Fin 256) (d : Fin 128) :
    rdK arg3 harg3 x1 h i (ix2 κ d) = x1 (ix2 ⟨256 * (i % 32) + κ.val, by omega⟩ ⟨128 * (h % 4) + d.val, by omega⟩) := by
  refine (cast_same _ κ d).trans (read_at arg3 harg3 x1 _ _ _ _ _ fun a => ?_)
  fin_cases a <;> rfl

theorem rdKc_at (arg5 : Memref sig .tc .vmem S256x512 .bf16) (harg5 : arg5.IsWhole) (x3 : Vec Ideal S256x512 .bf16) (h i : ℕ) (κ : Fin 256) (d : Fin 128) :
    rdKc arg5 harg5 x3 h i (ix2 κ d) = x3 (ix2 κ ⟨128 * (h % 4) + d.val, by omega⟩) := by
  refine (cast_same _ κ d).trans (read_at arg5 harg5 x3 _ _ _ _ _ fun a => ?_)
  fin_cases a
  · exact (Nat.zero_add _).symm
  · rfl

theorem rdV_at (arg4 : Memref sig .tc .vmem S32x512x256 .bf16) (harg4 : arg4.IsWhole) (x2 : Vec Ideal S32x512x256 .bf16) (h i : ℕ) (e : Fin 128) (κ : Fin 256) :
    rdV arg4 harg4 x2 h i (ix2 e κ) = x2 (ix3 ⟨i % 32, by omega⟩ ⟨128 * (h % 4) + e.val, by omega⟩ κ) := by
  refine (cast_drop _ e κ).trans (read_at arg4 harg4 x2 _ _ _ _ _ fun a => ?_)
  fin_cases a
  · rfl
  · rfl
  · exact (Nat.zero_add _).symm

theorem rdVc_at (arg6 : Memref sig .tc .vmem S1x512x256 .bf16) (harg6 : arg6.IsWhole) (x4 : Vec Ideal S1x512x256 .bf16) (h i : ℕ) (e : Fin 128) (κ : Fin 256) :
    rdVc arg6 harg6 x4 h i (ix2 e κ) = x4 (ix3 0 ⟨128 * (h % 4) + e.val, by omega⟩ κ) := by
  refine (cast_drop _ e κ).trans (read_at arg6 harg6 x4 _ _ _ _ _ fun a => ?_)
  fin_cases a
  · rfl
  · rfl
  · exact (Nat.zero_add _).symm

/-! ## One row of one head -/

/-- A column of the 512: head `h`, map `m`, lane `d`. -/
def col (h : ℕ) (m : Fin 2) (d : Fin 64) : Fin 512 := ⟨128 * (h % 4) + (64 * m.val + d.val), by omega⟩

/-- A column of the 512: head `h`, component `e`. -/
def colV (h : ℕ) (e : Fin 128) : Fin 512 := ⟨128 * (h % 4) + e.val, by omega⟩

/-- The masked product of a key row with a query row is the score. -/
theorem masked_score (h : ℕ) (m : Fin 2) (X : Fin 512 → ℝ) (Y : Fin 512 → ℝ) (q : Fin 2 → Fin 64 → ℝ) (k : ℕ → Fin 2 → Fin 64 → ℝ) (κ : ℕ)
    (hX : ∀ d, X (col h m d) = k κ m d) (hY : ∀ d, Y (col h m d) = q m d * (1 / 8)) :
    (∑ d : Fin 128, X (colV h d) * (if (d.val < 64 ↔ m = 0) then Y (colV h d) else 0)) = score q k m κ := by
  rw [masked_dot m (fun d => X (colV h d)) (fun d => Y (colV h d)), score, Finset.sum_mul]
  refine Finset.sum_congr rfl fun d _ => ?_
  have e1 := hX d
  have e2 := hY d
  show X (col h m d) * Y (col h m d) = _
  rw [e1, e2]; ring

section Row

variable (arg2 : Memref sig .tc .vmem S256x512 .bf16) (harg2 : arg2.IsWhole) (arg3 : Memref sig .tc .vmem S8192x512 .bf16) (harg3 : arg3.IsWhole)
  (arg4 : Memref sig .tc .vmem S32x512x256 .bf16) (harg4 : arg4.IsWhole) (arg5 : Memref sig .tc .vmem S256x512 .bf16) (harg5 : arg5.IsWhole)
  (arg6 : Memref sig .tc .vmem S1x512x256 .bf16) (harg6 : arg6.IsWhole)
  (arg10 : Memref sig .tc .vmem S8x256x128 .bf16) (arg11 : Memref sig .tc .vmem S8x1x256 .f32) (arg12 : Memref sig .tc .vmem S8x144x256 .f32)
  (x0 : Vec Ideal S256x512 .bf16) (x1 : Vec Ideal S8192x512 .bf16) (x2 : Vec Ideal S32x512x256 .bf16) (x3 : Vec Ideal S256x512 .bf16)
  (x4 : Vec Ideal S1x512x256 .bf16)
  (X0 : S256x512.Idx → ℝ) (X1 : S8192x512.Idx → ℝ) (X2 : S32x512x256.Idx → ℝ) (X3 : S256x512.Idx → ℝ) (X4 : S1x512x256.Idx → ℝ)

/-- The maxima and the accumulators after the context pass. -/
def ctxM := mPass arg10 arg11 (rdQ arg2 harg2 x0) (rdKc arg5 harg5 x3) 0 mInit 8
def ctxA := aPass arg10 arg11 arg12 (rdQ arg2 harg2 x0) (rdKc arg5 harg5 x3) (rdVc arg6 harg6 x4) 0 mInit aInit 8
/-- The accumulators after both passes. -/
def allM := mPass arg10 arg11 (rdQ arg2 harg2 x0) (rdK arg3 harg3 x1) 31 (ctxM arg2 harg2 arg5 harg5 arg10 arg11 x0 x3) 8
def allA := aPass arg10 arg11 arg12 (rdQ arg2 harg2 x0) (rdK arg3 harg3 x1) (rdV arg4 harg4 x2) 31
  (ctxM arg2 harg2 arg5 harg5 arg10 arg11 x0 x3) (ctxA arg2 harg2 arg5 harg5 arg6 harg6 arg10 arg11 arg12 x0 x3 x4) 8

/-- The real queries of a chain, masked. -/
def qReal (j : ℕ) (r : Fin 256) (d : Fin 128) : ℝ := if (d.val < 64 ↔ j % 2 = 0) then X0 (ix2 r (colV (j / 2) d)) else 0

include x0 in
theorem maskedQ_real (h0 : ∀ i, x0 i = (X0 i : EReal)) (j : ℕ) (r : Fin 256) (d : Fin 128) :
    maskedQ (rdQ arg2 harg2 x0) j (ix3 0 r d) = (qReal X0 j r d : EReal) := by
  rw [maskedQ_at]; unfold qReal
  split
  · rw [rdQ_at, h0]; rfl
  · simp

theorem ctx_full (h0 : ∀ i, x0 i = (X0 i : EReal)) (h3 : ∀ i, x3 i = (X3 i : EReal)) (h4 : ∀ i, x4 i = (X4 i : EReal)) (j : ℕ) (hj : j < 8) :
    Full (arg11.view.readCov (ctxM arg2 harg2 arg5 harg5 arg10 arg11 x0 x3) (rectM j).toLoadRect)
      (arg12.view.readCov (ctxA arg2 harg2 arg5 harg5 arg6 harg6 arg10 arg11 arg12 x0 x3 x4) (rectA j).toLoadRect)
      (fun e r => ∑ κ : Fin 256, stackR (fun e κ => X4 (ix3 0 (colV (j / 2) e) κ)) e κ
        * Real.exp (∑ d, X3 (ix2 κ (colV (j / 2) d)) * qReal X0 j r d)) := by
  have h := pass_full arg10 arg11 arg12 (rdQ arg2 harg2 x0) (rdKc arg5 harg5 x3) (rdVc arg6 harg6 x4) 0 mInit aInit j hj
    (fun h i κ d => X3 (ix2 κ (colV h d))) (fun h i e κ => X4 (ix3 0 (colV h e) κ)) (qReal X0)
    (fun h i κ d => by rw [rdKc_at, h3]; rfl) (fun h i e κ => by rw [rdVc_at, h4]; rfl)
    (maskedQ_real arg2 harg2 x0 X0 h0 j) _ (init_state arg11 arg12 j)
  simpa [ctxM, ctxA] using h

theorem all_full (h0 : ∀ i, x0 i = (X0 i : EReal)) (h1 : ∀ i, x1 i = (X1 i : EReal)) (h2 : ∀ i, x2 i = (X2 i : EReal))
    (h3 : ∀ i, x3 i = (X3 i : EReal)) (h4 : ∀ i, x4 i = (X4 i : EReal)) (j : ℕ) (hj : j < 8) :
    Full (arg11.view.readCov (allM arg2 harg2 arg3 harg3 arg5 harg5 arg10 arg11 x0 x1 x3) (rectM j).toLoadRect)
      (arg12.view.readCov (allA arg2 harg2 arg3 harg3 arg4 harg4 arg5 harg5 arg6 harg6 arg10 arg11 arg12 x0 x1 x2 x3 x4) (rectA j).toLoadRect)
      (fun e r => (∑ κ : Fin 256, stackR (fun e κ => X4 (ix3 0 (colV (j / 2) e) κ)) e κ
          * Real.exp (∑ d, X3 (ix2 κ (colV (j / 2) d)) * qReal X0 j r d))
        + ∑ i ∈ Finset.range (31 + 1), ∑ κ : Fin 256, stackR (fun e κ => X2 (ix3 ⟨i % 32, by omega⟩ (colV (j / 2) e) κ)) e κ
          * Real.exp (∑ d, X1 (ix2 ⟨256 * (i % 32) + κ.val, by omega⟩ (colV (j / 2) d)) * qReal X0 j r d)) :=
  pass_full arg10 arg11 arg12 (rdQ arg2 harg2 x0) (rdK arg3 harg3 x1) (rdV arg4 harg4 x2) 31 _ _ j hj
    (fun h i κ d => X1 (ix2 ⟨256 * (i % 32) + κ.val, by omega⟩ (colV h d)))
    (fun h i e κ => X2 (ix3 ⟨i % 32, by omega⟩ (colV h e) κ)) (qReal X0)
    (fun h i κ d => by rw [rdK_at, h1]; rfl) (fun h i e κ => by rw [rdV_at, h2]; rfl)
    (maskedQ_real arg2 harg2 x0 X0 h0 j) _ (ctx_full arg2 harg2 arg5 harg5 arg6 harg6 arg10 arg11 arg12 x0 x3 x4 X0 X3 X4 h0 h3 h4 j hj).state

end Row

/-! ## The real function -/

/-- What the accumulators of chain `2h + m` hold over the real keys `k` and values `v`. -/
def accN (q : Fin 2 → Fin 64 → ℝ) (k : ℕ → Fin 2 → Fin 64 → ℝ) (v : ℕ → Fin 128 → ℝ) (n : ℕ) (m : Fin 2) (e : Fin 144) : ℝ :=
  if h : e.val < 128 then num q k v n m ⟨e.val, h⟩ else den q k n m

theorem accN_sum (q : Fin 2 → Fin 64 → ℝ) (k : ℕ → Fin 2 → Fin 64 → ℝ) (v : ℕ → Fin 128 → ℝ) (n : ℕ) (m : Fin 2) (e : Fin 144) :
    accN q k v n m e = ∑ κ ∈ Finset.range n, (if h : e.val < 128 then v κ ⟨e.val, h⟩ else 1) * Real.exp (score q k m κ) := by
  unfold accN
  split
  · rfl
  · simp [den]

theorem chain_score (h : ℕ) (hh : h < 4) (m : Fin 2) (r : Fin 256) (X0 : S256x512.Idx → ℝ) (q : Fin 2 → Fin 64 → ℝ) (k : ℕ → Fin 2 → Fin 64 → ℝ)
    (hq : ∀ d, X0 (ix2 r (col h m d)) = q m d * (1 / 8)) (X : Fin 512 → ℝ) (κ : ℕ) (hX : ∀ d, X (col h m d) = k κ m d) :
    ∑ d, X (colV ((2 * h + m.val) / 2) d) * qReal X0 (2 * h + m.val) r d = score q k m κ := by
  have e1 : (2 * h + m.val) / 2 = h := by omega
  have e2 : (2 * h + m.val) % 2 = m.val := by omega
  rw [← masked_score h m X (fun c => X0 (ix2 r c)) q k κ hX hq]
  refine Finset.sum_congr rfl fun d _ => ?_
  unfold qReal
  rw [e1, e2]
  exact congrArg _ (if_congr (iff_congr Iff.rfl (by omega)) rfl rfl)

/-- The final difference and its normalisation, from the two chains' accumulators. -/
theorem tail_of_full (m0 m1 : Vec Ideal S1x1x256 .f32) (a0 a1 : Vec Ideal S1x144x256 .f32) (N0 N1 : Fin 144 → Fin 256 → ℝ)
    (f0 : Full m0 a0 N0) (f1 : Full m1 a1 N1) (lamb : FVec Ideal S1x1 .f32) (lam : ℝ) (hlam : lamb (ix2 0 0) = (lam : EReal))
    (w : Vec Ideal S1x128 .f32) (q : Fin 2 → Fin 64 → ℝ) (k : ℕ → Fin 2 → Fin 64 → ℝ) (v : ℕ → Fin 128 → ℝ) (n : ℕ) (hn : 0 < n) (r : Fin 256)
    (hN0 : ∀ e, N0 e r = accN q k v n 0 e) (hN1 : ∀ e, N1 e r = accN q k v n 1 e) (e : Fin 128) :
    tailV (diffV lamb a0 a1) w (ix2 r e) = tailE (diffO q k v lam n) (fun e => w (ix2 0 e)) e := by
  have hnorm : ∀ (m : Vec Ideal S1x1x256 .f32) (a : Vec Ideal S1x144x256 .f32) (N : Fin 144 → Fin 256 → ℝ) (f : Full m a N) (i : Fin 2)
      (hN : ∀ e, N e r = accN q k v n i e) (e : Fin 128), normV a (ix2 e r) = ((num q k v n i e / den q k n i : ℝ) : EReal) := by
    intro m a N f i hN e
    obtain ⟨g, -, hg⟩ := f r
    rw [normV_at, hg, hg, hN, hN]
    have e1 : accN q k v n i ⟨e.val, by omega⟩ = num q k v n i e := by unfold accN; rw [dif_pos e.isLt]
    have e2 : accN q k v n i 128 = den q k n i := by unfold accN; rw [dif_neg (by decide)]
    rw [e1, e2, acc_normalise _ _ _ (den_pos q k n hn i).ne']
  have hd : ∀ e, diffV lamb a0 a1 (ix2 r e) = (diffO q k v lam n e : EReal) := by
    intro e
    rw [diffV_at, hnorm m0 a0 N0 f0 0 hN0, hnorm m1 a1 N1 f1 1 hN1, hlam, ← EReal.coe_mul, ← EReal.coe_sub]; rfl
  rw [tailV_at, rootV_at, hd]
  simp only [hd]
  rfl

/-! ## The stores of the result -/

theorem rectH_idx (h : ℕ) (r : Fin 256) (e : Fin 128) : (rectH h).emb (ix2 r e) = ix2 r (colV h e) := by
  refine funext fun a => Fin.ext ?_
  refine (Rect.idx_unit_val _ _ _ _ _).trans ?_
  fin_cases a
  · exact Nat.zero_add _
  · rfl

theorem rectH_not_mem (h k : ℕ) (hh : h < 4) (hk : k < 4) (hne : h ≠ k) (r : Fin 256) (e : Fin 128) : ix2 r (colV h e) ∉ (rectH k).set := by
  intro hm
  have h1 := Rect.mem_set_unit.1 hm 1
  have h2 : ((ix2 r (colV h e) : S256x512.Idx) 1).val = 128 * (h % 4) + e.val := rfl
  have h3 : 128 * (k % 4) ≤ 128 * (h % 4) + e.val ∧ 128 * (h % 4) + e.val < 128 * (k % 4) + 128 := h1
  have := e.isLt
  omega

theorem outList_at (arg12 : Memref sig .tc .vmem S8x144x256 .f32) (A : List (View.Piece (Elt Ideal) S8x144x256 .f32))
    (x : Vec Ideal S4x64 .f32) (w : Vec Ideal S1x128 .f32) (n : ℕ) (hn : n ≤ 4) (h : ℕ) (hh : h < n) (r : Fin 256) (e : Fin 128) :
    View.canon (outList arg12 A x w n) (ix2 r (colV h e))
      = tailV (diffV (lamV x) (arg12.view.readCov A (rectA (2 * h)).toLoadRect) (arg12.view.readCov A (rectA (2 * h + 1)).toLoadRect)) w (ix2 r e) := by
  induction n with
  | zero => omega
  | succ n ih =>
    by_cases hne : n = h
    · subst hne
      have := rectH_idx n r e
      refine (congrArg (View.canon (outList arg12 A x w (n + 1))) this.symm).trans ?_
      exact View.canon_cons_emb (rectH n) _ (outList arg12 A x w n) (ix2 r e)
    · have hnm := rectH_not_mem h n (by omega) (by omega) (fun h => hne h.symm) r e
      show View.canon ((⟨rectH n, tailV (diffV (lamV x) (arg12.view.readCov A (rectA (2 * n)).toLoadRect)
        (arg12.view.readCov A (rectA (2 * n + 1)).toLoadRect)) w⟩ : View.Piece (Elt Ideal) S256x512 .bf16) :: outList arg12 A x w n) _ = _
      refine (View.canon_cons_of_not_mem (⟨rectH n, tailV (diffV (lamV x) (arg12.view.readCov A (rectA (2 * n)).toLoadRect)
        (arg12.view.readCov A (rectA (2 * n + 1)).toLoadRect)) w⟩ : View.Piece (Elt Ideal) S256x512 .bf16) (outList arg12 A x w n) hnm).trans ?_
      exact ih (by omega) (by omega)

end Cert.KernelIdeal.DiffAttn

end
-- ==== Proof.BlockVal.lean ====
/- One block's result in closed form, for a tile of latent rows (both passes) and for a tile of context rows (the context pass). -/
module

public import proofs.«01_k».proof.Proof.Block

@[expose] public section

noncomputable section

namespace Cert.KernelIdeal.DiffAttn

open Idealize.ShloMosaic Idealize.ShloMosaic.TcCoe
open Cert.KernelIdeal Cert.KernelIdeal.Gen Cert.DiffAttn

/-- A whole load of the four lambda rows reads them. -/
theorem lam_read (arg7 : Memref sig .tc .vmem S4x64 .f32) (harg7 : arg7.IsWhole) (x5 : Vec Ideal S4x64 .f32) :
    View.readAt (Elt Ideal) arg7.view (Rect.unit ![0, 0] S4x64.size inb_S4x64_S4x64_0_0).toLoadRect (harg7.unread x5) = x5 :=
  funext fun y => read_at arg7 harg7 x5 _ _ _ y y fun a => by fin_cases a <;> exact (Nat.zero_add _).symm

/-- A whole load of the normalisation weights reads them. -/
theorem sub_read (arg8 : Memref sig .tc .vmem S1x128 .f32) (harg8 : arg8.IsWhole) (x6 : Vec Ideal S1x128 .f32) :
    View.readAt (Elt Ideal) arg8.view (Rect.unit ![0, 0] S1x128.size inb_S1x128_S1x128_0_0).toLoadRect (harg8.unread x6) = x6 :=
  funext fun y => read_at arg8 harg8 x6 _ _ _ y y fun a => by fin_cases a <;> exact (Nat.zero_add _).symm

/-- The stacked value row, as the closed form has it. -/
theorem stack_row (V : Fin 128 → Fin 256 → ℝ) (v : ℕ → Fin 128 → ℝ) (κ : Fin 256) (n : ℕ) (hV : ∀ e, V e κ = v n e) (e : Fin 144) :
    stackR V e κ = if h : e.val < 128 then v n ⟨e.val, h⟩ else 1 := by
  unfold stackR
  split
  · exact hV _
  · rfl

/-- One block of context keys, as part of the closed sum. -/
theorem ctx_terms (X0 X3 : S256x512.Idx → ℝ) (X4 : S1x512x256.Idx → ℝ)
    (q : Fin 2 → Fin 64 → ℝ) (k : ℕ → Fin 2 → Fin 64 → ℝ) (v : ℕ → Fin 128 → ℝ) (h : ℕ) (hh : h < 4) (r : Fin 256)
    (hq : ∀ i d, X0 (ix2 r (col h i d)) = q i d * (1 / 8)) (hkc : ∀ (κ : Fin 256) i d, X3 (ix2 κ (col h i d)) = k κ.val i d)
    (hvc : ∀ (κ : Fin 256) e, X4 (ix3 0 (colV h e) κ) = v κ.val e) (m : Fin 2) (e : Fin 144) :
    ∑ κ : Fin 256, stackR (fun e κ => X4 (ix3 0 (colV ((2 * h + m.val) / 2) e) κ)) e κ
        * Real.exp (∑ d, X3 (ix2 κ (colV ((2 * h + m.val) / 2) d)) * qReal X0 (2 * h + m.val) r d)
      = ∑ κ : Fin 256, (if h : e.val < 128 then v κ.val ⟨e.val, h⟩ else 1) * Real.exp (score q k m κ.val) := by
  refine Finset.sum_congr rfl fun κ _ => ?_
  have e1 : (2 * h + m.val) / 2 = h := by omega
  rw [chain_score h hh m r X0 q k (hq m) (fun c => X3 (ix2 κ c)) κ.val (hkc κ m), e1, stack_row _ v κ κ.val (hvc κ) e]

theorem blockA_at (c : Dev nD) (i : grid0.Coords) (arg2 : Memref sig .tc .vmem S256x512 .bf16) (harg2 : arg2.IsWhole) (arg3 : Memref sig .tc .vmem S8192x512 .bf16) (harg3 : arg3.IsWhole) (arg4 : Memref sig .tc .vmem S32x512x256 .bf16) (harg4 : arg4.IsWhole) (arg5 : Memref sig .tc .vmem S256x512 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S8x256x128 .bf16) (harg10 : arg10.IsWhole) (arg11 : Memref sig .tc .vmem S8x1x256 .f32) (harg11 : arg11.IsWhole) (arg12 : Memref sig .tc .vmem S8x144x256 .f32) (harg12 : arg12.IsWhole) (hc0 : cond0_0 i)
    (x0 : Vec Ideal S256x512 .bf16) (x1 : Vec Ideal S8192x512 .bf16) (x2 : Vec Ideal S32x512x256 .bf16) (x3 : Vec Ideal S256x512 .bf16) (x4 : Vec Ideal S1x512x256 .bf16) (x5 : Vec Ideal S4x64 .f32) (x6 : Vec Ideal S1x128 .f32)
    (X0 : S256x512.Idx → ℝ) (X1 : S8192x512.Idx → ℝ) (X2 : S32x512x256.Idx → ℝ) (X3 : S256x512.Idx → ℝ) (X4 : S1x512x256.Idx → ℝ)
    (h0 : ∀ i, x0 i = (X0 i : EReal)) (h1 : ∀ i, x1 i = (X1 i : EReal)) (h2 : ∀ i, x2 i = (X2 i : EReal)) (h3 : ∀ i, x3 i = (X3 i : EReal)) (h4 : ∀ i, x4 i = (X4 i : EReal))
    (q : Fin 2 → Fin 64 → ℝ) (k : ℕ → Fin 2 → Fin 64 → ℝ) (v : ℕ → Fin 128 → ℝ) (lam : ℝ) (h : ℕ) (hh : h < 4) (r : Fin 256) (e : Fin 128)
    (hq : ∀ i d, X0 (ix2 r (col h i d)) = q i d * (1 / 8)) (hkc : ∀ (κ : Fin 256) i d, X3 (ix2 κ (col h i d)) = k κ.val i d)
    (hvc : ∀ (κ : Fin 256) e, X4 (ix3 0 (colV h e) κ) = v κ.val e)
    (hkl : ∀ (i : Fin 32) (κ : Fin 256) m d, X1 (ix2 ⟨256 * i.val + κ.val, by omega⟩ (col h m d)) = k (256 + (256 * i.val + κ.val)) m d)
    (hvl : ∀ (i : Fin 32) (κ : Fin 256) e, X2 (ix3 i (colV h e) κ) = v (256 + (256 * i.val + κ.val)) e)
    (hlam : lamV x5 (ix2 0 0) = (lam : EReal)) :
    View.canon (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 (ix2 r (colV h e))
      = tailE (diffO q k v lam (256 * (32 + 1))) (fun e => x6 (ix2 0 e)) e := by
  refine (congrArg (fun L => View.canon L (ix2 r (colV h e))) (runA_eq c i arg2 harg2 arg3 harg3 arg4 harg4 arg5 harg5 arg6 harg6 arg7 harg7 arg8 harg8 arg9 harg9 arg10 harg10 arg11 harg11 arg12 harg12 hc0 x0 x1 x2 x3 x4 x5 x6)).trans ?_
  rw [lam_read, sub_read]
  refine (outList_at arg12 _ x5 x6 4 le_rfl h hh r e).trans ?_
  have hN : ∀ (m : Fin 2) (e : Fin 144), (∑ κ : Fin 256, stackR (fun e κ => X4 (ix3 0 (colV ((2 * h + m.val) / 2) e) κ)) e κ
        * Real.exp (∑ d, X3 (ix2 κ (colV ((2 * h + m.val) / 2) d)) * qReal X0 (2 * h + m.val) r d))
      + ∑ i ∈ Finset.range (31 + 1), ∑ κ : Fin 256, stackR (fun e κ => X2 (ix3 ⟨i % 32, by omega⟩ (colV ((2 * h + m.val) / 2) e) κ)) e κ
        * Real.exp (∑ d, X1 (ix2 ⟨256 * (i % 32) + κ.val, by omega⟩ (colV ((2 * h + m.val) / 2) d)) * qReal X0 (2 * h + m.val) r d)
      = accN q k v (256 * (32 + 1)) m e := by
    intro m e
    rw [accN_sum, first_blocks, ctx_terms X0 X3 X4 q k v h hh r hq hkc hvc m e]
    refine congrArg _ (Finset.sum_congr rfl fun i hi => Finset.sum_congr rfl fun κ _ => ?_)
    have hi' : i < 32 := Finset.mem_range.1 hi
    have e1 : (2 * h + m.val) / 2 = h := by omega
    have e2 : i % 32 = i := Nat.mod_eq_of_lt hi'
    rw [chain_score h hh m r X0 q k (hq m) (fun c => X1 (ix2 ⟨256 * (i % 32) + κ.val, by omega⟩ c)) (256 + (256 * i + κ.val))
        (fun d => by simp only [e2]; exact hkl ⟨i, hi'⟩ κ m d), e1,
      stack_row _ v κ (256 + (256 * i + κ.val)) (fun e => by simp only [e2]; exact hvl ⟨i, hi'⟩ κ e) e]
  exact tail_of_full _ _ _ _ _ _
    (all_full arg2 harg2 arg3 harg3 arg4 harg4 arg5 harg5 arg6 harg6 arg10 arg11 arg12 x0 x1 x2 x3 x4 X0 X1 X2 X3 X4 h0 h1 h2 h3 h4 (2 * h) (by omega))
    (all_full arg2 harg2 arg3 harg3 arg4 harg4 arg5 harg5 arg6 harg6 arg10 arg11 arg12 x0 x1 x2 x3 x4 X0 X1 X2 X3 X4 h0 h1 h2 h3 h4 (2 * h + 1) (by omega))
    (lamV x5) lam hlam x6 q k v _ (by norm_num) r (fun e => hN 0 e) (fun e => hN 1 e) e

theorem blockB_at (c : Dev nD) (i : grid0.Coords) (arg2 : Memref sig .tc .vmem S256x512 .bf16) (harg2 : arg2.IsWhole) (arg3 : Memref sig .tc .vmem S8192x512 .bf16) (harg3 : arg3.IsWhole) (arg4 : Memref sig .tc .vmem S32x512x256 .bf16) (harg4 : arg4.IsWhole) (arg5 : Memref sig .tc .vmem S256x512 .bf16) (harg5 : arg5.IsWhole) (arg6 : Memref sig .tc .vmem S1x512x256 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S256x512 .bf16) (harg9 : arg9.IsWhole) (arg10 : Memref sig .tc .vmem S8x256x128 .bf16) (harg10 : arg10.IsWhole) (arg11 : Memref sig .tc .vmem S8x1x256 .f32) (harg11 : arg11.IsWhole) (arg12 : Memref sig .tc .vmem S8x144x256 .f32) (harg12 : arg12.IsWhole) (hc0 : ¬ cond0_0 i)
    (x0 : Vec Ideal S256x512 .bf16) (x1 : Vec Ideal S8192x512 .bf16) (x2 : Vec Ideal S32x512x256 .bf16) (x3 : Vec Ideal S256x512 .bf16) (x4 : Vec Ideal S1x512x256 .bf16) (x5 : Vec Ideal S4x64 .f32) (x6 : Vec Ideal S1x128 .f32)
    (X0 : S256x512.Idx → ℝ) (X3 : S256x512.Idx → ℝ) (X4 : S1x512x256.Idx → ℝ)
    (h0 : ∀ i, x0 i = (X0 i : EReal)) (h3 : ∀ i, x3 i = (X3 i : EReal)) (h4 : ∀ i, x4 i = (X4 i : EReal))
    (q : Fin 2 → Fin 64 → ℝ) (k : ℕ → Fin 2 → Fin 64 → ℝ) (v : ℕ → Fin 128 → ℝ) (lam : ℝ) (h : ℕ) (hh : h < 4) (r : Fin 256) (e : Fin 128)
    (hq : ∀ i d, X0 (ix2 r (col h i d)) = q i d * (1 / 8)) (hkc : ∀ (κ : Fin 256) i d, X3 (ix2 κ (col h i d)) = k κ.val i d)
    (hvc : ∀ (κ : Fin 256) e, X4 (ix3 0 (colV h e) κ) = v κ.val e)
    (hlam : lamV x5 (ix2 0 0) = (lam : EReal)) :
    View.canon (kernelRun0_B c i arg2 harg2 arg3 harg3 arg4 harg4 arg5 harg5 arg6 harg6 arg7 harg7 arg8 harg8 arg9 harg9 arg10 harg10 arg11 harg11 arg12 harg12 hc0 x0 x1 x2 x3 x4 x5 x6).1 (ix2 r (colV h e))
      = tailE (diffO q k v lam 256) (fun e => x6 (ix2 0 e)) e := by
  refine (congrArg (fun L => View.canon L (ix2 r (colV h e))) (runB_eq c i arg2 harg2 arg3 harg3 arg4 harg4 arg5 harg5 arg6 harg6 arg7 harg7 arg8 harg8 arg9 harg9 arg10 harg10 arg11 harg11 arg12 harg12 hc0 x0 x1 x2 x3 x4 x5 x6)).trans ?_
  rw [lam_read, sub_read]
  refine (outList_at arg12 _ x5 x6 4 le_rfl h hh r e).trans ?_
  have hN : ∀ (m : Fin 2) (e : Fin 144), (∑ κ : Fin 256, stackR (fun e κ => X4 (ix3 0 (colV ((2 * h + m.val) / 2) e) κ)) e κ
        * Real.exp (∑ d, X3 (ix2 κ (colV ((2 * h + m.val) / 2) d)) * qReal X0 (2 * h + m.val) r d))
      = accN q k v 256 m e := by
    intro m e
    rw [accN_sum, ctx_terms X0 X3 X4 q k v h hh r hq hkc hvc m e]
    rw [Finset.sum_range]
  exact tail_of_full _ _ _ _ _ _
    (ctx_full arg2 harg2 arg5 harg5 arg6 harg6 arg10 arg11 arg12 x0 x3 x4 X0 X3 X4 h0 h3 h4 (2 * h) (by omega))
    (ctx_full arg2 harg2 arg5 harg5 arg6 harg6 arg10 arg11 arg12 x0 x3 x4 X0 X3 X4 h0 h3 h4 (2 * h + 1) (by omega))
    (lamV x5) lam hlam x6 q k v _ (by norm_num) r (fun e => hN 0 e) (fun e => hN 1 e) e

end Cert.KernelIdeal.DiffAttn

end
-- ==== Proof.Windows.lean ====
/- The windows: which part of the arrays every grid point reads and writes. Point `t` is batch `t / 33`, tile `t % 33`: the first 32
   tiles of a batch are latent rows, the last is the batch's context rows. -/
module

public import proofs.«01_k».proof.Proof.Block
public import proofs.«01_k».proof.Proof.Gen.KernelIdeal.Value
public import Idealize.ShloMosaic.Lib.Pipeline.ValueKit.Point

@[expose] public section

noncomputable section

namespace Cert.KernelIdeal.DiffAttn

open Idealize.ShloMosaic Idealize.ShloMosaic.TcCoe
open Cert.KernelIdeal Cert.KernelIdeal.Gen Cert.DiffAttn

/-- The block of 256 rows that point `t` reads its queries from and writes. -/
def tile (t : ℕ) : ℕ := if t % 33 < 32 then 32 * (t / 33) + t % 33 else 128 + t / 33

theorem tile_lt (t : Fin cfg0.N) : tile t.val < 132 := by
  have : t.val < 132 := t.isLt
  unfold tile; split <;> omega

theorem idx0 : ∀ t : Fin cfg0.N, win0_0.index t = ![tile t.val, 0] := by decide +kernel
theorem idx1 : ∀ t : Fin cfg0.N, win0_1.index t = ![t.val / 33, 0] := by decide +kernel
theorem idx2 : ∀ t : Fin cfg0.N, win0_2.index t = ![t.val / 33, 0, 0] := by decide +kernel
theorem idx3 : ∀ t : Fin cfg0.N, win0_3.index t = ![128 + t.val / 33, 0] := by decide +kernel
theorem idx4 : ∀ t : Fin cfg0.N, win0_4.index t = ![128 + t.val / 33, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![tile t.val, 0] := by decide +kernel
theorem flush7 : ∀ t : Fin cfg0.N, (cfg0.win 7).flush t = true := by decide +kernel

theorem batch_lt (t : Fin cfg0.N) : t.val / 33 < 4 := by
  have : t.val < 132 := t.isLt
  omega

variable {F : FTy → Type} [FloatOps F]
variable (m : (ℓ : Loc nD τ sig) → Buf (Elt F) ℓ)

theorem blk0_at (c : Dev nD) (t : Fin cfg0.N) (r : Fin 256) (d : Fin 512) :
    (iblk m c 0 t : Vec F S256x512 .bf16) (ix2 r d)
      = (V m c main_v5 : Vec F S33792x512 .bf16) (ix2 ⟨256 * tile t.val + r.val, by have := tile_lt t; omega⟩ d) := by
  blk_ext [iblk, idx0 t]

theorem blk3_at (c : Dev nD) (t : Fin cfg0.N) (r : Fin 256) (d : Fin 512) :
    (iblk m c 3 t : Vec F S256x512 .bf16) (ix2 r d)
      = (V m c main_v9 : Vec F S33792x512 .bf16) (ix2 ⟨32768 + (256 * (t.val / 33) + r.val), by have := batch_lt t; omega⟩ d) := by
  blk_ext [iblk, idx3 t]

theorem blk4_at (c : Dev nD) (t : Fin cfg0.N) (d : Fin 512) (r : Fin 256) :
    (iblk m c 4 t : Vec F S1x512x256 .bf16) (ix3 0 d r)
      = (V m c main_v15 : Vec F S132x512x256 .bf16) (ix3 ⟨128 + t.val / 33, by have := batch_lt t; omega⟩ d r) := by
  blk_ext [iblk, idx4 t]

theorem blk5_at (c : Dev nD) (t : Fin cfg0.N) (r : Fin 4) (d : Fin 64) :
    (iblk m c 5 t : Vec F S4x64 .f32) (ix2 r d) = (V m c main_arg6 : Vec F S4x64 .f32) (ix2 r d) := by
  blk_ext [iblk, idx5 t]

theorem blk6_at (c : Dev nD) (t : Fin cfg0.N) (d : Fin 128) :
    (iblk m c 6 t : Vec F S1x128 .f32) (ix2 0 d) = (V m c main_v16 : Vec F S1x128 .f32) (ix2 0 d) := by
  blk_ext [iblk, idx6 t]

theorem blk1_at (c : Dev nD) (t : Fin cfg0.N) (r : Fin 8192) (d : Fin 512) :
    (X0_1 m c t : Vec F S8192x512 .bf16) (ix2 r d)
      = (V m c main_v9 : Vec F S33792x512 .bf16) (ix2 ⟨8192 * (t.val / 33) + r.val, by have := batch_lt t; omega⟩ d) := by
  unfold X0_1 Pipeline.Window.fill
  rw [dif_pos (moved0_1 t _)]
  blk_ext [iblk, idx1 t]

theorem blk2_at (c : Dev nD) (t : Fin cfg0.N) (i : Fin 32) (d : Fin 512) (r : Fin 256) :
    (X0_2 m c t : Vec F S32x512x256 .bf16) (ix3 i d r)
      = (V m c main_v15 : Vec F S132x512x256 .bf16) (ix3 ⟨32 * (t.val / 33) + i.val, by have := batch_lt t; omega⟩ d r) := by
  unfold X0_2 Pipeline.Window.fill
  rw [dif_pos (moved0_2 t _)]
  blk_ext [iblk, idx2 t]

/-- What the array ends holding at a row of tile `t`: what point `t`'s body left in the output's buffer. -/
theorem arr_at (c : Dev nD) (t : Fin cfg0.N) (X : Vec F S256x512 .bf16)
    (hX : (dats m 0 c).flushed 7 t = (cfg0.win 7).cut (grid0.coords t) X) (r : Fin 256) (d : Fin 512) :
    ((dats m 0 c).arrAt 7 cfg0.N : Vec F S33792x512 .bf16) (ix2 ⟨256 * tile t.val + r.val, by have := tile_lt t; omega⟩ d) = X (ix2 r d) := by
  have h := congrFun ((Value.blocks7 m c t (flush7 t)).trans hX) (ix2 r d)
  refine Eq.trans ?_ h
  symm
  blk_ext [idx7 t]

end Cert.KernelIdeal.DiffAttn

end
-- ==== Proof.HostAt.lean ====
/- What the arrays hold that the call is given: the host's reshapes, concatenations, scale and transpose, read at an index. -/
module

public import proofs.«01_k».proof.Proof.Windows

@[expose] public section

noncomputable section

namespace Cert.KernelIdeal.DiffAttn

open Idealize.ShloMosaic Idealize.ShloMosaic.TcCoe
open Cert.KernelIdeal Cert.KernelIdeal.Gen Cert.DiffAttn

variable (m : (ℓ : Loc nD τ sig) → Buf (Elt Ideal) ℓ)

/-- Row `s` of batch `b`, latent. -/
def rowL (b : Fin 4) (s : Fin 8192) : Fin 33792 := ⟨8192 * b.val + s.val, by omega⟩
/-- Row `l` of batch `b`, context. -/
def rowC (b : Fin 4) (l : Fin 256) : Fin 33792 := ⟨32768 + (256 * b.val + l.val), by omega⟩
def colQ (h : Fin 4) (i : Fin 2) (d : Fin 64) : Fin 512 := ⟨128 * h.val + (64 * i.val + d.val), by omega⟩
def colO (h : Fin 4) (e : Fin 128) : Fin 512 := ⟨128 * h.val + e.val, by omega⟩

/-- An array at an index, as an extended real. -/
abbrev rd32 (s : Shape) (v : Vec Ideal s .f32) (i : s.Idx) : EReal := v i
/-- The same of an array of the kernel's operand type. -/
abbrev rd16 (s : Shape) (v : Vec Ideal s .bf16) (i : s.Idx) : EReal := v i

section Layout

variable {α : Type}

theorem flat_q (v : S4x8192x4x2x64.Idx → α) (b : Fin 4) (s : Fin 8192) (h : Fin 4) (i : Fin 2) (d : Fin 64) (w) :
    shapeCast S32768x512 v w (ix2 ⟨8192 * b.val + s.val, by omega⟩ (colQ h i d)) = v (ix5 b s h i d) :=
  shapeCast_apply v w _ _ (by
    rewrite [Shape.rowMajor_val_five, Shape.rowMajor_val_two]
    show (((b.val * 8192 + s.val) * 4 + h.val) * 2 + i.val) * 64 + d.val = (8192 * b.val + s.val) * 512 + (128 * h.val + (64 * i.val + d.val))
    omega)

theorem flat_qc (v : S4x256x4x2x64.Idx → α) (b : Fin 4) (s : Fin 256) (h : Fin 4) (i : Fin 2) (d : Fin 64) (w) :
    shapeCast S1024x512 v w (ix2 ⟨256 * b.val + s.val, by omega⟩ (colQ h i d)) = v (ix5 b s h i d) :=
  shapeCast_apply v w _ _ (by
    rewrite [Shape.rowMajor_val_five, Shape.rowMajor_val_two]
    show (((b.val * 256 + s.val) * 4 + h.val) * 2 + i.val) * 64 + d.val = (256 * b.val + s.val) * 512 + (128 * h.val + (64 * i.val + d.val))
    omega)

theorem flat_v (v : S4x8192x4x128.Idx → α) (b : Fin 4) (s : Fin 8192) (h : Fin 4) (e : Fin 128) (w) :
    shapeCast S32768x512 v w (ix2 ⟨8192 * b.val + s.val, by omega⟩ (colO h e)) = v (ix4 b s h e) :=
  shapeCast_apply v w _ _ (by
    rewrite [Shape.rowMajor_val_four, Shape.rowMajor_val_two]
    show ((b.val * 8192 + s.val) * 4 + h.val) * 128 + e.val = (8192 * b.val + s.val) * 512 + (128 * h.val + e.val)
    omega)

theorem flat_vc (v : S4x256x4x128.Idx → α) (b : Fin 4) (s : Fin 256) (h : Fin 4) (e : Fin 128) (w) :
    shapeCast S1024x512 v w (ix2 ⟨256 * b.val + s.val, by omega⟩ (colO h e)) = v (ix4 b s h e) :=
  shapeCast_apply v w _ _ (by
    rewrite [Shape.rowMajor_val_four, Shape.rowMajor_val_two]
    show ((b.val * 256 + s.val) * 4 + h.val) * 128 + e.val = (256 * b.val + s.val) * 512 + (128 * h.val + e.val)
    omega)

theorem rows_l (x : S32768x512.Idx → α) (y : S1024x512.Idx → α) (w) (b : Fin 4) (s : Fin 8192) (c : Fin 512) :
    concatenate S33792x512 0 [⟨S32768x512, x⟩, ⟨S1024x512, y⟩] w (ix2 (rowL b s) c) = x (ix2 ⟨8192 * b.val + s.val, by omega⟩ c) :=
  concatenate_pair_apply_left 0 x y w _ rfl _ (fun a => by match a with | ⟨0, _⟩ => rfl | ⟨1, _⟩ => rfl)

theorem rows_c (x : S32768x512.Idx → α) (y : S1024x512.Idx → α) (w) (b : Fin 4) (s : Fin 256) (c : Fin 512) :
    concatenate S33792x512 0 [⟨S32768x512, x⟩, ⟨S1024x512, y⟩] w (ix2 (rowC b s) c) = y (ix2 ⟨256 * b.val + s.val, by omega⟩ c) :=
  concatenate_pair_apply_right 0 x y w _ rfl rfl _ (fun a ha => by match a with | ⟨0, _⟩ => exact absurd rfl ha | ⟨1, _⟩ => rfl)
    (by show 256 * b.val + s.val + 32768 = 32768 + (256 * b.val + s.val); omega)

theorem chunks (v : S33792x512.Idx → α) (i : Fin 132) (κ : Fin 256) (c : Fin 512) (w) :
    shapeCast S132x256x512 v w (ix3 i κ c) = v (ix2 ⟨256 * i.val + κ.val, by omega⟩ c) :=
  shapeCast_apply v w _ _ (by
    rewrite [Shape.rowMajor_val_two, Shape.rowMajor_val_three]
    show (256 * i.val + κ.val) * 512 + c.val = (i.val * 256 + κ.val) * 512 + c.val
    omega)

theorem flip (v : S132x256x512.Idx → α) (i : Fin 132) (c : Fin 512) (κ : Fin 256) (w) :
    transpose S132x512x256 [0, 2, 1] v w (ix3 i c κ) = v (ix3 i κ c) := by pointwise

theorem chunk_l (v : S33792x512.Idx → α) (b : Fin 4) (i : Fin 32) (κ : Fin 256) (c : Fin 512) (w w') :
    transpose S132x512x256 [0, 2, 1] (shapeCast S132x256x512 v w) w' (ix3 ⟨32 * b.val + i.val, by omega⟩ c κ)
      = v (ix2 (rowL b ⟨256 * i.val + κ.val, by omega⟩) c) := by
  rw [flip, chunks]
  exact congrArg (fun r => v (ix2 r c)) (Fin.ext (by show 256 * (32 * b.val + i.val) + κ.val = 8192 * b.val + (256 * i.val + κ.val); omega))

theorem chunk_c (v : S33792x512.Idx → α) (b : Fin 4) (κ : Fin 256) (c : Fin 512) (w w') :
    transpose S132x512x256 [0, 2, 1] (shapeCast S132x256x512 v w) w' (ix3 ⟨128 + b.val, by omega⟩ c κ) = v (ix2 (rowC b κ) c) := by
  rw [flip, chunks]
  exact congrArg (fun r => v (ix2 r c)) (Fin.ext (by show 256 * (128 + b.val) + κ.val = 32768 + (256 * b.val + κ.val); omega))

theorem lanes (v : S128.Idx → α) (e : Fin 128) (w) : broadcastInDim S1x128 ![1] w v (ix2 0 e) = v (ix1 e) := by
  pointwise

end Layout

/-- The queries, scaled by 1/8 (the word of 0.125). -/
theorem q_lat (c : Dev nD) (b : Fin 4) (s : Fin 8192) (h : Fin 4) (i : Fin 2) (d : Fin 64) :
    rd16 S33792x512 (V m c main_v5) (ix2 (rowL b s) (colQ h i d))
      = rd32 S4x8192x4x2x64 (m ((c : Thread nD τ).loc main_arg0)) (ix5 b s h i d) * Ideal.ofBits .f32 0x3E000000#32 := by
  unfold rd16 rd32
  entry_read
  exact congrArg (fun z : EReal => z * Ideal.ofBits .f32 0x3E000000#32) ((rows_l _ _ concatenates_S32768x512_S1024x512_S33792x512_d0 b s _).trans (flat_q _ b s h i d _))

theorem q_ctx (c : Dev nD) (b : Fin 4) (s : Fin 256) (h : Fin 4) (i : Fin 2) (d : Fin 64) :
    rd16 S33792x512 (V m c main_v5) (ix2 (rowC b s) (colQ h i d))
      = rd32 S4x256x4x2x64 (m ((c : Thread nD τ).loc main_arg1)) (ix5 b s h i d) * Ideal.ofBits .f32 0x3E000000#32 := by
  unfold rd16 rd32
  entry_read
  exact congrArg (fun z : EReal => z * Ideal.ofBits .f32 0x3E000000#32) ((rows_c _ _ concatenates_S32768x512_S1024x512_S33792x512_d0 b s _).trans (flat_qc _ b s h i d _))

theorem k_lat (c : Dev nD) (b : Fin 4) (s : Fin 8192) (h : Fin 4) (i : Fin 2) (d : Fin 64) :
    rd16 S33792x512 (V m c main_v9) (ix2 (rowL b s) (colQ h i d))
      = rd32 S4x8192x4x2x64 (m ((c : Thread nD τ).loc main_arg2)) (ix5 b s h i d) := by
  unfold rd16 rd32
  entry_read
  exact (rows_l _ _ concatenates_S32768x512_S1024x512_S33792x512_d0 b s _).trans (flat_q _ b s h i d _)

theorem k_ctx (c : Dev nD) (b : Fin 4) (s : Fin 256) (h : Fin 4) (i : Fin 2) (d : Fin 64) :
    rd16 S33792x512 (V m c main_v9) (ix2 (rowC b s) (colQ h i d))
      = rd32 S4x256x4x2x64 (m ((c : Thread nD τ).loc main_arg3)) (ix5 b s h i d) := by
  unfold rd16 rd32
  entry_read
  exact (rows_c _ _ concatenates_S32768x512_S1024x512_S33792x512_d0 b s _).trans (flat_qc _ b s h i d _)

theorem v_lat (c : Dev nD) (b : Fin 4) (i : Fin 32) (κ : Fin 256) (h : Fin 4) (e : Fin 128) :
    rd16 S132x512x256 (V m c main_v15) (ix3 ⟨32 * b.val + i.val, by omega⟩ (colO h e) κ)
      = rd32 S4x8192x4x128 (m ((c : Thread nD τ).loc main_arg4)) (ix4 b ⟨256 * i.val + κ.val, by omega⟩ h e) := by
  unfold rd16 rd32
  entry_read
  refine (chunk_l (concatenate (α := EReal) S33792x512 0
      [⟨S32768x512, shapeCast S32768x512 (rd32 S4x8192x4x128 (m ((c : Thread nD τ).loc main_arg4))) shapeCasts_S4x8192x4x128_S32768x512⟩,
       ⟨S1024x512, shapeCast S1024x512 (rd32 S4x256x4x128 (m ((c : Thread nD τ).loc main_arg5))) shapeCasts_S4x256x4x128_S1024x512⟩]
      concatenates_S32768x512_S1024x512_S33792x512_d0)
    b i κ (colO h e) shapeCasts_S33792x512_S132x256x512 transposes_S132x256x512_S132x512x256_0_2_1).trans ?_
  exact (rows_l _ _ concatenates_S32768x512_S1024x512_S33792x512_d0 b _ _).trans (flat_v _ b _ h e _)

theorem v_ctx (c : Dev nD) (b : Fin 4) (κ : Fin 256) (h : Fin 4) (e : Fin 128) :
    rd16 S132x512x256 (V m c main_v15) (ix3 ⟨128 + b.val, by omega⟩ (colO h e) κ)
      = rd32 S4x256x4x128 (m ((c : Thread nD τ).loc main_arg5)) (ix4 b κ h e) := by
  unfold rd16 rd32
  entry_read
  refine (chunk_c (concatenate (α := EReal) S33792x512 0
      [⟨S32768x512, shapeCast S32768x512 (rd32 S4x8192x4x128 (m ((c : Thread nD τ).loc main_arg4))) shapeCasts_S4x8192x4x128_S32768x512⟩,
       ⟨S1024x512, shapeCast S1024x512 (rd32 S4x256x4x128 (m ((c : Thread nD τ).loc main_arg5))) shapeCasts_S4x256x4x128_S1024x512⟩]
      concatenates_S32768x512_S1024x512_S33792x512_d0)
    b κ (colO h e) shapeCasts_S33792x512_S132x256x512 transposes_S132x256x512_S132x512x256_0_2_1).trans ?_
  exact (rows_c _ _ concatenates_S32768x512_S1024x512_S33792x512_d0 b _ _).trans (flat_vc _ b _ h e _)

theorem w_at (c : Dev nD) (e : Fin 128) :
    rd32 S1x128 (V m c main_v16) (ix2 0 e) = rd32 S128 (m ((c : Thread nD τ).loc main_arg7)) (ix1 e) := by
  unfold rd32
  entry_read
  exact lanes _ e _

theorem lam_at (c : Dev nD) (i : Fin 4) (d : Fin 64) :
    rd32 S4x64 (V m c main_arg6) (ix2 i d) = rd32 S4x64 (m ((c : Thread nD τ).loc main_arg6)) (ix2 i d) := by
  unfold rd32
  rw [V_main_arg6]

end Cert.KernelIdeal.DiffAttn

end
-- ==== Proof.Spec.lean ====
/- The layer's result at one entry, in real arithmetic: which keys and values a row sees, the weight λ, the two kinds of row. -/
module

public import proofs.«01_k».proof.Proof.Target

@[expose] public section

noncomputable section

namespace Cert.DiffAttn

open Idealize.ShloMosaic

/-- Row `n` of the context rows followed by the latent rows. -/
def keyRow {α : Type} [Zero α] (C : Fin 256 → α) (L : Fin 8192 → α) (n : ℕ) : α :=
  if h : n < 256 then C ⟨n, h⟩ else if h' : n - 256 < 8192 then L ⟨n - 256, h'⟩ else 0

theorem keyRow_ctx {α : Type} [Zero α] (C : Fin 256 → α) (L : Fin 8192 → α) (κ : Fin 256) : keyRow C L κ.val = C κ := by
  unfold keyRow; rw [dif_pos κ.isLt]

theorem keyRow_lat {α : Type} [Zero α] (C : Fin 256 → α) (L : Fin 8192 → α) (n : ℕ) (hn : n < 8192) : keyRow C L (256 + n) = L ⟨n, hn⟩ := by
  have e : 256 + n - 256 = n := by omega
  unfold keyRow
  rw [dif_neg (by omega), dif_pos (by omega)]
  simp only [e]

/-- The word of 0.2 is a real number. -/
theorem lam0_real : ((EReal.toReal (Ideal.ofBits .f32 0x3E4CCCCD#32) : ℝ) : EReal) = Ideal.ofBits .f32 0x3E4CCCCD#32 := by
  have h : ∃ x : ℝ, Ideal.ofBits .f32 0x3E4CCCCD#32 = (x : EReal) := by
    simp only [Ideal.ofBits, Ideal.ieee]
    norm_num
    exact ⟨_, (EReal.coe_mul _ _).symm⟩
  obtain ⟨x, hx⟩ := h
  rw [hx, EReal.toReal_coe]

/-- The word of 0.125. -/
theorem eighth : Ideal.ofBits .f32 0x3E000000#32 = (((1 / 8 : ℝ)) : EReal) := by
  simp [Ideal.ofBits, Ideal.ieee]
  rw [← EReal.coe_mul]
  norm_num

/-- The weight of the second map. -/
def lamR (A : Fin 4 → Fin 64 → ℝ) : ℝ :=
  Real.exp (∑ d, A 0 d * A 1 d) - Real.exp (∑ d, A 2 d * A 3 d) + EReal.toReal (Ideal.ofBits .f32 0x3E4CCCCD#32)

section Entries

variable (A0 A2 : Fin 4 → Fin 8192 → Fin 4 → Fin 2 → Fin 64 → ℝ) (A1 A3 : Fin 4 → Fin 256 → Fin 4 → Fin 2 → Fin 64 → ℝ)
  (A4 : Fin 4 → Fin 8192 → Fin 4 → Fin 128 → ℝ) (A5 : Fin 4 → Fin 256 → Fin 4 → Fin 128 → ℝ) (A6 : Fin 4 → Fin 64 → ℝ)

/-- The keys of head `h`, batch `b`: the context's, then the latent's. -/
def keysR (b h : Fin 4) : ℕ → Fin 2 → Fin 64 → ℝ := keyRow (fun κ => A3 b κ h) (fun κ => A2 b κ h)
/-- The values likewise. -/
def valsR (b h : Fin 4) : ℕ → Fin 128 → ℝ := keyRow (fun κ => A5 b κ h) (fun κ => A4 b κ h)

/-- A latent row attends to every key. -/
def outL (w : Fin 128 → EReal) (b : Fin 4) (s : Fin 8192) (h : Fin 4) (e : Fin 128) : EReal :=
  tailE (diffO (A0 b s h) (keysR A2 A3 b h) (valsR A4 A5 b h) (lamR A6) 8448) w e

/-- A context row attends to the context's keys. -/
def outC (w : Fin 128 → EReal) (b : Fin 4) (l : Fin 256) (h : Fin 4) (e : Fin 128) : EReal :=
  tailE (diffO (A1 b l h) (keysR A2 A3 b h) (valsR A4 A5 b h) (lamR A6) 256) w e

end Entries

end Cert.DiffAttn

end
-- ==== Proof.KernelVal.lean ====
/- The kernel's output array at every row and column, on real arguments. -/
module

public import proofs.«01_k».proof.Proof.BlockVal
public import proofs.«01_k».proof.Proof.HostAt
public import proofs.«01_k».proof.Proof.Spec

@[expose] public section

noncomputable section

namespace Cert.KernelIdeal.DiffAttn

open Idealize.ShloMosaic Idealize.ShloMosaic.TcCoe
open Cert.KernelIdeal Cert.KernelIdeal.Gen Cert.DiffAttn

theorem row_cases (r : Fin 33792) : (∃ b s, r = rowL b s) ∨ ∃ b l, r = rowC b l := by
  by_cases h : r.val < 32768
  · exact .inl ⟨⟨r.val / 8192, by omega⟩, ⟨r.val % 8192, by omega⟩, Fin.ext (by show r.val = 8192 * (r.val / 8192) + r.val % 8192; omega)⟩
  · exact .inr ⟨⟨(r.val - 32768) / 256, by omega⟩, ⟨(r.val - 32768) % 256, by omega⟩,
      Fin.ext (by show r.val = 32768 + (256 * ((r.val - 32768) / 256) + (r.val - 32768) % 256); omega)⟩

theorem colQ_cases (c : Fin 512) : ∃ h i d, c = colQ h i d :=
  ⟨⟨c.val / 128, by omega⟩, ⟨c.val % 128 / 64, by omega⟩, ⟨c.val % 64, by omega⟩,
    Fin.ext (by show c.val = 128 * (c.val / 128) + (64 * (c.val % 128 / 64) + c.val % 64); omega)⟩

theorem colO_cases (c : Fin 512) : ∃ h e, c = colO h e :=
  ⟨⟨c.val / 128, by omega⟩, ⟨c.val % 128, by omega⟩, Fin.ext (by show c.val = 128 * (c.val / 128) + c.val % 128; omega)⟩

theorem chunk_cases (i : Fin 132) : (∃ (b : Fin 4) (j : Fin 32), i = ⟨32 * b.val + j.val, by omega⟩) ∨ ∃ b : Fin 4, i = ⟨128 + b.val, by omega⟩ := by
  by_cases h : i.val < 128
  · exact .inl ⟨⟨i.val / 32, by omega⟩, ⟨i.val % 32, by omega⟩, Fin.ext (by show i.val = 32 * (i.val / 32) + i.val % 32; omega)⟩
  · exact .inr ⟨⟨i.val - 128, by omega⟩, Fin.ext (by show i.val = 128 + (i.val - 128); omega)⟩

theorem col_eq (h : Fin 4) (i : Fin 2) (d : Fin 64) : col h.val i d = colQ h i d :=
  Fin.ext (by show 128 * (h.val % 4) + _ = 128 * h.val + _; rw [Nat.mod_eq_of_lt h.isLt])
theorem colV_eq (h : Fin 4) (e : Fin 128) : colV h.val e = colO h e :=
  Fin.ext (by show 128 * (h.val % 4) + _ = 128 * h.val + _; rw [Nat.mod_eq_of_lt h.isLt])

variable (m : (ℓ : Loc nD τ sig) → Buf (Elt Ideal) ℓ) (c : Dev nD)
variable (A0 A2 : Fin 4 → Fin 8192 → Fin 4 → Fin 2 → Fin 64 → ℝ) (A1 A3 : Fin 4 → Fin 256 → Fin 4 → Fin 2 → Fin 64 → ℝ)
  (A4 : Fin 4 → Fin 8192 → Fin 4 → Fin 128 → ℝ) (A5 : Fin 4 → Fin 256 → Fin 4 → Fin 128 → ℝ) (A6 : Fin 4 → Fin 64 → ℝ)

/-- The arguments are these reals. -/
structure Reals : Prop where
  h0 : ∀ b s h i d, rd32 S4x8192x4x2x64 (m ((c : Thread nD τ).loc main_arg0)) (ix5 b s h i d) = (A0 b s h i d : EReal)
  h1 : ∀ b s h i d, rd32 S4x256x4x2x64 (m ((c : Thread nD τ).loc main_arg1)) (ix5 b s h i d) = (A1 b s h i d : EReal)
  h2 : ∀ b s h i d, rd32 S4x8192x4x2x64 (m ((c : Thread nD τ).loc main_arg2)) (ix5 b s h i d) = (A2 b s h i d : EReal)
  h3 : ∀ b s h i d, rd32 S4x256x4x2x64 (m ((c : Thread nD τ).loc main_arg3)) (ix5 b s h i d) = (A3 b s h i d : EReal)
  h4 : ∀ b s h e, rd32 S4x8192x4x128 (m ((c : Thread nD τ).loc main_arg4)) (ix4 b s h e) = (A4 b s h e : EReal)
  h5 : ∀ b s h e, rd32 S4x256x4x128 (m ((c : Thread nD τ).loc main_arg5)) (ix4 b s h e) = (A5 b s h e : EReal)
  h6 : ∀ i d, rd32 S4x64 (m ((c : Thread nD τ).loc main_arg6)) (ix2 i d) = (A6 i d : EReal)

variable {m c A0 A2 A1 A3 A4 A5 A6}
variable (H : Reals m c A0 A2 A1 A3 A4 A5 A6)
include H

theorem q_real (r : Fin 33792) (k : Fin 512) : ∃ x : ℝ, rd16 S33792x512 (V m c main_v5) (ix2 r k) = (x : EReal) := by
  obtain ⟨h, i, d, rfl⟩ := colQ_cases k
  rcases row_cases r with ⟨b, s, rfl⟩ | ⟨b, s, rfl⟩
  · exact ⟨A0 b s h i d * (1 / 8), by rw [q_lat, H.h0, eighth, EReal.coe_mul]⟩
  · exact ⟨A1 b s h i d * (1 / 8), by rw [q_ctx, H.h1, eighth, EReal.coe_mul]⟩

theorem k_real (r : Fin 33792) (k : Fin 512) : ∃ x : ℝ, rd16 S33792x512 (V m c main_v9) (ix2 r k) = (x : EReal) := by
  obtain ⟨h, i, d, rfl⟩ := colQ_cases k
  rcases row_cases r with ⟨b, s, rfl⟩ | ⟨b, s, rfl⟩
  · exact ⟨A2 b s h i d, by rw [k_lat, H.h2]⟩
  · exact ⟨A3 b s h i d, by rw [k_ctx, H.h3]⟩

theorem v_real (i : Fin 132) (k : Fin 512) (κ : Fin 256) : ∃ x : ℝ, rd16 S132x512x256 (V m c main_v15) (ix3 i k κ) = (x : EReal) := by
  obtain ⟨h, e, rfl⟩ := colO_cases k
  rcases chunk_cases i with ⟨b, j, rfl⟩ | ⟨b, rfl⟩
  · exact ⟨A4 b ⟨256 * j.val + κ.val, by omega⟩ h e, by rw [v_lat, H.h4]⟩
  · exact ⟨A5 b κ h e, by rw [v_ctx, H.h5]⟩

theorem blk0_real (t : Fin cfg0.N) (i : S256x512.Idx) : ∃ x : ℝ, rd16 S256x512 (iblk m c 0 t) i = (x : EReal) := by
  rw [eq_ix2 i]
  exact (q_real H _ _).imp fun x hx => (blk0_at m c t (i 0) (i 1)).trans hx
theorem blk3_real (t : Fin cfg0.N) (i : S256x512.Idx) : ∃ x : ℝ, rd16 S256x512 (iblk m c 3 t) i = (x : EReal) := by
  rw [eq_ix2 i]
  exact (k_real H _ _).imp fun x hx => (blk3_at m c t (i 0) (i 1)).trans hx
theorem blk1_real (t : Fin cfg0.N) (i : S8192x512.Idx) : ∃ x : ℝ, rd16 S8192x512 (X0_1 m c t) i = (x : EReal) := by
  rw [eq_ix2 i]
  exact (k_real H _ _).imp fun x hx => (blk1_at m c t (i 0) (i 1)).trans hx
theorem blk2_real (t : Fin cfg0.N) (i : S32x512x256.Idx) : ∃ x : ℝ, rd16 S32x512x256 (X0_2 m c t) i = (x : EReal) := by
  rw [eq_ix3 i]
  exact (v_real H _ _ _).imp fun x hx => (blk2_at m c t (i 0) (i 1) (i 2)).trans hx
theorem blk4_real (t : Fin cfg0.N) (i : S1x512x256.Idx) : ∃ x : ℝ, rd16 S1x512x256 (iblk m c 4 t) i = (x : EReal) := by
  rw [eq_ix3 i, show i 0 = (0 : Fin 1) from Fin.ext (Nat.lt_one_iff.1 (show (i 0).val < 1 from (i 0).isLt))]
  exact (v_real H _ _ _).imp fun x hx => (blk4_at m c t (i 1) (i 2)).trans hx

theorem lam_real (t : Fin cfg0.N) : lamV (iblk m c 5 t : Vec Ideal S4x64 .f32) (ix2 0 0) = ((lamR A6 : ℝ) : EReal) := by
  have e : ∀ i d, (iblk m c 5 t : Vec Ideal S4x64 .f32) (ix2 i d) = (A6 i d : EReal) := fun i d =>
    (blk5_at m c t i d).trans ((lam_at m c i d).trans (H.h6 i d))
  rw [lamV_at]
  simp only [e]
  unfold lamR
  rw [EReal.coe_add, lam0_real, EReal.coe_sub]
  refine congrArg₂ (fun a b : EReal => a - b + _) ?_ ?_
  · simp only [← EReal.coe_mul, ← Cert.DiffAttn.coe_sum]; rfl
  · simp only [← EReal.coe_mul, ← Cert.DiffAttn.coe_sum]; rfl

/-- The grid point of a latent tile. -/
def ptL (b : Fin 4) (s : Fin 8192) : Fin cfg0.N := ⟨33 * b.val + s.val / 256, by show _ < 132; omega⟩
/-- The grid point of a context tile. -/
def ptC (b : Fin 4) : Fin cfg0.N := ⟨33 * b.val + 32, by show _ < 132; omega⟩

theorem kernel_lat (b : Fin 4) (s : Fin 8192) (h : Fin 4) (e : Fin 128) :
    rd16 S33792x512 ((dats m 0 c).arrAt 7 cfg0.N) (ix2 (rowL b s) (colO h e))
      = outL A0 A2 A3 A4 A5 A6 (fun e => rd32 S128 (m ((c : Thread nD τ).loc main_arg7)) (ix1 e)) b s h e := by
  obtain ⟨t, ht⟩ : ∃ t : Fin cfg0.N, t = ptL b s := ⟨_, rfl⟩
  have htv : t.val = 33 * b.val + s.val / 256 := congrArg Fin.val ht
  have hdiv : t.val / 33 = b.val := by omega
  have hmod : t.val % 33 = s.val / 256 := by omega
  have hA : t.val % 33 ≤ 31 := by omega
  have htile : tile t.val = 32 * b.val + s.val / 256 := by unfold tile; rw [if_pos (by omega), hdiv, hmod]
  let r : Fin 256 := ⟨s.val % 256, by omega⟩
  have hrow : (⟨256 * tile t.val + r.val, by have := tile_lt t; omega⟩ : Fin 33792) = rowL b s :=
    Fin.ext (by show 256 * tile t.val + s.val % 256 = 8192 * b.val + s.val; rw [htile]; omega)
  have h1 := arr_at m c t _ (Value.flushed7_A m c t hA) r (colO h e)
  rw [hrow] at h1
  refine h1.trans ?_
  unfold out0_A_7
  refine (congrFun (View.read_writes_junk_eq_canon VO0_7 _) (ix2 r (colO h e))).trans ?_
  choose X0 h0 using blk0_real H t
  choose X1 h1 using blk1_real H t
  choose X2 h2 using blk2_real H t
  choose X3 h3 using blk3_real H t
  choose X4 h4 using blk4_real H t
  rw [← colV_eq]
  refine (blockA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA)
    (iblk m c 0 t) (X0_1 m c t) (X0_2 m c t) (iblk m c 3 t) (iblk m c 4 t) (iblk m c 5 t) (iblk m c 6 t) X0 X1 X2 X3 X4 h0 h1 h2 h3 h4
    (A0 b s h) (keysR A2 A3 b h) (valsR A4 A5 b h) (lamR A6) h.val h.isLt r e ?_ ?_ ?_ ?_ ?_ (lam_real H t)).trans ?_
  · intro i d
    apply EReal.coe_injective
    rw [← h0, col_eq, EReal.coe_mul, ← H.h0, ← eighth, ← q_lat, ← hrow]
    exact blk0_at m c t r _
  · intro κ i d
    apply EReal.coe_injective
    unfold keysR
    rw [← h3, col_eq, keyRow_ctx, ← H.h3, ← k_ctx]
    refine (blk3_at m c t κ _).trans ?_
    simp only [hdiv]; rfl
  · intro κ e
    apply EReal.coe_injective
    unfold valsR
    rw [← h4, colV_eq, keyRow_ctx, ← H.h5, ← v_ctx]
    refine (blk4_at m c t _ κ).trans ?_
    simp only [hdiv]
  · intro i κ j d
    apply EReal.coe_injective
    unfold keysR
    rw [← h1, col_eq, keyRow_lat _ _ _ (by omega), ← H.h2, ← k_lat]
    refine (blk1_at m c t _ _).trans ?_
    simp only [hdiv]; rfl
  · intro i κ e
    apply EReal.coe_injective
    unfold valsR
    rw [← h2, colV_eq, keyRow_lat _ _ _ (by omega), ← H.h4, ← v_lat]
    refine (blk2_at m c t i _ κ).trans ?_
    simp only [hdiv]
  · refine congrArg (fun w => tailE (diffO (A0 b s h) (keysR A2 A3 b h) (valsR A4 A5 b h) (lamR A6) 8448) w e) (funext fun e => ?_)
    exact (blk6_at m c t e).trans (w_at m c e)

theorem kernel_ctx (b : Fin 4) (s : Fin 256) (h : Fin 4) (e : Fin 128) :
    rd16 S33792x512 ((dats m 0 c).arrAt 7 cfg0.N) (ix2 (rowC b s) (colO h e))
      = outC A2 A1 A3 A4 A5 A6 (fun e => rd32 S128 (m ((c : Thread nD τ).loc main_arg7)) (ix1 e)) b s h e := by
  obtain ⟨t, ht⟩ : ∃ t : Fin cfg0.N, t = ptC b := ⟨_, rfl⟩
  have htv : t.val = 33 * b.val + 32 := congrArg Fin.val ht
  have hdiv : t.val / 33 = b.val := by omega
  have hB : ¬ t.val % 33 ≤ 31 := by omega
  have htile : tile t.val = 128 + b.val := by unfold tile; rw [if_neg (by omega), hdiv]
  have hrow : (⟨256 * tile t.val + s.val, by have := tile_lt t; omega⟩ : Fin 33792) = rowC b s :=
    Fin.ext (by show 256 * tile t.val + s.val = 32768 + (256 * b.val + s.val); rw [htile]; omega)
  have h1 := arr_at m c t _ (Value.flushed7_B m c t hB) s (colO h e)
  rw [hrow] at h1
  refine h1.trans ?_
  unfold out0_B_7
  refine (congrFun (View.read_writes_junk_eq_canon VO0_7 _) (ix2 s (colO h e))).trans ?_
  choose X0 h0 using blk0_real H t
  choose X3 h3 using blk3_real H t
  choose X4 h4 using blk4_real H t
  rw [← colV_eq]
  refine (blockB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => hB ((hcond0_0 t).mp h))
    (iblk m c 0 t) (X0_1 m c t) (X0_2 m c t) (iblk m c 3 t) (iblk m c 4 t) (iblk m c 5 t) (iblk m c 6 t) X0 X3 X4 h0 h3 h4
    (A1 b s h) (keysR A2 A3 b h) (valsR A4 A5 b h) (lamR A6) h.val h.isLt s e ?_ ?_ ?_ (lam_real H t)).trans ?_
  · intro i d
    apply EReal.coe_injective
    rw [← h0, col_eq, EReal.coe_mul, ← H.h1, ← eighth, ← q_ctx, ← hrow]
    exact blk0_at m c t s _
  · intro κ i d
    apply EReal.coe_injective
    unfold keysR
    rw [← h3, col_eq, keyRow_ctx, ← H.h3, ← k_ctx]
    refine (blk3_at m c t κ _).trans ?_
    simp only [hdiv]; rfl
  · intro κ e
    apply EReal.coe_injective
    unfold valsR
    rw [← h4, colV_eq, keyRow_ctx, ← H.h5, ← v_ctx]
    refine (blk4_at m c t _ κ).trans ?_
    simp only [hdiv]
  · refine congrArg (fun w => tailE (diffO (A1 b s h) (keysR A2 A3 b h) (valsR A4 A5 b h) (lamR A6) 256) w e) (funext fun e => ?_)
    exact (blk6_at m c t e).trans (w_at m c e)

end Cert.KernelIdeal.DiffAttn

end
-- ==== Proof.Ref.lean ====
/- The reference's result at every row and column, on real arguments. -/
module

public import proofs.«01_k».proof.Proof.Gen.ReferenceIdeal.Read
public import proofs.«01_k».proof.Proof.Softmax
public import proofs.«01_k».proof.Proof.Spec
public import Idealize.ShloMosaic.Lib.Pointwise.Index
public import Idealize.ShloMosaic.Lib.Pipeline.Value
public import Idealize.ShloMosaic.PureOps.Reduce

@[expose] public section

noncomputable section

namespace Cert.ReferenceIdeal.DiffAttn

open Idealize.ShloMosaic Idealize.ShloMosaic.TcCoe
open Cert.ReferenceIdeal Cert.ReferenceIdeal.Gen Cert.ReferenceIdeal.Read Cert.DiffAttn

theorem bottom : Ideal.ofBits .f32 0xFF800000#32 = ⊥ := by simp [Ideal.ofBits, Ideal.ieee]
theorem zero_word : Ideal.ofBits .f32 0x00000000#32 = 0 := by simp [Ideal.ofBits, Ideal.ieee]

/-- The maximum, from below, of an array of reals along some axes is a real where there is something to take it of. -/
theorem reduce_max_real {s t u : Shape} {axes : List (Fin s.rank)} (x : FVec Ideal s .f32) (X : s.Idx → ℝ) (hx : ∀ i, (x i : EReal) = (X i : EReal))
    (init : FVec Ideal u .f32) (hinit : ∀ i, (init i : EReal) = ⊥) (h : s.ReducesTo axes t) (hu : 0 < u.numel) (j : t.Idx) (i0 : s.Idx) (hi0 : h.drop i0 = j) :
    ∃ M : ℝ, Host.reduce (FloatOps.maximumf : Ideal .f32 → Ideal .f32 → Ideal .f32) x init h hu j = (M : EReal) := by
  obtain ⟨M, hM⟩ := fold_max_real (Finset.univ.filter fun i => h.drop i = j) ⟨i0, Finset.mem_filter.2 ⟨Finset.mem_univ _, hi0⟩⟩ X
  refine ⟨M, ?_⟩
  rw [Host.reduce_eq_fold]
  have e : x = fun i => (X i : EReal) := funext hx
  rw [e]
  refine Eq.trans ?_ hM
  exact congrArg (fun z : EReal => Finset.fold max z (fun i => (X i : EReal)) (Finset.univ.filter fun i => h.drop i = j)) (hinit _)

variable {x0 x2 : (⟨S4x8192x4x2x64, .f32⟩ : BufTy).Contents (Elt Ideal)} {x1 x3 : (⟨S4x256x4x2x64, .f32⟩ : BufTy).Contents (Elt Ideal)}
  {x4 : (⟨S4x8192x4x128, .f32⟩ : BufTy).Contents (Elt Ideal)} {x5 : (⟨S4x256x4x128, .f32⟩ : BufTy).Contents (Elt Ideal)}
  {x6 : (⟨S4x64, .f32⟩ : BufTy).Contents (Elt Ideal)} {x7 : (⟨S128, .f32⟩ : BufTy).Contents (Elt Ideal)}
  {A0 A2 : Fin 4 → Fin 8192 → Fin 4 → Fin 2 → Fin 64 → ℝ} {A1 A3 : Fin 4 → Fin 256 → Fin 4 → Fin 2 → Fin 64 → ℝ}
  {A4 : Fin 4 → Fin 8192 → Fin 4 → Fin 128 → ℝ} {A5 : Fin 4 → Fin 256 → Fin 4 → Fin 128 → ℝ} {A6 : Fin 4 → Fin 64 → ℝ}

/-- The arguments are these reals. -/
structure Reals (x0 x2 : (⟨S4x8192x4x2x64, .f32⟩ : BufTy).Contents (Elt Ideal)) (x1 x3 : (⟨S4x256x4x2x64, .f32⟩ : BufTy).Contents (Elt Ideal))
    (x4 : (⟨S4x8192x4x128, .f32⟩ : BufTy).Contents (Elt Ideal)) (x5 : (⟨S4x256x4x128, .f32⟩ : BufTy).Contents (Elt Ideal))
    (x6 : (⟨S4x64, .f32⟩ : BufTy).Contents (Elt Ideal))
    (A0 A2 : Fin 4 → Fin 8192 → Fin 4 → Fin 2 → Fin 64 → ℝ) (A1 A3 : Fin 4 → Fin 256 → Fin 4 → Fin 2 → Fin 64 → ℝ)
    (A4 : Fin 4 → Fin 8192 → Fin 4 → Fin 128 → ℝ) (A5 : Fin 4 → Fin 256 → Fin 4 → Fin 128 → ℝ) (A6 : Fin 4 → Fin 64 → ℝ) : Prop where
  h0 : ∀ b s h i d, (x0 (ix5 b s h i d) : EReal) = (A0 b s h i d : EReal)
  h1 : ∀ b s h i d, (x1 (ix5 b s h i d) : EReal) = (A1 b s h i d : EReal)
  h2 : ∀ b s h i d, (x2 (ix5 b s h i d) : EReal) = (A2 b s h i d : EReal)
  h3 : ∀ b s h i d, (x3 (ix5 b s h i d) : EReal) = (A3 b s h i d : EReal)
  h4 : ∀ b s h e, (x4 (ix4 b s h e) : EReal) = (A4 b s h e : EReal)
  h5 : ∀ b s h e, (x5 (ix4 b s h e) : EReal) = (A5 b s h e : EReal)
  h6 : ∀ i d, (x6 (ix2 i d) : EReal) = (A6 i d : EReal)

variable (H : Reals x0 x2 x1 x3 x4 x5 x6 A0 A2 A1 A3 A4 A5 A6)
include H

theorem ctx_key (b : Fin 4) (κ : Fin 256) (h : Fin 4) (i : Fin 2) (d : Fin 64) : (x3 (ix5 b κ h i d) : EReal) = (keysR A2 A3 b h κ.val i d : EReal) := by
  unfold keysR
  rw [keyRow_ctx]
  exact H.h3 b κ h i d

theorem ctx_val (b : Fin 4) (κ : Fin 256) (h : Fin 4) (e : Fin 128) : (x5 (ix4 b κ h e) : EReal) = (valsR A4 A5 b h κ.val e : EReal) := by
  unfold valsR
  rw [keyRow_ctx]
  exact H.h5 b κ h e

theorem keys_at (b : Fin 4) (κ : Fin 8448) (h : Fin 4) (i : Fin 2) (d : Fin 64) :
    (val_main_v16 (F := Ideal) x2 x3 (ix5 b κ h i d) : EReal) = (keysR A2 A3 b h κ.val i d : EReal) := by
  unfold val_main_v16
  by_cases hκ : κ.val < 256
  · refine (concatenate_pair_apply_left 1 x3 x2 concatenates_S4x256x4x2x64_S4x8192x4x2x64_S4x8448x4x2x64_d1 _ rfl (ix5 b ⟨κ.val, hκ⟩ h i d)
      (fun a => by fin_cases a <;> rfl)).trans ?_
    exact ctx_key H b ⟨κ.val, hκ⟩ h i d
  · refine (concatenate_pair_apply_right 1 x3 x2 concatenates_S4x256x4x2x64_S4x8192x4x2x64_S4x8448x4x2x64_d1 _ rfl rfl (ix5 b ⟨κ.val - 256, by omega⟩ h i d)
      (fun a ha => by fin_cases a <;> first | rfl | exact absurd rfl ha) (by show κ.val - 256 + 256 = κ.val; omega)).trans ?_
    have k := keyRow_lat (fun κ => A3 b κ h) (fun κ => A2 b κ h) (κ.val - 256) (by omega)
    rw [show 256 + (κ.val - 256) = κ.val by omega] at k
    unfold keysR
    rw [k]
    exact H.h2 b ⟨κ.val - 256, by omega⟩ h i d

theorem vals_at (b : Fin 4) (κ : Fin 8448) (h : Fin 4) (e : Fin 128) :
    (val_main_v17 (F := Ideal) x4 x5 (ix4 b κ h e) : EReal) = (valsR A4 A5 b h κ.val e : EReal) := by
  unfold val_main_v17
  by_cases hκ : κ.val < 256
  · refine (concatenate_pair_apply_left 1 x5 x4 concatenates_S4x256x4x128_S4x8192x4x128_S4x8448x4x128_d1 _ rfl (ix4 b ⟨κ.val, hκ⟩ h e)
      (fun a => by fin_cases a <;> rfl)).trans ?_
    exact ctx_val H b ⟨κ.val, hκ⟩ h e
  · refine (concatenate_pair_apply_right 1 x5 x4 concatenates_S4x256x4x128_S4x8192x4x128_S4x8448x4x128_d1 _ rfl rfl (ix4 b ⟨κ.val - 256, by omega⟩ h e)
      (fun a ha => by fin_cases a <;> first | rfl | exact absurd rfl ha) (by show κ.val - 256 + 256 = κ.val; omega)).trans ?_
    have k := keyRow_lat (fun κ => A5 b κ h) (fun κ => A4 b κ h) (κ.val - 256) (by omega)
    rw [show 256 + (κ.val - 256) = κ.val by omega] at k
    unfold valsR
    rw [k]
    exact H.h4 b ⟨κ.val - 256, by omega⟩ h e

omit H in
/-- A sum over the indices of an array of 64. -/
theorem sum_64 (f : S64.Idx → EReal) : ∑ j, f j = ∑ d : Fin 64, f (ix1 d) :=
  (Equiv.sum_comp (⟨fun d => ix1 d, fun j => j 0, fun _ => rfl, fun j => (eq_ix1 j).symm⟩ : Fin 64 ≃ S64.Idx) f).symm

theorem lam_val (j : S_.Idx) : (val_main_v15 (F := Ideal) x6 j : EReal) = ((lamR A6 : ℝ) : EReal) := by
  have e0 : ∀ d : Fin 64, idx_main_v0 (idx_main_v1 (ix1 d)) = ix2 0 d := fun d => by
    funext a; fin_cases a <;> refine Fin.ext ?_
    · rfl
    · show d.val % 64 = d.val; omega
  have e1 : ∀ d : Fin 64, idx_main_v2 (idx_main_v3 (ix1 d)) = ix2 1 d := fun d => by
    funext a; fin_cases a <;> refine Fin.ext ?_
    · rfl
    · show d.val % 64 = d.val; omega
  have e2 : ∀ d : Fin 64, idx_main_v7 (idx_main_v8 (ix1 d)) = ix2 2 d := fun d => by
    funext a; fin_cases a <;> refine Fin.ext ?_
    · rfl
    · show d.val % 64 = d.val; omega
  have e3 : ∀ d : Fin 64, idx_main_v9 (idx_main_v10 (ix1 d)) = ix2 3 d := fun d => by
    funext a; fin_cases a <;> refine Fin.ext ?_
    · rfl
    · show d.val % 64 = d.val; omega
  have p : ∀ d : Fin 64, (val_main_v4 (F := Ideal) x6 (ix1 d) : EReal) = ((A6 0 d * A6 1 d : ℝ) : EReal) := fun d => by
    rw [val_main_v4_apply, val_main_v1_apply, val_main_v0_apply, e0, val_main_v3_apply, val_main_v2_apply, e1, EReal.coe_mul]
    exact congrArg₂ (fun a b : EReal => a * b) (H.h6 0 d) (H.h6 1 d)
  have r : ∀ d : Fin 64, (val_main_v11 (F := Ideal) x6 (ix1 d) : EReal) = ((A6 2 d * A6 3 d : ℝ) : EReal) := fun d => by
    rw [val_main_v11_apply, val_main_v8_apply, val_main_v7_apply, e2, val_main_v10_apply, val_main_v9_apply, e3, EReal.coe_mul]
    exact congrArg₂ (fun a b : EReal => a * b) (H.h6 2 d) (H.h6 3 d)
  unfold lamR
  rw [EReal.coe_add, lam0_real, EReal.coe_sub, val_main_v15_apply, val_main_v14_apply, val_main_v6_apply, val_main_v5_apply, val_main_v13_apply, val_main_v12_apply]
  refine congrArg (fun z : EReal => z + Ideal.ofBits .f32 0x3E4CCCCD#32) (congrArg₂ (fun a b : EReal => a - b) ?_ ?_)
  · refine (congrArg Ideal.exp ((congrArg₂ (fun a b : EReal => a + b) zero_word ((sum_64 _).trans (Finset.sum_congr rfl fun d _ => p d))).trans
      ((zero_add _).trans (coe_sum _ _).symm))).trans ?_
    exact Ideal.exp_coe _
  · refine (congrArg Ideal.exp ((congrArg₂ (fun a b : EReal => a + b) zero_word ((sum_64 _).trans (Finset.sum_congr rfl fun d _ => r d))).trans
      ((zero_add _).trans (coe_sum _ _).symm))).trans ?_
    exact Ideal.exp_coe _

/-! ### A latent row -/

theorem score_lat (b h : Fin 4) (i : Fin 2) (s : Fin 8192) (κ : Fin 8448) :
    (val_main_v20 (F := Ideal) x0 x2 x3 (ix5 b h i s κ) : EReal) = ((score (A0 b s h) (keysR A2 A3 b h) i κ.val : ℝ) : EReal) := by
  have e : ∀ d : Fin 64, (x0 (lidx_main_v18 (ix5 b h i s κ) d) : EReal) * (val_main_v16 (F := Ideal) x2 x3 (ridx_main_v18 (ix5 b h i s κ) d) : EReal)
      = ((A0 b s h i d * keysR A2 A3 b h κ.val i d : ℝ) : EReal) := fun d => by
    have el : lidx_main_v18 (ix5 b h i s κ) d = ix5 b s h i d := by funext a; fin_cases a <;> rfl
    have er : ridx_main_v18 (ix5 b h i s κ) d = ix5 b κ h i d := by funext a; fin_cases a <;> rfl
    rw [el, er, EReal.coe_mul]
    exact congrArg₂ (fun a b : EReal => a * b) (H.h0 b s h i d) (keys_at H b κ h i d)
  rw [val_main_v20_apply, val_main_v18_apply, val_main_v19_apply]
  refine (congrArg (fun z : EReal => z * Ideal.ofBits .f32 0x3E000000#32) ((Finset.sum_congr rfl fun d _ => e d).trans (coe_sum _ _).symm)).trans ?_
  rw [eighth, ← EReal.coe_mul]
  rfl

theorem top_lat (b h : Fin 4) (i : Fin 2) (s : Fin 8192) : ∃ M : ℝ, (val_main_v23 (F := Ideal) x0 x2 x3 (ix4 b h i s) : EReal) = (M : EReal) := by
  obtain ⟨M, hM⟩ := reduce_max_real (val_main_v20 (F := Ideal) x0 x2 x3) (fun j => score (A0 (j 0) (j 3) (j 1)) (keysR A2 A3 (j 0) (j 1)) (j 2) (j 4).val)
    (fun j => (congrArg (val_main_v20 (F := Ideal) x0 x2 x3) (eq_ix5 j)).trans (score_lat H (j 0) (j 1) (j 2) (j 3) (j 4)))
    (val_main_cst_3 (F := Ideal)) (fun _ => bottom) reducesTo_S4x4x2x8192x8448_S4x4x2x8192_d4 h_S_ (ix4 b h i s) (ix5 b h i s 0)
    (by funext a; fin_cases a <;> rfl)
  refine ⟨M, ?_⟩
  rw [val_main_v23_apply, val_main_v22_apply]
  refine (congrArg₂ (fun a b : EReal => max a b) bottom hM).trans ?_
  exact max_eq_right bot_le

theorem weight_lat (b h : Fin 4) (i : Fin 2) (s : Fin 8192) (κ : Fin 8448) :
    (val_main_v31 (F := Ideal) x0 x2 x3 (ix5 b h i s κ) : EReal)
      = ((Real.exp (score (A0 b s h) (keysR A2 A3 b h) i κ.val) / ∑ j : Fin 8448, Real.exp (score (A0 b s h) (keysR A2 A3 b h) i j.val) : ℝ) : EReal) := by
  obtain ⟨M, hM⟩ := top_lat H b h i s
  have e27 : ∀ κ : Fin 8448, (val_main_v27 (F := Ideal) x0 x2 x3 (ix5 b h i s κ) : EReal)
      = Ideal.exp ((score (A0 b s h) (keysR A2 A3 b h) i κ.val : EReal) - (M : EReal)) := fun κ => by
    have ei : idx_main_v24 (idx_main_v25 (ix5 b h i s κ)) = ix4 b h i s := by funext a; fin_cases a <;> rfl
    rw [val_main_v27_apply, val_main_v26_apply, val_main_v25_apply, val_main_v24_apply, ei]
    exact congrArg Ideal.exp (congrArg₂ (fun a b : EReal => a - b) (score_lat H b h i s κ) hM)
  have ei : idx_main_v29 (idx_main_v30 (ix5 b h i s κ)) = ix4 b h i s := by funext a; fin_cases a <;> rfl
  rw [val_main_v31_apply, val_main_v30_apply, val_main_v29_apply, val_main_v28_apply, ei]
  have es : ∀ k : Fin 8448, (val_main_v27 (F := Ideal) x0 x2 x3 (idx_main_v28 (ix4 b h i s) k) : EReal)
      = Ideal.exp ((score (A0 b s h) (keysR A2 A3 b h) i k.val : EReal) - (M : EReal)) := fun k =>
    (congrArg (val_main_v27 (F := Ideal) x0 x2 x3) (show idx_main_v28 (ix4 b h i s) k = ix5 b h i s k by funext a; fin_cases a <;> rfl)).trans (e27 k)
  exact (congrArg₂ Ideal.div (e27 κ) (congrArg₂ (fun a b : EReal => a + b) zero_word (Finset.sum_congr rfl fun k _ => es k))).trans
    (softmax_weight (fun k : Fin 8448 => score (A0 b s h) (keysR A2 A3 b h) i k.val) M κ)

theorem diff_lat (b h : Fin 4) (s : Fin 8192) (κ : Fin 8448) :
    (val_main_v38 (F := Ideal) x0 x2 x3 x6 (ix4 b h s κ) : EReal)
      = ((Real.exp (score (A0 b s h) (keysR A2 A3 b h) 0 κ.val) / (∑ j : Fin 8448, Real.exp (score (A0 b s h) (keysR A2 A3 b h) 0 j.val))
          - lamR A6 * (Real.exp (score (A0 b s h) (keysR A2 A3 b h) 1 κ.val) / (∑ j : Fin 8448, Real.exp (score (A0 b s h) (keysR A2 A3 b h) 1 j.val))) : ℝ) : EReal) := by
  have e0 : idx_main_v32 (idx_main_v33 (ix4 b h s κ)) = ix5 b h 0 s κ := by
    funext a; fin_cases a <;> refine Fin.ext ?_
    · show (((b.val * 4 + h.val) * 8192 + s.val) * 8448 + κ.val) / 276824064 = b.val; omega
    · show (((b.val * 4 + h.val) * 8192 + s.val) * 8448 + κ.val) / 69206016 % 4 = h.val; omega
    · rfl
    · show (((b.val * 4 + h.val) * 8192 + s.val) * 8448 + κ.val) / 8448 % 8192 = s.val; omega
    · show (((b.val * 4 + h.val) * 8192 + s.val) * 8448 + κ.val) % 8448 = κ.val; omega
  have e1 : idx_main_v34 (idx_main_v35 (ix4 b h s κ)) = ix5 b h 1 s κ := by
    funext a; fin_cases a <;> refine Fin.ext ?_
    · show (((b.val * 4 + h.val) * 8192 + s.val) * 8448 + κ.val) / 276824064 = b.val; omega
    · show (((b.val * 4 + h.val) * 8192 + s.val) * 8448 + κ.val) / 69206016 % 4 = h.val; omega
    · rfl
    · show (((b.val * 4 + h.val) * 8192 + s.val) * 8448 + κ.val) / 8448 % 8192 = s.val; omega
    · show (((b.val * 4 + h.val) * 8192 + s.val) * 8448 + κ.val) % 8448 = κ.val; omega
  rw [val_main_v38_apply, val_main_v33_apply, val_main_v32_apply, e0, val_main_v37_apply, val_main_v36_apply, val_main_v35_apply, val_main_v34_apply, e1,
    EReal.coe_sub, EReal.coe_mul]
  exact congrArg₂ (fun a b : EReal => a - b) (weight_lat H b h 0 s κ)
    (congrArg₂ (fun a b : EReal => a * b) (lam_val H _) (weight_lat H b h 1 s κ))

theorem sum_lat (b : Fin 4) (s : Fin 8192) (h : Fin 4) (e : Fin 128) :
    (val_main_v40 (F := Ideal) x0 x2 x3 x4 x5 x6 (ix4 b s h e) : EReal)
      = ((diffO (A0 b s h) (keysR A2 A3 b h) (valsR A4 A5 b h) (lamR A6) 8448 e : ℝ) : EReal) := by
  have ei : idx_main_v40 (ix4 b s h e) = ix4 b h e s := by funext a; fin_cases a <;> rfl
  have ek : ∀ κ : Fin 8448, (val_main_v17 (F := Ideal) x4 x5 (lidx_main_v39 (ix4 b h e s) κ) : EReal) * (val_main_v38 (F := Ideal) x0 x2 x3 x6 (ridx_main_v39 (ix4 b h e s) κ) : EReal)
      = ((valsR A4 A5 b h κ.val e * (Real.exp (score (A0 b s h) (keysR A2 A3 b h) 0 κ.val) / (∑ j : Fin 8448, Real.exp (score (A0 b s h) (keysR A2 A3 b h) 0 j.val))
          - lamR A6 * (Real.exp (score (A0 b s h) (keysR A2 A3 b h) 1 κ.val) / (∑ j : Fin 8448, Real.exp (score (A0 b s h) (keysR A2 A3 b h) 1 j.val)))) : ℝ) : EReal) := fun κ => by
    have el : lidx_main_v39 (ix4 b h e s) κ = ix4 b κ h e := by funext a; fin_cases a <;> rfl
    have er : ridx_main_v39 (ix4 b h e s) κ = ix4 b h s κ := by funext a; fin_cases a <;> rfl
    rw [el, er, EReal.coe_mul]
    exact congrArg₂ (fun a b : EReal => a * b) (vals_at H b κ h e) (diff_lat H b h s κ)
  rw [val_main_v40_apply, ei, val_main_v39_apply, ← diffO_eq]
  exact (Finset.sum_congr rfl fun κ _ => ek κ).trans (coe_sum _ _).symm

theorem row_lat (b : Fin 4) (s : Fin 8192) (h : Fin 4) (e : Fin 128) :
    (val_main_v55 (F := Ideal) x0 x2 x3 x4 x5 x6 x7 (ix4 b s h e) : EReal)
      = tailE (diffO (A0 b s h) (keysR A2 A3 b h) (valsR A4 A5 b h) (lamR A6) 8448) (fun e => (x7 (ix1 e) : EReal)) e := by
  have e43 : idx_main_v43 (idx_main_v49 (ix4 b s h e)) = ix3 b s h := by funext a; fin_cases a <;> rfl
  have e51 : idx_main_v51 (idx_main_v52 (ix4 b s h e)) = ix1 e := by funext a; fin_cases a; rfl
  have ek : ∀ k : Fin 128, (val_main_v41 (F := Ideal) x0 x2 x3 x4 x5 x6 (idx_main_v42 (ix3 b s h) k) : EReal)
      = (diffO (A0 b s h) (keysR A2 A3 b h) (valsR A4 A5 b h) (lamR A6) 8448 k : EReal) * (diffO (A0 b s h) (keysR A2 A3 b h) (valsR A4 A5 b h) (lamR A6) 8448 k : EReal) := fun k => by
    have ei : idx_main_v42 (ix3 b s h) k = ix4 b s h k := by funext a; fin_cases a <;> rfl
    rw [ei, val_main_v41_apply]
    exact congrArg₂ (fun a b : EReal => a * b) (sum_lat H b s h k) (sum_lat H b s h k)
  rw [val_main_v55_apply, val_main_v53_apply, val_main_v50_apply, val_main_v49_apply, val_main_v48_apply, val_main_v47_apply, val_main_v45_apply,
    val_main_v43_apply, e43, val_main_v42_apply, val_main_v52_apply, val_main_v51_apply, e51, val_main_v54_apply, val_main_v46_apply, val_main_v44_apply]
  unfold tailE
  refine congrArg (fun z : EReal => z * Ideal.ofBits .f32 0x3F4CCCCD#32) (congrArg (fun z : EReal => z * (x7 (ix1 e) : EReal)) ?_)
  refine congrArg₂ (fun a b : EReal => a * b) (sum_lat H b s h e) (congrArg Ideal.rsqrt (congrArg (fun z : EReal => z + Ideal.ofBits .f32 0x358637BD#32)
    (congrArg (fun z : EReal => Ideal.div z (Ideal.ofBits .f32 0x43000000#32)) ?_)))
  exact (congrArg₂ (fun a b : EReal => a + b) zero_word (Finset.sum_congr rfl fun k _ => ek k)).trans (zero_add _)

/-! ### A context row -/

theorem score_ctx (b h : Fin 4) (i : Fin 2) (s : Fin 256) (κ : Fin 256) :
    (val_main_v58 (F := Ideal) x1 x3 (ix5 b h i s κ) : EReal) = ((score (A1 b s h) (keysR A2 A3 b h) i κ.val : ℝ) : EReal) := by
  have e : ∀ d : Fin 64, (x1 (lidx_main_v56 (ix5 b h i s κ) d) : EReal) * (x3 (ridx_main_v56 (ix5 b h i s κ) d) : EReal)
      = ((A1 b s h i d * keysR A2 A3 b h κ.val i d : ℝ) : EReal) := fun d => by
    have el : lidx_main_v56 (ix5 b h i s κ) d = ix5 b s h i d := by funext a; fin_cases a <;> rfl
    have er : ridx_main_v56 (ix5 b h i s κ) d = ix5 b κ h i d := by funext a; fin_cases a <;> rfl
    rw [el, er, EReal.coe_mul]
    exact congrArg₂ (fun a b : EReal => a * b) (H.h1 b s h i d) (ctx_key H b κ h i d)
  rw [val_main_v58_apply, val_main_v56_apply, val_main_v57_apply]
  refine (congrArg (fun z : EReal => z * Ideal.ofBits .f32 0x3E000000#32) ((Finset.sum_congr rfl fun d _ => e d).trans (coe_sum _ _).symm)).trans ?_
  rw [eighth, ← EReal.coe_mul]
  rfl

theorem top_ctx (b h : Fin 4) (i : Fin 2) (s : Fin 256) : ∃ M : ℝ, (val_main_v61 (F := Ideal) x1 x3 (ix4 b h i s) : EReal) = (M : EReal) := by
  obtain ⟨M, hM⟩ := reduce_max_real (val_main_v58 (F := Ideal) x1 x3) (fun j => score (A1 (j 0) (j 3) (j 1)) (keysR A2 A3 (j 0) (j 1)) (j 2) (j 4).val)
    (fun j => (congrArg (val_main_v58 (F := Ideal) x1 x3) (eq_ix5 j)).trans (score_ctx H (j 0) (j 1) (j 2) (j 3) (j 4)))
    (val_main_cst_11 (F := Ideal)) (fun _ => bottom) reducesTo_S4x4x2x256x256_S4x4x2x256_d4 h_S_ (ix4 b h i s) (ix5 b h i s 0)
    (by funext a; fin_cases a <;> rfl)
  refine ⟨M, ?_⟩
  rw [val_main_v61_apply, val_main_v60_apply]
  refine (congrArg₂ (fun a b : EReal => max a b) bottom hM).trans ?_
  exact max_eq_right bot_le

theorem weight_ctx (b h : Fin 4) (i : Fin 2) (s : Fin 256) (κ : Fin 256) :
    (val_main_v69 (F := Ideal) x1 x3 (ix5 b h i s κ) : EReal)
      = ((Real.exp (score (A1 b s h) (keysR A2 A3 b h) i κ.val) / ∑ j : Fin 256, Real.exp (score (A1 b s h) (keysR A2 A3 b h) i j.val) : ℝ) : EReal) := by
  obtain ⟨M, hM⟩ := top_ctx H b h i s
  have e27 : ∀ κ : Fin 256, (val_main_v65 (F := Ideal) x1 x3 (ix5 b h i s κ) : EReal)
      = Ideal.exp ((score (A1 b s h) (keysR A2 A3 b h) i κ.val : EReal) - (M : EReal)) := fun κ => by
    have ei : idx_main_v62 (idx_main_v63 (ix5 b h i s κ)) = ix4 b h i s := by funext a; fin_cases a <;> rfl
    rw [val_main_v65_apply, val_main_v64_apply, val_main_v63_apply, val_main_v62_apply, ei]
    exact congrArg Ideal.exp (congrArg₂ (fun a b : EReal => a - b) (score_ctx H b h i s κ) hM)
  have ei : idx_main_v67 (idx_main_v68 (ix5 b h i s κ)) = ix4 b h i s := by funext a; fin_cases a <;> rfl
  rw [val_main_v69_apply, val_main_v68_apply, val_main_v67_apply, val_main_v66_apply, ei]
  have es : ∀ k : Fin 256, (val_main_v65 (F := Ideal) x1 x3 (idx_main_v66 (ix4 b h i s) k) : EReal)
      = Ideal.exp ((score (A1 b s h) (keysR A2 A3 b h) i k.val : EReal) - (M : EReal)) := fun k =>
    (congrArg (val_main_v65 (F := Ideal) x1 x3) (show idx_main_v66 (ix4 b h i s) k = ix5 b h i s k by funext a; fin_cases a <;> rfl)).trans (e27 k)
  exact (congrArg₂ Ideal.div (e27 κ) (congrArg₂ (fun a b : EReal => a + b) zero_word (Finset.sum_congr rfl fun k _ => es k))).trans
    (softmax_weight (fun k : Fin 256 => score (A1 b s h) (keysR A2 A3 b h) i k.val) M κ)

theorem diff_ctx (b h : Fin 4) (s : Fin 256) (κ : Fin 256) :
    (val_main_v76 (F := Ideal) x1 x3 x6 (ix4 b h s κ) : EReal)
      = ((Real.exp (score (A1 b s h) (keysR A2 A3 b h) 0 κ.val) / (∑ j : Fin 256, Real.exp (score (A1 b s h) (keysR A2 A3 b h) 0 j.val))
          - lamR A6 * (Real.exp (score (A1 b s h) (keysR A2 A3 b h) 1 κ.val) / (∑ j : Fin 256, Real.exp (score (A1 b s h) (keysR A2 A3 b h) 1 j.val))) : ℝ) : EReal) := by
  have e0 : idx_main_v70 (idx_main_v71 (ix4 b h s κ)) = ix5 b h 0 s κ := by
    funext a; fin_cases a <;> refine Fin.ext ?_
    · show (((b.val * 4 + h.val) * 256 + s.val) * 256 + κ.val) / 262144 = b.val; omega
    · show (((b.val * 4 + h.val) * 256 + s.val) * 256 + κ.val) / 65536 % 4 = h.val; omega
    · rfl
    · show (((b.val * 4 + h.val) * 256 + s.val) * 256 + κ.val) / 256 % 256 = s.val; omega
    · show (((b.val * 4 + h.val) * 256 + s.val) * 256 + κ.val) % 256 = κ.val; omega
  have e1 : idx_main_v72 (idx_main_v73 (ix4 b h s κ)) = ix5 b h 1 s κ := by
    funext a; fin_cases a <;> refine Fin.ext ?_
    · show (((b.val * 4 + h.val) * 256 + s.val) * 256 + κ.val) / 262144 = b.val; omega
    · show (((b.val * 4 + h.val) * 256 + s.val) * 256 + κ.val) / 65536 % 4 = h.val; omega
    · rfl
    · show (((b.val * 4 + h.val) * 256 + s.val) * 256 + κ.val) / 256 % 256 = s.val; omega
    · show (((b.val * 4 + h.val) * 256 + s.val) * 256 + κ.val) % 256 = κ.val; omega
  rw [val_main_v76_apply, val_main_v71_apply, val_main_v70_apply, e0, val_main_v75_apply, val_main_v74_apply, val_main_v73_apply, val_main_v72_apply, e1,
    EReal.coe_sub, EReal.coe_mul]
  exact congrArg₂ (fun a b : EReal => a - b) (weight_ctx H b h 0 s κ)
    (congrArg₂ (fun a b : EReal => a * b) (lam_val H _) (weight_ctx H b h 1 s κ))

theorem sum_ctx (b : Fin 4) (s : Fin 256) (h : Fin 4) (e : Fin 128) :
    (val_main_v78 (F := Ideal) x1 x3 x5 x6 (ix4 b s h e) : EReal)
      = ((diffO (A1 b s h) (keysR A2 A3 b h) (valsR A4 A5 b h) (lamR A6) 256 e : ℝ) : EReal) := by
  have ei : idx_main_v78 (ix4 b s h e) = ix4 b h e s := by funext a; fin_cases a <;> rfl
  have ek : ∀ κ : Fin 256, (x5 (lidx_main_v77 (ix4 b h e s) κ) : EReal) * (val_main_v76 (F := Ideal) x1 x3 x6 (ridx_main_v77 (ix4 b h e s) κ) : EReal)
      = ((valsR A4 A5 b h κ.val e * (Real.exp (score (A1 b s h) (keysR A2 A3 b h) 0 κ.val) / (∑ j : Fin 256, Real.exp (score (A1 b s h) (keysR A2 A3 b h) 0 j.val))
          - lamR A6 * (Real.exp (score (A1 b s h) (keysR A2 A3 b h) 1 κ.val) / (∑ j : Fin 256, Real.exp (score (A1 b s h) (keysR A2 A3 b h) 1 j.val)))) : ℝ) : EReal) := fun κ => by
    have el : lidx_main_v77 (ix4 b h e s) κ = ix4 b κ h e := by funext a; fin_cases a <;> rfl
    have er : ridx_main_v77 (ix4 b h e s) κ = ix4 b h s κ := by funext a; fin_cases a <;> rfl
    rw [el, er, EReal.coe_mul]
    exact congrArg₂ (fun a b : EReal => a * b) (ctx_val H b κ h e) (diff_ctx H b h s κ)
  rw [val_main_v78_apply, ei, val_main_v77_apply, ← diffO_eq]
  exact (Finset.sum_congr rfl fun κ _ => ek κ).trans (coe_sum _ _).symm

theorem row_ctx (b : Fin 4) (s : Fin 256) (h : Fin 4) (e : Fin 128) :
    (val_main_v93 (F := Ideal) x1 x3 x5 x6 x7 (ix4 b s h e) : EReal)
      = tailE (diffO (A1 b s h) (keysR A2 A3 b h) (valsR A4 A5 b h) (lamR A6) 256) (fun e => (x7 (ix1 e) : EReal)) e := by
  have e43 : idx_main_v81 (idx_main_v87 (ix4 b s h e)) = ix3 b s h := by funext a; fin_cases a <;> rfl
  have e51 : idx_main_v89 (idx_main_v90 (ix4 b s h e)) = ix1 e := by funext a; fin_cases a; rfl
  have ek : ∀ k : Fin 128, (val_main_v79 (F := Ideal) x1 x3 x5 x6 (idx_main_v80 (ix3 b s h) k) : EReal)
      = (diffO (A1 b s h) (keysR A2 A3 b h) (valsR A4 A5 b h) (lamR A6) 256 k : EReal) * (diffO (A1 b s h) (keysR A2 A3 b h) (valsR A4 A5 b h) (lamR A6) 256 k : EReal) := fun k => by
    have ei : idx_main_v80 (ix3 b s h) k = ix4 b s h k := by funext a; fin_cases a <;> rfl
    rw [ei, val_main_v79_apply]
    exact congrArg₂ (fun a b : EReal => a * b) (sum_ctx H b s h k) (sum_ctx H b s h k)
  rw [val_main_v93_apply, val_main_v91_apply, val_main_v88_apply, val_main_v87_apply, val_main_v86_apply, val_main_v85_apply, val_main_v83_apply,
    val_main_v81_apply, e43, val_main_v80_apply, val_main_v90_apply, val_main_v89_apply, e51, val_main_v92_apply, val_main_v84_apply, val_main_v82_apply]
  unfold tailE
  refine congrArg (fun z : EReal => z * Ideal.ofBits .f32 0x3F4CCCCD#32) (congrArg (fun z : EReal => z * (x7 (ix1 e) : EReal)) ?_)
  refine congrArg₂ (fun a b : EReal => a * b) (sum_ctx H b s h e) (congrArg Ideal.rsqrt (congrArg (fun z : EReal => z + Ideal.ofBits .f32 0x358637BD#32)
    (congrArg (fun z : EReal => Ideal.div z (Ideal.ofBits .f32 0x43000000#32)) ?_)))
  exact (congrArg₂ (fun a b : EReal => a + b) zero_word (Finset.sum_congr rfl fun k _ => ek k)).trans (zero_add _)

/-! ### The whole array -/

theorem ref_lat (b : Fin 4) (s : Fin 8192) (h : Fin 4) (e : Fin 128) :
    (val_main_v97 (F := Ideal) x0 x1 x2 x3 x4 x5 x6 x7 (ix2 ⟨8192 * b.val + s.val, by omega⟩ ⟨128 * h.val + e.val, by omega⟩) : EReal)
      = outL A0 A2 A3 A4 A5 A6 (fun e => (x7 (ix1 e) : EReal)) b s h e := by
  have ei : idx_main_v94 (ix2 ⟨8192 * b.val + s.val, by omega⟩ ⟨128 * h.val + e.val, by omega⟩) = ix4 b s h e := by
    funext a; fin_cases a <;> refine Fin.ext ?_
    · show ((8192 * b.val + s.val) * 512 + (128 * h.val + e.val)) / 4194304 = b.val; omega
    · show ((8192 * b.val + s.val) * 512 + (128 * h.val + e.val)) / 512 % 8192 = s.val; omega
    · show ((8192 * b.val + s.val) * 512 + (128 * h.val + e.val)) / 128 % 4 = h.val; omega
    · show ((8192 * b.val + s.val) * 512 + (128 * h.val + e.val)) % 128 = e.val; omega
  rw [val_main_v97_apply]
  refine Eq.trans ?_ (row_lat H b s h e)
  unfold val_main_v96
  refine (concatenate_pair_apply_left (α := EReal) 0 (val_main_v94 (F := Ideal) x0 x2 x3 x4 x5 x6 x7) (val_main_v95 (F := Ideal) x1 x3 x5 x6 x7)
    concatenates_S32768x512_S1024x512_S33792x512_d0 _ rfl (ix2 ⟨8192 * b.val + s.val, by omega⟩ ⟨128 * h.val + e.val, by omega⟩)
    (fun a => by fin_cases a <;> rfl)).trans ?_
  rw [val_main_v94_apply, ei]

theorem ref_ctx (b : Fin 4) (s : Fin 256) (h : Fin 4) (e : Fin 128) :
    (val_main_v97 (F := Ideal) x0 x1 x2 x3 x4 x5 x6 x7 (ix2 ⟨32768 + (256 * b.val + s.val), by omega⟩ ⟨128 * h.val + e.val, by omega⟩) : EReal)
      = outC A2 A1 A3 A4 A5 A6 (fun e => (x7 (ix1 e) : EReal)) b s h e := by
  have ei : idx_main_v95 (ix2 ⟨256 * b.val + s.val, by omega⟩ ⟨128 * h.val + e.val, by omega⟩) = ix4 b s h e := by
    funext a; fin_cases a <;> refine Fin.ext ?_
    · show ((256 * b.val + s.val) * 512 + (128 * h.val + e.val)) / 131072 = b.val; omega
    · show ((256 * b.val + s.val) * 512 + (128 * h.val + e.val)) / 512 % 256 = s.val; omega
    · show ((256 * b.val + s.val) * 512 + (128 * h.val + e.val)) / 128 % 4 = h.val; omega
    · show ((256 * b.val + s.val) * 512 + (128 * h.val + e.val)) % 128 = e.val; omega
  rw [val_main_v97_apply]
  refine Eq.trans ?_ (row_ctx H b s h e)
  unfold val_main_v96
  refine (concatenate_pair_apply_right (α := EReal) 0 (val_main_v94 (F := Ideal) x0 x2 x3 x4 x5 x6 x7) (val_main_v95 (F := Ideal) x1 x3 x5 x6 x7)
    concatenates_S32768x512_S1024x512_S33792x512_d0 _ rfl rfl (ix2 ⟨256 * b.val + s.val, by omega⟩ ⟨128 * h.val + e.val, by omega⟩)
    (fun a ha => by fin_cases a <;> first | rfl | exact absurd rfl ha) (by show 256 * b.val + s.val + 32768 = 32768 + (256 * b.val + s.val); omega)).trans ?_
  rw [val_main_v95_apply, ei]

end Cert.ReferenceIdeal.DiffAttn

end
-- ==== Proof.Equation.lean ====
/- The kernel's output array and the reference's result are the same array, from memories that agree on the arguments. -/
module

public import proofs.«01_k».proof.Proof.Finite
public import proofs.«01_k».proof.Proof.KernelVal
public import proofs.«01_k».proof.Proof.Ref

@[expose] public section

noncomputable section

namespace Cert.DiffAttn

open Idealize.ShloMosaic Idealize.ShloMosaic.TcCoe
open Cert.KernelIdeal Cert.KernelIdeal.Gen Cert.KernelIdeal.DiffAttn

/-- Where the arguments' entries are real numbers, the array the grid leaves is the reference's result of those arguments. -/
theorem same_array [Cert.Pre_finite.Facts] (m : (ℓ : Loc nD τ sig) → Buf (Elt Ideal) ℓ) (c : Dev nD)
    (hp : Cert.Pre_finite.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) = fun _ => 1#1) :
    Cert.ReferenceIdeal.Read.val_main_v97 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) = (dats m 0 c).arrAt 7 cfg0.N := by
  obtain ⟨e0, e1, e2, e3, e4, e5, e6⟩ := Cert.Pre_finite.Real.fn_real _ _ _ _ _ _ _ _ hp
  have HK : Cert.KernelIdeal.DiffAttn.Reals m c
      (fun b s h i d => EReal.toReal (rd32 S4x8192x4x2x64 (m ((c : Thread nD τ).loc main_arg0)) (ix5 b s h i d)))
      (fun b s h i d => EReal.toReal (rd32 S4x8192x4x2x64 (m ((c : Thread nD τ).loc main_arg2)) (ix5 b s h i d)))
      (fun b s h i d => EReal.toReal (rd32 S4x256x4x2x64 (m ((c : Thread nD τ).loc main_arg1)) (ix5 b s h i d)))
      (fun b s h i d => EReal.toReal (rd32 S4x256x4x2x64 (m ((c : Thread nD τ).loc main_arg3)) (ix5 b s h i d)))
      (fun b s h e => EReal.toReal (rd32 S4x8192x4x128 (m ((c : Thread nD τ).loc main_arg4)) (ix4 b s h e)))
      (fun b s h e => EReal.toReal (rd32 S4x256x4x128 (m ((c : Thread nD τ).loc main_arg5)) (ix4 b s h e)))
      (fun i d => EReal.toReal (rd32 S4x64 (m ((c : Thread nD τ).loc main_arg6)) (ix2 i d))) :=
    ⟨fun _ _ _ _ _ => (e0 _).symm, fun _ _ _ _ _ => (e1 _).symm, fun _ _ _ _ _ => (e2 _).symm, fun _ _ _ _ _ => (e3 _).symm,
      fun _ _ _ _ => (e4 _).symm, fun _ _ _ _ => (e5 _).symm, fun _ _ => (e6 _).symm⟩
  have HR := Cert.ReferenceIdeal.DiffAttn.Reals.mk (x0 := m ((c : Thread nD τ).loc main_arg0)) (x1 := m ((c : Thread nD τ).loc main_arg1))
    (x2 := m ((c : Thread nD τ).loc main_arg2)) (x3 := m ((c : Thread nD τ).loc main_arg3)) (x4 := m ((c : Thread nD τ).loc main_arg4))
    (x5 := m ((c : Thread nD τ).loc main_arg5)) (x6 := m ((c : Thread nD τ).loc main_arg6)) HK.h0 HK.h1 HK.h2 HK.h3 HK.h4 HK.h5 HK.h6
  have key : ∀ (r : Fin 33792) (k : Fin 512),
      (Cert.ReferenceIdeal.Read.val_main_v97 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (ix2 r k) : EReal) = rd16 S33792x512 ((dats m 0 c).arrAt 7 cfg0.N) (ix2 r k) := by
    intro r k
    obtain ⟨h, e, rfl⟩ := colO_cases k
    rcases row_cases r with ⟨b, s, rfl⟩ | ⟨b, s, rfl⟩
    · exact (Cert.ReferenceIdeal.DiffAttn.ref_lat HR b s h e).trans (kernel_lat HK b s h e).symm
    · exact (Cert.ReferenceIdeal.DiffAttn.ref_ctx HR b s h e).trans (kernel_ctx HK b s h e).symm
  funext i
  have hi : i = ix2 (i 0) (i 1) := by funext a; fin_cases a <;> rfl
  rw [hi]
  exact key (i 0) (i 1)

end Cert.DiffAttn

end
-- ==== Proof.RotarySpec.lean ====
/- What the input projection of an attention layer gives for one row: the modulated norm of the row times the projection matrix, and
   the rotary embedding of the columns, in extended reals. Columns are counted by natural numbers. -/
module

public import Idealize.ShloMosaic.PureOps.Reduce
public import Idealize.ShloMosaic.Lib.Pointwise
public import Idealize.ShloMosaic.Lib.IdealHost

@[expose] public section

noncomputable section

namespace Cert.PreAttn

open Idealize.ShloMosaic

/-- Column `n` of the projection. -/
def col (n : ℕ) : Fin 2304 := ⟨n % 2304, Nat.mod_lt _ (by decide)⟩
/-- The entry of a rotary table that column `n` takes. -/
def lane (n : ℕ) : Fin 32 := ⟨n % 32, Nat.mod_lt _ (by decide)⟩

theorem col_mk (n : ℕ) (h : n < 2304) : (⟨n, h⟩ : Fin 2304) = col n := Fin.ext (Nat.mod_eq_of_lt h).symm

/-- A row, divided by its root mean square, weighted and modulated. -/
def normed (x w sc sh : Fin 1024 → EReal) (k : Fin 1024) : EReal :=
  x k * Ideal.rsqrt (Ideal.div (∑ j, x j * x j) (Ideal.ofBits .f32 0x44800000#32) + Ideal.ofBits .f32 0x358637BD#32) * w k
    * (Ideal.ofBits .f32 0x3F800000#32 + sc k) + sh k

/-- Its projection to one column. -/
def proj (x w sc sh : Fin 1024 → EReal) (W : Fin 1024 → Fin 2304 → EReal) (c : Fin 2304) : EReal := ∑ k, normed x w sc sh k * W k c

theorem proj_congr {x x' w w' sc sc' sh sh' : Fin 1024 → EReal} {W W' : Fin 1024 → Fin 2304 → EReal} (hx : ∀ k, x k = x' k) (hw : ∀ k, w k = w' k)
    (hc : ∀ k, sc k = sc' k) (hs : ∀ k, sh k = sh' k) (hW : ∀ k n, W k n = W' k n) (n : Fin 2304) : proj x w sc sh W n = proj x' w' sc' sh' W' n := by
  rw [funext hx, funext hw, funext hc, funext hs, funext fun k => funext (hW k)]

/-- The projection of latent row `s` of batch `b`. -/
def latP (X : Fin 4 → Fin 8192 → Fin 1024 → EReal) (M : Fin 4 → Fin 6 → Fin 1024 → EReal) (w : Fin 1024 → EReal) (W : Fin 1024 → Fin 2304 → EReal)
    (b : Fin 4) (s : Fin 8192) : Fin 2304 → EReal := proj (X b s) w (M b 1) (M b 0) W
/-- The projection of context row `l` of batch `b`. -/
def ctxP (Y : Fin 4 → Fin 256 → Fin 1024 → EReal) (N : Fin 6 → Fin 1024 → EReal) (w : Fin 1024 → EReal) (W : Fin 1024 → Fin 2304 → EReal)
    (b : Fin 4) (l : Fin 256) : Fin 2304 → EReal := proj (Y b l) w (N 1) (N 0) W

/-- The rotary embedding of column `n`: within every 64 columns the first half turns against the second. -/
def rope (p : Fin 2304 → EReal) (cs sn : Fin 32 → EReal) (n : ℕ) : EReal :=
  if n % 64 < 32 then p (col n) * cs (lane n) - p (col (n + 32)) * sn (lane n) else p (col n) * cs (lane n) + p (col (n - 32)) * sn (lane n)

/-- The column that column `n` turns against. -/
def partner (n : ℕ) : ℕ := if n % 64 < 32 then n + 32 else n - 32

/-- With the sign in the table of sines, both halves are one sum. -/
theorem rope_signed (p : Fin 2304 → EReal) (cs sn : Fin 32 → EReal) (n : ℕ) :
    p (col n) * cs (lane n) + p (col (partner n)) * (if n % 64 < 32 then - sn (lane n) else sn (lane n)) = rope p cs sn n := by
  unfold rope partner
  by_cases h : n % 64 < 32
  · rw [if_pos h, if_pos h, if_pos h, mul_neg, sub_eq_add_neg]
  · rw [if_neg h, if_neg h, if_neg h]

theorem zero_word : Ideal.ofBits .f32 0x00000000#32 = 0 := by simp [Ideal.ofBits, Ideal.ieee]

/-- A table of ones and a table of zeros leave a column as it is. -/
theorem rope_still (p : Fin 2304 → EReal) (n : ℕ) :
    p (col n) * Ideal.ofBits .f32 0x3F800000#32 + p (col (partner n)) * Ideal.ofBits .f32 0x00000000#32 = p (col n) := by
  rw [Ideal.ofBits_one_f32, zero_word, mul_one, mul_zero, add_zero]

end Cert.PreAttn

end
-- ==== Proof.RotaryBlock.lean ====
/- What one block of the projection kernel computes: its six output blocks, as functions of the block's rows, modulation, weights
   and rotary tables. -/
module

public import proofs.«01_k».proof.Proof.RotarySpec
public import proofs.«01_k».proof.Proof.Gen.Kernel2Ideal.Value
public import Idealize.ShloMosaic.Lib.KernelVsHost
public import Idealize.ShloMosaic.Lib.Pipeline.ValueKit.Tiles

@[expose] public section

noncomputable section

namespace Cert.Kernel2Ideal.PreAttn

open Idealize.ShloMosaic Idealize.ShloMosaic.TcCoe
open Cert.Kernel2Ideal Cert.Kernel2Ideal.Gen Cert.PreAttn

/-- Lane `n` of 128. -/
def lane128 (n : ℕ) : Fin 128 := ⟨n % 128, Nat.mod_lt _ (by decide)⟩

/-- The product of a block: every row's projection. -/
theorem product_at (P0 : Vec Ideal S1024x1024 .f32) (P1 : Vec Ideal S1x1024 .f32) (P2 P3 : Vec Ideal S1x1x1024 .f32) (P4 : Vec Ideal S1024x2304 .bf16)
    (r : Fin 1024) (c : Fin 2304) :
    (k0_pay4 P0 P1 P2 P3 P4 (ix2 r c) : EReal)
      = proj (fun k => P0 (ix2 r k)) (fun k => P1 (ix2 0 k)) (fun k => P3 (ix3 0 0 k)) (fun k => P2 (ix3 0 0 k)) (fun k c => P4 (ix2 k c)) c := by
  unfold proj normed
  pointwise [k0_pay4]

/-- The mask marks the first half of every 64 lanes. -/
theorem mask_at (x0 : Vec Ideal S1024x1024 .f32) (x1 : Vec Ideal S1x6x1024 .f32) (x2 : Vec Ideal S1x1024 .f32) (x3 : Vec Ideal S1024x2304 .bf16)
    (x4 x5 : Vec Ideal S1024x128 .f32) (l : Fin 128) :
    k0_pay37 x0 x1 x2 x3 x4 x5 (ix2 0 l) = if l.val % 64 < 32 then 1#1 else 0#1 := by
  have h : ∀ l : Fin 128, k0_pay7 (iota .tc S1x128 32 [1] iota_S1x128_d1_w32) 64#32 (Scalar.cmpi .eq 64#32 0#32) (ix2 0 l) = if l.val % 64 < 32 then 1#1 else 0#1 := by
    decide +kernel
  unfold k0_pay37 k0_pay33
  exact h l

/-- The rotary embedding of 128 columns of a block from column `off` on, scaled by `w`. -/
def turned (p : S1024x2304.Idx → EReal) (ct st : S1024x128.Idx → EReal) (w : EReal) (off : ℕ) (r : Fin 1024) (c : ℕ) : EReal :=
  (p (ix2 r (col (off + c))) * ct (ix2 r (lane128 c)) + p (ix2 r (col (partner (off + c)))) * st (ix2 r (lane128 c))) * w

theorem turned_shift (p : S1024x2304.Idx → EReal) (ct st : S1024x128.Idx → EReal) (w : EReal) (off j : ℕ) (hj : j % 128 = 0) (r : Fin 1024) (c : ℕ) :
    turned p ct st w (off + j) r c = turned p ct st w off r (j + c) := by
  have e : lane128 (j + c) = lane128 c := Fin.ext (by show (j + c) % 128 = c % 128; omega)
  unfold turned
  rw [e, Nat.add_assoc]

theorem rotated (p : S1024x2304.Idx → EReal) (off : ℕ) (hoff : off + 128 ≤ 2304) (hs : S1024x2304.Slices ![0, off] S1024x128)
    (sb : BitVec 32) (s : ℕ) (hsb : sb.toNat = s) (hs' : s < 128) (r : Fin 1024) (l : Fin 128) :
    dynamicRotate 1 sb none (extractStridedSlice S1024x128 ![0, off] p hs) rotates_S1024x128_d1 (ix2 r l) = p (ix2 r (col (off + (l.val + 128 - s) % 128))) := by
  refine (dynamicRotate_apply (1 : Fin 2) sb _ rotates_S1024x128_d1 _ (ix2 r (⟨(l.val + 128 - s) % 128, Nat.mod_lt _ (by decide)⟩ : Fin 128)) (fun b => ?_)).trans ?_
  · match b with
    | ⟨0, _⟩ => rfl
    | ⟨1, _⟩ => show (l.val + 128 - s) % 128 = (l.val + 128 - sb.toNat % 128) % 128; rw [hsb, Nat.mod_eq_of_lt hs']
  · refine extractStridedSlice_apply ![0, off] p hs _ _ (fun a => ?_)
    match a with
    | ⟨0, _⟩ => show r.val = 0 + r.val; omega
    | ⟨1, _⟩ => show (off + (l.val + 128 - s) % 128) % 2304 = off + (l.val + 128 - s) % 128; omega

/-- The kernel's rotation by lanes, selection and scale is that embedding. -/
theorem turned_at (p : FVec Ideal S1024x2304 .f32) (ct st : FVec Ideal S1024x128 .f32) (msk : IVec S1x128 1)
    (hm : ∀ l : Fin 128, msk (ix2 0 l) = if l.val % 64 < 32 then 1#1 else 0#1) (w : Ideal .f32) (off : ℕ) (h64 : off % 64 = 0) (hoff : off + 128 ≤ 2304)
    (hs : S1024x2304.Slices ![0, off] S1024x128) (r : Fin 1024) (l : Fin 128) :
    (truncf .bf16 (mulf (addf (mulf (extractStridedSlice S1024x128 ![0, off] p hs) ct)
        (mulf (select (broadcastTo S1024x128 (shapeCast S1x128 msk shapeCasts_S1x128_S1x128) broadcasts_S1x128_S1024x128)
          (dynamicRotate 1 96#32 none (extractStridedSlice S1024x128 ![0, off] p hs) rotates_S1024x128_d1)
          (dynamicRotate 1 32#32 none (extractStridedSlice S1024x128 ![0, off] p hs) rotates_S1024x128_d1)) st))
        (broadcast S1024x128 w)) bitsLt_bf16_f32 : FVec Ideal S1024x128 .bf16) (ix2 r l) = turned p ct st w off r l.val := by
  have hl : lane128 l.val = l := Fin.ext (Nat.mod_eq_of_lt l.isLt)
  have e0 : (extractStridedSlice S1024x128 ![0, off] p hs) (ix2 r l) = p (ix2 r (col (off + l.val))) :=
    extractStridedSlice_apply ![0, off] p hs _ _ (fun a => by
      match a with
      | ⟨0, _⟩ => show r.val = 0 + r.val; omega
      | ⟨1, _⟩ => show (off + l.val) % 2304 = off + l.val; omega)
  have em : (broadcastTo S1024x128 (shapeCast S1x128 msk shapeCasts_S1x128_S1x128) broadcasts_S1x128_S1024x128) (ix2 r l) = if l.val % 64 < 32 then 1#1 else 0#1 := by
    rw [← hm l]
    pointwise
  have e1 := rotated p off hoff hs 96#32 96 rfl (by decide) r l
  have e2 := rotated p off hoff hs 32#32 32 rfl (by decide) r l
  have es : (select (broadcastTo S1024x128 (shapeCast S1x128 msk shapeCasts_S1x128_S1x128) broadcasts_S1x128_S1024x128)
          (dynamicRotate 1 96#32 none (extractStridedSlice S1024x128 ![0, off] p hs) rotates_S1024x128_d1)
          (dynamicRotate 1 32#32 none (extractStridedSlice S1024x128 ![0, off] p hs) rotates_S1024x128_d1)) (ix2 r l)
      = p (ix2 r (col (partner (off + l.val)))) := by
    show Scalar.select _ _ _ = _
    rw [em, e1, e2]
    unfold partner
    by_cases h : l.val % 64 < 32
    · rw [if_pos h, if_pos (by omega), show off + (l.val + 128 - 96) % 128 = off + l.val + 32 by omega]
      rfl
    · rw [if_neg h, if_neg (by omega), show off + (l.val + 128 - 32) % 128 = off + l.val - 32 by omega]
      rfl
  show ((extractStridedSlice S1024x128 ![0, off] p hs) (ix2 r l) * ct (ix2 r l) + _ * st (ix2 r l)) * w = _
  rw [e0, es]
  unfold turned
  rw [hl]

/-- The rotary blocks: at every row and column the embedding of the column, from the block's own rows, weights and tables. -/
def turnedBlock (off : ℕ) (w : BitVec 32) (x0 : Vec Ideal S1024x1024 .f32) (x1 : Vec Ideal S1x6x1024 .f32) (x2 : Vec Ideal S1x1024 .f32) (x3 : Vec Ideal S1024x2304 .bf16)
    (x4 x5 : Vec Ideal S1024x128 .f32) (r : Fin 1024) (c : ℕ) : EReal :=
  turned (k0_pay34 x0 x1 x2 x3 x4 x5) (k0_pay35 x0 x1 x2 x3 x4 x5) (k0_pay36 x0 x1 x2 x3 x4 x5) (Ideal.ofBits .f32 w) off r c

/-- The block of queries of the first kind. -/
theorem out6_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (c : Fin 512) :
    (out0_6 x0 x1 x2 x3 x4 x5 (ix2 r c) : EReal) = turnedBlock 0 0x3E000000#32 x0 x1 x2 x3 x4 x5 r c.val := by
  have hp : ∀ (j : ℕ) (hj : j % 128 = 0) (hh : j + 0 + 128 ≤ 2304) (hs : S1024x2304.Slices ![0, 0 + j] S1024x128) (x : S1024x128.Idx),
      (truncf .bf16 (mulf (addf (mulf (extractStridedSlice S1024x128 ![0, 0 + j] (k0_pay34 x0 x1 x2 x3 x4 x5) hs) (k0_pay35 x0 x1 x2 x3 x4 x5))
        (mulf (select (broadcastTo S1024x128 (shapeCast S1x128 (k0_pay37 x0 x1 x2 x3 x4 x5) shapeCasts_S1x128_S1x128) broadcasts_S1x128_S1024x128)
          (dynamicRotate 1 96#32 none (extractStridedSlice S1024x128 ![0, 0 + j] (k0_pay34 x0 x1 x2 x3 x4 x5) hs) rotates_S1024x128_d1)
          (dynamicRotate 1 32#32 none (extractStridedSlice S1024x128 ![0, 0 + j] (k0_pay34 x0 x1 x2 x3 x4 x5) hs) rotates_S1024x128_d1)) (k0_pay36 x0 x1 x2 x3 x4 x5)))
        (broadcast S1024x128 (Ideal.ofBits .f32 0x3E000000#32))) bitsLt_bf16_f32 : FVec Ideal S1024x128 .bf16) x
      = turnedBlock 0 0x3E000000#32 x0 x1 x2 x3 x4 x5 (x 0) (j + (x 1).val) := fun j hj hh hs x => by
    rw [eq_ix2 x]
    exact (turned_at (k0_pay34 x0 x1 x2 x3 x4 x5) (k0_pay35 x0 x1 x2 x3 x4 x5) (k0_pay36 x0 x1 x2 x3 x4 x5) (k0_pay37 x0 x1 x2 x3 x4 x5) (mask_at x0 x1 x2 x3 x4 x5) _ (0 + j) (by omega) (by omega) hs _ _).trans
      (turned_shift _ _ _ _ 0 j hj _ _)
  have hi : ∀ (x : S1024x128.Idx) (j : ℕ) (hh : j + 128 ≤ 512) (y : S1024x512.Idx) (h0 : (y 0).val = 0 + 1 * (x 0).val) (h1 : (y 1).val = j + 1 * (x 1).val),
      turnedBlock 0 0x3E000000#32 x0 x1 x2 x3 x4 x5 (x 0) (j + (x 1).val) = turnedBlock 0 0x3E000000#32 x0 x1 x2 x3 x4 x5 (y 0) (y 1).val := fun x j hh y h0 h1 => by
    rw [h1, show y 0 = x 0 from Fin.ext (by rw [h0]; omega), Nat.one_mul]
  refine View.canon_apply_of_pieces (Val := Elt Ideal) ((fun y => turnedBlock 0 0x3E000000#32 x0 x1 x2 x3 x4 x5 (y 0) (y 1).val) : Vec Ideal S1024x512 .bf16) _ ?_ (ix2 r c) (cover0_6 _ _ _ _ (ix2 r c))
  intro pc hpc
  rcases List.mem_cons.mp hpc with rfl | hpc
  · exact fun x => (hp 384 (by decide) (by decide) slices_S1024x2304_o0_384_S1024x128 x).trans (hi x 384 (by decide) (r0_9.idx x) rfl rfl)
  rcases List.mem_cons.mp hpc with rfl | hpc
  · exact fun x => (hp 256 (by decide) (by decide) slices_S1024x2304_o0_256_S1024x128 x).trans (hi x 256 (by decide) (r0_8.idx x) rfl rfl)
  rcases List.mem_cons.mp hpc with rfl | hpc
  · exact fun x => (hp 128 (by decide) (by decide) slices_S1024x2304_o0_128_S1024x128 x).trans (hi x 128 (by decide) (r0_7.idx x) rfl rfl)
  rcases List.mem_cons.mp hpc with rfl | hpc
  · exact fun x => (hp 0 (by decide) (by decide) slices_S1024x2304_o0_0_S1024x128 x).trans (hi x 0 (by decide) (r0_6.idx x) rfl rfl)
  nomatch hpc

/-- The block of keys of the first kind. -/
theorem out7_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (c : Fin 128) :
    (out0_7 x0 x1 x2 x3 x4 x5 (ix2 r c) : EReal) = turnedBlock 512 0x3F800000#32 x0 x1 x2 x3 x4 x5 r c.val := by
  have hp : ∀ (j : ℕ) (hj : j % 128 = 0) (hh : j + 512 + 128 ≤ 2304) (hs : S1024x2304.Slices ![0, 512 + j] S1024x128) (x : S1024x128.Idx),
      (truncf .bf16 (mulf (addf (mulf (extractStridedSlice S1024x128 ![0, 512 + j] (k0_pay34 x0 x1 x2 x3 x4 x5) hs) (k0_pay35 x0 x1 x2 x3 x4 x5))
        (mulf (select (broadcastTo S1024x128 (shapeCast S1x128 (k0_pay37 x0 x1 x2 x3 x4 x5) shapeCasts_S1x128_S1x128) broadcasts_S1x128_S1024x128)
          (dynamicRotate 1 96#32 none (extractStridedSlice S1024x128 ![0, 512 + j] (k0_pay34 x0 x1 x2 x3 x4 x5) hs) rotates_S1024x128_d1)
          (dynamicRotate 1 32#32 none (extractStridedSlice S1024x128 ![0, 512 + j] (k0_pay34 x0 x1 x2 x3 x4 x5) hs) rotates_S1024x128_d1)) (k0_pay36 x0 x1 x2 x3 x4 x5)))
        (broadcast S1024x128 (Ideal.ofBits .f32 0x3F800000#32))) bitsLt_bf16_f32 : FVec Ideal S1024x128 .bf16) x
      = turnedBlock 512 0x3F800000#32 x0 x1 x2 x3 x4 x5 (x 0) (j + (x 1).val) := fun j hj hh hs x => by
    rw [eq_ix2 x]
    exact (turned_at (k0_pay34 x0 x1 x2 x3 x4 x5) (k0_pay35 x0 x1 x2 x3 x4 x5) (k0_pay36 x0 x1 x2 x3 x4 x5) (k0_pay37 x0 x1 x2 x3 x4 x5) (mask_at x0 x1 x2 x3 x4 x5) _ (512 + j) (by omega) (by omega) hs _ _).trans
      (turned_shift _ _ _ _ 512 j hj _ _)
  have hi : ∀ (x : S1024x128.Idx) (j : ℕ) (hh : j + 128 ≤ 128) (y : S1024x128.Idx) (h0 : (y 0).val = 0 + 1 * (x 0).val) (h1 : (y 1).val = j + 1 * (x 1).val),
      turnedBlock 512 0x3F800000#32 x0 x1 x2 x3 x4 x5 (x 0) (j + (x 1).val) = turnedBlock 512 0x3F800000#32 x0 x1 x2 x3 x4 x5 (y 0) (y 1).val := fun x j hh y h0 h1 => by
    rw [h1, show y 0 = x 0 from Fin.ext (by rw [h0]; omega), Nat.one_mul]
  refine View.canon_apply_of_pieces (Val := Elt Ideal) ((fun y => turnedBlock 512 0x3F800000#32 x0 x1 x2 x3 x4 x5 (y 0) (y 1).val) : Vec Ideal S1024x128 .bf16) _ ?_ (ix2 r c) (cover0_7 _ (ix2 r c))
  intro pc hpc
  rcases List.mem_cons.mp hpc with rfl | hpc
  · exact fun x => (hp 0 (by decide) (by decide) slices_S1024x2304_o0_512_S1024x128 x).trans (hi x 0 (by decide) (r0_5.idx x) rfl rfl)
  nomatch hpc

/-- The block of queries of the second kind. -/
theorem out8_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (c : Fin 512) :
    (out0_8 x0 x1 x2 x3 x4 x5 (ix2 r c) : EReal) = turnedBlock 768 0x3E000000#32 x0 x1 x2 x3 x4 x5 r c.val := by
  have hp : ∀ (j : ℕ) (hj : j % 128 = 0) (hh : j + 768 + 128 ≤ 2304) (hs : S1024x2304.Slices ![0, 768 + j] S1024x128) (x : S1024x128.Idx),
      (truncf .bf16 (mulf (addf (mulf (extractStridedSlice S1024x128 ![0, 768 + j] (k0_pay34 x0 x1 x2 x3 x4 x5) hs) (k0_pay35 x0 x1 x2 x3 x4 x5))
        (mulf (select (broadcastTo S1024x128 (shapeCast S1x128 (k0_pay37 x0 x1 x2 x3 x4 x5) shapeCasts_S1x128_S1x128) broadcasts_S1x128_S1024x128)
          (dynamicRotate 1 96#32 none (extractStridedSlice S1024x128 ![0, 768 + j] (k0_pay34 x0 x1 x2 x3 x4 x5) hs) rotates_S1024x128_d1)
          (dynamicRotate 1 32#32 none (extractStridedSlice S1024x128 ![0, 768 + j] (k0_pay34 x0 x1 x2 x3 x4 x5) hs) rotates_S1024x128_d1)) (k0_pay36 x0 x1 x2 x3 x4 x5)))
        (broadcast S1024x128 (Ideal.ofBits .f32 0x3E000000#32))) bitsLt_bf16_f32 : FVec Ideal S1024x128 .bf16) x
      = turnedBlock 768 0x3E000000#32 x0 x1 x2 x3 x4 x5 (x 0) (j + (x 1).val) := fun j hj hh hs x => by
    rw [eq_ix2 x]
    exact (turned_at (k0_pay34 x0 x1 x2 x3 x4 x5) (k0_pay35 x0 x1 x2 x3 x4 x5) (k0_pay36 x0 x1 x2 x3 x4 x5) (k0_pay37 x0 x1 x2 x3 x4 x5) (mask_at x0 x1 x2 x3 x4 x5) _ (768 + j) (by omega) (by omega) hs _ _).trans
      (turned_shift _ _ _ _ 768 j hj _ _)
  have hi : ∀ (x : S1024x128.Idx) (j : ℕ) (hh : j + 128 ≤ 512) (y : S1024x512.Idx) (h0 : (y 0).val = 0 + 1 * (x 0).val) (h1 : (y 1).val = j + 1 * (x 1).val),
      turnedBlock 768 0x3E000000#32 x0 x1 x2 x3 x4 x5 (x 0) (j + (x 1).val) = turnedBlock 768 0x3E000000#32 x0 x1 x2 x3 x4 x5 (y 0) (y 1).val := fun x j hh y h0 h1 => by
    rw [h1, show y 0 = x 0 from Fin.ext (by rw [h0]; omega), Nat.one_mul]
  refine View.canon_apply_of_pieces (Val := Elt Ideal) ((fun y => turnedBlock 768 0x3E000000#32 x0 x1 x2 x3 x4 x5 (y 0) (y 1).val) : Vec Ideal S1024x512 .bf16) _ ?_ (ix2 r c) (cover0_8 _ _ _ _ (ix2 r c))
  intro pc hpc
  rcases List.mem_cons.mp hpc with rfl | hpc
  · exact fun x => (hp 384 (by decide) (by decide) slices_S1024x2304_o0_1152_S1024x128 x).trans (hi x 384 (by decide) (r0_9.idx x) rfl rfl)
  rcases List.mem_cons.mp hpc with rfl | hpc
  · exact fun x => (hp 256 (by decide) (by decide) slices_S1024x2304_o0_1024_S1024x128 x).trans (hi x 256 (by decide) (r0_8.idx x) rfl rfl)
  rcases List.mem_cons.mp hpc with rfl | hpc
  · exact fun x => (hp 128 (by decide) (by decide) slices_S1024x2304_o0_896_S1024x128 x).trans (hi x 128 (by decide) (r0_7.idx x) rfl rfl)
  rcases List.mem_cons.mp hpc with rfl | hpc
  · exact fun x => (hp 0 (by decide) (by decide) slices_S1024x2304_o0_768_S1024x128 x).trans (hi x 0 (by decide) (r0_6.idx x) rfl rfl)
  nomatch hpc

/-- The block of keys of the second kind. -/
theorem out9_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (c : Fin 512) :
    (out0_9 x0 x1 x2 x3 x4 x5 (ix2 r c) : EReal) = turnedBlock 1280 0x3F800000#32 x0 x1 x2 x3 x4 x5 r c.val := by
  have hp : ∀ (j : ℕ) (hj : j % 128 = 0) (hh : j + 1280 + 128 ≤ 2304) (hs : S1024x2304.Slices ![0, 1280 + j] S1024x128) (x : S1024x128.Idx),
      (truncf .bf16 (mulf (addf (mulf (extractStridedSlice S1024x128 ![0, 1280 + j] (k0_pay34 x0 x1 x2 x3 x4 x5) hs) (k0_pay35 x0 x1 x2 x3 x4 x5))
        (mulf (select (broadcastTo S1024x128 (shapeCast S1x128 (k0_pay37 x0 x1 x2 x3 x4 x5) shapeCasts_S1x128_S1x128) broadcasts_S1x128_S1024x128)
          (dynamicRotate 1 96#32 none (extractStridedSlice S1024x128 ![0, 1280 + j] (k0_pay34 x0 x1 x2 x3 x4 x5) hs) rotates_S1024x128_d1)
          (dynamicRotate 1 32#32 none (extractStridedSlice S1024x128 ![0, 1280 + j] (k0_pay34 x0 x1 x2 x3 x4 x5) hs) rotates_S1024x128_d1)) (k0_pay36 x0 x1 x2 x3 x4 x5)))
        (broadcast S1024x128 (Ideal.ofBits .f32 0x3F800000#32))) bitsLt_bf16_f32 : FVec Ideal S1024x128 .bf16) x
      = turnedBlock 1280 0x3F800000#32 x0 x1 x2 x3 x4 x5 (x 0) (j + (x 1).val) := fun j hj hh hs x => by
    rw [eq_ix2 x]
    exact (turned_at (k0_pay34 x0 x1 x2 x3 x4 x5) (k0_pay35 x0 x1 x2 x3 x4 x5) (k0_pay36 x0 x1 x2 x3 x4 x5) (k0_pay37 x0 x1 x2 x3 x4 x5) (mask_at x0 x1 x2 x3 x4 x5) _ (1280 + j) (by omega) (by omega) hs _ _).trans
      (turned_shift _ _ _ _ 1280 j hj _ _)
  have hi : ∀ (x : S1024x128.Idx) (j : ℕ) (hh : j + 128 ≤ 512) (y : S1024x512.Idx) (h0 : (y 0).val = 0 + 1 * (x 0).val) (h1 : (y 1).val = j + 1 * (x 1).val),
      turnedBlock 1280 0x3F800000#32 x0 x1 x2 x3 x4 x5 (x 0) (j + (x 1).val) = turnedBlock 1280 0x3F800000#32 x0 x1 x2 x3 x4 x5 (y 0) (y 1).val := fun x j hh y h0 h1 => by
    rw [h1, show y 0 = x 0 from Fin.ext (by rw [h0]; omega), Nat.one_mul]
  refine View.canon_apply_of_pieces (Val := Elt Ideal) ((fun y => turnedBlock 1280 0x3F800000#32 x0 x1 x2 x3 x4 x5 (y 0) (y 1).val) : Vec Ideal S1024x512 .bf16) _ ?_ (ix2 r c) (cover0_9 _ _ _ _ (ix2 r c))
  intro pc hpc
  rcases List.mem_cons.mp hpc with rfl | hpc
  · exact fun x => (hp 384 (by decide) (by decide) slices_S1024x2304_o0_1664_S1024x128 x).trans (hi x 384 (by decide) (r0_9.idx x) rfl rfl)
  rcases List.mem_cons.mp hpc with rfl | hpc
  · exact fun x => (hp 256 (by decide) (by decide) slices_S1024x2304_o0_1536_S1024x128 x).trans (hi x 256 (by decide) (r0_8.idx x) rfl rfl)
  rcases List.mem_cons.mp hpc with rfl | hpc
  · exact fun x => (hp 128 (by decide) (by decide) slices_S1024x2304_o0_1408_S1024x128 x).trans (hi x 128 (by decide) (r0_7.idx x) rfl rfl)
  rcases List.mem_cons.mp hpc with rfl | hpc
  · exact fun x => (hp 0 (by decide) (by decide) slices_S1024x2304_o0_1280_S1024x128 x).trans (hi x 0 (by decide) (r0_6.idx x) rfl rfl)
  nomatch hpc

/-- A block's projection, of the block's rows as they are loaded. -/
theorem blockProduct_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (c : Fin 2304) :
    (k0_pay34 x0 x1 x2 x3 x4 x5 (ix2 r c) : EReal)
      = proj (fun k => x0 (ix2 r k)) (fun k => x2 (ix2 0 k)) (fun k => x1 (ix3 0 1 k)) (fun k => x1 (ix3 0 0 k)) (fun k c => x3 (ix2 k c)) c := by
  unfold k0_pay34
  rw [product_at]
  have e0 : ∀ k, View.ld x0 r0_0 (ix2 r k) = x0 (ix2 r k) := fun k =>
    View.ld_unit_apply_of x0 _ _ _ _ _ (fun a => by fin_cases a <;> exact (Nat.zero_add _).symm)
  have e2 : ∀ k, View.ld x2 r0_1 (ix2 0 k) = x2 (ix2 0 k) := fun k =>
    View.ld_unit_apply_of x2 _ _ _ _ _ (fun a => by fin_cases a <;> exact (Nat.zero_add _).symm)
  have e10 : ∀ k, View.ld x1 r0_2 (ix3 0 0 k) = x1 (ix3 0 0 k) := fun k =>
    View.ld_unit_apply_of x1 _ _ _ _ _ (fun a => by fin_cases a <;> exact (Nat.zero_add _).symm)
  have e11 : ∀ k, View.ld x1 r0_3 (ix3 0 0 k) = x1 (ix3 0 1 k) := fun k =>
    View.ld_unit_apply_of x1 _ _ _ _ _ (fun a => by fin_cases a <;> first | exact (Nat.zero_add _).symm | rfl)
  have e3 : ∀ k c, View.ld x3 r0_4 (ix2 k c) = x3 (ix2 k c) := fun k c =>
    View.ld_unit_apply_of x3 _ _ _ _ _ (fun a => by fin_cases a <;> exact (Nat.zero_add _).symm)
  simp only [e0, e2, e10, e11, e3]

theorem cosine_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (l : Fin 128) : k0_pay35 x0 x1 x2 x3 x4 x5 (ix2 r l) = x4 (ix2 r l) := by
  unfold k0_pay35 k0_pay5
  refine (congrFun (shapeCast_self _ _) _).trans ?_
  exact View.ld_unit_apply_of x4 _ _ _ _ _ (fun a => by fin_cases a <;> exact (Nat.zero_add _).symm)

theorem sine_at (x0 : Vec Ideal S1024x1024 .f32) (x1 : Vec Ideal S1x6x1024 .f32) (x2 : Vec Ideal S1x1024 .f32) (x3 : Vec Ideal S1024x2304 .bf16) (x4 x5 : Vec Ideal S1024x128 .f32) (r : Fin 1024) (l : Fin 128) : k0_pay36 x0 x1 x2 x3 x4 x5 (ix2 r l) = x5 (ix2 r l) := by
  unfold k0_pay36 k0_pay6
  refine (congrFun (shapeCast_self _ _) _).trans ?_
  exact View.ld_unit_apply_of x5 _ _ _ _ _ (fun a => by fin_cases a <;> exact (Nat.zero_add _).symm)

/-- The values' blocks: rows and columns exchanged, in chunks of 256 rows. -/
theorem out10_at (x0 : Vec Ideal S1024x1024 .f32) (x1 : Vec Ideal S1x6x1024 .f32) (x2 : Vec Ideal S1x1024 .f32) (x3 : Vec Ideal S1024x2304 .bf16) (x4 x5 : Vec Ideal S1024x128 .f32) (i : Fin 4) (e : Fin 128) (κ : Fin 256) :
    (out0_10 x0 x1 x2 x3 x4 x5 (ix3 i e κ) : EReal) = k0_pay34 x0 x1 x2 x3 x4 x5 (ix2 ⟨256 * i.val + κ.val, by omega⟩ (col (640 + e.val))) := by
  refine (Value.canon10_eq (F := Ideal) _ _ _ _ _ (ix3 i e κ)).trans (congrArg (k0_pay34 x0 x1 x2 x3 x4 x5) (funext fun a => Fin.ext ?_))
  match a with
  | ⟨0, _⟩ => show i.val * 256 + κ.val = 256 * i.val + κ.val; omega
  | ⟨1, _⟩ => show e.val + 640 = (640 + e.val) % 2304; omega

theorem out11_at (x0 : Vec Ideal S1024x1024 .f32) (x1 : Vec Ideal S1x6x1024 .f32) (x2 : Vec Ideal S1x1024 .f32) (x3 : Vec Ideal S1024x2304 .bf16) (x4 x5 : Vec Ideal S1024x128 .f32) (i : Fin 4) (e : Fin 512) (κ : Fin 256) :
    (out0_11 x0 x1 x2 x3 x4 x5 (ix3 i e κ) : EReal) = k0_pay34 x0 x1 x2 x3 x4 x5 (ix2 ⟨256 * i.val + κ.val, by omega⟩ (col (1792 + e.val))) := by
  refine (Value.canon11_eq (F := Ideal) _ _ _ _ _ (ix3 i e κ)).trans (congrArg (k0_pay34 x0 x1 x2 x3 x4 x5) (funext fun a => Fin.ext ?_))
  match a with
  | ⟨0, _⟩ => show i.val * 256 + κ.val = 256 * i.val + κ.val; omega
  | ⟨1, _⟩ => show e.val + 1792 = (1792 + e.val) % 2304; omega

end Cert.Kernel2Ideal.PreAttn

end
-- ==== Proof.RotaryWindows.lean ====
/- The projection kernel's grid: point `t` takes rows `1024 t` and on; the first 32 points are latent rows, eight to a batch, and the last
   is all the context rows. Which part of the arrays every point reads and writes. -/
module

public import proofs.«01_k».proof.Proof.RotaryBlock
public import Idealize.ShloMosaic.Lib.Pipeline.ValueKit.Point

@[expose] public section

noncomputable section

namespace Cert.Kernel2Ideal.PreAttn

open Idealize.ShloMosaic Idealize.ShloMosaic.TcCoe
open Cert.Kernel2Ideal Cert.Kernel2Ideal.Gen Cert.PreAttn

/-- The modulation a point's rows take: their batch's, or the context's. -/
def modOf (t : ℕ) : ℕ := if t < 32 then t / 8 else 4
/-- The block of the rotary tables a point takes: its rows within their batch, or the rows past all batches'. -/
def tabOf (t : ℕ) : ℕ := if t < 32 then t % 8 else 8

theorem point_lt (t : Fin cfg0.N) : t.val < 33 := t.isLt
theorem modOf_lt (t : Fin cfg0.N) : modOf t.val < 8 := by
  unfold modOf; split <;> omega
theorem tabOf_lt (t : Fin cfg0.N) : tabOf t.val < 9 := by
  unfold tabOf; split <;> omega

theorem idx0 : ∀ t : Fin cfg0.N, win0_0.index t = ![t.val, 0] := by decide +kernel
theorem idx1 : ∀ t : Fin cfg0.N, win0_1.index t = ![modOf t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![tabOf t.val, 0] := by decide +kernel
theorem idx5 : ∀ t : Fin cfg0.N, win0_5.index t = ![tabOf t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0, 0] := by decide +kernel
theorem idx11 : ∀ t : Fin cfg0.N, win0_11.index t = ![t.val, 0, 0] := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel
theorem flush9 : ∀ t : Fin cfg0.N, (cfg0.win 9).flush t = true := by decide +kernel
theorem flush10 : ∀ t : Fin cfg0.N, (cfg0.win 10).flush t = true := by decide +kernel
theorem flush11 : ∀ t : Fin cfg0.N, (cfg0.win 11).flush t = true := by decide +kernel

variable {F : FTy → Type} [FloatOps F]
variable (m : (ℓ : Loc nD τ sig) → Buf (Elt F) ℓ)

theorem blk0_at (c : Dev nD) (t : Fin cfg0.N) (r : Fin 1024) (d : Fin 1024) :
    (iblk m c 0 t : Vec F S1024x1024 .f32) (ix2 r d)
      = (V m c main_v2 : Vec F S33792x1024 .f32) (ix2 ⟨1024 * t.val + r.val, by have := point_lt t; omega⟩ d) := by
  blk_ext [iblk, idx0 t]

theorem blk1_at (c : Dev nD) (t : Fin cfg0.N) (j : Fin 6) (d : Fin 1024) :
    (iblk m c 1 t : Vec F S1x6x1024 .f32) (ix3 0 j d)
      = (V m c main_v5 : Vec F S8x6x1024 .f32) (ix3 ⟨modOf t.val, modOf_lt t⟩ j d) := by
  blk_ext [iblk, idx1 t]

theorem blk2_at (c : Dev nD) (t : Fin cfg0.N) (d : Fin 1024) :
    (iblk m c 2 t : Vec F S1x1024 .f32) (ix2 0 d) = (V m c main_v18 : Vec F S1x1024 .f32) (ix2 0 d) := by
  blk_ext [iblk, idx2 t]

theorem blk3_at (c : Dev nD) (t : Fin cfg0.N) (k : Fin 1024) (d : Fin 2304) :
    (iblk m c 3 t : Vec F S1024x2304 .bf16) (ix2 k d) = (V m c main_v19 : Vec F S1024x2304 .bf16) (ix2 k d) := by
  blk_ext [iblk, idx3 t]

theorem blk4_at (c : Dev nD) (t : Fin cfg0.N) (r : Fin 1024) (l : Fin 128) :
    (iblk m c 4 t : Vec F S1024x128 .f32) (ix2 r l)
      = (V m c main_v15 : Vec F S9216x128 .f32) (ix2 ⟨1024 * tabOf t.val + r.val, by have := tabOf_lt t; omega⟩ l) := by
  blk_ext [iblk, idx4 t]

theorem blk5_at (c : Dev nD) (t : Fin cfg0.N) (r : Fin 1024) (l : Fin 128) :
    (iblk m c 5 t : Vec F S1024x128 .f32) (ix2 r l)
      = (V m c main_v17 : Vec F S9216x128 .f32) (ix2 ⟨1024 * tabOf t.val + r.val, by have := tabOf_lt t; omega⟩ l) := by
  blk_ext [iblk, idx5 t]

/-! What the six output arrays end holding: at every row what the row's point left in the output's buffer. -/

theorem arr6_at (c : Dev nD) (t : Fin cfg0.N) (r : Fin 1024) (d : Fin 512) :
    ((dats m 0 c).arrAt 6 cfg0.N : Vec F S33792x512 .bf16) (ix2 ⟨1024 * t.val + r.val, by have := point_lt t; omega⟩ d)
      = out0_6 (iblk m c 0 t) (iblk m c 1 t) (iblk m c 2 t) (iblk m c 3 t) (iblk m c 4 t) (iblk m c 5 t) (ix2 r d) := by
  have h := congrFun ((Value.blocks6 m c t (flush6 t)).trans (Value.flushed6 m c t)) (ix2 r d)
  refine Eq.trans ?_ h
  symm
  blk_ext [idx6 t]

theorem arr7_at (c : Dev nD) (t : Fin cfg0.N) (r : Fin 1024) (d : Fin 128) :
    ((dats m 0 c).arrAt 7 cfg0.N : Vec F S33792x128 .bf16) (ix2 ⟨1024 * t.val + r.val, by have := point_lt t; omega⟩ d)
      = out0_7 (iblk m c 0 t) (iblk m c 1 t) (iblk m c 2 t) (iblk m c 3 t) (iblk m c 4 t) (iblk m c 5 t) (ix2 r d) := by
  have h := congrFun ((Value.blocks7 m c t (flush7 t)).trans (Value.flushed7 m c t)) (ix2 r d)
  refine Eq.trans ?_ h
  symm
  blk_ext [idx7 t]

theorem arr8_at (c : Dev nD) (t : Fin cfg0.N) (r : Fin 1024) (d : Fin 512) :
    ((dats m 0 c).arrAt 8 cfg0.N : Vec F S33792x512 .bf16) (ix2 ⟨1024 * t.val + r.val, by have := point_lt t; omega⟩ d)
      = out0_8 (iblk m c 0 t) (iblk m c 1 t) (iblk m c 2 t) (iblk m c 3 t) (iblk m c 4 t) (iblk m c 5 t) (ix2 r d) := by
  have h := congrFun ((Value.blocks8 m c t (flush8 t)).trans (Value.flushed8 m c t)) (ix2 r d)
  refine Eq.trans ?_ h
  symm
  blk_ext [idx8 t]

theorem arr9_at (c : Dev nD) (t : Fin cfg0.N) (r : Fin 1024) (d : Fin 512) :
    ((dats m 0 c).arrAt 9 cfg0.N : Vec F S33792x512 .bf16) (ix2 ⟨1024 * t.val + r.val, by have := point_lt t; omega⟩ d)
      = out0_9 (iblk m c 0 t) (iblk m c 1 t) (iblk m c 2 t) (iblk m c 3 t) (iblk m c 4 t) (iblk m c 5 t) (ix2 r d) := by
  have h := congrFun ((Value.blocks9 m c t (flush9 t)).trans (Value.flushed9 m c t)) (ix2 r d)
  refine Eq.trans ?_ h
  symm
  blk_ext [idx9 t]

theorem arr10_at (c : Dev nD) (t : Fin cfg0.N) (i : Fin 4) (e : Fin 128) (κ : Fin 256) :
    ((dats m 0 c).arrAt 10 cfg0.N : Vec F S132x128x256 .bf16) (ix3 ⟨4 * t.val + i.val, by have := point_lt t; omega⟩ e κ)
      = out0_10 (iblk m c 0 t) (iblk m c 1 t) (iblk m c 2 t) (iblk m c 3 t) (iblk m c 4 t) (iblk m c 5 t) (ix3 i e κ) := by
  have h := congrFun ((Value.blocks10 m c t (flush10 t)).trans (Value.flushed10 m c t)) (ix3 i e κ)
  refine Eq.trans ?_ h
  symm
  blk_ext [idx10 t]

theorem arr11_at (c : Dev nD) (t : Fin cfg0.N) (i : Fin 4) (e : Fin 512) (κ : Fin 256) :
    ((dats m 0 c).arrAt 11 cfg0.N : Vec F S132x512x256 .bf16) (ix3 ⟨4 * t.val + i.val, by have := point_lt t; omega⟩ e κ)
      = out0_11 (iblk m c 0 t) (iblk m c 1 t) (iblk m c 2 t) (iblk m c 3 t) (iblk m c 4 t) (iblk m c 5 t) (ix3 i e κ) := by
  have h := congrFun ((Value.blocks11 m c t (flush11 t)).trans (Value.flushed11 m c t)) (ix3 i e κ)
  refine Eq.trans ?_ h
  symm
  blk_ext [idx11 t]

end Cert.Kernel2Ideal.PreAttn

end
-- ==== Proof.RotaryHost.lean ====
/- What the arrays hold that the projection kernel is given: the host's rows, modulations and rotary tables, read at an index. -/
module

public import Idealize.ShloMosaic.Lib.StableHlo.RunRead
public import proofs.«01_k».proof.Proof.RotaryWindows

@[expose] public section

noncomputable section

namespace Cert.Kernel2Ideal.PreAttn

open Idealize.ShloMosaic Idealize.ShloMosaic.TcCoe
open Cert.Kernel2Ideal Cert.Kernel2Ideal.Gen Cert.PreAttn

variable (m : (ℓ : Loc nD τ sig) → Buf (Elt Ideal) ℓ)

/-- Row `s` of batch `b`, latent. -/
def rowL (b : Fin 4) (s : Fin 8192) : Fin 33792 := ⟨8192 * b.val + s.val, by omega⟩
/-- Row `l` of batch `b`, context. -/
def rowC (b : Fin 4) (l : Fin 256) : Fin 33792 := ⟨32768 + (256 * b.val + l.val), by omega⟩

/-- An array of numbers at an index, as an extended real. -/
abbrev rdF (s : Shape) (v : Vec Ideal s .f32) (i : s.Idx) : EReal := v i
/-- The same of an array in the kernel's operand type. -/
abbrev rdH (s : Shape) (v : Vec Ideal s .bf16) (i : s.Idx) : EReal := v i

section Layout

variable {α : Type}

theorem rows_latent (x : S32768x1024.Idx → α) (y : S1024x1024.Idx → α) (w) (b : Fin 4) (s : Fin 8192) (k : Fin 1024) :
    concatenate S33792x1024 0 [⟨S32768x1024, x⟩, ⟨S1024x1024, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem rows_context (x : S32768x1024.Idx → α) (y : S1024x1024.Idx → α) (w) (b : Fin 4) (l : Fin 256) (k : Fin 1024) :
    concatenate S33792x1024 0 [⟨S32768x1024, x⟩, ⟨S1024x1024, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem flat_latent (v : S4x8192x1024.Idx → α) (b : Fin 4) (s : Fin 8192) (k : Fin 1024) (w) :
    shapeCast S32768x1024 v w (ix2 ⟨8192 * b.val + s.val, by omega⟩ k) = v (ix3 b s k) :=
  shapeCast_apply v w _ _ (by
    rewrite [Shape.rowMajor_val_three, Shape.rowMajor_val_two]
    show (b.val * 8192 + s.val) * 1024 + k.val = (8192 * b.val + s.val) * 1024 + k.val
    omega)

theorem flat_context (v : S4x256x1024.Idx → α) (b : Fin 4) (l : Fin 256) (k : Fin 1024) (w) :
    shapeCast S1024x1024 v w (ix2 ⟨256 * b.val + l.val, by omega⟩ k) = v (ix3 b l k) :=
  shapeCast_apply v w _ _ (by
    rewrite [Shape.rowMajor_val_three, Shape.rowMajor_val_two]
    show (b.val * 256 + l.val) * 1024 + k.val = (256 * b.val + l.val) * 1024 + k.val
    omega)

theorem table_latent (x : S8192x128.Idx → α) (y : S1024x128.Idx → α) (w) (s : Fin 8192) (l : Fin 128) :
    concatenate S9216x128 0 [⟨S8192x128, x⟩, ⟨S1024x128, y⟩] w (ix2 ⟨s.val, by omega⟩ l) = x (ix2 s l) :=
  concatenate_pair_apply_left 0 x y w _ rfl _ (fun a => by match a with | ⟨0, _⟩ => rfl | ⟨1, _⟩ => rfl)

theorem table_context (x : S8192x128.Idx → α) (y : S1024x128.Idx → α) (w) (r : Fin 1024) (l : Fin 128) :
    concatenate S9216x128 0 [⟨S8192x128, x⟩, ⟨S1024x128, y⟩] w (ix2 ⟨8192 + r.val, by omega⟩ l) = y (ix2 r l) :=
  concatenate_pair_apply_right 0 x y w _ rfl rfl _ (fun a ha => by match a with | ⟨0, _⟩ => exact absurd rfl ha | ⟨1, _⟩ => rfl)
    (by show r.val + 8192 = 8192 + r.val; omega)

/-- Four copies of a table of 32 side by side. -/
theorem four_times (v : S8192x32.Idx → α) (s : Fin 8192) (l : Fin 128) (w w' w'') :
    shapeCast S8192x128 (broadcastInDim S1x8192x4x32 ![0, 1, 2, 3] w' (shapeCast S1x8192x1x32 v w)) w'' (ix2 s l) = v (ix2 s (lane l.val)) := by
  refine (shapeCast_apply _ w'' _ (ix4 0 s ⟨l.val / 32, by omega⟩ (lane l.val)) (by
    rewrite [Shape.rowMajor_val_four, Shape.rowMajor_val_two]
    show ((0 * 8192 + s.val) * 4 + l.val / 32) * 32 + l.val % 32 = s.val * 128 + l.val
    omega)).trans ?_
  refine (broadcastInDim_apply _ w' _ _ (ix4 0 s 0 (lane l.val)) (fun a => by
    match a with
    | ⟨0, _⟩ => rfl
    | ⟨1, _⟩ => rfl
    | ⟨2, _⟩ => rfl
    | ⟨3, _⟩ => rfl)).trans ?_
  exact shapeCast_apply v w _ _ (by
    rewrite [Shape.rowMajor_val_four, Shape.rowMajor_val_two]
    show s.val * 32 + l.val % 32 = ((0 * 8192 + s.val) * 1 + 0) * 32 + l.val % 32
    omega)

/-- Two copies of a table of 64 side by side. -/
theorem two_times (v : S8192x64.Idx → α) (s : Fin 8192) (l : Fin 128) (w w' w'') :
    shapeCast S8192x128 (broadcastInDim S1x8192x2x64 ![0, 1, 2, 3] w' (shapeCast S1x8192x1x64 v w)) w'' (ix2 s l)
      = v (ix2 s ⟨l.val % 64, Nat.mod_lt _ (by decide)⟩) := by
  refine (shapeCast_apply _ w'' _ (ix4 0 s ⟨l.val / 64, by omega⟩ ⟨l.val % 64, Nat.mod_lt _ (by decide)⟩) (by
    rewrite [Shape.rowMajor_val_four, Shape.rowMajor_val_two]
    show ((0 * 8192 + s.val) * 2 + l.val / 64) * 64 + l.val % 64 = s.val * 128 + l.val
    omega)).trans ?_
  refine (broadcastInDim_apply _ w' _ _ (ix4 0 s 0 ⟨l.val % 64, Nat.mod_lt _ (by decide)⟩) (fun a => by
    match a with
    | ⟨0, _⟩ => rfl
    | ⟨1, _⟩ => rfl
    | ⟨2, _⟩ => rfl
    | ⟨3, _⟩ => rfl)).trans ?_
  exact shapeCast_apply v w _ _ (by
    rewrite [Shape.rowMajor_val_four, Shape.rowMajor_val_two]
    show s.val * 64 + l.val % 64 = ((0 * 8192 + s.val) * 1 + 0) * 64 + l.val % 64
    omega)

theorem halves (x y : S8192x32.Idx → α) (s : Fin 8192) (l : ℕ) (w) :
    concatenate S8192x64 1 [⟨S8192x32, x⟩, ⟨S8192x32, y⟩] w (ix2 s ⟨l % 64, Nat.mod_lt _ (by decide)⟩)
      = if l % 64 < 32 then x (ix2 s (lane l)) else y (ix2 s (lane l)) := by
  by_cases h : l % 64 < 32
  · rw [if_pos h]
    exact concatenate_pair_apply_left 1 x y w _ rfl _ (fun a => by
      match a with
      | ⟨0, _⟩ => rfl
      | ⟨1, _⟩ => show l % 32 = l % 64; omega)
  · rw [if_neg h]
    exact concatenate_pair_apply_right 1 x y w _ rfl rfl _ (fun a ha => by match a with | ⟨0, _⟩ => rfl | ⟨1, _⟩ => exact absurd rfl ha)
      (by show l % 32 + 32 = l % 64; omega)

/-- The modulations: the four batches' and then the context's. -/
theorem mods_latent (x : S4x6x1024.Idx → α) (y : S1x6x1024.Idx → α) (z : S3x6x1024.Idx → α) (w) (b : Fin 4) (j : Fin 6) (k : Fin 1024) :
    concatenate S8x6x1024 0 [⟨S4x6x1024, x⟩, ⟨S1x6x1024, y⟩, ⟨S3x6x1024, z⟩] w (ix3 ⟨b.val, by omega⟩ j k) = x (ix3 b j k) := by
  refine concatenate_apply_piece 0 _ w _ 0 (by simp) S4x6x1024 x rfl rfl 0 rfl (ix3 b j k) ?_ ?_
  · exact fun a ha => by match a with | ⟨0, _⟩ => exact absurd rfl ha | ⟨1, _⟩ => rfl | ⟨2, _⟩ => rfl
  · exact Nat.zero_add _

theorem mods_context (x : S4x6x1024.Idx → α) (y : S1x6x1024.Idx → α) (z : S3x6x1024.Idx → α) (w) (j : Fin 6) (k : Fin 1024) :
    concatenate S8x6x1024 0 [⟨S4x6x1024, x⟩, ⟨S1x6x1024, y⟩, ⟨S3x6x1024, z⟩] w (ix3 4 j k) = y (ix3 0 j k) := by
  refine concatenate_apply_piece 0 _ w _ 1 (by simp) S1x6x1024 y rfl rfl 4 rfl (ix3 0 j k) ?_ ?_
  · exact fun a ha => by match a with | ⟨0, _⟩ => exact absurd rfl ha | ⟨1, _⟩ => rfl | ⟨2, _⟩ => rfl
  · rfl

theorem lift_mod (v : S6x1024.Idx → α) (j : Fin 6) (k : Fin 1024) (w) : broadcastInDim S1x6x1024 ![1, 2] w v (ix3 0 j k) = v (ix2 j k) := by
  pointwise

theorem lift_norm (v : S1024.Idx → α) (k : Fin 1024) (w) : broadcastInDim S1x1024 ![1] w v (ix2 0 k) = v (ix1 k) := by
  pointwise

end Layout

theorem xs_lat (c : Dev nD) (b : Fin 4) (s : Fin 8192) (k : Fin 1024) :
    rdF S33792x1024 (V m c main_v2) (ix2 (rowL b s) k) = rdF S4x8192x1024 (m ((c : Thread nD τ).loc main_arg0)) (ix3 b s k) := by
  unfold rdF
  entry_read
  exact (rows_latent _ _ concatenates_S32768x1024_S1024x1024_S33792x1024_d0 b s k).trans (flat_latent _ b s k _)

theorem xs_ctx (c : Dev nD) (b : Fin 4) (l : Fin 256) (k : Fin 1024) :
    rdF S33792x1024 (V m c main_v2) (ix2 (rowC b l) k) = rdF S4x256x1024 (m ((c : Thread nD τ).loc main_arg1)) (ix3 b l k) := by
  unfold rdF
  entry_read
  exact (rows_context _ _ concatenates_S32768x1024_S1024x1024_S33792x1024_d0 b l k).trans (flat_context _ b l k _)

set_option maxRecDepth 8000 in
set_option maxHeartbeats 1000000 in
theorem mod_lat (c : Dev nD) (b : Fin 4) (j : Fin 6) (k : Fin 1024) :
    rdF S8x6x1024 (V m c main_v5) (ix3 ⟨b.val, by omega⟩ j k) = rdF S4x6x1024 (m ((c : Thread nD τ).loc main_arg2)) (ix3 b j k) := by
  unfold rdF
  after_reads_simp
  exact mods_latent _ _ _ concatenates_S4x6x1024_S1x6x1024_S3x6x1024_S8x6x1024_d0 b j k

set_option maxRecDepth 8000 in
set_option maxHeartbeats 1000000 in
theorem mod_ctx (c : Dev nD) (j : Fin 6) (k : Fin 1024) :
    rdF S8x6x1024 (V m c main_v5) (ix3 4 j k) = rdF S6x1024 (m ((c : Thread nD τ).loc main_arg3)) (ix2 j k) := by
  unfold rdF
  after_reads_simp
  refine (mods_context _ _ _ concatenates_S4x6x1024_S1x6x1024_S3x6x1024_S8x6x1024_d0 j k).trans ?_
  refine (congrFun (StableHlo.unary_result _ _ _ _ _ _) _).trans ?_
  refine (lift_mod _ j k bcast_S6x1024_S1x6x1024_1_2).trans ?_
  after_reads_simp

theorem norm_at (c : Dev nD) (k : Fin 1024) :
    rdF S1x1024 (V m c main_v18) (ix2 0 k) = rdF S1024 (m ((c : Thread nD τ).loc main_arg4)) (ix1 k) := by
  unfold rdF
  entry_read
  exact lift_norm _ k _

theorem weight_at (c : Dev nD) (k : Fin 1024) (d : Fin 2304) :
    rdH S1024x2304 (V m c main_v19) (ix2 k d) = rdF S1024x2304 (m ((c : Thread nD τ).loc main_arg5)) (ix2 k d) := by
  unfold rdF rdH
  entry_read
  rfl

theorem cos_lat (c : Dev nD) (s : Fin 8192) (l : Fin 128) :
    rdF S9216x128 (V m c main_v15) (ix2 ⟨s.val, by omega⟩ l) = rdF S8192x32 (m ((c : Thread nD τ).loc main_arg6)) (ix2 s (lane l.val)) := by
  unfold rdF
  entry_read
  exact (table_latent _ _ concatenates_S8192x128_S1024x128_S9216x128_d0 s l).trans (four_times _ s l _ _ _)

theorem cos_ctx (c : Dev nD) (r : Fin 1024) (l : Fin 128) :
    rdF S9216x128 (V m c main_v15) (ix2 ⟨8192 + r.val, by omega⟩ l) = Ideal.ofBits .f32 0x3F800000#32 := by
  unfold rdF
  entry_read
  refine (table_context _ _ concatenates_S8192x128_S1024x128_S9216x128_d0 r l).trans ?_
  rfl

set_option maxRecDepth 8000 in
set_option maxHeartbeats 1000000 in
theorem sin_lat (c : Dev nD) (s : Fin 8192) (l : Fin 128) :
    rdF S9216x128 (V m c main_v17) (ix2 ⟨s.val, by omega⟩ l)
      = if l.val % 64 < 32 then - rdF S8192x32 (m ((c : Thread nD τ).loc main_arg7)) (ix2 s (lane l.val))
        else rdF S8192x32 (m ((c : Thread nD τ).loc main_arg7)) (ix2 s (lane l.val)) := by
  unfold rdF
  after_reads_simp
  exact (table_latent _ _ concatenates_S8192x128_S1024x128_S9216x128_d0 s l).trans ((two_times _ s l _ _ _).trans
    (halves _ _ s l.val concatenates_S8192x32_S8192x32_S8192x64_d1))

set_option maxRecDepth 8000 in
set_option maxHeartbeats 1000000 in
theorem sin_ctx (c : Dev nD) (r : Fin 1024) (l : Fin 128) :
    rdF S9216x128 (V m c main_v17) (ix2 ⟨8192 + r.val, by omega⟩ l) = Ideal.ofBits .f32 0x00000000#32 := by
  unfold rdF
  after_reads_simp
  refine (table_context _ _ concatenates_S8192x128_S1024x128_S9216x128_d0 r l).trans ?_
  rfl

end Cert.Kernel2Ideal.PreAttn

end
-- ==== Proof.RotaryKernel.lean ====
/- The projection kernel's six output arrays at every index, in terms of the arguments. -/
module

public import proofs.«01_k».proof.Proof.RotaryBlock
public import proofs.«01_k».proof.Proof.RotaryHost

@[expose] public section

noncomputable section

namespace Cert.Kernel2Ideal.PreAttn

open Idealize.ShloMosaic Idealize.ShloMosaic.TcCoe
open Cert.Kernel2Ideal Cert.Kernel2Ideal.Gen Cert.PreAttn

variable (m : (ℓ : Loc nD τ sig) → Buf (Elt Ideal) ℓ) (c : Dev nD)

/-- The projection of a latent row, of the arguments. -/
def lat : Fin 4 → Fin 8192 → Fin 2304 → EReal :=
  latP (fun b s k => rdF S4x8192x1024 (m ((c : Thread nD τ).loc main_arg0)) (ix3 b s k)) (fun b j k => rdF S4x6x1024 (m ((c : Thread nD τ).loc main_arg2)) (ix3 b j k))
    (fun k => rdF S1024 (m ((c : Thread nD τ).loc main_arg4)) (ix1 k)) (fun k n => rdF S1024x2304 (m ((c : Thread nD τ).loc main_arg5)) (ix2 k n))
/-- The projection of a context row, of the arguments. -/
def ctx : Fin 4 → Fin 256 → Fin 2304 → EReal :=
  ctxP (fun b l k => rdF S4x256x1024 (m ((c : Thread nD τ).loc main_arg1)) (ix3 b l k)) (fun j k => rdF S6x1024 (m ((c : Thread nD τ).loc main_arg3)) (ix2 j k))
    (fun k => rdF S1024 (m ((c : Thread nD τ).loc main_arg4)) (ix1 k)) (fun k n => rdF S1024x2304 (m ((c : Thread nD τ).loc main_arg5)) (ix2 k n))
/-- The table of cosines and that of sines, row by row. -/
def cosA (s : Fin 8192) (l : Fin 32) : EReal := rdF S8192x32 (m ((c : Thread nD τ).loc main_arg6)) (ix2 s l)
def sinA (s : Fin 8192) (l : Fin 32) : EReal := rdF S8192x32 (m ((c : Thread nD τ).loc main_arg7)) (ix2 s l)

section Latent

variable (b : Fin 4) (s : Fin 8192) (t : Fin cfg0.N) (ht : t.val = 8 * b.val + s.val / 1024) (r : Fin 1024) (hr : r.val = s.val % 1024)
include ht hr

omit hr in
theorem latMod : modOf t.val = b.val := by unfold modOf; rw [if_pos (by omega)]; omega
omit hr in
theorem latTab : tabOf t.val = s.val / 1024 := by unfold tabOf; rw [if_pos (by omega)]; omega
theorem latRow (h : 1024 * t.val + r.val < 33792) : (⟨1024 * t.val + r.val, h⟩ : Fin 33792) = rowL b s :=
  Fin.ext (by show 1024 * t.val + r.val = 8192 * b.val + s.val; omega)
theorem latTabRow (h : 1024 * tabOf t.val + r.val < 9216) : (⟨1024 * tabOf t.val + r.val, h⟩ : Fin 9216) = ⟨s.val, by omega⟩ :=
  Fin.ext (by show 1024 * tabOf t.val + r.val = s.val; rw [latTab b s t ht]; omega)

theorem latBlock (n : Fin 2304) :
    (k0_pay34 (iblk m c 0 t) (iblk m c 1 t) (iblk m c 2 t) (iblk m c 3 t) (iblk m c 4 t) (iblk m c 5 t) (ix2 r n) : EReal) = lat m c b s n := by
  unfold lat latP
  have hm : (⟨modOf t.val, modOf_lt t⟩ : Fin 8) = ⟨b.val, by omega⟩ := Fin.ext (latMod b s t ht)
  refine (blockProduct_at (iblk m c 0 t) (iblk m c 1 t) (iblk m c 2 t) (iblk m c 3 t) (iblk m c 4 t) (iblk m c 5 t) r n).trans ?_
  refine proj_congr ?_ ?_ ?_ ?_ ?_ n
  · exact fun k => (blk0_at m c t r k).trans ((congrArg (fun i => rdF S33792x1024 (V m c main_v2) (ix2 i k)) (latRow b s t ht r hr _)).trans (xs_lat m c b s k))
  · exact fun k => (blk2_at m c t k).trans (norm_at m c k)
  · exact fun k => (blk1_at m c t 1 k).trans ((congrArg (fun i => rdF S8x6x1024 (V m c main_v5) (ix3 i 1 k)) hm).trans (mod_lat m c b 1 k))
  · exact fun k => (blk1_at m c t 0 k).trans ((congrArg (fun i => rdF S8x6x1024 (V m c main_v5) (ix3 i 0 k)) hm).trans (mod_lat m c b 0 k))
  · exact fun k n => (blk3_at m c t k n).trans (weight_at m c k n)

theorem latTurned (off : ℕ) (ho : off % 128 = 0) (w : BitVec 32) (d : ℕ) :
    turnedBlock off w (iblk m c 0 t) (iblk m c 1 t) (iblk m c 2 t) (iblk m c 3 t) (iblk m c 4 t) (iblk m c 5 t) r d
      = rope (lat m c b s) (cosA m c s) (sinA m c s) (off + d) * Ideal.ofBits .f32 w := by
  have hl : lane (lane128 d).val = lane (off + d) := Fin.ext (by show d % 128 % 32 = (off + d) % 32; omega)
  have hc : k0_pay35 (iblk m c 0 t) (iblk m c 1 t) (iblk m c 2 t) (iblk m c 3 t) (iblk m c 4 t) (iblk m c 5 t) (ix2 r (lane128 d)) = cosA m c s (lane (off + d)) :=
    (cosine_at _ _ _ _ _ _ r (lane128 d)).trans ((blk4_at m c t r (lane128 d)).trans
      ((congrArg (fun i => rdF S9216x128 (V m c main_v15) (ix2 i (lane128 d))) (latTabRow b s t ht r hr _)).trans
        ((cos_lat m c s (lane128 d)).trans (congrArg (cosA m c s) hl))))
  have hs : k0_pay36 (iblk m c 0 t) (iblk m c 1 t) (iblk m c 2 t) (iblk m c 3 t) (iblk m c 4 t) (iblk m c 5 t) (ix2 r (lane128 d))
      = if (off + d) % 64 < 32 then - sinA m c s (lane (off + d)) else sinA m c s (lane (off + d)) := by
    refine (sine_at _ _ _ _ _ _ r (lane128 d)).trans ((blk5_at m c t r (lane128 d)).trans
      ((congrArg (fun i => rdF S9216x128 (V m c main_v17) (ix2 i (lane128 d))) (latTabRow b s t ht r hr _)).trans
        ((sin_lat m c s (lane128 d)).trans ?_)))
    have hh : (lane128 d).val % 64 = (off + d) % 64 := by show d % 128 % 64 = (off + d) % 64; omega
    rw [hh, hl]; rfl
  unfold turnedBlock turned
  rw [hc, hs, latBlock m c b s t ht r hr, latBlock m c b s t ht r hr, rope_signed]

end Latent

section Context

variable (b : Fin 4) (l : Fin 256) (t : Fin cfg0.N) (ht : t.val = 32) (r : Fin 1024) (hr : r.val = 256 * b.val + l.val)
include ht hr

omit hr in
theorem ctxMod : modOf t.val = 4 := by unfold modOf; rw [if_neg (by omega)]
omit hr in
theorem ctxTab : tabOf t.val = 8 := by unfold tabOf; rw [if_neg (by omega)]
theorem ctxRow (h : 1024 * t.val + r.val < 33792) : (⟨1024 * t.val + r.val, h⟩ : Fin 33792) = rowC b l :=
  Fin.ext (by show 1024 * t.val + r.val = 32768 + (256 * b.val + l.val); omega)
theorem ctxTabRow (h : 1024 * tabOf t.val + r.val < 9216) : (⟨1024 * tabOf t.val + r.val, h⟩ : Fin 9216) = ⟨8192 + r.val, by omega⟩ :=
  Fin.ext (by show 1024 * tabOf t.val + r.val = 8192 + r.val; rw [ctxTab t ht])

theorem ctxBlock (n : Fin 2304) :
    (k0_pay34 (iblk m c 0 t) (iblk m c 1 t) (iblk m c 2 t) (iblk m c 3 t) (iblk m c 4 t) (iblk m c 5 t) (ix2 r n) : EReal) = ctx m c b l n := by
  unfold ctx ctxP
  have hm : (⟨modOf t.val, modOf_lt t⟩ : Fin 8) = 4 := Fin.ext (ctxMod t ht)
  refine (blockProduct_at (iblk m c 0 t) (iblk m c 1 t) (iblk m c 2 t) (iblk m c 3 t) (iblk m c 4 t) (iblk m c 5 t) r n).trans ?_
  refine proj_congr ?_ ?_ ?_ ?_ ?_ n
  · exact fun k => (blk0_at m c t r k).trans ((congrArg (fun i => rdF S33792x1024 (V m c main_v2) (ix2 i k)) (ctxRow b l t ht r hr _)).trans (xs_ctx m c b l k))
  · exact fun k => (blk2_at m c t k).trans (norm_at m c k)
  · exact fun k => (blk1_at m c t 1 k).trans ((congrArg (fun i => rdF S8x6x1024 (V m c main_v5) (ix3 i 1 k)) hm).trans (mod_ctx m c 1 k))
  · exact fun k => (blk1_at m c t 0 k).trans ((congrArg (fun i => rdF S8x6x1024 (V m c main_v5) (ix3 i 0 k)) hm).trans (mod_ctx m c 0 k))
  · exact fun k n => (blk3_at m c t k n).trans (weight_at m c k n)

theorem ctxTurned (off : ℕ) (w : BitVec 32) (d : ℕ) :
    turnedBlock off w (iblk m c 0 t) (iblk m c 1 t) (iblk m c 2 t) (iblk m c 3 t) (iblk m c 4 t) (iblk m c 5 t) r d
      = ctx m c b l (col (off + d)) * Ideal.ofBits .f32 w := by
  have hc : k0_pay35 (iblk m c 0 t) (iblk m c 1 t) (iblk m c 2 t) (iblk m c 3 t) (iblk m c 4 t) (iblk m c 5 t) (ix2 r (lane128 d)) = Ideal.ofBits .f32 0x3F800000#32 :=
    (cosine_at _ _ _ _ _ _ r (lane128 d)).trans ((blk4_at m c t r (lane128 d)).trans
      ((congrArg (fun i => rdF S9216x128 (V m c main_v15) (ix2 i (lane128 d))) (ctxTabRow b l t ht r hr _)).trans (cos_ctx m c r (lane128 d))))
  have hs : k0_pay36 (iblk m c 0 t) (iblk m c 1 t) (iblk m c 2 t) (iblk m c 3 t) (iblk m c 4 t) (iblk m c 5 t) (ix2 r (lane128 d)) = Ideal.ofBits .f32 0x00000000#32 :=
    (sine_at _ _ _ _ _ _ r (lane128 d)).trans ((blk5_at m c t r (lane128 d)).trans
      ((congrArg (fun i => rdF S9216x128 (V m c main_v17) (ix2 i (lane128 d))) (ctxTabRow b l t ht r hr _)).trans (sin_ctx m c r (lane128 d))))
  unfold turnedBlock turned
  rw [hc, hs, ctxBlock m c b l t ht r hr, ctxBlock m c b l t ht r hr, rope_still]

end Context

/-- The grid point and the row within its block of a latent row. -/
def ptL (b : Fin 4) (s : Fin 8192) : Fin cfg0.N := ⟨8 * b.val + s.val / 1024, by show _ < 33; omega⟩
def inL (s : Fin 8192) : Fin 1024 := ⟨s.val % 1024, Nat.mod_lt _ (by decide)⟩
/-- The context's grid point, and the row within its block. -/
def ptC : Fin cfg0.N := ⟨32, by show _ < 33; omega⟩
def inC (b : Fin 4) (l : Fin 256) : Fin 1024 := ⟨256 * b.val + l.val, by omega⟩

/-- The queries of the first kind. -/
theorem res6_lat (b : Fin 4) (s : Fin 8192) (d : Fin 512) :
    rdH S33792x512 ((dats m 0 c).arrAt 6 cfg0.N) (ix2 (rowL b s) d) = rope (lat m c b s) (cosA m c s) (sinA m c s) (0 + d.val) * Ideal.ofBits .f32 0x3E000000#32 := by
  refine (congrArg (fun i => rdH S33792x512 ((dats m 0 c).arrAt 6 cfg0.N) (ix2 i d)) (latRow b s (ptL b s) rfl (inL s) rfl (by have := point_lt (ptL b s); omega)).symm).trans ?_
  refine (arr6_at m c (ptL b s) (inL s) d).trans ((out6_at (iblk m c 0 (ptL b s)) (iblk m c 1 (ptL b s)) (iblk m c 2 (ptL b s)) (iblk m c 3 (ptL b s)) (iblk m c 4 (ptL b s)) (iblk m c 5 (ptL b s)) (inL s) d).trans ((latTurned m c b s (ptL b s) rfl (inL s) rfl 0 (by decide) 0x3E000000#32 d.val).trans ?_))
  rfl
theorem res6_ctx (b : Fin 4) (l : Fin 256) (d : Fin 512) :
    rdH S33792x512 ((dats m 0 c).arrAt 6 cfg0.N) (ix2 (rowC b l) d) = ctx m c b l (col (0 + d.val)) * Ideal.ofBits .f32 0x3E000000#32 := by
  refine (congrArg (fun i => rdH S33792x512 ((dats m 0 c).arrAt 6 cfg0.N) (ix2 i d)) (ctxRow b l ptC rfl (inC b l) rfl (by have := point_lt ptC; omega)).symm).trans ?_
  refine (arr6_at m c ptC (inC b l) d).trans ((out6_at (iblk m c 0 ptC) (iblk m c 1 ptC) (iblk m c 2 ptC) (iblk m c 3 ptC) (iblk m c 4 ptC) (iblk m c 5 ptC) (inC b l) d).trans ((ctxTurned m c b l ptC rfl (inC b l) rfl 0 0x3E000000#32 d.val).trans ?_))
  rfl

/-- The keys of the first kind. -/
theorem res7_lat (b : Fin 4) (s : Fin 8192) (d : Fin 128) :
    rdH S33792x128 ((dats m 0 c).arrAt 7 cfg0.N) (ix2 (rowL b s) d) = rope (lat m c b s) (cosA m c s) (sinA m c s) (512 + d.val) := by
  refine (congrArg (fun i => rdH S33792x128 ((dats m 0 c).arrAt 7 cfg0.N) (ix2 i d)) (latRow b s (ptL b s) rfl (inL s) rfl (by have := point_lt (ptL b s); omega)).symm).trans ?_
  refine (arr7_at m c (ptL b s) (inL s) d).trans ((out7_at (iblk m c 0 (ptL b s)) (iblk m c 1 (ptL b s)) (iblk m c 2 (ptL b s)) (iblk m c 3 (ptL b s)) (iblk m c 4 (ptL b s)) (iblk m c 5 (ptL b s)) (inL s) d).trans ((latTurned m c b s (ptL b s) rfl (inL s) rfl 512 (by decide) 0x3F800000#32 d.val).trans ?_))
  rw [Ideal.ofBits_one_f32, mul_one]
theorem res7_ctx (b : Fin 4) (l : Fin 256) (d : Fin 128) :
    rdH S33792x128 ((dats m 0 c).arrAt 7 cfg0.N) (ix2 (rowC b l) d) = ctx m c b l (col (512 + d.val)) := by
  refine (congrArg (fun i => rdH S33792x128 ((dats m 0 c).arrAt 7 cfg0.N) (ix2 i d)) (ctxRow b l ptC rfl (inC b l) rfl (by have := point_lt ptC; omega)).symm).trans ?_
  refine (arr7_at m c ptC (inC b l) d).trans ((out7_at (iblk m c 0 ptC) (iblk m c 1 ptC) (iblk m c 2 ptC) (iblk m c 3 ptC) (iblk m c 4 ptC) (iblk m c 5 ptC) (inC b l) d).trans ((ctxTurned m c b l ptC rfl (inC b l) rfl 512 0x3F800000#32 d.val).trans ?_))
  rw [Ideal.ofBits_one_f32, mul_one]

/-- The queries of the second kind. -/
theorem res8_lat (b : Fin 4) (s : Fin 8192) (d : Fin 512) :
    rdH S33792x512 ((dats m 0 c).arrAt 8 cfg0.N) (ix2 (rowL b s) d) = rope (lat m c b s) (cosA m c s) (sinA m c s) (768 + d.val) * Ideal.ofBits .f32 0x3E000000#32 := by
  refine (congrArg (fun i => rdH S33792x512 ((dats m 0 c).arrAt 8 cfg0.N) (ix2 i d)) (latRow b s (ptL b s) rfl (inL s) rfl (by have := point_lt (ptL b s); omega)).symm).trans ?_
  refine (arr8_at m c (ptL b s) (inL s) d).trans ((out8_at (iblk m c 0 (ptL b s)) (iblk m c 1 (ptL b s)) (iblk m c 2 (ptL b s)) (iblk m c 3 (ptL b s)) (iblk m c 4 (ptL b s)) (iblk m c 5 (ptL b s)) (inL s) d).trans ((latTurned m c b s (ptL b s) rfl (inL s) rfl 768 (by decide) 0x3E000000#32 d.val).trans ?_))
  rfl
theorem res8_ctx (b : Fin 4) (l : Fin 256) (d : Fin 512) :
    rdH S33792x512 ((dats m 0 c).arrAt 8 cfg0.N) (ix2 (rowC b l) d) = ctx m c b l (col (768 + d.val)) * Ideal.ofBits .f32 0x3E000000#32 := by
  refine (congrArg (fun i => rdH S33792x512 ((dats m 0 c).arrAt 8 cfg0.N) (ix2 i d)) (ctxRow b l ptC rfl (inC b l) rfl (by have := point_lt ptC; omega)).symm).trans ?_
  refine (arr8_at m c ptC (inC b l) d).trans ((out8_at (iblk m c 0 ptC) (iblk m c 1 ptC) (iblk m c 2 ptC) (iblk m c 3 ptC) (iblk m c 4 ptC) (iblk m c 5 ptC) (inC b l) d).trans ((ctxTurned m c b l ptC rfl (inC b l) rfl 768 0x3E000000#32 d.val).trans ?_))
  rfl

/-- The keys of the second kind. -/
theorem res9_lat (b : Fin 4) (s : Fin 8192) (d : Fin 512) :
    rdH S33792x512 ((dats m 0 c).arrAt 9 cfg0.N) (ix2 (rowL b s) d) = rope (lat m c b s) (cosA m c s) (sinA m c s) (1280 + d.val) := by
  refine (congrArg (fun i => rdH S33792x512 ((dats m 0 c).arrAt 9 cfg0.N) (ix2 i d)) (latRow b s (ptL b s) rfl (inL s) rfl (by have := point_lt (ptL b s); omega)).symm).trans ?_
  refine (arr9_at m c (ptL b s) (inL s) d).trans ((out9_at (iblk m c 0 (ptL b s)) (iblk m c 1 (ptL b s)) (iblk m c 2 (ptL b s)) (iblk m c 3 (ptL b s)) (iblk m c 4 (ptL b s)) (iblk m c 5 (ptL b s)) (inL s) d).trans ((latTurned m c b s (ptL b s) rfl (inL s) rfl 1280 (by decide) 0x3F800000#32 d.val).trans ?_))
  rw [Ideal.ofBits_one_f32, mul_one]
theorem res9_ctx (b : Fin 4) (l : Fin 256) (d : Fin 512) :
    rdH S33792x512 ((dats m 0 c).arrAt 9 cfg0.N) (ix2 (rowC b l) d) = ctx m c b l (col (1280 + d.val)) := by
  refine (congrArg (fun i => rdH S33792x512 ((dats m 0 c).arrAt 9 cfg0.N) (ix2 i d)) (ctxRow b l ptC rfl (inC b l) rfl (by have := point_lt ptC; omega)).symm).trans ?_
  refine (arr9_at m c ptC (inC b l) d).trans ((out9_at (iblk m c 0 ptC) (iblk m c 1 ptC) (iblk m c 2 ptC) (iblk m c 3 ptC) (iblk m c 4 ptC) (iblk m c 5 ptC) (inC b l) d).trans ((ctxTurned m c b l ptC rfl (inC b l) rfl 1280 0x3F800000#32 d.val).trans ?_))
  rw [Ideal.ofBits_one_f32, mul_one]

/-- The values of the first kind, rows and columns exchanged within every 256 rows. -/
theorem res10_lat (b : Fin 4) (j : Fin 32) (e : Fin 128) (κ : Fin 256) :
    rdH S132x128x256 ((dats m 0 c).arrAt 10 cfg0.N) (ix3 ⟨32 * b.val + j.val, by omega⟩ e κ) = lat m c b ⟨256 * j.val + κ.val, by omega⟩ (col (640 + e.val)) := by
  let t : Fin cfg0.N := ⟨8 * b.val + j.val / 4, by show _ < 33; omega⟩
  let i : Fin 4 := ⟨j.val % 4, Nat.mod_lt _ (by decide)⟩
  have hi : (⟨32 * b.val + j.val, by omega⟩ : Fin 132) = ⟨4 * t.val + i.val, by have := point_lt t; omega⟩ :=
    Fin.ext (by show 32 * b.val + j.val = 4 * (8 * b.val + j.val / 4) + j.val % 4; omega)
  refine (congrArg (fun i => rdH S132x128x256 ((dats m 0 c).arrAt 10 cfg0.N) (ix3 i e κ)) hi).trans ?_
  refine (arr10_at m c t i e κ).trans ((out10_at (iblk m c 0 t) (iblk m c 1 t) (iblk m c 2 t) (iblk m c 3 t) (iblk m c 4 t) (iblk m c 5 t) i e κ).trans ?_)
  exact latBlock m c b ⟨256 * j.val + κ.val, by omega⟩ t (by show 8 * b.val + j.val / 4 = 8 * b.val + (256 * j.val + κ.val) / 1024; omega) _
    (by show 256 * (j.val % 4) + κ.val = (256 * j.val + κ.val) % 1024; omega) _
theorem res10_ctx (b : Fin 4) (e : Fin 128) (κ : Fin 256) :
    rdH S132x128x256 ((dats m 0 c).arrAt 10 cfg0.N) (ix3 ⟨128 + b.val, by omega⟩ e κ) = ctx m c b κ (col (640 + e.val)) := by
  refine (arr10_at m c ptC b e κ).trans ((out10_at (iblk m c 0 ptC) (iblk m c 1 ptC) (iblk m c 2 ptC) (iblk m c 3 ptC) (iblk m c 4 ptC) (iblk m c 5 ptC) b e κ).trans ?_)
  exact ctxBlock m c b κ ptC rfl _ rfl _

/-- The values of the second kind, likewise. -/
theorem res11_lat (b : Fin 4) (j : Fin 32) (e : Fin 512) (κ : Fin 256) :
    rdH S132x512x256 ((dats m 0 c).arrAt 11 cfg0.N) (ix3 ⟨32 * b.val + j.val, by omega⟩ e κ) = lat m c b ⟨256 * j.val + κ.val, by omega⟩ (col (1792 + e.val)) := by
  let t : Fin cfg0.N := ⟨8 * b.val + j.val / 4, by show _ < 33; omega⟩
  let i : Fin 4 := ⟨j.val % 4, Nat.mod_lt _ (by decide)⟩
  have hi : (⟨32 * b.val + j.val, by omega⟩ : Fin 132) = ⟨4 * t.val + i.val, by have := point_lt t; omega⟩ :=
    Fin.ext (by show 32 * b.val + j.val = 4 * (8 * b.val + j.val / 4) + j.val % 4; omega)
  refine (congrArg (fun i => rdH S132x512x256 ((dats m 0 c).arrAt 11 cfg0.N) (ix3 i e κ)) hi).trans ?_
  refine (arr11_at m c t i e κ).trans ((out11_at (iblk m c 0 t) (iblk m c 1 t) (iblk m c 2 t) (iblk m c 3 t) (iblk m c 4 t) (iblk m c 5 t) i e κ).trans ?_)
  exact latBlock m c b ⟨256 * j.val + κ.val, by omega⟩ t (by show 8 * b.val + j.val / 4 = 8 * b.val + (256 * j.val + κ.val) / 1024; omega) _
    (by show 256 * (j.val % 4) + κ.val = (256 * j.val + κ.val) % 1024; omega) _
theorem res11_ctx (b : Fin 4) (e : Fin 512) (κ : Fin 256) :
    rdH S132x512x256 ((dats m 0 c).arrAt 11 cfg0.N) (ix3 ⟨128 + b.val, by omega⟩ e κ) = ctx m c b κ (col (1792 + e.val)) := by
  refine (arr11_at m c ptC b e κ).trans ((out11_at (iblk m c 0 ptC) (iblk m c 1 ptC) (iblk m c 2 ptC) (iblk m c 3 ptC) (iblk m c 4 ptC) (iblk m c 5 ptC) b e κ).trans ?_)
  exact ctxBlock m c b κ ptC rfl _ rfl _

end Cert.Kernel2Ideal.PreAttn

end
-- ==== Proof.RotaryRef.lean ====
/- The reference's six results at every index, in terms of the arguments. -/
module

public import proofs.«01_k».proof.Proof.Gen.Reference2Ideal.Read
public import proofs.«01_k».proof.Proof.RotarySpec
public import Idealize.ShloMosaic.Lib.Pointwise.Index
public import Idealize.ShloMosaic.Lib.Pipeline.Value
public import Idealize.ShloMosaic.PureOps.Reduce

@[expose] public section

noncomputable section

namespace Cert.PreAttn

theorem rope_first (p : Fin 2304 → EReal) (cs sn : Fin 32 → EReal) (n : ℕ) (d : Fin 32) (h : n % 64 = d.val) :
    rope p cs sn n = p (col n) * cs d - p (col (n + 32)) * sn d := by
  have e : lane n = d := Fin.ext (by show n % 32 = d.val; omega)
  unfold rope
  rw [if_pos (by omega), e]

theorem rope_second (p : Fin 2304 → EReal) (cs sn : Fin 32 → EReal) (n : ℕ) (d : Fin 32) (h : n % 64 = d.val) :
    rope p cs sn (n + 32) = p (col (n + 32)) * cs d + p (col n) * sn d := by
  have e : lane (n + 32) = d := Fin.ext (by show (n + 32) % 32 = d.val; omega)
  unfold rope
  rw [if_neg (by omega), e, Nat.add_sub_cancel]

end Cert.PreAttn

namespace Cert.Reference2Ideal.PreAttn

open Idealize.ShloMosaic Idealize.ShloMosaic.TcCoe
open Cert.Reference2Ideal Cert.Reference2Ideal.Gen Cert.Reference2Ideal.Read Cert.PreAttn

variable (x0 : (⟨S4x8192x1024, .f32⟩ : BufTy).Contents (Elt Ideal)) (x1 : (⟨S4x256x1024, .f32⟩ : BufTy).Contents (Elt Ideal))
  (x2 : (⟨S4x6x1024, .f32⟩ : BufTy).Contents (Elt Ideal)) (x3 : (⟨S6x1024, .f32⟩ : BufTy).Contents (Elt Ideal)) (x4 : (⟨S1024, .f32⟩ : BufTy).Contents (Elt Ideal))
  (x5 : (⟨S1024x2304, .f32⟩ : BufTy).Contents (Elt Ideal)) (x6 x7 : (⟨S8192x32, .f32⟩ : BufTy).Contents (Elt Ideal))

/-- The projection of a latent row, of the arguments. -/
def lat : Fin 4 → Fin 8192 → Fin 2304 → EReal :=
  latP (fun b s k => x0 (ix3 b s k)) (fun b j k => x2 (ix3 b j k)) (fun k => x4 (ix1 k)) (fun k n => x5 (ix2 k n))
/-- The projection of a context row, of the arguments. -/
def ctx : Fin 4 → Fin 256 → Fin 2304 → EReal :=
  ctxP (fun b l k => x1 (ix3 b l k)) (fun j k => x3 (ix2 j k)) (fun k => x4 (ix1 k)) (fun k n => x5 (ix2 k n))
/-- A row of a rotary table. -/
def table (x : (⟨S8192x32, .f32⟩ : BufTy).Contents (Elt Ideal)) (s : Fin 8192) (l : Fin 32) : EReal := x (ix2 s l)

theorem latSquare (b : Fin 4) (s : Fin 8192) : (val_main_v1 (F := Ideal) x0 (ix2 b s) : EReal) = ∑ j, (x0 (ix3 b s j) : EReal) * x0 (ix3 b s j) := by
  have e : ∀ k, idx_main_v1 (ix2 b s) k = ix3 b s k := fun k => by funext a; fin_cases a <;> rfl
  rw [val_main_v1_apply]
  simp only [e]
  exact (congrArg (fun z : EReal => z + _) zero_word).trans (zero_add _)

theorem latRoot (b : Fin 4) (s : Fin 8192) :
    (val_main_v7 (F := Ideal) x0 (ix3 b s 0) : EReal)
      = Ideal.rsqrt (Ideal.div (∑ j, (x0 (ix3 b s j) : EReal) * x0 (ix3 b s j)) (Ideal.ofBits .f32 0x44800000#32) + Ideal.ofBits .f32 0x358637BD#32) := by
  have e : idx_main_v2 (ix3 b s 0) = ix2 b s := by funext a; fin_cases a <;> rfl
  rw [val_main_v7_apply, val_main_v6_apply, val_main_v4_apply, val_main_v2_apply, e, latSquare, val_main_v3_apply, val_main_v5_apply]
  rfl

theorem latNormed (b : Fin 4) (s : Fin 8192) (k : Fin 1024) :
    (val_main_v24 (F := Ideal) x0 x2 x4 (ix3 b s k) : EReal)
      = normed (fun k => x0 (ix3 b s k)) (fun k => x4 (ix1 k)) (fun k => x2 (ix3 b 1 k)) (fun k => x2 (ix3 b 0 k)) k := by
  have e8 : idx_main_v8 (ix3 b s k) = ix3 b s 0 := by funext a; fin_cases a <;> rfl
  have ew : idx_main_v10 (idx_main_v11 (ix3 b s k)) = ix1 k := by funext a; fin_cases a; rfl
  have e1 : idx_main_v16 (idx_main_v17 (idx_main_v18 (idx_main_v21 (ix3 b s k)))) = ix3 b 1 k := by
    funext a; fin_cases a <;> refine Fin.ext ?_
    · show (b.val * 1024 + k.val) / 1024 = b.val; omega
    · rfl
    · show (b.val * 1024 + k.val) % 1024 = k.val; omega
  have e0 : idx_main_v13 (idx_main_v14 (idx_main_v15 (idx_main_v23 (ix3 b s k)))) = ix3 b 0 k := by
    funext a; fin_cases a <;> refine Fin.ext ?_
    · show (b.val * 1024 + k.val) / 1024 = b.val; omega
    · rfl
    · show (b.val * 1024 + k.val) % 1024 = k.val; omega
  rw [val_main_v24_apply, val_main_v22_apply, val_main_v12_apply, val_main_v9_apply, val_main_v8_apply, e8, latRoot, val_main_v11_apply, val_main_v10_apply, ew,
    val_main_v21_apply, val_main_v20_apply, val_main_v19_apply, val_main_v18_apply, val_main_v17_apply, val_main_v16_apply, e1,
    val_main_v23_apply, val_main_v15_apply, val_main_v14_apply, val_main_v13_apply, e0]
  rfl

theorem latProduct (b : Fin 4) (s : Fin 8192) (n : Fin 2304) : (val_main_v50 (F := Ideal) x0 x2 x4 x5 (ix3 b s n) : EReal) = lat x0 x2 x4 x5 b s n := by
  have el : ∀ k, lidx_main_v50 (ix3 b s n) k = ix3 b s k := fun k => by funext a; fin_cases a <;> rfl
  have er : ∀ k, ridx_main_v50 (ix3 b s n) k = ix2 k n := fun k => by funext a; fin_cases a <;> rfl
  rw [val_main_v50_apply]
  unfold lat latP proj
  refine Finset.sum_congr rfl fun k _ => ?_
  rw [el, er, latNormed]

theorem ctxSquare (b : Fin 4) (s : Fin 256) : (val_main_v26 (F := Ideal) x1 (ix2 b s) : EReal) = ∑ j, (x1 (ix3 b s j) : EReal) * x1 (ix3 b s j) := by
  have e : ∀ k, idx_main_v26 (ix2 b s) k = ix3 b s k := fun k => by funext a; fin_cases a <;> rfl
  rw [val_main_v26_apply]
  simp only [e]
  exact (congrArg (fun z : EReal => z + _) zero_word).trans (zero_add _)

theorem ctxRoot (b : Fin 4) (s : Fin 256) :
    (val_main_v32 (F := Ideal) x1 (ix3 b s 0) : EReal)
      = Ideal.rsqrt (Ideal.div (∑ j, (x1 (ix3 b s j) : EReal) * x1 (ix3 b s j)) (Ideal.ofBits .f32 0x44800000#32) + Ideal.ofBits .f32 0x358637BD#32) := by
  have e : idx_main_v27 (ix3 b s 0) = ix2 b s := by funext a; fin_cases a <;> rfl
  rw [val_main_v32_apply, val_main_v31_apply, val_main_v29_apply, val_main_v27_apply, e, ctxSquare, val_main_v28_apply, val_main_v30_apply]
  rfl

theorem ctxNormed (b : Fin 4) (s : Fin 256) (k : Fin 1024) :
    (val_main_v49 (F := Ideal) x1 x3 x4 (ix3 b s k) : EReal)
      = normed (fun k => x1 (ix3 b s k)) (fun k => x4 (ix1 k)) (fun k => x3 (ix2 1 k)) (fun k => x3 (ix2 0 k)) k := by
  have e8 : idx_main_v33 (ix3 b s k) = ix3 b s 0 := by funext a; fin_cases a <;> rfl
  have ew : idx_main_v35 (idx_main_v36 (ix3 b s k)) = ix1 k := by funext a; fin_cases a; rfl
  have e1 : idx_main_v40 (idx_main_v41 (idx_main_v44 (idx_main_v45 (ix3 b s k)))) = ix2 1 k := by
    funext a; fin_cases a <;> refine Fin.ext ?_
    · rfl
    · show k.val % 1024 = k.val; omega
  have e0 : idx_main_v38 (idx_main_v39 (idx_main_v47 (idx_main_v48 (ix3 b s k)))) = ix2 0 k := by
    funext a; fin_cases a <;> refine Fin.ext ?_
    · rfl
    · show k.val % 1024 = k.val; omega
  rw [val_main_v49_apply, val_main_v46_apply, val_main_v37_apply, val_main_v34_apply, val_main_v33_apply, e8, ctxRoot, val_main_v36_apply, val_main_v35_apply, ew,
    val_main_v45_apply, val_main_v44_apply, val_main_v43_apply, val_main_v42_apply, val_main_v41_apply, val_main_v40_apply, e1,
    val_main_v48_apply, val_main_v47_apply, val_main_v39_apply, val_main_v38_apply, e0]
  rfl

theorem ctxProduct (b : Fin 4) (s : Fin 256) (n : Fin 2304) : (val_main_v61 (F := Ideal) x1 x3 x4 x5 (ix3 b s n) : EReal) = ctx x1 x3 x4 x5 b s n := by
  have el : ∀ k, lidx_main_v61 (ix3 b s n) k = ix3 b s k := fun k => by funext a; fin_cases a <;> rfl
  have er : ∀ k, ridx_main_v61 (ix3 b s n) k = ix2 k n := fun k => by funext a; fin_cases a <;> rfl
  rw [val_main_v61_apply]
  unfold ctx ctxP proj
  refine Finset.sum_congr rfl fun k _ => ?_
  rw [el, er, ctxNormed]

/-- The queries of the first kind. -/
theorem qFirst (b : Fin 4) (s : Fin 8192) (h : Fin 8) (d : Fin 32) :
    (val_main_v74 (F := Ideal) x0 x2 x4 x5 (ix4 b s h d) : EReal) = lat x0 x2 x4 x5 b s (col (0 + (64 * h.val + d.val))) := by
  have e : idx_main_v51 (idx_main_v57 (idx_main_v74 (ix4 b s h d))) = ix3 b s (col (0 + (64 * h.val + d.val))) := by
    funext a; fin_cases a <;> refine Fin.ext ?_
    · show (((b.val * 8192 + s.val) * 8 + h.val) * 64 + d.val) / 4194304 = b.val; omega
    · show (((b.val * 8192 + s.val) * 8 + h.val) * 64 + d.val) / 512 % 8192 = s.val; omega
    · show (((b.val * 8192 + s.val) * 8 + h.val) * 64 + d.val) % 512 = (0 + (64 * h.val + d.val)) % 2304; omega
  rw [val_main_v74_apply, val_main_v57_apply, val_main_v51_apply, e, latProduct]

theorem qSecond (b : Fin 4) (s : Fin 8192) (h : Fin 8) (d : Fin 32) :
    (val_main_v75 (F := Ideal) x0 x2 x4 x5 (ix4 b s h d) : EReal) = lat x0 x2 x4 x5 b s (col (0 + (64 * h.val + d.val) + 32)) := by
  have e : idx_main_v51 (idx_main_v57 (idx_main_v75 (ix4 b s h d))) = ix3 b s (col (0 + (64 * h.val + d.val) + 32)) := by
    funext a; fin_cases a <;> refine Fin.ext ?_
    · show (((b.val * 8192 + s.val) * 8 + h.val) * 64 + (32 + d.val)) / 4194304 = b.val; omega
    · show (((b.val * 8192 + s.val) * 8 + h.val) * 64 + (32 + d.val)) / 512 % 8192 = s.val; omega
    · show (((b.val * 8192 + s.val) * 8 + h.val) * 64 + (32 + d.val)) % 512 = (0 + (64 * h.val + d.val) + 32) % 2304; omega
  rw [val_main_v75_apply, val_main_v57_apply, val_main_v51_apply, e, latProduct]

theorem qTable76 (b : Fin 4) (s : Fin 8192) (h : Fin 8) (d : Fin 32) : (val_main_v76 (F := Ideal) x6 (ix4 b s h d) : EReal) = table x6 s d := by
  have e : idx_main_v72 (idx_main_v76 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v76_apply, val_main_v72_apply, e]
  rfl

theorem qTable78 (b : Fin 4) (s : Fin 8192) (h : Fin 8) (d : Fin 32) : (val_main_v78 (F := Ideal) x7 (ix4 b s h d) : EReal) = table x7 s d := by
  have e : idx_main_v73 (idx_main_v78 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v78_apply, val_main_v73_apply, e]
  rfl

theorem qTable81 (b : Fin 4) (s : Fin 8192) (h : Fin 8) (d : Fin 32) : (val_main_v81 (F := Ideal) x6 (ix4 b s h d) : EReal) = table x6 s d := by
  have e : idx_main_v72 (idx_main_v81 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v81_apply, val_main_v72_apply, e]
  rfl

theorem qTable83 (b : Fin 4) (s : Fin 8192) (h : Fin 8) (d : Fin 32) : (val_main_v83 (F := Ideal) x7 (ix4 b s h d) : EReal) = table x7 s d := by
  have e : idx_main_v73 (idx_main_v83 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v83_apply, val_main_v73_apply, e]
  rfl

theorem qTurned (b : Fin 4) (s : Fin 8192) (h : Fin 8) (d : Fin 64) :
    (val_main_v86 (F := Ideal) x0 x2 x4 x5 x6 x7 (ix4 b s h d) : EReal) = rope (lat x0 x2 x4 x5 b s) (table x6 s) (table x7 s) (0 + (64 * h.val + d.val)) := by
  unfold val_main_v86
  by_cases hd : d.val < 32
  · refine (concatenate_pair_apply_left 3 _ _ concatenates_S4x8192x8x32_S4x8192x8x32_S4x8192x8x64_d3 _ rfl (ix4 b s h ⟨d.val, hd⟩) (fun a => by fin_cases a <;> rfl)).trans ?_
    refine Eq.trans ?_ (rope_first _ _ _ _ ⟨d.val, hd⟩ (by show (0 + (64 * h.val + d.val)) % 64 = d.val; omega)).symm
    rw [val_main_v80_apply, val_main_v77_apply, val_main_v79_apply, qFirst, qSecond, qTable76, qTable78]
    rfl
  · refine (concatenate_pair_apply_right 3 _ _ concatenates_S4x8192x8x32_S4x8192x8x32_S4x8192x8x64_d3 _ rfl rfl (ix4 b s h ⟨d.val - 32, by omega⟩)
      (fun a ha => by fin_cases a <;> first | rfl | exact absurd rfl ha) (by show d.val - 32 + 32 = d.val; omega)).trans ?_
    have en : 0 + (64 * h.val + d.val) = 0 + (64 * h.val + (d.val - 32)) + 32 := by omega
    rw [en]
    refine Eq.trans ?_ (rope_second _ _ _ _ ⟨d.val - 32, by omega⟩ (by show (0 + (64 * h.val + (d.val - 32))) % 64 = d.val - 32; omega)).symm
    rw [val_main_v85_apply, val_main_v82_apply, val_main_v84_apply, qFirst, qSecond, qTable81, qTable83]
    rfl

theorem qLat (b : Fin 4) (s : Fin 8192) (c : Fin 512) :
    (val_main_v134 (F := Ideal) x0 x1 x2 x3 x4 x5 x6 x7 (ix2 ⟨8192 * b.val + s.val, by omega⟩ c) : EReal) = rope (lat x0 x2 x4 x5 b s) (table x6 s) (table x7 s) (0 + c.val) := by
  have e : idx_main_v132 (ix2 ⟨8192 * b.val + s.val, by omega⟩ c) = ix4 b s ⟨c.val / 64, by omega⟩ ⟨c.val % 64, by omega⟩ := by
    funext a; fin_cases a <;> refine Fin.ext ?_
    · show ((8192 * b.val + s.val) * 512 + c.val) / 4194304 = b.val; omega
    · show ((8192 * b.val + s.val) * 512 + c.val) / 512 % 8192 = s.val; omega
    · show ((8192 * b.val + s.val) * 512 + c.val) / 64 % 8 = c.val / 64; omega
    · show ((8192 * b.val + s.val) * 512 + c.val) % 64 = c.val % 64; omega
  unfold val_main_v134
  refine (concatenate_pair_apply_left 0 _ _ concatenates_S32768x512_S1024x512_S33792x512_d0 _ rfl (ix2 ⟨8192 * b.val + s.val, by omega⟩ c) (fun a => by fin_cases a <;> rfl)).trans ?_
  rw [val_main_v132_apply, e, qTurned]
  exact congrArg (rope _ _ _) (by show 0 + (64 * (c.val / 64) + c.val % 64) = 0 + c.val; omega)

theorem qCtx (b : Fin 4) (l : Fin 256) (c : Fin 512) :
    (val_main_v134 (F := Ideal) x0 x1 x2 x3 x4 x5 x6 x7 (ix2 ⟨32768 + (256 * b.val + l.val), by omega⟩ c) : EReal) = ctx x1 x3 x4 x5 b l (col (0 + c.val)) := by
  have e : idx_main_v62 (idx_main_v68 (idx_main_v133 (ix2 ⟨256 * b.val + l.val, by omega⟩ c))) = ix3 b l (col (0 + c.val)) := by
    funext a; fin_cases a <;> refine Fin.ext ?_
    · show (((((256 * b.val + l.val) * 512 + c.val) / 131072 * 256 + ((256 * b.val + l.val) * 512 + c.val) / 512 % 256) * 8 + ((256 * b.val + l.val) * 512 + c.val) / 64 % 8) * 64 + ((256 * b.val + l.val) * 512 + c.val) % 64) / 131072 = b.val; omega
    · show (((((256 * b.val + l.val) * 512 + c.val) / 131072 * 256 + ((256 * b.val + l.val) * 512 + c.val) / 512 % 256) * 8 + ((256 * b.val + l.val) * 512 + c.val) / 64 % 8) * 64 + ((256 * b.val + l.val) * 512 + c.val) % 64) / 512 % 256 = l.val; omega
    · show (((((256 * b.val + l.val) * 512 + c.val) / 131072 * 256 + ((256 * b.val + l.val) * 512 + c.val) / 512 % 256) * 8 + ((256 * b.val + l.val) * 512 + c.val) / 64 % 8) * 64 + ((256 * b.val + l.val) * 512 + c.val) % 64) % 512 = (0 + c.val) % 2304; omega
  unfold val_main_v134
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v133_apply, val_main_v68_apply, val_main_v62_apply, e, ctxProduct]

theorem q_lat (b : Fin 4) (s : Fin 8192) (c : Fin 512) :
    (val_main_v137 (F := Ideal) x0 x1 x2 x3 x4 x5 x6 x7 (ix2 ⟨8192 * b.val + s.val, by omega⟩ c) : EReal) = rope (lat x0 x2 x4 x5 b s) (table x6 s) (table x7 s) (0 + c.val) * Ideal.ofBits .f32 0x3E000000#32 := by
  rw [val_main_v137_apply, val_main_v136_apply, qLat, val_main_v135_apply]
  rfl

theorem q_ctx (b : Fin 4) (s : Fin 256) (c : Fin 512) :
    (val_main_v137 (F := Ideal) x0 x1 x2 x3 x4 x5 x6 x7 (ix2 ⟨32768 + (256 * b.val + s.val), by omega⟩ c) : EReal) = ctx x1 x3 x4 x5 b s (col (0 + c.val)) * Ideal.ofBits .f32 0x3E000000#32 := by
  rw [val_main_v137_apply, val_main_v136_apply, qCtx, val_main_v135_apply]
  rfl

/-- The keys of the first kind. -/
theorem kFirst (b : Fin 4) (s : Fin 8192) (h : Fin 2) (d : Fin 32) :
    (val_main_v89 (F := Ideal) x0 x2 x4 x5 (ix4 b s h d) : EReal) = lat x0 x2 x4 x5 b s (col (512 + (64 * h.val + d.val))) := by
  have e : idx_main_v52 (idx_main_v58 (idx_main_v89 (ix4 b s h d))) = ix3 b s (col (512 + (64 * h.val + d.val))) := by
    funext a; fin_cases a <;> refine Fin.ext ?_
    · show (((b.val * 8192 + s.val) * 2 + h.val) * 64 + d.val) / 1048576 = b.val; omega
    · show (((b.val * 8192 + s.val) * 2 + h.val) * 64 + d.val) / 128 % 8192 = s.val; omega
    · show 512 + (((b.val * 8192 + s.val) * 2 + h.val) * 64 + d.val) % 128 = (512 + (64 * h.val + d.val)) % 2304; omega
  rw [val_main_v89_apply, val_main_v58_apply, val_main_v52_apply, e, latProduct]

theorem kSecond (b : Fin 4) (s : Fin 8192) (h : Fin 2) (d : Fin 32) :
    (val_main_v90 (F := Ideal) x0 x2 x4 x5 (ix4 b s h d) : EReal) = lat x0 x2 x4 x5 b s (col (512 + (64 * h.val + d.val) + 32)) := by
  have e : idx_main_v52 (idx_main_v58 (idx_main_v90 (ix4 b s h d))) = ix3 b s (col (512 + (64 * h.val + d.val) + 32)) := by
    funext a; fin_cases a <;> refine Fin.ext ?_
    · show (((b.val * 8192 + s.val) * 2 + h.val) * 64 + (32 + d.val)) / 1048576 = b.val; omega
    · show (((b.val * 8192 + s.val) * 2 + h.val) * 64 + (32 + d.val)) / 128 % 8192 = s.val; omega
    · show 512 + (((b.val * 8192 + s.val) * 2 + h.val) * 64 + (32 + d.val)) % 128 = (512 + (64 * h.val + d.val) + 32) % 2304; omega
  rw [val_main_v90_apply, val_main_v58_apply, val_main_v52_apply, e, latProduct]

theorem kTable91 (b : Fin 4) (s : Fin 8192) (h : Fin 2) (d : Fin 32) : (val_main_v91 (F := Ideal) x6 (ix4 b s h d) : EReal) = table x6 s d := by
  have e : idx_main_v87 (idx_main_v91 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v91_apply, val_main_v87_apply, e]
  rfl

theorem kTable93 (b : Fin 4) (s : Fin 8192) (h : Fin 2) (d : Fin 32) : (val_main_v93 (F := Ideal) x7 (ix4 b s h d) : EReal) = table x7 s d := by
  have e : idx_main_v88 (idx_main_v93 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v93_apply, val_main_v88_apply, e]
  rfl

theorem kTable96 (b : Fin 4) (s : Fin 8192) (h : Fin 2) (d : Fin 32) : (val_main_v96 (F := Ideal) x6 (ix4 b s h d) : EReal) = table x6 s d := by
  have e : idx_main_v87 (idx_main_v96 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v96_apply, val_main_v87_apply, e]
  rfl

theorem kTable98 (b : Fin 4) (s : Fin 8192) (h : Fin 2) (d : Fin 32) : (val_main_v98 (F := Ideal) x7 (ix4 b s h d) : EReal) = table x7 s d := by
  have e : idx_main_v88 (idx_main_v98 (ix4 b s h d)) = ix2 s d := by
    funext a; fin_cases a <;> refine Fin.ext ?_
    · show (((0 * 8192 + s.val) * 1 + 0) * 32 + d.val) / 32 = s.val; omega
    · show (((0 * 8192 + s.val) * 1 + 0) * 32 + d.val) % 32 = d.val; omega
  rw [val_main_v98_apply, val_main_v88_apply, e]
  rfl

theorem kTurned (b : Fin 4) (s : Fin 8192) (h : Fin 2) (d : Fin 64) :
    (val_main_v101 (F := Ideal) x0 x2 x4 x5 x6 x7 (ix4 b s h d) : EReal) = rope (lat x0 x2 x4 x5 b s) (table x6 s) (table x7 s) (512 + (64 * h.val + d.val)) := by
  unfold val_main_v101
  by_cases hd : d.val < 32
  · refine (concatenate_pair_apply_left 3 _ _ concatenates_S4x8192x2x32_S4x8192x2x32_S4x8192x2x64_d3 _ rfl (ix4 b s h ⟨d.val, hd⟩) (fun a => by fin_cases a <;> rfl)).trans ?_
    refine Eq.trans ?_ (rope_first _ _ _ _ ⟨d.val, hd⟩ (by show (512 + (64 * h.val + d.val)) % 64 = d.val; omega)).symm
    rw [val_main_v95_apply, val_main_v92_apply, val_main_v94_apply, kFirst, kSecond, kTable91, kTable93]
    rfl
  · refine (concatenate_pair_apply_right 3 _ _ concatenates_S4x8192x2x32_S4x8192x2x32_S4x8192x2x64_d3 _ rfl rfl (ix4 b s h ⟨d.val - 32, by omega⟩)
      (fun a ha => by fin_cases a <;> first | rfl | exact absurd rfl ha) (by show d.val - 32 + 32 = d.val; omega)).trans ?_
    have en : 512 + (64 * h.val + d.val) = 512 + (64 * h.val + (d.val - 32)) + 32 := by omega
    rw [en]
    refine Eq.trans ?_ (rope_second _ _ _ _ ⟨d.val - 32, by omega⟩ (by show (512 + (64 * h.val + (d.val - 32))) % 64 = d.val - 32; omega)).symm
    rw [val_main_v100_apply, val_main_v97_apply, val_main_v99_apply, kFirst, kSecond, kTable96, kTable98]
    rfl

theorem kLat (b : Fin 4) (s : Fin 8192) (c : Fin 128) :
    (val_main_v140 (F := Ideal) x0 x1 x2 x3 x4 x5 x6 x7 (ix2 ⟨8192 * b.val + s.val, by omega⟩ c) : EReal) = rope (lat x0 x2 x4 x5 b s) (table x6 s) (table x7 s) (512 + c.val) := by
  have e : idx_main_v138 (ix2 ⟨8192 * b.val + s.val, by omega⟩ c) = ix4 b s ⟨c.val / 64, by omega⟩ ⟨c.val % 64, by omega⟩ := by
    funext a; fin_cases a <;> refine Fin.ext ?_
    · show ((8192 * b.val + s.val) * 128 + c.val) / 1048576 = b.val; omega
    · show ((8192 * b.val + s.val) * 128 + c.val) / 128 % 8192 = s.val; omega
    · show ((8192 * b.val + s.val) * 128 + c.val) / 64 % 2 = c.val / 64; omega
    · show ((8192 * b.val + s.val) * 128 + c.val) % 64 = c.val % 64; omega
  unfold val_main_v140
  refine (concatenate_pair_apply_left 0 _ _ concatenates_S32768x128_S1024x128_S33792x128_d0 _ rfl (ix2 ⟨8192 * b.val + s.val, by omega⟩ c) (fun a => by fin_cases a <;> rfl)).trans ?_
  rw [val_main_v138_apply, e, kTurned]
  exact congrArg (rope _ _ _) (by show 512 + (64 * (c.val / 64) + c.val % 64) = 512 + c.val; omega)

theorem kCtx (b : Fin 4) (l : Fin 256) (c : Fin 128) :
    (val_main_v140 (F := Ideal) x0 x1 x2 x3 x4 x5 x6 x7 (ix2 ⟨32768 + (256 * b.val + l.val), by omega⟩ c) : EReal) = ctx x1 x3 x4 x5 b l (col (512 + c.val)) := by
  have e : idx_main_v63 (idx_main_v69 (idx_main_v139 (ix2 ⟨256 * b.val + l.val, by omega⟩ c))) = ix3 b l (col (512 + c.val)) := by
    funext a; fin_cases a <;> refine Fin.ext ?_
    · show (((((256 * b.val + l.val) * 128 + c.val) / 32768 * 256 + ((256 * b.val + l.val) * 128 + c.val) / 128 % 256) * 2 + ((256 * b.val + l.val) * 128 + c.val) / 64 % 2) * 64 + ((256 * b.val + l.val) * 128 + c.val) % 64) / 32768 = b.val; omega
    · show (((((256 * b.val + l.val) * 128 + c.val) / 32768 * 256 + ((256 * b.val + l.val) * 128 + c.val) / 128 % 256) * 2 + ((256 * b.val + l.val) * 128 + c.val) / 64 % 2) * 64 + ((256 * b.val + l.val) * 128 + c.val) % 64) / 128 % 256 = l.val; omega
    · show 512 + (((((256 * b.val + l.val) * 128 + c.val) / 32768 * 256 + ((256 * b.val + l.val) * 128 + c.val) / 128 % 256) * 2 + ((256 * b.val + l.val) * 128 + c.val) / 64 % 2) * 64 + ((256 * b.val + l.val) * 128 + c.val) % 64) % 128 = (512 + c.val) % 2304; omega
  unfold val_main_v140
  refine (concatenate_pair_apply_right 0 _ _ concatenates_S32768x128_S1024x128_S33792x128_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v139_apply, val_main_v69_apply, val_main_v63_apply, e, ctxProduct]

theorem k_lat (b : Fin 4) (s : Fin 8192) (c : Fin 128) :
    (val_main_v141 (F := Ideal) x0 x1 x2 x3 x4 x5 x6 x7 (ix2 ⟨8192 * b.val + s.val, by omega⟩ c) : EReal) = rope (lat x0 x2 x4 x5 b s) (table x6 s) (table x7 s) (512 + c.val) := by
  rw [val_main_v141_apply, kLat]
  rfl

theorem k_ctx (b : Fin 4) (s : Fin 256) (c : Fin 128) :
    (val_main_v141 (F := Ideal) x0 x1 x2 x3 x4 x5 x6 x7 (ix2 ⟨32768 + (256 * b.val + s.val), by omega⟩ c) : EReal) = ctx x1 x3 x4 x5 b s (col (512 + c.val)) := by
  rw [val_main_v141_apply, kCtx]
  rfl

/-- The queries of the second kind. -/
theorem dqFirst (b : Fin 4) (s : Fin 8192) (h : Fin 4) (i : Fin 2) (d : Fin 32) :
    (val_main_v104 (F := Ideal) x0 x2 x4 x5 (ix5 b s h i d) : EReal) = lat x0 x2 x4 x5 b s (col (768 + (128 * h.val + 64 * i.val + d.val))) := by
  have e : idx_main_v54 (idx_main_v59 (idx_main_v104 (ix5 b s h i d))) = ix3 b s (col (768 + (128 * h.val + 64 * i.val + d.val))) := by
    funext a; fin_cases a <;> refine Fin.ext ?_
    · show ((((b.val * 8192 + s.val) * 4 + h.val) * 2 + i.val) * 64 + d.val) / 4194304 = b.val; omega
    · show ((((b.val * 8192 + s.val) * 4 + h.val) * 2 + i.val) * 64 + d.val) / 512 % 8192 = s.val; omega
    · show 768 + ((((b.val * 8192 + s.val) * 4 + h.val) * 2 + i.val) * 64 + d.val) % 512 = (768 + (128 * h.val + 64 * i.val + d.val)) % 2304; omega
  rw [val_main_v104_apply, val_main_v59_apply, val_main_v54_apply, e, latProduct]

theorem dqSecond (b : Fin 4) (s : Fin 8192) (h : Fin 4) (i : Fin 2) (d : Fin 32) :
    (val_main_v105 (F := Ideal) x0 x2 x4 x5 (ix5 b s h i d) : EReal) = lat x0 x2 x4 x5 b s (col (768 + (128 * h.val + 64 * i.val + d.val) + 32)) := by
  have e : idx_main_v54 (idx_main_v59 (idx_main_v105 (ix5 b s h i d))) = ix3 b s (col (768 + (128 * h.val + 64 * i.val + d.val) + 32)) := by
    funext a; fin_cases a <;> refine Fin.ext ?_
    · show ((((b.val * 8192 + s.val) * 4 + h.val) * 2 + i.val) * 64 + (32 + d.val)) / 4194304 = b.val; omega
    · show ((((b.val * 8192 + s.val) * 4 + h.val) * 2 + i.val) * 64 + (32 + d.val)) / 512 % 8192 = s.val; omega
    · show 768 + ((((b.val * 8192 + s.val) * 4 + h.val) * 2 + i.val) * 64 + (32 + d.val)) % 512 = (768 + (128 * h.val + 64 * i.val + d.val) + 32) % 2304; omega
  rw [val_main_v105_apply, val_main_v59_apply, val_main_v54_apply, e, latProduct]

theorem dqTable106 (b : Fin 4) (s : Fin 8192) (h : Fin 4) (i : Fin 2) (d : Fin 32) : (val_main_v106 (F := Ideal) x6 (ix5 b s h i d) : EReal) = table x6 s d := by
  have e : idx_main_v102 (idx_main_v106 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v106_apply, val_main_v102_apply, e]
  rfl

theorem dqTable108 (b : Fin 4) (s : Fin 8192) (h : Fin 4) (i : Fin 2) (d : Fin 32) : (val_main_v108 (F := Ideal) x7 (ix5 b s h i d) : EReal) = table x7 s d := by
  have e : idx_main_v103 (idx_main_v108 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v108_apply, val_main_v103_apply, e]
  rfl

theorem dqTable111 (b : Fin 4) (s : Fin 8192) (h : Fin 4) (i : Fin 2) (d : Fin 32) : (val_main_v111 (F := Ideal) x6 (ix5 b s h i d) : EReal) = table x6 s d := by
  have e : idx_main_v102 (idx_main_v111 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v111_apply, val_main_v102_apply, e]
  rfl

theorem dqTable113 (b : Fin 4) (s : Fin 8192) (h : Fin 4) (i : Fin 2) (d : Fin 32) : (val_main_v113 (F := Ideal) x7 (ix5 b s h i d) : EReal) = table x7 s d := by
  have e : idx_main_v103 (idx_main_v113 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v113_apply, val_main_v103_apply, e]
  rfl

theorem dqTurned (b : Fin 4) (s : Fin 8192) (h : Fin 4) (i : Fin 2) (d : Fin 64) :
    (val_main_v116 (F := Ideal) x0 x2 x4 x5 x6 x7 (ix5 b s h i d) : EReal) = rope (lat x0 x2 x4 x5 b s) (table x6 s) (table x7 s) (768 + (128 * h.val + 64 * i.val + d.val)) := by
  unfold val_main_v116
  by_cases hd : d.val < 32
  · refine (concatenate_pair_apply_left 4 _ _ concatenates_S4x8192x4x2x32_S4x8192x4x2x32_S4x8192x4x2x64_d4 _ rfl (ix5 b s h i ⟨d.val, hd⟩) (fun a => by fin_cases a <;> rfl)).trans ?_
    refine Eq.trans ?_ (rope_first _ _ _ _ ⟨d.val, hd⟩ (by show (768 + (128 * h.val + 64 * i.val + d.val)) % 64 = d.val; omega)).symm
    rw [val_main_v110_apply, val_main_v107_apply, val_main_v109_apply, dqFirst, dqSecond, dqTable106, dqTable108]
    rfl
  · refine (concatenate_pair_apply_right 4 _ _ concatenates_S4x8192x4x2x32_S4x8192x4x2x32_S4x8192x4x2x64_d4 _ rfl rfl (ix5 b s h i ⟨d.val - 32, by omega⟩)
      (fun a ha => by fin_cases a <;> first | rfl | exact absurd rfl ha) (by show d.val - 32 + 32 = d.val; omega)).trans ?_
    have en : 768 + (128 * h.val + 64 * i.val + d.val) = 768 + (128 * h.val + 64 * i.val + (d.val - 32)) + 32 := by omega
    rw [en]
    refine Eq.trans ?_ (rope_second _ _ _ _ ⟨d.val - 32, by omega⟩ (by show (768 + (128 * h.val + 64 * i.val + (d.val - 32))) % 64 = d.val - 32; omega)).symm
    rw [val_main_v115_apply, val_main_v112_apply, val_main_v114_apply, dqFirst, dqSecond, dqTable111, dqTable113]
    rfl

theorem dqLat (b : Fin 4) (s : Fin 8192) (c : Fin 512) :
    (val_main_v144 (F := Ideal) x0 x1 x2 x3 x4 x5 x6 x7 (ix2 ⟨8192 * b.val + s.val, by omega⟩ c) : EReal) = rope (lat x0 x2 x4 x5 b s) (table x6 s) (table x7 s) (768 + c.val) := by
  have e : idx_main_v142 (ix2 ⟨8192 * b.val + s.val, by omega⟩ c) = ix5 b s ⟨c.val / 128, by omega⟩ ⟨c.val % 128 / 64, by omega⟩ ⟨c.val % 64, by omega⟩ := by
    funext a; fin_cases a <;> refine Fin.ext ?_
    · show ((8192 * b.val + s.val) * 512 + c.val) / 4194304 = b.val; omega
    · show ((8192 * b.val + s.val) * 512 + c.val) / 512 % 8192 = s.val; omega
    · show ((8192 * b.val + s.val) * 512 + c.val) / 128 % 4 = c.val / 128; omega
    · show ((8192 * b.val + s.val) * 512 + c.val) / 64 % 2 = c.val % 128 / 64; omega
    · show ((8192 * b.val + s.val) * 512 + c.val) % 64 = c.val % 64; omega
  unfold val_main_v144
  refine (concatenate_pair_apply_left 0 _ _ concatenates_S32768x512_S1024x512_S33792x512_d0 _ rfl (ix2 ⟨8192 * b.val + s.val, by omega⟩ c) (fun a => by fin_cases a <;> rfl)).trans ?_
  rw [val_main_v142_apply, e, dqTurned]
  exact congrArg (rope _ _ _) (by show 768 + (128 * (c.val / 128) + 64 * (c.val % 128 / 64) + c.val % 64) = 768 + c.val; omega)

theorem dqCtx (b : Fin 4) (l : Fin 256) (c : Fin 512) :
    (val_main_v144 (F := Ideal) x0 x1 x2 x3 x4 x5 x6 x7 (ix2 ⟨32768 + (256 * b.val + l.val), by omega⟩ c) : EReal) = ctx x1 x3 x4 x5 b l (col (768 + c.val)) := by
  have e : idx_main_v65 (idx_main_v70 (idx_main_v143 (ix2 ⟨256 * b.val + l.val, by omega⟩ c))) = ix3 b l (col (768 + c.val)) := by
    funext a; fin_cases a <;> refine Fin.ext ?_
    · show ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) / 131072 = b.val; omega
    · show ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) / 512 % 256 = l.val; omega
    · show 768 + ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) % 512 = (768 + c.val) % 2304; omega
  unfold val_main_v144
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v143_apply, val_main_v70_apply, val_main_v65_apply, e, ctxProduct]

theorem dq_lat (b : Fin 4) (s : Fin 8192) (c : Fin 512) :
    (val_main_v147 (F := Ideal) x0 x1 x2 x3 x4 x5 x6 x7 (ix2 ⟨8192 * b.val + s.val, by omega⟩ c) : EReal) = rope (lat x0 x2 x4 x5 b s) (table x6 s) (table x7 s) (768 + c.val) * Ideal.ofBits .f32 0x3E000000#32 := by
  rw [val_main_v147_apply, val_main_v146_apply, dqLat, val_main_v145_apply]
  rfl

theorem dq_ctx (b : Fin 4) (s : Fin 256) (c : Fin 512) :
    (val_main_v147 (F := Ideal) x0 x1 x2 x3 x4 x5 x6 x7 (ix2 ⟨32768 + (256 * b.val + s.val), by omega⟩ c) : EReal) = ctx x1 x3 x4 x5 b s (col (768 + c.val)) * Ideal.ofBits .f32 0x3E000000#32 := by
  rw [val_main_v147_apply, val_main_v146_apply, dqCtx, val_main_v145_apply]
  rfl

/-- The keys of the second kind. -/
theorem dkFirst (b : Fin 4) (s : Fin 8192) (h : Fin 4) (i : Fin 2) (d : Fin 32) :
    (val_main_v119 (F := Ideal) x0 x2 x4 x5 (ix5 b s h i d) : EReal) = lat x0 x2 x4 x5 b s (col (1280 + (128 * h.val + 64 * i.val + d.val))) := by
  have e : idx_main_v55 (idx_main_v60 (idx_main_v119 (ix5 b s h i d))) = ix3 b s (col (1280 + (128 * h.val + 64 * i.val + d.val))) := by
    funext a; fin_cases a <;> refine Fin.ext ?_
    · show ((((b.val * 8192 + s.val) * 4 + h.val) * 2 + i.val) * 64 + d.val) / 4194304 = b.val; omega
    · show ((((b.val * 8192 + s.val) * 4 + h.val) * 2 + i.val) * 64 + d.val) / 512 % 8192 = s.val; omega
    · show 1280 + ((((b.val * 8192 + s.val) * 4 + h.val) * 2 + i.val) * 64 + d.val) % 512 = (1280 + (128 * h.val + 64 * i.val + d.val)) % 2304; omega
  rw [val_main_v119_apply, val_main_v60_apply, val_main_v55_apply, e, latProduct]

theorem dkSecond (b : Fin 4) (s : Fin 8192) (h : Fin 4) (i : Fin 2) (d : Fin 32) :
    (val_main_v120 (F := Ideal) x0 x2 x4 x5 (ix5 b s h i d) : EReal) = lat x0 x2 x4 x5 b s (col (1280 + (128 * h.val + 64 * i.val + d.val) + 32)) := by
  have e : idx_main_v55 (idx_main_v60 (idx_main_v120 (ix5 b s h i d))) = ix3 b s (col (1280 + (128 * h.val + 64 * i.val + d.val) + 32)) := by
    funext a; fin_cases a <;> refine Fin.ext ?_
    · show ((((b.val * 8192 + s.val) * 4 + h.val) * 2 + i.val) * 64 + (32 + d.val)) / 4194304 = b.val; omega
    · show ((((b.val * 8192 + s.val) * 4 + h.val) * 2 + i.val) * 64 + (32 + d.val)) / 512 % 8192 = s.val; omega
    · show 1280 + ((((b.val * 8192 + s.val) * 4 + h.val) * 2 + i.val) * 64 + (32 + d.val)) % 512 = (1280 + (128 * h.val + 64 * i.val + d.val) + 32) % 2304; omega
  rw [val_main_v120_apply, val_main_v60_apply, val_main_v55_apply, e, latProduct]

theorem dkTable121 (b : Fin 4) (s : Fin 8192) (h : Fin 4) (i : Fin 2) (d : Fin 32) : (val_main_v121 (F := Ideal) x6 (ix5 b s h i d) : EReal) = table x6 s d := by
  have e : idx_main_v117 (idx_main_v121 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v121_apply, val_main_v117_apply, e]
  rfl

theorem dkTable123 (b : Fin 4) (s : Fin 8192) (h : Fin 4) (i : Fin 2) (d : Fin 32) : (val_main_v123 (F := Ideal) x7 (ix5 b s h i d) : EReal) = table x7 s d := by
  have e : idx_main_v118 (idx_main_v123 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v123_apply, val_main_v118_apply, e]
  rfl

theorem dkTable126 (b : Fin 4) (s : Fin 8192) (h : Fin 4) (i : Fin 2) (d : Fin 32) : (val_main_v126 (F := Ideal) x6 (ix5 b s h i d) : EReal) = table x6 s d := by
  have e : idx_main_v117 (idx_main_v126 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v126_apply, val_main_v117_apply, e]
  rfl

theorem dkTable128 (b : Fin 4) (s : Fin 8192) (h : Fin 4) (i : Fin 2) (d : Fin 32) : (val_main_v128 (F := Ideal) x7 (ix5 b s h i d) : EReal) = table x7 s d := by
  have e : idx_main_v118 (idx_main_v128 (ix5 b s h i d)) = ix2 s d := by
    funext a; fin_cases a <;> refine Fin.ext ?_
    · show ((((0 * 8192 + s.val) * 1 + 0) * 1 + 0) * 32 + d.val) / 32 = s.val; omega
    · show ((((0 * 8192 + s.val) * 1 + 0) * 1 + 0) * 32 + d.val) % 32 = d.val; omega
  rw [val_main_v128_apply, val_main_v118_apply, e]
  rfl

theorem dkTurned (b : Fin 4) (s : Fin 8192) (h : Fin 4) (i : Fin 2) (d : Fin 64) :
    (val_main_v131 (F := Ideal) x0 x2 x4 x5 x6 x7 (ix5 b s h i d) : EReal) = rope (lat x0 x2 x4 x5 b s) (table x6 s) (table x7 s) (1280 + (128 * h.val + 64 * i.val + d.val)) := by
  unfold val_main_v131
  by_cases hd : d.val < 32
  · refine (concatenate_pair_apply_left 4 _ _ concatenates_S4x8192x4x2x32_S4x8192x4x2x32_S4x8192x4x2x64_d4 _ rfl (ix5 b s h i ⟨d.val, hd⟩) (fun a => by fin_cases a <;> rfl)).trans ?_
    refine Eq.trans ?_ (rope_first _ _ _ _ ⟨d.val, hd⟩ (by show (1280 + (128 * h.val + 64 * i.val + d.val)) % 64 = d.val; omega)).symm
    rw [val_main_v125_apply, val_main_v122_apply, val_main_v124_apply, dkFirst, dkSecond, dkTable121, dkTable123]
    rfl
  · refine (concatenate_pair_apply_right 4 _ _ concatenates_S4x8192x4x2x32_S4x8192x4x2x32_S4x8192x4x2x64_d4 _ rfl rfl (ix5 b s h i ⟨d.val - 32, by omega⟩)
      (fun a ha => by fin_cases a <;> first | rfl | exact absurd rfl ha) (by show d.val - 32 + 32 = d.val; omega)).trans ?_
    have en : 1280 + (128 * h.val + 64 * i.val + d.val) = 1280 + (128 * h.val + 64 * i.val + (d.val - 32)) + 32 := by omega
    rw [en]
    refine Eq.trans ?_ (rope_second _ _ _ _ ⟨d.val - 32, by omega⟩ (by show (1280 + (128 * h.val + 64 * i.val + (d.val - 32))) % 64 = d.val - 32; omega)).symm
    rw [val_main_v130_apply, val_main_v127_apply, val_main_v129_apply, dkFirst, dkSecond, dkTable126, dkTable128]
    rfl

theorem dkLat (b : Fin 4) (s : Fin 8192) (c : Fin 512) :
    (val_main_v150 (F := Ideal) x0 x1 x2 x3 x4 x5 x6 x7 (ix2 ⟨8192 * b.val + s.val, by omega⟩ c) : EReal) = rope (lat x0 x2 x4 x5 b s) (table x6 s) (table x7 s) (1280 + c.val) := by
  have e : idx_main_v148 (ix2 ⟨8192 * b.val + s.val, by omega⟩ c) = ix5 b s ⟨c.val / 128, by omega⟩ ⟨c.val % 128 / 64, by omega⟩ ⟨c.val % 64, by omega⟩ := by
    funext a; fin_cases a <;> refine Fin.ext ?_
    · show ((8192 * b.val + s.val) * 512 + c.val) / 4194304 = b.val; omega
    · show ((8192 * b.val + s.val) * 512 + c.val) / 512 % 8192 = s.val; omega
    · show ((8192 * b.val + s.val) * 512 + c.val) / 128 % 4 = c.val / 128; omega
    · show ((8192 * b.val + s.val) * 512 + c.val) / 64 % 2 = c.val % 128 / 64; omega
    · show ((8192 * b.val + s.val) * 512 + c.val) % 64 = c.val % 64; omega
  unfold val_main_v150
  refine (concatenate_pair_apply_left 0 _ _ concatenates_S32768x512_S1024x512_S33792x512_d0 _ rfl (ix2 ⟨8192 * b.val + s.val, by omega⟩ c) (fun a => by fin_cases a <;> rfl)).trans ?_
  rw [val_main_v148_apply, e, dkTurned]
  exact congrArg (rope _ _ _) (by show 1280 + (128 * (c.val / 128) + 64 * (c.val % 128 / 64) + c.val % 64) = 1280 + c.val; omega)

theorem dkCtx (b : Fin 4) (l : Fin 256) (c : Fin 512) :
    (val_main_v150 (F := Ideal) x0 x1 x2 x3 x4 x5 x6 x7 (ix2 ⟨32768 + (256 * b.val + l.val), by omega⟩ c) : EReal) = ctx x1 x3 x4 x5 b l (col (1280 + c.val)) := by
  have e : idx_main_v66 (idx_main_v71 (idx_main_v149 (ix2 ⟨256 * b.val + l.val, by omega⟩ c))) = ix3 b l (col (1280 + c.val)) := by
    funext a; fin_cases a <;> refine Fin.ext ?_
    · show ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) / 131072 = b.val; omega
    · show ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) / 512 % 256 = l.val; omega
    · show 1280 + ((((((256 * b.val + l.val) * 512 + c.val) / 131072 * 256 + ((256 * b.val + l.val) * 512 + c.val) / 512 % 256) * 4 + ((256 * b.val + l.val) * 512 + c.val) / 128 % 4) * 2 + ((256 * b.val + l.val) * 512 + c.val) / 64 % 2) * 64 + ((256 * b.val + l.val) * 512 + c.val) % 64) % 512 = (1280 + c.val) % 2304; omega
  unfold val_main_v150
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v149_apply, val_main_v71_apply, val_main_v66_apply, e, ctxProduct]

theorem dk_lat (b : Fin 4) (s : Fin 8192) (c : Fin 512) :
    (val_main_v151 (F := Ideal) x0 x1 x2 x3 x4 x5 x6 x7 (ix2 ⟨8192 * b.val + s.val, by omega⟩ c) : EReal) = rope (lat x0 x2 x4 x5 b s) (table x6 s) (table x7 s) (1280 + c.val) := by
  rw [val_main_v151_apply, dkLat]
  rfl

theorem dk_ctx (b : Fin 4) (s : Fin 256) (c : Fin 512) :
    (val_main_v151 (F := Ideal) x0 x1 x2 x3 x4 x5 x6 x7 (ix2 ⟨32768 + (256 * b.val + s.val), by omega⟩ c) : EReal) = ctx x1 x3 x4 x5 b s (col (1280 + c.val)) := by
  rw [val_main_v151_apply, dkCtx]
  rfl

/-- The values of the first kind, rows and columns exchanged within every 256 rows. -/
theorem vLat (b : Fin 4) (s : Fin 8192) (c : Fin 128) :
    (val_main_v154 (F := Ideal) x0 x1 x2 x3 x4 x5 (ix2 ⟨8192 * b.val + s.val, by omega⟩ c) : EReal) = lat x0 x2 x4 x5 b s (col (640 + c.val)) := by
  have e : idx_main_v53 (idx_main_v152 (ix2 ⟨8192 * b.val + s.val, by omega⟩ c)) = ix3 b s (col (640 + c.val)) := by
    funext a; fin_cases a <;> refine Fin.ext ?_
    · show ((8192 * b.val + s.val) * 128 + c.val) / 1048576 = b.val; omega
    · show ((8192 * b.val + s.val) * 128 + c.val) / 128 % 8192 = s.val; omega
    · show 640 + ((8192 * b.val + s.val) * 128 + c.val) % 128 = (640 + c.val) % 2304; omega
  unfold val_main_v154
  refine (concatenate_pair_apply_left 0 _ _ concatenates_S32768x128_S1024x128_S33792x128_d0 _ rfl (ix2 ⟨8192 * b.val + s.val, by omega⟩ c) (fun a => by fin_cases a <;> rfl)).trans ?_
  rw [val_main_v152_apply, val_main_v53_apply, e, latProduct]

theorem vCtx (b : Fin 4) (l : Fin 256) (c : Fin 128) :
    (val_main_v154 (F := Ideal) x0 x1 x2 x3 x4 x5 (ix2 ⟨32768 + (256 * b.val + l.val), by omega⟩ c) : EReal) = ctx x1 x3 x4 x5 b l (col (640 + c.val)) := by
  have e : idx_main_v64 (idx_main_v153 (ix2 ⟨256 * b.val + l.val, by omega⟩ c)) = ix3 b l (col (640 + c.val)) := by
    funext a; fin_cases a <;> refine Fin.ext ?_
    · show ((256 * b.val + l.val) * 128 + c.val) / 32768 = b.val; omega
    · show ((256 * b.val + l.val) * 128 + c.val) / 128 % 256 = l.val; omega
    · show 640 + ((256 * b.val + l.val) * 128 + c.val) % 128 = (640 + c.val) % 2304; omega
  unfold val_main_v154
  refine (concatenate_pair_apply_right 0 _ _ concatenates_S32768x128_S1024x128_S33792x128_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v153_apply, val_main_v64_apply, e, ctxProduct]

theorem v_lat (b : Fin 4) (j : Fin 32) (c : Fin 128) (κ : Fin 256) :
    (val_main_v157 (F := Ideal) x0 x1 x2 x3 x4 x5 (ix3 ⟨32 * b.val + j.val, by omega⟩ c κ) : EReal) = lat x0 x2 x4 x5 b ⟨256 * j.val + κ.val, by omega⟩ (col (640 + c.val)) := by
  have e : idx_main_v155 (idx_main_v156 (ix3 ⟨32 * b.val + j.val, by omega⟩ c κ)) = ix2 ⟨8192 * b.val + (256 * j.val + κ.val), by omega⟩ c := by
    funext a; fin_cases a <;> refine Fin.ext ?_
    · show (((32 * b.val + j.val) * 256 + κ.val) * 128 + c.val) / 128 = 8192 * b.val + (256 * j.val + κ.val); omega
    · show (((32 * b.val + j.val) * 256 + κ.val) * 128 + c.val) % 128 = c.val; omega
  rw [val_main_v157_apply, val_main_v156_apply, val_main_v155_apply, e]
  exact vLat x0 x1 x2 x3 x4 x5 b ⟨256 * j.val + κ.val, by omega⟩ c

theorem v_ctx (b : Fin 4) (c : Fin 128) (κ : Fin 256) :
    (val_main_v157 (F := Ideal) x0 x1 x2 x3 x4 x5 (ix3 ⟨128 + b.val, by omega⟩ c κ) : EReal) = ctx x1 x3 x4 x5 b κ (col (640 + c.val)) := by
  have e : idx_main_v155 (idx_main_v156 (ix3 ⟨128 + b.val, by omega⟩ c κ)) = ix2 ⟨32768 + (256 * b.val + κ.val), by omega⟩ c := by
    funext a; fin_cases a <;> refine Fin.ext ?_
    · show (((128 + b.val) * 256 + κ.val) * 128 + c.val) / 128 = 32768 + (256 * b.val + κ.val); omega
    · show (((128 + b.val) * 256 + κ.val) * 128 + c.val) % 128 = c.val; omega
  rw [val_main_v157_apply, val_main_v156_apply, val_main_v155_apply, e]
  exact vCtx x0 x1 x2 x3 x4 x5 b κ c

/-- The values of the second kind, likewise. -/
theorem dvLat (b : Fin 4) (s : Fin 8192) (c : Fin 512) :
    (val_main_v160 (F := Ideal) x0 x1 x2 x3 x4 x5 (ix2 ⟨8192 * b.val + s.val, by omega⟩ c) : EReal) = lat x0 x2 x4 x5 b s (col (1792 + c.val)) := by
  have e : idx_main_v56 (idx_main_v158 (ix2 ⟨8192 * b.val + s.val, by omega⟩ c)) = ix3 b s (col (1792 + c.val)) := by
    funext a; fin_cases a <;> refine Fin.ext ?_
    · show ((8192 * b.val + s.val) * 512 + c.val) / 4194304 = b.val; omega
    · show ((8192 * b.val + s.val) * 512 + c.val) / 512 % 8192 = s.val; omega
    · show 1792 + ((8192 * b.val + s.val) * 512 + c.val) % 512 = (1792 + c.val) % 2304; omega
  unfold val_main_v160
  refine (concatenate_pair_apply_left 0 _ _ concatenates_S32768x512_S1024x512_S33792x512_d0 _ rfl (ix2 ⟨8192 * b.val + s.val, by omega⟩ c) (fun a => by fin_cases a <;> rfl)).trans ?_
  rw [val_main_v158_apply, val_main_v56_apply, e, latProduct]

theorem dvCtx (b : Fin 4) (l : Fin 256) (c : Fin 512) :
    (val_main_v160 (F := Ideal) x0 x1 x2 x3 x4 x5 (ix2 ⟨32768 + (256 * b.val + l.val), by omega⟩ c) : EReal) = ctx x1 x3 x4 x5 b l (col (1792 + c.val)) := by
  have e : idx_main_v67 (idx_main_v159 (ix2 ⟨256 * b.val + l.val, by omega⟩ c)) = ix3 b l (col (1792 + c.val)) := by
    funext a; fin_cases a <;> refine Fin.ext ?_
    · show ((256 * b.val + l.val) * 512 + c.val) / 131072 = b.val; omega
    · show ((256 * b.val + l.val) * 512 + c.val) / 512 % 256 = l.val; omega
    · show 1792 + ((256 * b.val + l.val) * 512 + c.val) % 512 = (1792 + c.val) % 2304; omega
  unfold val_main_v160
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v159_apply, val_main_v67_apply, e, ctxProduct]

theorem dv_lat (b : Fin 4) (j : Fin 32) (c : Fin 512) (κ : Fin 256) :
    (val_main_v163 (F := Ideal) x0 x1 x2 x3 x4 x5 (ix3 ⟨32 * b.val + j.val, by omega⟩ c κ) : EReal) = lat x0 x2 x4 x5 b ⟨256 * j.val + κ.val, by omega⟩ (col (1792 + c.val)) := by
  have e : idx_main_v161 (idx_main_v162 (ix3 ⟨32 * b.val + j.val, by omega⟩ c κ)) = ix2 ⟨8192 * b.val + (256 * j.val + κ.val), by omega⟩ c := by
    funext a; fin_cases a <;> refine Fin.ext ?_
    · show (((32 * b.val + j.val) * 256 + κ.val) * 512 + c.val) / 512 = 8192 * b.val + (256 * j.val + κ.val); omega
    · show (((32 * b.val + j.val) * 256 + κ.val) * 512 + c.val) % 512 = c.val; omega
  rw [val_main_v163_apply, val_main_v162_apply, val_main_v161_apply, e]
  exact dvLat x0 x1 x2 x3 x4 x5 b ⟨256 * j.val + κ.val, by omega⟩ c

theorem dv_ctx (b : Fin 4) (c : Fin 512) (κ : Fin 256) :
    (val_main_v163 (F := Ideal) x0 x1 x2 x3 x4 x5 (ix3 ⟨128 + b.val, by omega⟩ c κ) : EReal) = ctx x1 x3 x4 x5 b κ (col (1792 + c.val)) := by
  have e : idx_main_v161 (idx_main_v162 (ix3 ⟨128 + b.val, by omega⟩ c κ)) = ix2 ⟨32768 + (256 * b.val + κ.val), by omega⟩ c := by
    funext a; fin_cases a <;> refine Fin.ext ?_
    · show (((128 + b.val) * 256 + κ.val) * 512 + c.val) / 512 = 32768 + (256 * b.val + κ.val); omega
    · show (((128 + b.val) * 256 + κ.val) * 512 + c.val) % 512 = c.val; omega
  rw [val_main_v163_apply, val_main_v162_apply, val_main_v161_apply, e]
  exact dvCtx x0 x1 x2 x3 x4 x5 b κ c

end Cert.Reference2Ideal.PreAttn

end
-- ==== Proof.RotaryEquation.lean ====
/- The projection kernel's six output arrays are the reference's six results, from memories that agree on the arguments. -/
module

public import proofs.«01_k».proof.Proof.RotaryKernel
public import proofs.«01_k».proof.Proof.RotaryRef

@[expose] public section

noncomputable section

namespace Cert.PreAttn

open Idealize.ShloMosaic Idealize.ShloMosaic.TcCoe
open Cert.Kernel2Ideal Cert.Kernel2Ideal.Gen Cert.Kernel2Ideal.PreAttn

theorem row_split (r : Fin 33792) : (∃ b s, r = rowL b s) ∨ ∃ b l, r = rowC b l := by
  by_cases h : r.val < 32768
  · exact .inl ⟨⟨r.val / 8192, by omega⟩, ⟨r.val % 8192, by omega⟩, Fin.ext (by show r.val = 8192 * (r.val / 8192) + r.val % 8192; omega)⟩
  · exact .inr ⟨⟨(r.val - 32768) / 256, by omega⟩, ⟨(r.val - 32768) % 256, by omega⟩,
      Fin.ext (by show r.val = 32768 + (256 * ((r.val - 32768) / 256) + (r.val - 32768) % 256); omega)⟩

theorem chunk_split (i : Fin 132) : (∃ (b : Fin 4) (j : Fin 32), i = ⟨32 * b.val + j.val, by omega⟩) ∨ ∃ b : Fin 4, i = ⟨128 + b.val, by omega⟩ := by
  by_cases h : i.val < 128
  · exact .inl ⟨⟨i.val / 32, by omega⟩, ⟨i.val % 32, by omega⟩, Fin.ext (by show i.val = 32 * (i.val / 32) + i.val % 32; omega)⟩
  · exact .inr ⟨⟨i.val - 128, by omega⟩, Fin.ext (by show i.val = 128 + (i.val - 128); omega)⟩

variable (m : (ℓ : Loc nD τ sig) → Buf (Elt Ideal) ℓ) (c : Dev nD)

/-- The same array: the queries of the first kind. -/
theorem same_q : Cert.Reference2Ideal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 6 cfg0.N := by
  have key : ∀ (r : Fin 33792) (d : Fin 512),
      (Cert.Reference2Ideal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r d) : EReal) = rdH S33792x512 ((dats m 0 c).arrAt 6 cfg0.N) (ix2 r d) := by
    intro r d
    rcases row_split r with ⟨b, s, rfl⟩ | ⟨b, s, rfl⟩
    · exact (Cert.Reference2Ideal.PreAttn.q_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res6_lat m c b s d).symm
    · exact (Cert.Reference2Ideal.PreAttn.q_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res6_ctx m c b s d).symm
  funext i
  have hi : i = ix2 (i 0) (i 1) := by funext a; fin_cases a <;> rfl
  rw [hi]
  exact key (i 0) (i 1)

/-- The same array: the keys of the first kind. -/
theorem same_k : Cert.Reference2Ideal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 7 cfg0.N := by
  have key : ∀ (r : Fin 33792) (d : Fin 128),
      (Cert.Reference2Ideal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r d) : EReal) = rdH S33792x128 ((dats m 0 c).arrAt 7 cfg0.N) (ix2 r d) := by
    intro r d
    rcases row_split r with ⟨b, s, rfl⟩ | ⟨b, s, rfl⟩
    · exact (Cert.Reference2Ideal.PreAttn.k_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res7_lat m c b s d).symm
    · exact (Cert.Reference2Ideal.PreAttn.k_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res7_ctx m c b s d).symm
  funext i
  have hi : i = ix2 (i 0) (i 1) := by funext a; fin_cases a <;> rfl
  rw [hi]
  exact key (i 0) (i 1)

/-- The same array: the queries of the second kind. -/
theorem same_dq : Cert.Reference2Ideal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 8 cfg0.N := by
  have key : ∀ (r : Fin 33792) (d : Fin 512),
      (Cert.Reference2Ideal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r d) : EReal) = rdH S33792x512 ((dats m 0 c).arrAt 8 cfg0.N) (ix2 r d) := by
    intro r d
    rcases row_split r with ⟨b, s, rfl⟩ | ⟨b, s, rfl⟩
    · exact (Cert.Reference2Ideal.PreAttn.dq_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res8_lat m c b s d).symm
    · exact (Cert.Reference2Ideal.PreAttn.dq_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res8_ctx m c b s d).symm
  funext i
  have hi : i = ix2 (i 0) (i 1) := by funext a; fin_cases a <;> rfl
  rw [hi]
  exact key (i 0) (i 1)

/-- The same array: the keys of the second kind. -/
theorem same_dk : Cert.Reference2Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = (dats m 0 c).arrAt 9 cfg0.N := by
  have key : ∀ (r : Fin 33792) (d : Fin 512),
      (Cert.Reference2Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r d) : EReal) = rdH S33792x512 ((dats m 0 c).arrAt 9 cfg0.N) (ix2 r d) := by
    intro r d
    rcases row_split r with ⟨b, s, rfl⟩ | ⟨b, s, rfl⟩
    · exact (Cert.Reference2Ideal.PreAttn.dk_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res9_lat m c b s d).symm
    · exact (Cert.Reference2Ideal.PreAttn.dk_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s d).trans (res9_ctx m c b s d).symm
  funext i
  have hi : i = ix2 (i 0) (i 1) := by funext a; fin_cases a <;> rfl
  rw [hi]
  exact key (i 0) (i 1)

/-- The same array: the values of the first kind. -/
theorem same_v : Cert.Reference2Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 10 cfg0.N := by
  have key : ∀ (i : Fin 132) (e : Fin 128) (κ : Fin 256),
      (Cert.Reference2Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 i e κ) : EReal) = rdH S132x128x256 ((dats m 0 c).arrAt 10 cfg0.N) (ix3 i e κ) := by
    intro i e κ
    rcases chunk_split i with ⟨b, j, rfl⟩ | ⟨b, rfl⟩
    · exact (Cert.Reference2Ideal.PreAttn.v_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b j e κ).trans (res10_lat m c b j e κ).symm
    · exact (Cert.Reference2Ideal.PreAttn.v_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b e κ).trans (res10_ctx m c b e κ).symm
  funext i
  have hi : i = ix3 (i 0) (i 1) (i 2) := by funext a; fin_cases a <;> rfl
  rw [hi]
  exact key (i 0) (i 1) (i 2)

/-- The same array: the values of the second kind. -/
theorem same_dv : Cert.Reference2Ideal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 11 cfg0.N := by
  have key : ∀ (i : Fin 132) (e : Fin 512) (κ : Fin 256),
      (Cert.Reference2Ideal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 i e κ) : EReal) = rdH S132x512x256 ((dats m 0 c).arrAt 11 cfg0.N) (ix3 i e κ) := by
    intro i e κ
    rcases chunk_split i with ⟨b, j, rfl⟩ | ⟨b, rfl⟩
    · exact (Cert.Reference2Ideal.PreAttn.dv_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b j e κ).trans (res11_lat m c b j e κ).symm
    · exact (Cert.Reference2Ideal.PreAttn.dv_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b e κ).trans (res11_ctx m c b e κ).symm
  funext i
  have hi : i = ix3 (i 0) (i 1) (i 2) := by funext a; fin_cases a <;> rfl
  rw [hi]
  exact key (i 0) (i 1) (i 2)

end Cert.PreAttn

end
-- ==== Proof.RecSpec.lean ====
/- What the input projection of a recurrence layer gives for one row: the modulated norm of the row times the projection matrix, in
   extended reals. -/
module

public import proofs.«01_k».proof.Proof.RotarySpec

@[expose] public section

noncomputable section

namespace Cert.PreRec

open Idealize.ShloMosaic Cert.PreAttn

/-- The projection of a row to one column. -/
def projR (x w sc sh : Fin 1024 → EReal) (W : Fin 1024 → Fin 1536 → EReal) (c : Fin 1536) : EReal := ∑ k, normed x w sc sh k * W k c

theorem projR_congr {x x' w w' sc sc' sh sh' : Fin 1024 → EReal} {W W' : Fin 1024 → Fin 1536 → EReal} (hx : ∀ k, x k = x' k) (hw : ∀ k, w k = w' k)
    (hc : ∀ k, sc k = sc' k) (hs : ∀ k, sh k = sh' k) (hW : ∀ k n, W k n = W' k n) (n : Fin 1536) : projR x w sc sh W n = projR x' w' sc' sh' W' n := by
  rw [funext hx, funext hw, funext hc, funext hs, funext fun k => funext (hW k)]

/-- Column `c` of the part that starts at column `o`. -/
def at512 (o : ℕ) (h : o + 512 ≤ 1536) (c : Fin 512) : Fin 1536 := ⟨o + c.val, by omega⟩

/-- The projection of latent row `s` of batch `b`. -/
def latR (X : Fin 4 → Fin 8192 → Fin 1024 → EReal) (M : Fin 4 → Fin 6 → Fin 1024 → EReal) (w : Fin 1024 → EReal) (W : Fin 1024 → Fin 1536 → EReal)
    (b : Fin 4) (s : Fin 8192) : Fin 1536 → EReal := projR (X b s) w (M b 1) (M b 0) W
/-- The projection of context row `l` of batch `b`. -/
def ctxR (Y : Fin 4 → Fin 256 → Fin 1024 → EReal) (N : Fin 6 → Fin 1024 → EReal) (w : Fin 1024 → EReal) (W : Fin 1024 → Fin 1536 → EReal)
    (b : Fin 4) (l : Fin 256) : Fin 1536 → EReal := projR (Y b l) w (N 1) (N 0) W

end Cert.PreRec

end
-- ==== Proof.RecBlock.lean ====
/- What one block of the recurrence layer's projection kernel computes: its three output blocks, as functions of the block's rows,
   modulation and weights; and which part of the arrays every grid point reads and writes. -/
module

public import proofs.«01_k».proof.Proof.RecSpec
public import proofs.«01_k».proof.Proof.Gen.Kernel3Ideal.Value
public import Idealize.ShloMosaic.Lib.KernelVsHost
public import Idealize.ShloMosaic.Lib.Pipeline.ValueKit.Tiles
public import Idealize.ShloMosaic.Lib.Pipeline.ValueKit.Point

@[expose] public section

noncomputable section

namespace Cert.Kernel3Ideal.PreRec

open Idealize.ShloMosaic Idealize.ShloMosaic.TcCoe
open Cert.Kernel3Ideal Cert.Kernel3Ideal.Gen Cert.PreAttn Cert.PreRec

/-- The product of a block: every row's projection. -/
theorem product_at (P0 : Vec Ideal S1024x1024 .f32) (P1 : Vec Ideal S1x1024 .f32) (P2 P3 : Vec Ideal S1x1x1024 .f32) (P4 : Vec Ideal S1024x1536 .bf16)
    (r : Fin 1024) (c : Fin 1536) :
    (k0_pay1 P0 P1 P2 P3 P4 (ix2 r c) : EReal)
      = projR (fun k => P0 (ix2 r k)) (fun k => P1 (ix2 0 k)) (fun k => P3 (ix3 0 0 k)) (fun k => P2 (ix3 0 0 k)) (fun k c => P4 (ix2 k c)) c := by
  unfold projR normed
  pointwise [k0_pay1]

/-- The same of the block's inputs as they are loaded. -/
theorem blockProduct_at (x0 : Vec Ideal S1024x1024 .f32) (x1 : Vec Ideal S1x6x1024 .f32) (x2 : Vec Ideal S1x1024 .f32) (x3 : Vec Ideal S1024x1536 .bf16) (r : Fin 1024) (c : Fin 1536) :
    (k0_pay1 (View.ld x0 r0_0) (View.ld x2 r0_1) (View.ld x1 r0_2) (View.ld x1 r0_3) (View.ld x3 r0_4) (ix2 r c) : EReal)
      = projR (fun k => x0 (ix2 r k)) (fun k => x2 (ix2 0 k)) (fun k => x1 (ix3 0 1 k)) (fun k => x1 (ix3 0 0 k)) (fun k c => x3 (ix2 k c)) c := by
  rw [product_at]
  have e0 : ∀ k, View.ld x0 r0_0 (ix2 r k) = x0 (ix2 r k) := fun k =>
    View.ld_unit_apply_of x0 _ _ _ _ _ (fun a => by fin_cases a <;> exact (Nat.zero_add _).symm)
  have e2 : ∀ k, View.ld x2 r0_1 (ix2 0 k) = x2 (ix2 0 k) := fun k =>
    View.ld_unit_apply_of x2 _ _ _ _ _ (fun a => by fin_cases a <;> exact (Nat.zero_add _).symm)
  have e10 : ∀ k, View.ld x1 r0_2 (ix3 0 0 k) = x1 (ix3 0 0 k) := fun k =>
    View.ld_unit_apply_of x1 _ _ _ _ _ (fun a => by fin_cases a <;> exact (Nat.zero_add _).symm)
  have e11 : ∀ k, View.ld x1 r0_3 (ix3 0 0 k) = x1 (ix3 0 1 k) := fun k =>
    View.ld_unit_apply_of x1 _ _ _ _ _ (fun a => by fin_cases a <;> first | exact (Nat.zero_add _).symm | rfl)
  have e3 : ∀ k c, View.ld x3 r0_4 (ix2 k c) = x3 (ix2 k c) := fun k c =>
    View.ld_unit_apply_of x3 _ _ _ _ _ (fun a => by fin_cases a <;> exact (Nat.zero_add _).symm)
  simp only [e0, e2, e10, e11, e3]

/-- The block of the pooling part. -/
theorem out4_at (x0 : Vec Ideal S1024x1024 .f32) (x1 : Vec Ideal S1x6x1024 .f32) (x2 : Vec Ideal S1x1024 .f32) (x3 : Vec Ideal S1024x1536 .bf16) (r : Fin 1024) (c : Fin 512) :
    (out0_4 x0 x1 x2 x3 (ix2 r c) : EReal)
      = projR (fun k => x0 (ix2 r k)) (fun k => x2 (ix2 0 k)) (fun k => x1 (ix3 0 1 k)) (fun k => x1 (ix3 0 0 k)) (fun k c => x3 (ix2 k c)) (at512 0 (by decide) c) := by
  refine (Value.canon4_eq (F := Ideal) _ _ _ _ _ (ix2 r c)).trans (Eq.trans ?_ (blockProduct_at x0 x1 x2 x3 r (at512 0 (by decide) c)))
  refine congrArg (k0_pay1 (View.ld x0 r0_0) (View.ld x2 r0_1) (View.ld x1 r0_2) (View.ld x1 r0_3) (View.ld x3 r0_4)) (funext fun a => Fin.ext ?_)
  match a with
  | ⟨0, _⟩ => rfl
  | ⟨1, _⟩ => show c.val = 0 + c.val; omega

/-- The block of the recurrence part. -/
theorem out5_at (x0 : Vec Ideal S1024x1024 .f32) (x1 : Vec Ideal S1x6x1024 .f32) (x2 : Vec Ideal S1x1024 .f32) (x3 : Vec Ideal S1024x1536 .bf16) (r : Fin 1024) (c : Fin 512) :
    (out0_5 x0 x1 x2 x3 (ix2 r c) : EReal)
      = projR (fun k => x0 (ix2 r k)) (fun k => x2 (ix2 0 k)) (fun k => x1 (ix3 0 1 k)) (fun k => x1 (ix3 0 0 k)) (fun k c => x3 (ix2 k c)) (at512 512 (by decide) c) := by
  refine (Value.canon5_eq (F := Ideal) _ _ _ _ _ (ix2 r c)).trans (Eq.trans ?_ (blockProduct_at x0 x1 x2 x3 r (at512 512 (by decide) c)))
  refine congrArg (k0_pay1 (View.ld x0 r0_0) (View.ld x2 r0_1) (View.ld x1 r0_2) (View.ld x1 r0_3) (View.ld x3 r0_4)) (funext fun a => Fin.ext ?_)
  match a with
  | ⟨0, _⟩ => rfl
  | ⟨1, _⟩ => show c.val + 512 = 512 + c.val; omega

/-- The block of the gate part. -/
theorem out6_at (x0 : Vec Ideal S1024x1024 .f32) (x1 : Vec Ideal S1x6x1024 .f32) (x2 : Vec Ideal S1x1024 .f32) (x3 : Vec Ideal S1024x1536 .bf16) (r : Fin 1024) (c : Fin 512) :
    (out0_6 x0 x1 x2 x3 (ix2 r c) : EReal)
      = projR (fun k => x0 (ix2 r k)) (fun k => x2 (ix2 0 k)) (fun k => x1 (ix3 0 1 k)) (fun k => x1 (ix3 0 0 k)) (fun k c => x3 (ix2 k c)) (at512 1024 (by decide) c) := by
  refine (Value.canon6_eq (F := Ideal) _ _ _ _ _ (ix2 r c)).trans (Eq.trans ?_ (blockProduct_at x0 x1 x2 x3 r (at512 1024 (by decide) c)))
  refine congrArg (k0_pay1 (View.ld x0 r0_0) (View.ld x2 r0_1) (View.ld x1 r0_2) (View.ld x1 r0_3) (View.ld x3 r0_4)) (funext fun a => Fin.ext ?_)
  match a with
  | ⟨0, _⟩ => rfl
  | ⟨1, _⟩ => show c.val + 1024 = 1024 + c.val; omega

/-! The grid: point `t` takes rows `1024 t` and on; the first 32 points are latent rows, eight to a batch, and the last is all the context
rows. -/

/-- The modulation a point's rows take: their batch's, or the context's. -/
def modOf (t : ℕ) : ℕ := if t < 32 then t / 8 else 4

theorem point_lt (t : Fin cfg0.N) : t.val < 33 := t.isLt
theorem modOf_lt (t : Fin cfg0.N) : modOf t.val < 8 := by
  unfold modOf; split <;> omega

theorem idx0 : ∀ t : Fin cfg0.N, win0_0.index t = ![t.val, 0] := by decide +kernel
theorem idx1 : ∀ t : Fin cfg0.N, win0_1.index t = ![modOf t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem flush4 : ∀ t : Fin cfg0.N, (cfg0.win 4).flush t = true := by decide +kernel
theorem flush5 : ∀ t : Fin cfg0.N, (cfg0.win 5).flush t = true := by decide +kernel
theorem flush6 : ∀ t : Fin cfg0.N, (cfg0.win 6).flush t = true := by decide +kernel

variable {F : FTy → Type} [FloatOps F]
variable (m : (ℓ : Loc nD τ sig) → Buf (Elt F) ℓ)

theorem blk0_at (c : Dev nD) (t : Fin cfg0.N) (r : Fin 1024) (d : Fin 1024) :
    (iblk m c 0 t : Vec F S1024x1024 .f32) (ix2 r d)
      = (V m c main_v2 : Vec F S33792x1024 .f32) (ix2 ⟨1024 * t.val + r.val, by have := point_lt t; omega⟩ d) := by
  blk_ext [iblk, idx0 t]

theorem blk1_at (c : Dev nD) (t : Fin cfg0.N) (j : Fin 6) (d : Fin 1024) :
    (iblk m c 1 t : Vec F S1x6x1024 .f32) (ix3 0 j d)
      = (V m c main_v5 : Vec F S8x6x1024 .f32) (ix3 ⟨modOf t.val, modOf_lt t⟩ j d) := by
  blk_ext [iblk, idx1 t]

theorem blk2_at (c : Dev nD) (t : Fin cfg0.N) (d : Fin 1024) :
    (iblk m c 2 t : Vec F S1x1024 .f32) (ix2 0 d) = (V m c main_v6 : Vec F S1x1024 .f32) (ix2 0 d) := by
  blk_ext [iblk, idx2 t]

theorem blk3_at (c : Dev nD) (t : Fin cfg0.N) (k : Fin 1024) (d : Fin 1536) :
    (iblk m c 3 t : Vec F S1024x1536 .bf16) (ix2 k d) = (V m c main_v7 : Vec F S1024x1536 .bf16) (ix2 k d) := by
  blk_ext [iblk, idx3 t]

/-! What the three output arrays end holding: at every row what the row's point left in the output's buffer. -/

theorem arr4_at (c : Dev nD) (t : Fin cfg0.N) (r : Fin 1024) (d : Fin 512) :
    ((dats m 0 c).arrAt 4 cfg0.N : Vec F S33792x512 .f32) (ix2 ⟨1024 * t.val + r.val, by have := point_lt t; omega⟩ d)
      = out0_4 (iblk m c 0 t) (iblk m c 1 t) (iblk m c 2 t) (iblk m c 3 t) (ix2 r d) := by
  have h := congrFun ((Value.blocks4 m c t (flush4 t)).trans (Value.flushed4 m c t)) (ix2 r d)
  refine Eq.trans ?_ h
  symm
  blk_ext [idx4 t]

theorem arr5_at (c : Dev nD) (t : Fin cfg0.N) (r : Fin 1024) (d : Fin 512) :
    ((dats m 0 c).arrAt 5 cfg0.N : Vec F S33792x512 .f32) (ix2 ⟨1024 * t.val + r.val, by have := point_lt t; omega⟩ d)
      = out0_5 (iblk m c 0 t) (iblk m c 1 t) (iblk m c 2 t) (iblk m c 3 t) (ix2 r d) := by
  have h := congrFun ((Value.blocks5 m c t (flush5 t)).trans (Value.flushed5 m c t)) (ix2 r d)
  refine Eq.trans ?_ h
  symm
  blk_ext [idx5 t]

theorem arr6_at (c : Dev nD) (t : Fin cfg0.N) (r : Fin 1024) (d : Fin 512) :
    ((dats m 0 c).arrAt 6 cfg0.N : Vec F S33792x512 .f32) (ix2 ⟨1024 * t.val + r.val, by have := point_lt t; omega⟩ d)
      = out0_6 (iblk m c 0 t) (iblk m c 1 t) (iblk m c 2 t) (iblk m c 3 t) (ix2 r d) := by
  have h := congrFun ((Value.blocks6 m c t (flush6 t)).trans (Value.flushed6 m c t)) (ix2 r d)
  refine Eq.trans ?_ h
  symm
  blk_ext [idx6 t]

end Cert.Kernel3Ideal.PreRec

end
-- ==== Proof.RecHost.lean ====
/- What the arrays hold that the recurrence layer's projection kernel is given: the host's rows and modulations, read at an index. -/
module

public import Idealize.ShloMosaic.Lib.StableHlo.RunRead
public import proofs.«01_k».proof.Proof.RecBlock

@[expose] public section

noncomputable section

namespace Cert.Kernel3Ideal.PreRec

open Idealize.ShloMosaic Idealize.ShloMosaic.TcCoe
open Cert.Kernel3Ideal Cert.Kernel3Ideal.Gen Cert.PreAttn Cert.PreRec

variable (m : (ℓ : Loc nD τ sig) → Buf (Elt Ideal) ℓ)

/-- Row `s` of batch `b`, latent. -/
def rowL (b : Fin 4) (s : Fin 8192) : Fin 33792 := ⟨8192 * b.val + s.val, by omega⟩
/-- Row `l` of batch `b`, context. -/
def rowC (b : Fin 4) (l : Fin 256) : Fin 33792 := ⟨32768 + (256 * b.val + l.val), by omega⟩

/-- An array of numbers at an index, as an extended real. -/
abbrev rdF (s : Shape) (v : Vec Ideal s .f32) (i : s.Idx) : EReal := v i
/-- The same of an array in the kernel's operand type. -/
abbrev rdH (s : Shape) (v : Vec Ideal s .bf16) (i : s.Idx) : EReal := v i

section Layout

variable {α : Type}

theorem rows_latent (x : S32768x1024.Idx → α) (y : S1024x1024.Idx → α) (w) (b : Fin 4) (s : Fin 8192) (k : Fin 1024) :
    concatenate S33792x1024 0 [⟨S32768x1024, x⟩, ⟨S1024x1024, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem rows_context (x : S32768x1024.Idx → α) (y : S1024x1024.Idx → α) (w) (b : Fin 4) (l : Fin 256) (k : Fin 1024) :
    concatenate S33792x1024 0 [⟨S32768x1024, x⟩, ⟨S1024x1024, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem flat_latent (v : S4x8192x1024.Idx → α) (b : Fin 4) (s : Fin 8192) (k : Fin 1024) (w) :
    shapeCast S32768x1024 v w (ix2 ⟨8192 * b.val + s.val, by omega⟩ k) = v (ix3 b s k) :=
  shapeCast_apply v w _ _ (by
    rewrite [Shape.rowMajor_val_three, Shape.rowMajor_val_two]
    show (b.val * 8192 + s.val) * 1024 + k.val = (8192 * b.val + s.val) * 1024 + k.val
    omega)

theorem flat_context (v : S4x256x1024.Idx → α) (b : Fin 4) (l : Fin 256) (k : Fin 1024) (w) :
    shapeCast S1024x1024 v w (ix2 ⟨256 * b.val + l.val, by omega⟩ k) = v (ix3 b l k) :=
  shapeCast_apply v w _ _ (by
    rewrite [Shape.rowMajor_val_three, Shape.rowMajor_val_two]
    show (b.val * 256 + l.val) * 1024 + k.val = (256 * b.val + l.val) * 1024 + k.val
    omega)

/-- The modulations: the four batches' and then the context's. -/
theorem mods_latent (x : S4x6x1024.Idx → α) (y : S1x6x1024.Idx → α) (z : S3x6x1024.Idx → α) (w) (b : Fin 4) (j : Fin 6) (k : Fin 1024) :
    concatenate S8x6x1024 0 [⟨S4x6x1024, x⟩, ⟨S1x6x1024, y⟩, ⟨S3x6x1024, z⟩] w (ix3 ⟨b.val, by omega⟩ j k) = x (ix3 b j k) := by
  refine concatenate_apply_piece 0 _ w _ 0 (by simp) S4x6x1024 x rfl rfl 0 rfl (ix3 b j k) ?_ ?_
  · exact fun a ha => by match a with | ⟨0, _⟩ => exact absurd rfl ha | ⟨1, _⟩ => rfl | ⟨2, _⟩ => rfl
  · exact Nat.zero_add _

theorem mods_context (x : S4x6x1024.Idx → α) (y : S1x6x1024.Idx → α) (z : S3x6x1024.Idx → α) (w) (j : Fin 6) (k : Fin 1024) :
    concatenate S8x6x1024 0 [⟨S4x6x1024, x⟩, ⟨S1x6x1024, y⟩, ⟨S3x6x1024, z⟩] w (ix3 4 j k) = y (ix3 0 j k) := by
  refine concatenate_apply_piece 0 _ w _ 1 (by simp) S1x6x1024 y rfl rfl 4 rfl (ix3 0 j k) ?_ ?_
  · exact fun a ha => by match a with | ⟨0, _⟩ => exact absurd rfl ha | ⟨1, _⟩ => rfl | ⟨2, _⟩ => rfl
  · rfl

theorem lift_mod (v : S6x1024.Idx → α) (j : Fin 6) (k : Fin 1024) (w) : broadcastInDim S1x6x1024 ![1, 2] w v (ix3 0 j k) = v (ix2 j k) := by
  pointwise

theorem lift_norm (v : S1024.Idx → α) (k : Fin 1024) (w) : broadcastInDim S1x1024 ![1] w v (ix2 0 k) = v (ix1 k) := by
  pointwise

end Layout

theorem xs_lat (c : Dev nD) (b : Fin 4) (s : Fin 8192) (k : Fin 1024) :
    rdF S33792x1024 (V m c main_v2) (ix2 (rowL b s) k) = rdF S4x8192x1024 (m ((c : Thread nD τ).loc main_arg0)) (ix3 b s k) := by
  unfold rdF
  entry_read
  exact (rows_latent _ _ concatenates_S32768x1024_S1024x1024_S33792x1024_d0 b s k).trans (flat_latent _ b s k _)

theorem xs_ctx (c : Dev nD) (b : Fin 4) (l : Fin 256) (k : Fin 1024) :
    rdF S33792x1024 (V m c main_v2) (ix2 (rowC b l) k) = rdF S4x256x1024 (m ((c : Thread nD τ).loc main_arg1)) (ix3 b l k) := by
  unfold rdF
  entry_read
  exact (rows_context _ _ concatenates_S32768x1024_S1024x1024_S33792x1024_d0 b l k).trans (flat_context _ b l k _)

set_option maxRecDepth 8000 in
set_option maxHeartbeats 1000000 in
theorem mod_lat (c : Dev nD) (b : Fin 4) (j : Fin 6) (k : Fin 1024) :
    rdF S8x6x1024 (V m c main_v5) (ix3 ⟨b.val, by omega⟩ j k) = rdF S4x6x1024 (m ((c : Thread nD τ).loc main_arg2)) (ix3 b j k) := by
  unfold rdF
  after_reads_simp
  exact mods_latent _ _ _ concatenates_S4x6x1024_S1x6x1024_S3x6x1024_S8x6x1024_d0 b j k

set_option maxRecDepth 8000 in
set_option maxHeartbeats 1000000 in
theorem mod_ctx (c : Dev nD) (j : Fin 6) (k : Fin 1024) :
    rdF S8x6x1024 (V m c main_v5) (ix3 4 j k) = rdF S6x1024 (m ((c : Thread nD τ).loc main_arg3)) (ix2 j k) := by
  unfold rdF
  after_reads_simp
  refine (mods_context _ _ _ concatenates_S4x6x1024_S1x6x1024_S3x6x1024_S8x6x1024_d0 j k).trans ?_
  refine (congrFun (StableHlo.unary_result _ _ _ _ _ _) _).trans ?_
  refine (lift_mod _ j k bcast_S6x1024_S1x6x1024_1_2).trans ?_
  after_reads_simp

theorem norm_at (c : Dev nD) (k : Fin 1024) :
    rdF S1x1024 (V m c main_v6) (ix2 0 k) = rdF S1024 (m ((c : Thread nD τ).loc main_arg4)) (ix1 k) := by
  unfold rdF
  entry_read
  exact lift_norm _ k _

theorem weight_at (c : Dev nD) (k : Fin 1024) (d : Fin 1536) :
    rdH S1024x1536 (V m c main_v7) (ix2 k d) = rdF S1024x1536 (m ((c : Thread nD τ).loc main_arg5)) (ix2 k d) := by
  unfold rdF rdH
  entry_read
  rfl

end Cert.Kernel3Ideal.PreRec

end
-- ==== Proof.RecKernel.lean ====
/- The recurrence layer's projection kernel: its three output arrays at every index, in terms of the arguments. -/
module

public import proofs.«01_k».proof.Proof.RecHost

@[expose] public section

noncomputable section

namespace Cert.Kernel3Ideal.PreRec

open Idealize.ShloMosaic Idealize.ShloMosaic.TcCoe
open Cert.Kernel3Ideal Cert.Kernel3Ideal.Gen Cert.PreAttn Cert.PreRec

variable (m : (ℓ : Loc nD τ sig) → Buf (Elt Ideal) ℓ) (c : Dev nD)

/-- The projection of a latent row, of the arguments. -/
def lat : Fin 4 → Fin 8192 → Fin 1536 → EReal :=
  latR (fun b s k => rdF S4x8192x1024 (m ((c : Thread nD τ).loc main_arg0)) (ix3 b s k)) (fun b j k => rdF S4x6x1024 (m ((c : Thread nD τ).loc main_arg2)) (ix3 b j k))
    (fun k => rdF S1024 (m ((c : Thread nD τ).loc main_arg4)) (ix1 k)) (fun k n => rdF S1024x1536 (m ((c : Thread nD τ).loc main_arg5)) (ix2 k n))
/-- The projection of a context row, of the arguments. -/
def ctx : Fin 4 → Fin 256 → Fin 1536 → EReal :=
  ctxR (fun b l k => rdF S4x256x1024 (m ((c : Thread nD τ).loc main_arg1)) (ix3 b l k)) (fun j k => rdF S6x1024 (m ((c : Thread nD τ).loc main_arg3)) (ix2 j k))
    (fun k => rdF S1024 (m ((c : Thread nD τ).loc main_arg4)) (ix1 k)) (fun k n => rdF S1024x1536 (m ((c : Thread nD τ).loc main_arg5)) (ix2 k n))

section Latent

variable (b : Fin 4) (s : Fin 8192) (t : Fin cfg0.N) (ht : t.val = 8 * b.val + s.val / 1024) (r : Fin 1024) (hr : r.val = s.val % 1024)
include ht hr

omit hr in
theorem latMod : modOf t.val = b.val := by unfold modOf; rw [if_pos (by omega)]; omega
theorem latRow (h : 1024 * t.val + r.val < 33792) : (⟨1024 * t.val + r.val, h⟩ : Fin 33792) = rowL b s :=
  Fin.ext (by show 1024 * t.val + r.val = 8192 * b.val + s.val; omega)

theorem latBlock (n : Fin 1536) :
    projR (fun k => rdF S1024x1024 (iblk m c 0 t) (ix2 r k)) (fun k => rdF S1x1024 (iblk m c 2 t) (ix2 0 k)) (fun k => rdF S1x6x1024 (iblk m c 1 t) (ix3 0 1 k))
      (fun k => rdF S1x6x1024 (iblk m c 1 t) (ix3 0 0 k)) (fun k c' => rdH S1024x1536 (iblk m c 3 t) (ix2 k c')) n = lat m c b s n := by
  unfold lat latR
  have hm : (⟨modOf t.val, modOf_lt t⟩ : Fin 8) = ⟨b.val, by omega⟩ := Fin.ext (latMod b s t ht)
  refine projR_congr ?_ ?_ ?_ ?_ ?_ n
  · exact fun k => (blk0_at m c t r k).trans ((congrArg (fun i => rdF S33792x1024 (V m c main_v2) (ix2 i k)) (latRow b s t ht r hr _)).trans (xs_lat m c b s k))
  · exact fun k => (blk2_at m c t k).trans (norm_at m c k)
  · exact fun k => (blk1_at m c t 1 k).trans ((congrArg (fun i => rdF S8x6x1024 (V m c main_v5) (ix3 i 1 k)) hm).trans (mod_lat m c b 1 k))
  · exact fun k => (blk1_at m c t 0 k).trans ((congrArg (fun i => rdF S8x6x1024 (V m c main_v5) (ix3 i 0 k)) hm).trans (mod_lat m c b 0 k))
  · exact fun k n => (blk3_at m c t k n).trans (weight_at m c k n)

end Latent

section Context

variable (b : Fin 4) (l : Fin 256) (t : Fin cfg0.N) (ht : t.val = 32) (r : Fin 1024) (hr : r.val = 256 * b.val + l.val)
include ht hr

omit hr in
theorem ctxMod : modOf t.val = 4 := by unfold modOf; rw [if_neg (by omega)]
theorem ctxRow (h : 1024 * t.val + r.val < 33792) : (⟨1024 * t.val + r.val, h⟩ : Fin 33792) = rowC b l :=
  Fin.ext (by show 1024 * t.val + r.val = 32768 + (256 * b.val + l.val); omega)

theorem ctxBlock (n : Fin 1536) :
    projR (fun k => rdF S1024x1024 (iblk m c 0 t) (ix2 r k)) (fun k => rdF S1x1024 (iblk m c 2 t) (ix2 0 k)) (fun k => rdF S1x6x1024 (iblk m c 1 t) (ix3 0 1 k))
      (fun k => rdF S1x6x1024 (iblk m c 1 t) (ix3 0 0 k)) (fun k c' => rdH S1024x1536 (iblk m c 3 t) (ix2 k c')) n = ctx m c b l n := by
  unfold ctx ctxR
  have hm : (⟨modOf t.val, modOf_lt t⟩ : Fin 8) = 4 := Fin.ext (ctxMod t ht)
  refine projR_congr ?_ ?_ ?_ ?_ ?_ n
  · exact fun k => (blk0_at m c t r k).trans ((congrArg (fun i => rdF S33792x1024 (V m c main_v2) (ix2 i k)) (ctxRow b l t ht r hr _)).trans (xs_ctx m c b l k))
  · exact fun k => (blk2_at m c t k).trans (norm_at m c k)
  · exact fun k => (blk1_at m c t 1 k).trans ((congrArg (fun i => rdF S8x6x1024 (V m c main_v5) (ix3 i 1 k)) hm).trans (mod_ctx m c 1 k))
  · exact fun k => (blk1_at m c t 0 k).trans ((congrArg (fun i => rdF S8x6x1024 (V m c main_v5) (ix3 i 0 k)) hm).trans (mod_ctx m c 0 k))
  · exact fun k n => (blk3_at m c t k n).trans (weight_at m c k n)

end Context

/-- The grid point and the row within its block of a latent row. -/
def ptL (b : Fin 4) (s : Fin 8192) : Fin cfg0.N := ⟨8 * b.val + s.val / 1024, by show _ < 33; omega⟩
def inL (s : Fin 8192) : Fin 1024 := ⟨s.val % 1024, Nat.mod_lt _ (by decide)⟩
/-- The context's grid point, and the row within its block. -/
def ptC : Fin cfg0.N := ⟨32, by show _ < 33; omega⟩
def inC (b : Fin 4) (l : Fin 256) : Fin 1024 := ⟨256 * b.val + l.val, by omega⟩

theorem res4_lat (b : Fin 4) (s : Fin 8192) (d : Fin 512) :
    rdF S33792x512 ((dats m 0 c).arrAt 4 cfg0.N) (ix2 (rowL b s) d) = lat m c b s (at512 0 (by decide) d) := by
  refine (congrArg (fun i => rdF S33792x512 ((dats m 0 c).arrAt 4 cfg0.N) (ix2 i d)) (latRow b s (ptL b s) rfl (inL s) rfl (by have := point_lt (ptL b s); omega)).symm).trans ?_
  exact (arr4_at m c (ptL b s) (inL s) d).trans ((out4_at (iblk m c 0 (ptL b s)) (iblk m c 1 (ptL b s)) (iblk m c 2 (ptL b s)) (iblk m c 3 (ptL b s)) (inL s) d).trans (latBlock m c b s (ptL b s) rfl (inL s) rfl _))
theorem res4_ctx (b : Fin 4) (l : Fin 256) (d : Fin 512) :
    rdF S33792x512 ((dats m 0 c).arrAt 4 cfg0.N) (ix2 (rowC b l) d) = ctx m c b l (at512 0 (by decide) d) := by
  refine (congrArg (fun i => rdF S33792x512 ((dats m 0 c).arrAt 4 cfg0.N) (ix2 i d)) (ctxRow b l ptC rfl (inC b l) rfl (by have := point_lt ptC; omega)).symm).trans ?_
  exact (arr4_at m c ptC (inC b l) d).trans ((out4_at (iblk m c 0 ptC) (iblk m c 1 ptC) (iblk m c 2 ptC) (iblk m c 3 ptC) (inC b l) d).trans (ctxBlock m c b l ptC rfl (inC b l) rfl _))

theorem res5_lat (b : Fin 4) (s : Fin 8192) (d : Fin 512) :
    rdF S33792x512 ((dats m 0 c).arrAt 5 cfg0.N) (ix2 (rowL b s) d) = lat m c b s (at512 512 (by decide) d) := by
  refine (congrArg (fun i => rdF S33792x512 ((dats m 0 c).arrAt 5 cfg0.N) (ix2 i d)) (latRow b s (ptL b s) rfl (inL s) rfl (by have := point_lt (ptL b s); omega)).symm).trans ?_
  exact (arr5_at m c (ptL b s) (inL s) d).trans ((out5_at (iblk m c 0 (ptL b s)) (iblk m c 1 (ptL b s)) (iblk m c 2 (ptL b s)) (iblk m c 3 (ptL b s)) (inL s) d).trans (latBlock m c b s (ptL b s) rfl (inL s) rfl _))
theorem res5_ctx (b : Fin 4) (l : Fin 256) (d : Fin 512) :
    rdF S33792x512 ((dats m 0 c).arrAt 5 cfg0.N) (ix2 (rowC b l) d) = ctx m c b l (at512 512 (by decide) d) := by
  refine (congrArg (fun i => rdF S33792x512 ((dats m 0 c).arrAt 5 cfg0.N) (ix2 i d)) (ctxRow b l ptC rfl (inC b l) rfl (by have := point_lt ptC; omega)).symm).trans ?_
  exact (arr5_at m c ptC (inC b l) d).trans ((out5_at (iblk m c 0 ptC) (iblk m c 1 ptC) (iblk m c 2 ptC) (iblk m c 3 ptC) (inC b l) d).trans (ctxBlock m c b l ptC rfl (inC b l) rfl _))

theorem res6_lat (b : Fin 4) (s : Fin 8192) (d : Fin 512) :
    rdF S33792x512 ((dats m 0 c).arrAt 6 cfg0.N) (ix2 (rowL b s) d) = lat m c b s (at512 1024 (by decide) d) := by
  refine (congrArg (fun i => rdF S33792x512 ((dats m 0 c).arrAt 6 cfg0.N) (ix2 i d)) (latRow b s (ptL b s) rfl (inL s) rfl (by have := point_lt (ptL b s); omega)).symm).trans ?_
  exact (arr6_at m c (ptL b s) (inL s) d).trans ((out6_at (iblk m c 0 (ptL b s)) (iblk m c 1 (ptL b s)) (iblk m c 2 (ptL b s)) (iblk m c 3 (ptL b s)) (inL s) d).trans (latBlock m c b s (ptL b s) rfl (inL s) rfl _))
theorem res6_ctx (b : Fin 4) (l : Fin 256) (d : Fin 512) :
    rdF S33792x512 ((dats m 0 c).arrAt 6 cfg0.N) (ix2 (rowC b l) d) = ctx m c b l (at512 1024 (by decide) d) := by
  refine (congrArg (fun i => rdF S33792x512 ((dats m 0 c).arrAt 6 cfg0.N) (ix2 i d)) (ctxRow b l ptC rfl (inC b l) rfl (by have := point_lt ptC; omega)).symm).trans ?_
  exact (arr6_at m c ptC (inC b l) d).trans ((out6_at (iblk m c 0 ptC) (iblk m c 1 ptC) (iblk m c 2 ptC) (iblk m c 3 ptC) (inC b l) d).trans (ctxBlock m c b l ptC rfl (inC b l) rfl _))

end Cert.Kernel3Ideal.PreRec

end
-- ==== Proof.RecRef.lean ====
/- The recurrence layer's projection in the reference: its three results at every index, in terms of the arguments. -/
module

public import proofs.«01_k».proof.Proof.Gen.Reference3Ideal.Read
public import proofs.«01_k».proof.Proof.RecSpec
public import Idealize.ShloMosaic.Lib.Pointwise.Index
public import Idealize.ShloMosaic.Lib.Pipeline.Value
public import Idealize.ShloMosaic.PureOps.Reduce

@[expose] public section

noncomputable section

namespace Cert.Reference3Ideal.PreRec

open Idealize.ShloMosaic Idealize.ShloMosaic.TcCoe
open Cert.Reference3Ideal Cert.Reference3Ideal.Gen Cert.Reference3Ideal.Read Cert.PreAttn Cert.PreRec

variable (x0 : (⟨S4x8192x1024, .f32⟩ : BufTy).Contents (Elt Ideal)) (x1 : (⟨S4x256x1024, .f32⟩ : BufTy).Contents (Elt Ideal))
  (x2 : (⟨S4x6x1024, .f32⟩ : BufTy).Contents (Elt Ideal)) (x3 : (⟨S6x1024, .f32⟩ : BufTy).Contents (Elt Ideal)) (x4 : (⟨S1024, .f32⟩ : BufTy).Contents (Elt Ideal))
  (x5 : (⟨S1024x1536, .f32⟩ : BufTy).Contents (Elt Ideal))

/-- The projection of a latent row, of the arguments. -/
def lat : Fin 4 → Fin 8192 → Fin 1536 → EReal :=
  latR (fun b s k => x0 (ix3 b s k)) (fun b j k => x2 (ix3 b j k)) (fun k => x4 (ix1 k)) (fun k n => x5 (ix2 k n))
/-- The projection of a context row, of the arguments. -/
def ctx : Fin 4 → Fin 256 → Fin 1536 → EReal :=
  ctxR (fun b l k => x1 (ix3 b l k)) (fun j k => x3 (ix2 j k)) (fun k => x4 (ix1 k)) (fun k n => x5 (ix2 k n))
theorem latSquare (b : Fin 4) (s : Fin 8192) : (val_main_v1 (F := Ideal) x0 (ix2 b s) : EReal) = ∑ j, (x0 (ix3 b s j) : EReal) * x0 (ix3 b s j) := by
  have e : ∀ k, idx_main_v1 (ix2 b s) k = ix3 b s k := fun k => by funext a; fin_cases a <;> rfl
  rw [val_main_v1_apply]
  simp only [e]
  exact (congrArg (fun z : EReal => z + _) zero_word).trans (zero_add _)

theorem latRoot (b : Fin 4) (s : Fin 8192) :
    (val_main_v7 (F := Ideal) x0 (ix3 b s 0) : EReal)
      = Ideal.rsqrt (Ideal.div (∑ j, (x0 (ix3 b s j) : EReal) * x0 (ix3 b s j)) (Ideal.ofBits .f32 0x44800000#32) + Ideal.ofBits .f32 0x358637BD#32) := by
  have e : idx_main_v2 (ix3 b s 0) = ix2 b s := by funext a; fin_cases a <;> rfl
  rw [val_main_v7_apply, val_main_v6_apply, val_main_v4_apply, val_main_v2_apply, e, latSquare, val_main_v3_apply, val_main_v5_apply]
  rfl

theorem latNormed (b : Fin 4) (s : Fin 8192) (k : Fin 1024) :
    (val_main_v24 (F := Ideal) x0 x2 x4 (ix3 b s k) : EReal)
      = normed (fun k => x0 (ix3 b s k)) (fun k => x4 (ix1 k)) (fun k => x2 (ix3 b 1 k)) (fun k => x2 (ix3 b 0 k)) k := by
  have e8 : idx_main_v8 (ix3 b s k) = ix3 b s 0 := by funext a; fin_cases a <;> rfl
  have ew : idx_main_v10 (idx_main_v11 (ix3 b s k)) = ix1 k := by funext a; fin_cases a; rfl
  have e1 : idx_main_v16 (idx_main_v17 (idx_main_v18 (idx_main_v21 (ix3 b s k)))) = ix3 b 1 k := by
    funext a; fin_cases a <;> refine Fin.ext ?_
    · show (b.val * 1024 + k.val) / 1024 = b.val; omega
    · rfl
    · show (b.val * 1024 + k.val) % 1024 = k.val; omega
  have e0 : idx_main_v13 (idx_main_v14 (idx_main_v15 (idx_main_v23 (ix3 b s k)))) = ix3 b 0 k := by
    funext a; fin_cases a <;> refine Fin.ext ?_
    · show (b.val * 1024 + k.val) / 1024 = b.val; omega
    · rfl
    · show (b.val * 1024 + k.val) % 1024 = k.val; omega
  rw [val_main_v24_apply, val_main_v22_apply, val_main_v12_apply, val_main_v9_apply, val_main_v8_apply, e8, latRoot, val_main_v11_apply, val_main_v10_apply, ew,
    val_main_v21_apply, val_main_v20_apply, val_main_v19_apply, val_main_v18_apply, val_main_v17_apply, val_main_v16_apply, e1,
    val_main_v23_apply, val_main_v15_apply, val_main_v14_apply, val_main_v13_apply, e0]
  rfl

theorem latProduct (b : Fin 4) (s : Fin 8192) (n : Fin 1536) : (val_main_v50 (F := Ideal) x0 x2 x4 x5 (ix3 b s n) : EReal) = lat x0 x2 x4 x5 b s n := by
  have el : ∀ k, lidx_main_v50 (ix3 b s n) k = ix3 b s k := fun k => by funext a; fin_cases a <;> rfl
  have er : ∀ k, ridx_main_v50 (ix3 b s n) k = ix2 k n := fun k => by funext a; fin_cases a <;> rfl
  rw [val_main_v50_apply]
  unfold lat latR projR
  refine Finset.sum_congr rfl fun k _ => ?_
  rw [el, er, latNormed]

theorem ctxSquare (b : Fin 4) (s : Fin 256) : (val_main_v26 (F := Ideal) x1 (ix2 b s) : EReal) = ∑ j, (x1 (ix3 b s j) : EReal) * x1 (ix3 b s j) := by
  have e : ∀ k, idx_main_v26 (ix2 b s) k = ix3 b s k := fun k => by funext a; fin_cases a <;> rfl
  rw [val_main_v26_apply]
  simp only [e]
  exact (congrArg (fun z : EReal => z + _) zero_word).trans (zero_add _)

theorem ctxRoot (b : Fin 4) (s : Fin 256) :
    (val_main_v32 (F := Ideal) x1 (ix3 b s 0) : EReal)
      = Ideal.rsqrt (Ideal.div (∑ j, (x1 (ix3 b s j) : EReal) * x1 (ix3 b s j)) (Ideal.ofBits .f32 0x44800000#32) + Ideal.ofBits .f32 0x358637BD#32) := by
  have e : idx_main_v27 (ix3 b s 0) = ix2 b s := by funext a; fin_cases a <;> rfl
  rw [val_main_v32_apply, val_main_v31_apply, val_main_v29_apply, val_main_v27_apply, e, ctxSquare, val_main_v28_apply, val_main_v30_apply]
  rfl

theorem ctxNormed (b : Fin 4) (s : Fin 256) (k : Fin 1024) :
    (val_main_v49 (F := Ideal) x1 x3 x4 (ix3 b s k) : EReal)
      = normed (fun k => x1 (ix3 b s k)) (fun k => x4 (ix1 k)) (fun k => x3 (ix2 1 k)) (fun k => x3 (ix2 0 k)) k := by
  have e8 : idx_main_v33 (ix3 b s k) = ix3 b s 0 := by funext a; fin_cases a <;> rfl
  have ew : idx_main_v35 (idx_main_v36 (ix3 b s k)) = ix1 k := by funext a; fin_cases a; rfl
  have e1 : idx_main_v40 (idx_main_v41 (idx_main_v44 (idx_main_v45 (ix3 b s k)))) = ix2 1 k := by
    funext a; fin_cases a <;> refine Fin.ext ?_
    · rfl
    · show k.val % 1024 = k.val; omega
  have e0 : idx_main_v38 (idx_main_v39 (idx_main_v47 (idx_main_v48 (ix3 b s k)))) = ix2 0 k := by
    funext a; fin_cases a <;> refine Fin.ext ?_
    · rfl
    · show k.val % 1024 = k.val; omega
  rw [val_main_v49_apply, val_main_v46_apply, val_main_v37_apply, val_main_v34_apply, val_main_v33_apply, e8, ctxRoot, val_main_v36_apply, val_main_v35_apply, ew,
    val_main_v45_apply, val_main_v44_apply, val_main_v43_apply, val_main_v42_apply, val_main_v41_apply, val_main_v40_apply, e1,
    val_main_v48_apply, val_main_v47_apply, val_main_v39_apply, val_main_v38_apply, e0]
  rfl

theorem ctxProduct (b : Fin 4) (s : Fin 256) (n : Fin 1536) : (val_main_v54 (F := Ideal) x1 x3 x4 x5 (ix3 b s n) : EReal) = ctx x1 x3 x4 x5 b s n := by
  have el : ∀ k, lidx_main_v54 (ix3 b s n) k = ix3 b s k := fun k => by funext a; fin_cases a <;> rfl
  have er : ∀ k, ridx_main_v54 (ix3 b s n) k = ix2 k n := fun k => by funext a; fin_cases a <;> rfl
  rw [val_main_v54_apply]
  unfold ctx ctxR projR
  refine Finset.sum_congr rfl fun k _ => ?_
  rw [el, er, ctxNormed]

theorem pool_lat (b : Fin 4) (s : Fin 8192) (c : Fin 512) :
    (val_main_v60 (F := Ideal) x0 x1 x2 x3 x4 x5 (ix2 ⟨8192 * b.val + s.val, by omega⟩ c) : EReal) = lat x0 x2 x4 x5 b s (at512 0 (by decide) c) := by
  have e : idx_main_v51 (idx_main_v58 (ix2 ⟨8192 * b.val + s.val, by omega⟩ c)) = ix3 b s (at512 0 (by decide) c) := by
    funext a; fin_cases a <;> refine Fin.ext ?_
    · show ((8192 * b.val + s.val) * 512 + c.val) / 4194304 = b.val; omega
    · show ((8192 * b.val + s.val) * 512 + c.val) / 512 % 8192 = s.val; omega
    · show ((8192 * b.val + s.val) * 512 + c.val) % 512 = 0 + c.val; omega
  unfold val_main_v60
  refine (concatenate_pair_apply_left 0 _ _ concatenates_S32768x512_S1024x512_S33792x512_d0 _ rfl (ix2 ⟨8192 * b.val + s.val, by omega⟩ c) (fun a => by fin_cases a <;> rfl)).trans ?_
  rw [val_main_v58_apply, val_main_v51_apply, e, latProduct]

theorem pool_ctx (b : Fin 4) (l : Fin 256) (c : Fin 512) :
    (val_main_v60 (F := Ideal) x0 x1 x2 x3 x4 x5 (ix2 ⟨32768 + (256 * b.val + l.val), by omega⟩ c) : EReal) = ctx x1 x3 x4 x5 b l (at512 0 (by decide) c) := by
  have e : idx_main_v55 (idx_main_v59 (ix2 ⟨256 * b.val + l.val, by omega⟩ c)) = ix3 b l (at512 0 (by decide) c) := by
    funext a; fin_cases a <;> refine Fin.ext ?_
    · show ((256 * b.val + l.val) * 512 + c.val) / 131072 = b.val; omega
    · show ((256 * b.val + l.val) * 512 + c.val) / 512 % 256 = l.val; omega
    · show ((256 * b.val + l.val) * 512 + c.val) % 512 = 0 + c.val; omega
  unfold val_main_v60
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v59_apply, val_main_v55_apply, e, ctxProduct]

theorem rec_lat (b : Fin 4) (s : Fin 8192) (c : Fin 512) :
    (val_main_v63 (F := Ideal) x0 x1 x2 x3 x4 x5 (ix2 ⟨8192 * b.val + s.val, by omega⟩ c) : EReal) = lat x0 x2 x4 x5 b s (at512 512 (by decide) c) := by
  have e : idx_main_v52 (idx_main_v61 (ix2 ⟨8192 * b.val + s.val, by omega⟩ c)) = ix3 b s (at512 512 (by decide) c) := by
    funext a; fin_cases a <;> refine Fin.ext ?_
    · show ((8192 * b.val + s.val) * 512 + c.val) / 4194304 = b.val; omega
    · show ((8192 * b.val + s.val) * 512 + c.val) / 512 % 8192 = s.val; omega
    · show 512 + ((8192 * b.val + s.val) * 512 + c.val) % 512 = 512 + c.val; omega
  unfold val_main_v63
  refine (concatenate_pair_apply_left 0 _ _ concatenates_S32768x512_S1024x512_S33792x512_d0 _ rfl (ix2 ⟨8192 * b.val + s.val, by omega⟩ c) (fun a => by fin_cases a <;> rfl)).trans ?_
  rw [val_main_v61_apply, val_main_v52_apply, e, latProduct]

theorem rec_ctx (b : Fin 4) (l : Fin 256) (c : Fin 512) :
    (val_main_v63 (F := Ideal) x0 x1 x2 x3 x4 x5 (ix2 ⟨32768 + (256 * b.val + l.val), by omega⟩ c) : EReal) = ctx x1 x3 x4 x5 b l (at512 512 (by decide) c) := by
  have e : idx_main_v56 (idx_main_v62 (ix2 ⟨256 * b.val + l.val, by omega⟩ c)) = ix3 b l (at512 512 (by decide) c) := by
    funext a; fin_cases a <;> refine Fin.ext ?_
    · show ((256 * b.val + l.val) * 512 + c.val) / 131072 = b.val; omega
    · show ((256 * b.val + l.val) * 512 + c.val) / 512 % 256 = l.val; omega
    · show 512 + ((256 * b.val + l.val) * 512 + c.val) % 512 = 512 + c.val; omega
  unfold val_main_v63
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v62_apply, val_main_v56_apply, e, ctxProduct]

theorem gate_lat (b : Fin 4) (s : Fin 8192) (c : Fin 512) :
    (val_main_v66 (F := Ideal) x0 x1 x2 x3 x4 x5 (ix2 ⟨8192 * b.val + s.val, by omega⟩ c) : EReal) = lat x0 x2 x4 x5 b s (at512 1024 (by decide) c) := by
  have e : idx_main_v53 (idx_main_v64 (ix2 ⟨8192 * b.val + s.val, by omega⟩ c)) = ix3 b s (at512 1024 (by decide) c) := by
    funext a; fin_cases a <;> refine Fin.ext ?_
    · show ((8192 * b.val + s.val) * 512 + c.val) / 4194304 = b.val; omega
    · show ((8192 * b.val + s.val) * 512 + c.val) / 512 % 8192 = s.val; omega
    · show 1024 + ((8192 * b.val + s.val) * 512 + c.val) % 512 = 1024 + c.val; omega
  unfold val_main_v66
  refine (concatenate_pair_apply_left 0 _ _ concatenates_S32768x512_S1024x512_S33792x512_d0 _ rfl (ix2 ⟨8192 * b.val + s.val, by omega⟩ c) (fun a => by fin_cases a <;> rfl)).trans ?_
  rw [val_main_v64_apply, val_main_v53_apply, e, latProduct]

theorem gate_ctx (b : Fin 4) (l : Fin 256) (c : Fin 512) :
    (val_main_v66 (F := Ideal) x0 x1 x2 x3 x4 x5 (ix2 ⟨32768 + (256 * b.val + l.val), by omega⟩ c) : EReal) = ctx x1 x3 x4 x5 b l (at512 1024 (by decide) c) := by
  have e : idx_main_v57 (idx_main_v65 (ix2 ⟨256 * b.val + l.val, by omega⟩ c)) = ix3 b l (at512 1024 (by decide) c) := by
    funext a; fin_cases a <;> refine Fin.ext ?_
    · show ((256 * b.val + l.val) * 512 + c.val) / 131072 = b.val; omega
    · show ((256 * b.val + l.val) * 512 + c.val) / 512 % 256 = l.val; omega
    · show 1024 + ((256 * b.val + l.val) * 512 + c.val) % 512 = 1024 + c.val; omega
  unfold val_main_v66
  refine (concatenate_pair_apply_right 0 _ _ concatenates_S32768x512_S1024x512_S33792x512_d0 _ rfl rfl (ix2 ⟨256 * b.val + l.val, by omega⟩ c)
    (fun a ha => by fin_cases a <;> first | rfl | exact absurd rfl ha) (by show 256 * b.val + l.val + 32768 = 32768 + (256 * b.val + l.val); omega)).trans ?_
  rw [val_main_v65_apply, val_main_v57_apply, e, ctxProduct]

end Cert.Reference3Ideal.PreRec

end
-- ==== Proof.RecEquation.lean ====
/- The recurrence layer's projection: the kernel's three output arrays are the reference's three results. -/
module

public import proofs.«01_k».proof.Proof.RecKernel
public import proofs.«01_k».proof.Proof.RecRef

@[expose] public section

noncomputable section

namespace Cert.PreRec

open Idealize.ShloMosaic Idealize.ShloMosaic.TcCoe
open Cert.Kernel3Ideal Cert.Kernel3Ideal.Gen Cert.Kernel3Ideal.PreRec

theorem row_split (r : Fin 33792) : (∃ b s, r = rowL b s) ∨ ∃ b l, r = rowC b l := by
  by_cases h : r.val < 32768
  · exact .inl ⟨⟨r.val / 8192, by omega⟩, ⟨r.val % 8192, by omega⟩, Fin.ext (by show r.val = 8192 * (r.val / 8192) + r.val % 8192; omega)⟩
  · exact .inr ⟨⟨(r.val - 32768) / 256, by omega⟩, ⟨(r.val - 32768) % 256, by omega⟩,
      Fin.ext (by show r.val = 32768 + (256 * ((r.val - 32768) / 256) + (r.val - 32768) % 256); omega)⟩

variable (m : (ℓ : Loc nD τ sig) → Buf (Elt Ideal) ℓ) (c : Dev nD)

/-- The same array: the pooling part. -/
theorem same_pool : Cert.Reference3Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 4 cfg0.N := by
  have key : ∀ (r : Fin 33792) (d : Fin 512), (Cert.Reference3Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r d) : EReal) = rdF S33792x512 ((dats m 0 c).arrAt 4 cfg0.N) (ix2 r d) := by
    intro r d
    rcases row_split r with ⟨b, s, rfl⟩ | ⟨b, s, rfl⟩
    · exact (Cert.Reference3Ideal.PreRec.pool_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res4_lat m c b s d).symm
    · exact (Cert.Reference3Ideal.PreRec.pool_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res4_ctx m c b s d).symm
  funext i
  have hi : i = ix2 (i 0) (i 1) := by funext a; fin_cases a <;> rfl
  rw [hi]
  exact key (i 0) (i 1)

/-- The same array: the recurrence part. -/
theorem same_rec : Cert.Reference3Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 5 cfg0.N := by
  have key : ∀ (r : Fin 33792) (d : Fin 512), (Cert.Reference3Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r d) : EReal) = rdF S33792x512 ((dats m 0 c).arrAt 5 cfg0.N) (ix2 r d) := by
    intro r d
    rcases row_split r with ⟨b, s, rfl⟩ | ⟨b, s, rfl⟩
    · exact (Cert.Reference3Ideal.PreRec.rec_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res5_lat m c b s d).symm
    · exact (Cert.Reference3Ideal.PreRec.rec_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res5_ctx m c b s d).symm
  funext i
  have hi : i = ix2 (i 0) (i 1) := by funext a; fin_cases a <;> rfl
  rw [hi]
  exact key (i 0) (i 1)

/-- The same array: the gate part. -/
theorem same_gate : Cert.Reference3Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 6 cfg0.N := by
  have key : ∀ (r : Fin 33792) (d : Fin 512), (Cert.Reference3Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r d) : EReal) = rdF S33792x512 ((dats m 0 c).arrAt 6 cfg0.N) (ix2 r d) := by
    intro r d
    rcases row_split r with ⟨b, s, rfl⟩ | ⟨b, s, rfl⟩
    · exact (Cert.Reference3Ideal.PreRec.gate_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res6_lat m c b s d).symm
    · exact (Cert.Reference3Ideal.PreRec.gate_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d).trans (res6_ctx m c b s d).symm
  funext i
  have hi : i = ix2 (i 0) (i 1) := by funext a; fin_cases a <;> rfl
  rw [hi]
  exact key (i 0) (i 1)

end Cert.PreRec

end
-- ==== Proof.PostSpec.lean ====
/- What a layer's output projection gives for one row: two halves times the two halves of a matrix, gated and added to the row; then the
   normed and modulated row that the next part reads. In extended reals. -/
module

public import proofs.«01_k».proof.Proof.RotarySpec
public import Idealize.ShloMosaic.PureOps.Ideal.Laws

@[expose] public section

noncomputable section

namespace Cert.Post

open Idealize.ShloMosaic Cert.PreAttn

/-- Entry `k` of the first half, and of the second. -/
def lo (k : Fin 512) : Fin 1024 := ⟨k.val, by omega⟩
def hi (k : Fin 512) : Fin 1024 := ⟨512 + k.val, by omega⟩

/-- Two halves of a row, times the matrix. -/
def mix (a b : Fin 512 → EReal) (W : Fin 1024 → Fin 1024 → EReal) (n : Fin 1024) : EReal := (∑ k, a k * W (lo k) n) + ∑ k, b k * W (hi k) n

/-- The row with the gated product added. -/
def stepped (a b : Fin 512 → EReal) (W : Fin 1024 → Fin 1024 → EReal) (x g : Fin 1024 → EReal) (n : Fin 1024) : EReal := x n + g n * mix a b W n

/-- A row whose halves are given, times the matrix. -/
theorem mix_joined (p : Fin 1024 → EReal) (a b : Fin 512 → EReal) (W : Fin 1024 → Fin 1024 → EReal) (n : Fin 1024) (ha : ∀ k, p (lo k) = a k)
    (hb : ∀ k, p (hi k) = b k) : ∑ k, p k * W k n = mix a b W n := by
  unfold mix
  refine (Fin.sum_univ_add (a := 512) (b := 512) fun k => p k * W k n).trans ?_
  refine congrArg₂ (· + ·) (Finset.sum_congr rfl fun k _ => ?_) (Finset.sum_congr rfl fun k _ => ?_)
  · exact congrArg (· * W (lo k) n) (ha k)
  · exact congrArg (· * W (hi k) n) (hb k)

theorem stepped_congr {a a' b b' : Fin 512 → EReal} {W W' : Fin 1024 → Fin 1024 → EReal} {x x' g g' : Fin 1024 → EReal} (ha : ∀ k, a k = a' k)
    (hb : ∀ k, b k = b' k) (hW : ∀ k n, W k n = W' k n) (hx : ∀ k, x k = x' k) (hg : ∀ k, g k = g' k) (n : Fin 1024) :
    stepped a b W x g n = stepped a' b' W' x' g' n := by
  rw [funext ha, funext hb, funext fun k => funext (hW k), funext hx, funext hg]

theorem normed_congr {x x' w w' sc sc' sh sh' : Fin 1024 → EReal} (hx : ∀ k, x k = x' k) (hw : ∀ k, w k = w' k)
    (hc : ∀ k, sc k = sc' k) (hs : ∀ k, sh k = sh' k) (k : Fin 1024) : normed x w sc sh k = normed x' w' sc' sh' k := by
  rw [funext hx, funext hw, funext hc, funext hs]

/-- Latent row `s` of batch `b`. -/
def latS (A B : Fin 4 → Fin 8192 → Fin 512 → EReal) (W : Fin 1024 → Fin 1024 → EReal) (X : Fin 4 → Fin 8192 → Fin 1024 → EReal)
    (M : Fin 4 → Fin 6 → Fin 1024 → EReal) (b : Fin 4) (s : Fin 8192) : Fin 1024 → EReal := stepped (A b s) (B b s) W (X b s) (M b 2)
/-- Context row `l` of batch `b`. -/
def ctxS (A B : Fin 4 → Fin 256 → Fin 512 → EReal) (W : Fin 1024 → Fin 1024 → EReal) (Y : Fin 4 → Fin 256 → Fin 1024 → EReal)
    (N : Fin 6 → Fin 1024 → EReal) (b : Fin 4) (l : Fin 256) : Fin 1024 → EReal := stepped (A b l) (B b l) W (Y b l) (N 2)

/-- The Gaussian error linear unit. -/
def gelu (x : EReal) : EReal :=
  Ideal.ofBits .f32 0x3F000000#32 * x * (Ideal.ofBits .f32 0x3F800000#32 + Ideal.erf (x * Ideal.ofBits .f32 0x3F3504F3#32))

/-- The same through the complementary error function. -/
theorem gelu_compl (x : EReal) : Ideal.ofBits .f32 0x3F000000#32 * x * Ideal.erfc (-x * Ideal.ofBits .f32 0x3F3504F3#32) = gelu x := by
  unfold gelu
  rw [neg_mul, Ideal.erfc_neg, Ideal.ofBits_one_f32]

/-- The sum of the two directions of a recurrence, gated. -/
def gated (f r g : EReal) : EReal := (f + r) * gelu g

end Cert.Post

end
-- ==== Proof.AttnOutBlock.lean ====
/- What one block of the attention layer's output projection computes: its two output blocks, as functions of the block's rows, modulation and
   weights; and which part of the arrays every grid point reads and writes. -/
module

public import proofs.«01_k».proof.Proof.PostSpec
public import proofs.«01_k».proof.Proof.Gen.Kernel4Ideal.Value
public import Idealize.ShloMosaic.Lib.KernelVsHost
public import Idealize.ShloMosaic.Lib.Pipeline.ValueKit.Tiles
public import Idealize.ShloMosaic.Lib.Pipeline.ValueKit.Point

@[expose] public section

noncomputable section

namespace Cert.Kernel4Ideal.PostAttn

open Idealize.ShloMosaic Idealize.ShloMosaic.TcCoe
open Cert.Kernel4Ideal Cert.Kernel4Ideal.Gen Cert.PreAttn Cert.Post

/-- The rows after the gated product is added. -/
theorem step_at (A : Vec Ideal S1024x512 .bf16) (Wt : Vec Ideal S512x1024 .bf16) (B : Vec Ideal S1024x512 .bf16) (Wb : Vec Ideal S512x1024 .bf16)
    (X : Vec Ideal S1024x1024 .f32) (M : Vec Ideal S1x1x1024 .f32) (r n : Fin 1024) :
    (k0_pay2 A Wt B Wb X M (ix2 r n) : EReal)
      = (X (ix2 r n) : EReal) + (M (ix3 0 0 n) : EReal) * ((∑ k, (A (ix2 r k) : EReal) * Wt (ix2 k n)) + ∑ k, (B (ix2 r k) : EReal) * Wb (ix2 k n)) := by
  pointwise [k0_pay2]

/-- What the next part reads of them. -/
theorem fed_at (A : Vec Ideal S1024x512 .bf16) (Wt : Vec Ideal S512x1024 .bf16) (B : Vec Ideal S1024x512 .bf16) (Wb : Vec Ideal S512x1024 .bf16)
    (X : Vec Ideal S1024x1024 .f32) (M : Vec Ideal S1x1x1024 .f32) (N : Vec Ideal S1x1024 .f32) (Sh Sc : Vec Ideal S1x1x1024 .f32) (r n : Fin 1024) :
    (k0_pay1 (k0_pay2 A Wt B Wb X M) (k0_pay3 N) (k0_pay4 Sh) (k0_pay5 Sc) (k0_pay6 A Wt B Wb X M) (Scalar.ofBits .f32 0x358637BD#32) (ix2 r n) : EReal)
      = normed (fun k => k0_pay2 A Wt B Wb X M (ix2 r k)) (fun k => N (ix2 0 k)) (fun k => Sc (ix3 0 0 k)) (fun k => Sh (ix3 0 0 k)) n := by
  unfold normed
  pointwise [k0_pay1, k0_pay3, k0_pay4, k0_pay5, k0_pay6]

/-- The rows of a block, of the block's inputs as they are loaded. -/
theorem blockStep_at (x0 : Vec Ideal S1024x512 .bf16) (x1 : Vec Ideal S1024x512 .bf16) (x2 : Vec Ideal S1024x1024 .f32) (x3 : Vec Ideal S1x6x1024 .f32) (x4 : Vec Ideal S1x1024 .f32) (x5 : Vec Ideal S1024x1024 .bf16) (r n : Fin 1024) :
    (k0_pay2 (View.ld x0 r0_0) (View.ld x5 r0_1) (View.ld x1 r0_0) (View.ld x5 r0_2) (View.ld x2 r0_3) (View.ld x3 r0_4) (ix2 r n) : EReal)
      = stepped (fun k => x0 (ix2 r k)) (fun k => x1 (ix2 r k)) (fun k n => x5 (ix2 k n)) (fun k => x2 (ix2 r k)) (fun k => x3 (ix3 0 2 k)) n := by
  rw [step_at]
  have e0 : ∀ k, View.ld x0 r0_0 (ix2 r k) = x0 (ix2 r k) := fun k =>
    View.ld_unit_apply_of x0 _ _ _ _ _ (fun a => by fin_cases a <;> exact (Nat.zero_add _).symm)
  have e1 : ∀ k, View.ld x1 r0_0 (ix2 r k) = x1 (ix2 r k) := fun k =>
    View.ld_unit_apply_of x1 _ _ _ _ _ (fun a => by fin_cases a <;> exact (Nat.zero_add _).symm)
  have et : ∀ k n, View.ld x5 r0_1 (ix2 k n) = x5 (ix2 (lo k) n) := fun k n =>
    View.ld_unit_apply_of x5 _ _ _ _ _ (fun a => by fin_cases a <;> exact (Nat.zero_add _).symm)
  have eb : ∀ k n, View.ld x5 r0_2 (ix2 k n) = x5 (ix2 (hi k) n) := fun k n =>
    View.ld_unit_apply_of x5 _ _ _ _ _ (fun a => by fin_cases a <;> first | exact (Nat.zero_add _).symm | rfl)
  have ex : ∀ k, View.ld x2 r0_3 (ix2 r k) = x2 (ix2 r k) := fun k =>
    View.ld_unit_apply_of x2 _ _ _ _ _ (fun a => by fin_cases a <;> exact (Nat.zero_add _).symm)
  have eg : ∀ k, View.ld x3 r0_4 (ix3 0 0 k) = x3 (ix3 0 2 k) := fun k =>
    View.ld_unit_apply_of x3 _ _ _ _ _ (fun a => by fin_cases a <;> first | exact (Nat.zero_add _).symm | rfl)
  unfold stepped mix
  simp only [e0, e1, et, eb, ex, eg]

theorem blockFed_at (x0 : Vec Ideal S1024x512 .bf16) (x1 : Vec Ideal S1024x512 .bf16) (x2 : Vec Ideal S1024x1024 .f32) (x3 : Vec Ideal S1x6x1024 .f32) (x4 : Vec Ideal S1x1024 .f32) (x5 : Vec Ideal S1024x1024 .bf16) (r n : Fin 1024) :
    (k0_pay1 (k0_pay2 (View.ld x0 r0_0) (View.ld x5 r0_1) (View.ld x1 r0_0) (View.ld x5 r0_2) (View.ld x2 r0_3) (View.ld x3 r0_4)) (k0_pay3 (View.ld x4 r0_5)) (k0_pay4 (View.ld x3 r0_6)) (k0_pay5 (View.ld x3 r0_7)) (k0_pay6 (View.ld x0 r0_0) (View.ld x5 r0_1) (View.ld x1 r0_0) (View.ld x5 r0_2) (View.ld x2 r0_3) (View.ld x3 r0_4)) (Scalar.ofBits .f32 0x358637BD#32) (ix2 r n) : EReal)
      = normed (stepped (fun k => x0 (ix2 r k)) (fun k => x1 (ix2 r k)) (fun k n => x5 (ix2 k n)) (fun k => x2 (ix2 r k)) (fun k => x3 (ix3 0 2 k))) (fun k => x4 (ix2 0 k)) (fun k => x3 (ix3 0 4 k)) (fun k => x3 (ix3 0 3 k)) n := by
  refine (fed_at (View.ld x0 r0_0) (View.ld x5 r0_1) (View.ld x1 r0_0) (View.ld x5 r0_2) (View.ld x2 r0_3) (View.ld x3 r0_4) (View.ld x4 r0_5) (View.ld x3 r0_6) (View.ld x3 r0_7) r n).trans ?_
  refine normed_congr (fun k => blockStep_at x0 x1 x2 x3 x4 x5 r k) (fun k => ?_) (fun k => ?_) (fun k => ?_) n
  · exact View.ld_unit_apply_of x4 _ _ _ _ _ (fun a => by fin_cases a <;> exact (Nat.zero_add _).symm)
  · exact View.ld_unit_apply_of x3 _ _ _ _ _ (fun a => by fin_cases a <;> first | exact (Nat.zero_add _).symm | rfl)
  · exact View.ld_unit_apply_of x3 _ _ _ _ _ (fun a => by fin_cases a <;> first | exact (Nat.zero_add _).symm | rfl)

/-- The first output's block. -/
theorem out6_at (x0 : Vec Ideal S1024x512 .bf16) (x1 : Vec Ideal S1024x512 .bf16) (x2 : Vec Ideal S1024x1024 .f32) (x3 : Vec Ideal S1x6x1024 .f32) (x4 : Vec Ideal S1x1024 .f32) (x5 : Vec Ideal S1024x1024 .bf16) (r n : Fin 1024) :
    (out0_6 x0 x1 x2 x3 x4 x5 (ix2 r n) : EReal)
      = stepped (fun k => x0 (ix2 r k)) (fun k => x1 (ix2 r k)) (fun k n => x5 (ix2 k n)) (fun k => x2 (ix2 r k)) (fun k => x3 (ix3 0 2 k)) n := by
  have h : ∀ (p : Vec Ideal S1024x1024 .f32) (r n : Fin 1024), (View.canon [⟨r0_3, p⟩] : Vec Ideal S1024x1024 .f32) (ix2 r n) = p (ix2 r n) := fun p r n => by
    refine View.canon_apply_of_pieces (Val := Elt Ideal) p _ ?_ (ix2 r n) (cover0_6 _ (ix2 r n))
    intro pc hpc
    rcases List.mem_cons.mp hpc with rfl | hpc
    · intro x
      refine congrArg p (funext fun a => Fin.ext ?_)
      fin_cases a <;> exact ((Nat.zero_add _).trans (Nat.one_mul _)).symm
    · nomatch hpc
  exact (h (k0_pay2 (View.ld x0 r0_0) (View.ld x5 r0_1) (View.ld x1 r0_0) (View.ld x5 r0_2) (View.ld x2 r0_3) (View.ld x3 r0_4)) r n).trans (blockStep_at x0 x1 x2 x3 x4 x5 r n)

/-- The second output's block. -/
theorem out7_at (x0 : Vec Ideal S1024x512 .bf16) (x1 : Vec Ideal S1024x512 .bf16) (x2 : Vec Ideal S1024x1024 .f32) (x3 : Vec Ideal S1x6x1024 .f32) (x4 : Vec Ideal S1x1024 .f32) (x5 : Vec Ideal S1024x1024 .bf16) (r n : Fin 1024) :
    (out0_7 x0 x1 x2 x3 x4 x5 (ix2 r n) : EReal)
      = normed (stepped (fun k => x0 (ix2 r k)) (fun k => x1 (ix2 r k)) (fun k n => x5 (ix2 k n)) (fun k => x2 (ix2 r k)) (fun k => x3 (ix3 0 2 k))) (fun k => x4 (ix2 0 k)) (fun k => x3 (ix3 0 4 k)) (fun k => x3 (ix3 0 3 k)) n := by
  have h : ∀ (p : Vec Ideal S1024x1024 .bf16) (r n : Fin 1024), (View.canon [⟨r0_3, p⟩] : Vec Ideal S1024x1024 .bf16) (ix2 r n) = p (ix2 r n) := fun p r n => by
    refine View.canon_apply_of_pieces (Val := Elt Ideal) p _ ?_ (ix2 r n) (cover0_7 _ (ix2 r n))
    intro pc hpc
    rcases List.mem_cons.mp hpc with rfl | hpc
    · intro x
      refine congrArg p (funext fun a => Fin.ext ?_)
      fin_cases a <;> exact ((Nat.zero_add _).trans (Nat.one_mul _)).symm
    · nomatch hpc
  exact (h (k0_pay1 (k0_pay2 (View.ld x0 r0_0) (View.ld x5 r0_1) (View.ld x1 r0_0) (View.ld x5 r0_2) (View.ld x2 r0_3) (View.ld x3 r0_4)) (k0_pay3 (View.ld x4 r0_5)) (k0_pay4 (View.ld x3 r0_6)) (k0_pay5 (View.ld x3 r0_7)) (k0_pay6 (View.ld x0 r0_0) (View.ld x5 r0_1) (View.ld x1 r0_0) (View.ld x5 r0_2) (View.ld x2 r0_3) (View.ld x3 r0_4)) (Scalar.ofBits .f32 0x358637BD#32)) r n).trans (blockFed_at x0 x1 x2 x3 x4 x5 r n)

/-! The grid: point `t` takes rows `1024 t` and on; the first 32 points are latent rows, eight to a batch, and the last is all the context
rows. -/

/-- The modulation a point's rows take: their batch's, or the context's. -/
def modOf (t : ℕ) : ℕ := if t < 32 then t / 8 else 4

theorem point_lt (t : Fin cfg0.N) : t.val < 33 := t.isLt
theorem modOf_lt (t : Fin cfg0.N) : modOf t.val < 8 := by
  unfold modOf; split <;> omega

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![modOf t.val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem flush6 : ∀ t : Fin cfg0.N, (cfg0.win 6).flush t = true := by decide +kernel
theorem flush7 : ∀ t : Fin cfg0.N, (cfg0.win 7).flush t = true := by decide +kernel

variable {F : FTy → Type} [FloatOps F]
variable (m : (ℓ : Loc nD τ sig) → Buf (Elt F) ℓ)

theorem blk0_at (c : Dev nD) (t : Fin cfg0.N) (r : Fin 1024) (d : Fin 512) :
    (iblk m c 0 t : Vec F S1024x512 .bf16) (ix2 r d)
      = (V m c main_v6 : Vec F S33792x512 .bf16) (ix2 ⟨1024 * t.val + r.val, by have := point_lt t; omega⟩ d) := by
  blk_ext [iblk, idx0 t]

theorem blk1_at (c : Dev nD) (t : Fin cfg0.N) (r : Fin 1024) (d : Fin 512) :
    (iblk m c 1 t : Vec F S1024x512 .bf16) (ix2 r d)
      = (V m c main_v10 : Vec F S33792x512 .bf16) (ix2 ⟨1024 * t.val + r.val, by have := point_lt t; omega⟩ d) := by
  blk_ext [iblk, idx1 t]

theorem blk2_at (c : Dev nD) (t : Fin cfg0.N) (r : Fin 1024) (d : Fin 1024) :
    (iblk m c 2 t : Vec F S1024x1024 .f32) (ix2 r d)
      = (V m c main_v13 : Vec F S33792x1024 .f32) (ix2 ⟨1024 * t.val + r.val, by have := point_lt t; omega⟩ d) := by
  blk_ext [iblk, idx2 t]

theorem blk3_at (c : Dev nD) (t : Fin cfg0.N) (j : Fin 6) (d : Fin 1024) :
    (iblk m c 3 t : Vec F S1x6x1024 .f32) (ix3 0 j d)
      = (V m c main_v2 : Vec F S8x6x1024 .f32) (ix3 ⟨modOf t.val, modOf_lt t⟩ j d) := by
  blk_ext [iblk, idx3 t]

theorem blk4_at (c : Dev nD) (t : Fin cfg0.N) (d : Fin 1024) :
    (iblk m c 4 t : Vec F S1x1024 .f32) (ix2 0 d) = (V m c main_v14 : Vec F S1x1024 .f32) (ix2 0 d) := by
  blk_ext [iblk, idx4 t]

theorem blk5_at (c : Dev nD) (t : Fin cfg0.N) (k : Fin 1024) (d : Fin 1024) :
    (iblk m c 5 t : Vec F S1024x1024 .bf16) (ix2 k d) = (V m c main_v15 : Vec F S1024x1024 .bf16) (ix2 k d) := by
  blk_ext [iblk, idx5 t]

/-! What the two output arrays end holding: at every row what the row's point left in the output's buffer. -/

theorem arr6_at (c : Dev nD) (t : Fin cfg0.N) (r : Fin 1024) (d : Fin 1024) :
    ((dats m 0 c).arrAt 6 cfg0.N : Vec F S33792x1024 .f32) (ix2 ⟨1024 * t.val + r.val, by have := point_lt t; omega⟩ d)
      = out0_6 (iblk m c 0 t) (iblk m c 1 t) (iblk m c 2 t) (iblk m c 3 t) (iblk m c 4 t) (iblk m c 5 t) (ix2 r d) := by
  have h := congrFun ((Value.blocks6 m c t (flush6 t)).trans (Value.flushed6 m c t)) (ix2 r d)
  refine Eq.trans ?_ h
  symm
  blk_ext [idx6 t]

theorem arr7_at (c : Dev nD) (t : Fin cfg0.N) (r : Fin 1024) (d : Fin 1024) :
    ((dats m 0 c).arrAt 7 cfg0.N : Vec F S33792x1024 .bf16) (ix2 ⟨1024 * t.val + r.val, by have := point_lt t; omega⟩ d)
      = out0_7 (iblk m c 0 t) (iblk m c 1 t) (iblk m c 2 t) (iblk m c 3 t) (iblk m c 4 t) (iblk m c 5 t) (ix2 r d) := by
  have h := congrFun ((Value.blocks7 m c t (flush7 t)).trans (Value.flushed7 m c t)) (ix2 r d)
  refine Eq.trans ?_ h
  symm
  blk_ext [idx7 t]

end Cert.Kernel4Ideal.PostAttn

end
-- ==== Proof.AttnOutHost.lean ====
/- What the arrays hold that the attention layer's output projection is given: the host's rows, modulations and weights, read at an index. -/
module

public import Idealize.ShloMosaic.Lib.StableHlo.RunRead
public import proofs.«01_k».proof.Proof.AttnOutBlock

@[expose] public section

noncomputable section

namespace Cert.Kernel4Ideal.PostAttn

open Idealize.ShloMosaic Idealize.ShloMosaic.TcCoe
open Cert.Kernel4Ideal Cert.Kernel4Ideal.Gen Cert.PreAttn Cert.Post

variable (m : (ℓ : Loc nD τ sig) → Buf (Elt Ideal) ℓ)

/-- Row `s` of batch `b`, latent. -/
def rowL (b : Fin 4) (s : Fin 8192) : Fin 33792 := ⟨8192 * b.val + s.val, by omega⟩
/-- Row `l` of batch `b`, context. -/
def rowC (b : Fin 4) (l : Fin 256) : Fin 33792 := ⟨32768 + (256 * b.val + l.val), by omega⟩

/-- An array of numbers at an index, as an extended real. -/
abbrev rdF (s : Shape) (v : Vec Ideal s .f32) (i : s.Idx) : EReal := v i
/-- The same of an array in the kernel's operand type. -/
abbrev rdH (s : Shape) (v : Vec Ideal s .bf16) (i : s.Idx) : EReal := v i

section Layout

variable {α : Type}

theorem rows_latent (x : S32768x1024.Idx → α) (y : S1024x1024.Idx → α) (w) (b : Fin 4) (s : Fin 8192) (k : Fin 1024) :
    concatenate S33792x1024 0 [⟨S32768x1024, x⟩, ⟨S1024x1024, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem rows_context (x : S32768x1024.Idx → α) (y : S1024x1024.Idx → α) (w) (b : Fin 4) (l : Fin 256) (k : Fin 1024) :
    concatenate S33792x1024 0 [⟨S32768x1024, x⟩, ⟨S1024x1024, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem flat_latent (v : S4x8192x1024.Idx → α) (b : Fin 4) (s : Fin 8192) (k : Fin 1024) (w) :
    shapeCast S32768x1024 v w (ix2 ⟨8192 * b.val + s.val, by omega⟩ k) = v (ix3 b s k) :=
  shapeCast_apply v w _ _ (by
    rewrite [Shape.rowMajor_val_three, Shape.rowMajor_val_two]
    show (b.val * 8192 + s.val) * 1024 + k.val = (8192 * b.val + s.val) * 1024 + k.val
    omega)

theorem flat_context (v : S4x256x1024.Idx → α) (b : Fin 4) (l : Fin 256) (k : Fin 1024) (w) :
    shapeCast S1024x1024 v w (ix2 ⟨256 * b.val + l.val, by omega⟩ k) = v (ix3 b l k) :=
  shapeCast_apply v w _ _ (by
    rewrite [Shape.rowMajor_val_three, Shape.rowMajor_val_two]
    show (b.val * 256 + l.val) * 1024 + k.val = (256 * b.val + l.val) * 1024 + k.val
    omega)

theorem halfRows_latent (x : S32768x512.Idx → α) (y : S1024x512.Idx → α) (w) (b : Fin 4) (s : Fin 8192) (k : Fin 512) :
    concatenate S33792x512 0 [⟨S32768x512, x⟩, ⟨S1024x512, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem halfRows_context (x : S32768x512.Idx → α) (y : S1024x512.Idx → α) (w) (b : Fin 4) (l : Fin 256) (k : Fin 512) :
    concatenate S33792x512 0 [⟨S32768x512, x⟩, ⟨S1024x512, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem halfFlat_latent (v : S4x8192x512.Idx → α) (b : Fin 4) (s : Fin 8192) (k : Fin 512) (w) :
    shapeCast S32768x512 v w (ix2 ⟨8192 * b.val + s.val, by omega⟩ k) = v (ix3 b s k) :=
  shapeCast_apply v w _ _ (by
    rewrite [Shape.rowMajor_val_three, Shape.rowMajor_val_two]
    show (b.val * 8192 + s.val) * 512 + k.val = (8192 * b.val + s.val) * 512 + k.val
    omega)

theorem halfFlat_context (v : S4x256x512.Idx → α) (b : Fin 4) (l : Fin 256) (k : Fin 512) (w) :
    shapeCast S1024x512 v w (ix2 ⟨256 * b.val + l.val, by omega⟩ k) = v (ix3 b l k) :=
  shapeCast_apply v w _ _ (by
    rewrite [Shape.rowMajor_val_three, Shape.rowMajor_val_two]
    show (b.val * 256 + l.val) * 512 + k.val = (256 * b.val + l.val) * 512 + k.val
    omega)

/-- The modulations: the four batches' and then the context's. -/
theorem mods_latent (x : S4x6x1024.Idx → α) (y : S1x6x1024.Idx → α) (z : S3x6x1024.Idx → α) (w) (b : Fin 4) (j : Fin 6) (k : Fin 1024) :
    concatenate S8x6x1024 0 [⟨S4x6x1024, x⟩, ⟨S1x6x1024, y⟩, ⟨S3x6x1024, z⟩] w (ix3 ⟨b.val, by omega⟩ j k) = x (ix3 b j k) := by
  refine concatenate_apply_piece 0 _ w _ 0 (by simp) S4x6x1024 x rfl rfl 0 rfl (ix3 b j k) ?_ ?_
  · exact fun a ha => by match a with | ⟨0, _⟩ => exact absurd rfl ha | ⟨1, _⟩ => rfl | ⟨2, _⟩ => rfl
  · exact Nat.zero_add _

theorem mods_context (x : S4x6x1024.Idx → α) (y : S1x6x1024.Idx → α) (z : S3x6x1024.Idx → α) (w) (j : Fin 6) (k : Fin 1024) :
    concatenate S8x6x1024 0 [⟨S4x6x1024, x⟩, ⟨S1x6x1024, y⟩, ⟨S3x6x1024, z⟩] w (ix3 4 j k) = y (ix3 0 j k) := by
  refine concatenate_apply_piece 0 _ w _ 1 (by simp) S1x6x1024 y rfl rfl 4 rfl (ix3 0 j k) ?_ ?_
  · exact fun a ha => by match a with | ⟨0, _⟩ => exact absurd rfl ha | ⟨1, _⟩ => rfl | ⟨2, _⟩ => rfl
  · rfl

theorem lift_mod (v : S6x1024.Idx → α) (j : Fin 6) (k : Fin 1024) (w) : broadcastInDim S1x6x1024 ![1, 2] w v (ix3 0 j k) = v (ix2 j k) := by
  pointwise

theorem lift_norm (v : S1024.Idx → α) (k : Fin 1024) (w) : broadcastInDim S1x1024 ![1] w v (ix2 0 k) = v (ix1 k) := by
  pointwise

end Layout

set_option maxRecDepth 8000 in
set_option maxHeartbeats 1000000 in
theorem as_lat (c : Dev nD) (b : Fin 4) (s : Fin 8192) (k : Fin 512) :
    rdH S33792x512 (V m c main_v6) (ix2 (rowL b s) k) = rdF S4x8192x512 (m ((c : Thread nD τ).loc main_arg0)) (ix3 b s k) := by
  unfold rdF rdH
  entry_read
  exact (halfRows_latent _ _ concatenates_S32768x512_S1024x512_S33792x512_d0 b s k).trans (halfFlat_latent _ b s k _)

set_option maxRecDepth 8000 in
set_option maxHeartbeats 1000000 in
theorem as_ctx (c : Dev nD) (b : Fin 4) (s : Fin 256) (k : Fin 512) :
    rdH S33792x512 (V m c main_v6) (ix2 (rowC b s) k) = rdF S4x256x512 (m ((c : Thread nD τ).loc main_arg1)) (ix3 b s k) := by
  unfold rdF rdH
  entry_read
  exact (halfRows_context _ _ concatenates_S32768x512_S1024x512_S33792x512_d0 b s k).trans (halfFlat_context _ b s k _)

set_option maxRecDepth 8000 in
set_option maxHeartbeats 1000000 in
theorem bs_lat (c : Dev nD) (b : Fin 4) (s : Fin 8192) (k : Fin 512) :
    rdH S33792x512 (V m c main_v10) (ix2 (rowL b s) k) = rdF S4x8192x512 (m ((c : Thread nD τ).loc main_arg2)) (ix3 b s k) := by
  unfold rdF rdH
  entry_read
  exact (halfRows_latent _ _ concatenates_S32768x512_S1024x512_S33792x512_d0 b s k).trans (halfFlat_latent _ b s k _)

set_option maxRecDepth 8000 in
set_option maxHeartbeats 1000000 in
theorem bs_ctx (c : Dev nD) (b : Fin 4) (s : Fin 256) (k : Fin 512) :
    rdH S33792x512 (V m c main_v10) (ix2 (rowC b s) k) = rdF S4x256x512 (m ((c : Thread nD τ).loc main_arg3)) (ix3 b s k) := by
  unfold rdF rdH
  entry_read
  exact (halfRows_context _ _ concatenates_S32768x512_S1024x512_S33792x512_d0 b s k).trans (halfFlat_context _ b s k _)

set_option maxRecDepth 8000 in
set_option maxHeartbeats 1000000 in
theorem xs_lat (c : Dev nD) (b : Fin 4) (s : Fin 8192) (k : Fin 1024) :
    rdF S33792x1024 (V m c main_v13) (ix2 (rowL b s) k) = rdF S4x8192x1024 (m ((c : Thread nD τ).loc main_arg4)) (ix3 b s k) := by
  unfold rdF
  entry_read
  exact (rows_latent _ _ concatenates_S32768x1024_S1024x1024_S33792x1024_d0 b s k).trans (flat_latent _ b s k _)

set_option maxRecDepth 8000 in
set_option maxHeartbeats 1000000 in
theorem xs_ctx (c : Dev nD) (b : Fin 4) (s : Fin 256) (k : Fin 1024) :
    rdF S33792x1024 (V m c main_v13) (ix2 (rowC b s) k) = rdF S4x256x1024 (m ((c : Thread nD τ).loc main_arg5)) (ix3 b s k) := by
  unfold rdF
  entry_read
  exact (rows_context _ _ concatenates_S32768x1024_S1024x1024_S33792x1024_d0 b s k).trans (flat_context _ b s k _)

set_option maxRecDepth 8000 in
set_option maxHeartbeats 1000000 in
theorem mod_lat (c : Dev nD) (b : Fin 4) (j : Fin 6) (k : Fin 1024) :
    rdF S8x6x1024 (V m c main_v2) (ix3 ⟨b.val, by omega⟩ j k) = rdF S4x6x1024 (m ((c : Thread nD τ).loc main_arg6)) (ix3 b j k) := by
  unfold rdF
  after_reads_simp
  exact mods_latent _ _ _ concatenates_S4x6x1024_S1x6x1024_S3x6x1024_S8x6x1024_d0 b j k

set_option maxRecDepth 8000 in
set_option maxHeartbeats 1000000 in
theorem mod_ctx (c : Dev nD) (j : Fin 6) (k : Fin 1024) :
    rdF S8x6x1024 (V m c main_v2) (ix3 4 j k) = rdF S6x1024 (m ((c : Thread nD τ).loc main_arg7)) (ix2 j k) := by
  unfold rdF
  after_reads_simp
  refine (mods_context _ _ _ concatenates_S4x6x1024_S1x6x1024_S3x6x1024_S8x6x1024_d0 j k).trans ?_
  refine (congrFun (StableHlo.unary_result _ _ _ _ _ _) _).trans ?_
  refine (lift_mod _ j k bcast_S6x1024_S1x6x1024_1_2).trans ?_
  after_reads_simp

theorem norm_at (c : Dev nD) (k : Fin 1024) :
    rdF S1x1024 (V m c main_v14) (ix2 0 k) = rdF S1024 (m ((c : Thread nD τ).loc main_arg8)) (ix1 k) := by
  unfold rdF
  entry_read
  exact lift_norm _ k _

theorem weight_at (c : Dev nD) (k : Fin 1024) (d : Fin 1024) :
    rdH S1024x1024 (V m c main_v15) (ix2 k d) = rdF S1024x1024 (m ((c : Thread nD τ).loc main_arg9)) (ix2 k d) := by
  unfold rdF rdH
  entry_read
  rfl

end Cert.Kernel4Ideal.PostAttn

end
-- ==== Proof.AttnOutKernel.lean ====
/- The two output arrays of the attention layer's output projection at every index, in terms of the arguments. -/
module

public import proofs.«01_k».proof.Proof.AttnOutBlock
public import proofs.«01_k».proof.Proof.AttnOutHost

@[expose] public section

noncomputable section

namespace Cert.Kernel4Ideal.PostAttn

open Idealize.ShloMosaic Idealize.ShloMosaic.TcCoe
open Cert.Kernel4Ideal Cert.Kernel4Ideal.Gen Cert.PreAttn Cert.Post

variable (m : (ℓ : Loc nD τ sig) → Buf (Elt Ideal) ℓ) (c : Dev nD)

/-- A latent row with the gated product added, of the arguments. -/
def lat : Fin 4 → Fin 8192 → Fin 1024 → EReal :=
  latS (fun b s k => rdF S4x8192x512 (m ((c : Thread nD τ).loc main_arg0)) (ix3 b s k))
    (fun b s k => rdF S4x8192x512 (m ((c : Thread nD τ).loc main_arg2)) (ix3 b s k))
    (fun k n => rdF S1024x1024 (m ((c : Thread nD τ).loc main_arg9)) (ix2 k n))
    (fun b s k => rdF S4x8192x1024 (m ((c : Thread nD τ).loc main_arg4)) (ix3 b s k)) (fun b j k => rdF S4x6x1024 (m ((c : Thread nD τ).loc main_arg6)) (ix3 b j k))
/-- A context row with the gated product added, of the arguments. -/
def ctx : Fin 4 → Fin 256 → Fin 1024 → EReal :=
  ctxS (fun b s k => rdF S4x256x512 (m ((c : Thread nD τ).loc main_arg1)) (ix3 b s k))
    (fun b s k => rdF S4x256x512 (m ((c : Thread nD τ).loc main_arg3)) (ix3 b s k))
    (fun k n => rdF S1024x1024 (m ((c : Thread nD τ).loc main_arg9)) (ix2 k n))
    (fun b s k => rdF S4x256x1024 (m ((c : Thread nD τ).loc main_arg5)) (ix3 b s k)) (fun j k => rdF S6x1024 (m ((c : Thread nD τ).loc main_arg7)) (ix2 j k))
/-- What the next part reads of them. -/
def latN (b : Fin 4) (s : Fin 8192) : Fin 1024 → EReal :=
  normed (lat m c b s) (fun k => rdF S1024 (m ((c : Thread nD τ).loc main_arg8)) (ix1 k)) (fun k => rdF S4x6x1024 (m ((c : Thread nD τ).loc main_arg6)) (ix3 b 4 k)) (fun k => rdF S4x6x1024 (m ((c : Thread nD τ).loc main_arg6)) (ix3 b 3 k))
def ctxN (b : Fin 4) (s : Fin 256) : Fin 1024 → EReal :=
  normed (ctx m c b s) (fun k => rdF S1024 (m ((c : Thread nD τ).loc main_arg8)) (ix1 k)) (fun k => rdF S6x1024 (m ((c : Thread nD τ).loc main_arg7)) (ix2 4 k)) (fun k => rdF S6x1024 (m ((c : Thread nD τ).loc main_arg7)) (ix2 3 k))

section Latent

variable (b : Fin 4) (s : Fin 8192) (t : Fin cfg0.N) (ht : t.val = 8 * b.val + s.val / 1024) (r : Fin 1024) (hr : r.val = s.val % 1024)
include ht hr

omit hr in
theorem latMod : modOf t.val = b.val := by unfold modOf; rw [if_pos (by omega)]; omega
theorem latRow (h : 1024 * t.val + r.val < 33792) : (⟨1024 * t.val + r.val, h⟩ : Fin 33792) = rowL b s :=
  Fin.ext (by show 1024 * t.val + r.val = 8192 * b.val + s.val; omega)

theorem latStep (n : Fin 1024) :
    stepped (fun k => (iblk m c 0 t) (ix2 r k)) (fun k => (iblk m c 1 t) (ix2 r k)) (fun k n => (iblk m c 5 t) (ix2 k n)) (fun k => (iblk m c 2 t) (ix2 r k)) (fun k => (iblk m c 3 t) (ix3 0 2 k)) n = lat m c b s n := by
  have hm : (⟨modOf t.val, modOf_lt t⟩ : Fin 8) = ⟨b.val, by omega⟩ := Fin.ext (latMod b s t ht)
  unfold lat latS
  refine stepped_congr ?_ ?_ ?_ ?_ ?_ n
  · exact fun k => (blk0_at m c t r k).trans ((congrArg (fun i => rdH S33792x512 (V m c main_v6) (ix2 i k)) (latRow b s t ht r hr _)).trans (as_lat m c b s k))
  · exact fun k => (blk1_at m c t r k).trans ((congrArg (fun i => rdH S33792x512 (V m c main_v10) (ix2 i k)) (latRow b s t ht r hr _)).trans (bs_lat m c b s k))
  · exact fun k n => (blk5_at m c t k n).trans (weight_at m c k n)
  · exact fun k => (blk2_at m c t r k).trans ((congrArg (fun i => rdF S33792x1024 (V m c main_v13) (ix2 i k)) (latRow b s t ht r hr _)).trans (xs_lat m c b s k))
  · exact fun k => (blk3_at m c t 2 k).trans ((congrArg (fun i => rdF S8x6x1024 (V m c main_v2) (ix3 i 2 k)) hm).trans (mod_lat m c b 2 k))

theorem latBlock1 (n : Fin 1024) : (out0_6 (iblk m c 0 t) (iblk m c 1 t) (iblk m c 2 t) (iblk m c 3 t) (iblk m c 4 t) (iblk m c 5 t) (ix2 r n) : EReal) = lat m c b s n :=
  (out6_at (iblk m c 0 t) (iblk m c 1 t) (iblk m c 2 t) (iblk m c 3 t) (iblk m c 4 t) (iblk m c 5 t) r n).trans (latStep m c b s t ht r hr n)

theorem latBlock2 (n : Fin 1024) : (out0_7 (iblk m c 0 t) (iblk m c 1 t) (iblk m c 2 t) (iblk m c 3 t) (iblk m c 4 t) (iblk m c 5 t) (ix2 r n) : EReal) = latN m c b s n := by
  have hm : (⟨modOf t.val, modOf_lt t⟩ : Fin 8) = ⟨b.val, by omega⟩ := Fin.ext (latMod b s t ht)
  refine (out7_at (iblk m c 0 t) (iblk m c 1 t) (iblk m c 2 t) (iblk m c 3 t) (iblk m c 4 t) (iblk m c 5 t) r n).trans ?_
  unfold latN
  refine normed_congr (fun k => latStep m c b s t ht r hr k) ?_ ?_ ?_ n
  · exact fun k => (blk4_at m c t k).trans (norm_at m c k)
  · exact fun k => (blk3_at m c t 4 k).trans ((congrArg (fun i => rdF S8x6x1024 (V m c main_v2) (ix3 i 4 k)) hm).trans (mod_lat m c b 4 k))
  · exact fun k => (blk3_at m c t 3 k).trans ((congrArg (fun i => rdF S8x6x1024 (V m c main_v2) (ix3 i 3 k)) hm).trans (mod_lat m c b 3 k))

end Latent

section Context

variable (b : Fin 4) (s : Fin 256) (t : Fin cfg0.N) (ht : t.val = 32) (r : Fin 1024) (hr : r.val = 256 * b.val + s.val)
include ht hr

omit hr in
theorem ctxMod : modOf t.val = 4 := by unfold modOf; rw [if_neg (by omega)]
theorem ctxRow (h : 1024 * t.val + r.val < 33792) : (⟨1024 * t.val + r.val, h⟩ : Fin 33792) = rowC b s :=
  Fin.ext (by show 1024 * t.val + r.val = 32768 + (256 * b.val + s.val); omega)

theorem ctxStep (n : Fin 1024) :
    stepped (fun k => (iblk m c 0 t) (ix2 r k)) (fun k => (iblk m c 1 t) (ix2 r k)) (fun k n => (iblk m c 5 t) (ix2 k n)) (fun k => (iblk m c 2 t) (ix2 r k)) (fun k => (iblk m c 3 t) (ix3 0 2 k)) n = ctx m c b s n := by
  have hm : (⟨modOf t.val, modOf_lt t⟩ : Fin 8) = 4 := Fin.ext (ctxMod t ht)
  unfold ctx ctxS
  refine stepped_congr ?_ ?_ ?_ ?_ ?_ n
  · exact fun k => (blk0_at m c t r k).trans ((congrArg (fun i => rdH S33792x512 (V m c main_v6) (ix2 i k)) (ctxRow b s t ht r hr _)).trans (as_ctx m c b s k))
  · exact fun k => (blk1_at m c t r k).trans ((congrArg (fun i => rdH S33792x512 (V m c main_v10) (ix2 i k)) (ctxRow b s t ht r hr _)).trans (bs_ctx m c b s k))
  · exact fun k n => (blk5_at m c t k n).trans (weight_at m c k n)
  · exact fun k => (blk2_at m c t r k).trans ((congrArg (fun i => rdF S33792x1024 (V m c main_v13) (ix2 i k)) (ctxRow b s t ht r hr _)).trans (xs_ctx m c b s k))
  · exact fun k => (blk3_at m c t 2 k).trans ((congrArg (fun i => rdF S8x6x1024 (V m c main_v2) (ix3 i 2 k)) hm).trans (mod_ctx m c 2 k))

theorem ctxBlock1 (n : Fin 1024) : (out0_6 (iblk m c 0 t) (iblk m c 1 t) (iblk m c 2 t) (iblk m c 3 t) (iblk m c 4 t) (iblk m c 5 t) (ix2 r n) : EReal) = ctx m c b s n :=
  (out6_at (iblk m c 0 t) (iblk m c 1 t) (iblk m c 2 t) (iblk m c 3 t) (iblk m c 4 t) (iblk m c 5 t) r n).trans (ctxStep m c b s t ht r hr n)

theorem ctxBlock2 (n : Fin 1024) : (out0_7 (iblk m c 0 t) (iblk m c 1 t) (iblk m c 2 t) (iblk m c 3 t) (iblk m c 4 t) (iblk m c 5 t) (ix2 r n) : EReal) = ctxN m c b s n := by
  have hm : (⟨modOf t.val, modOf_lt t⟩ : Fin 8) = 4 := Fin.ext (ctxMod t ht)
  refine (out7_at (iblk m c 0 t) (iblk m c 1 t) (iblk m c 2 t) (iblk m c 3 t) (iblk m c 4 t) (iblk m c 5 t) r n).trans ?_
  unfold ctxN
  refine normed_congr (fun k => ctxStep m c b s t ht r hr k) ?_ ?_ ?_ n
  · exact fun k => (blk4_at m c t k).trans (norm_at m c k)
  · exact fun k => (blk3_at m c t 4 k).trans ((congrArg (fun i => rdF S8x6x1024 (V m c main_v2) (ix3 i 4 k)) hm).trans (mod_ctx m c 4 k))
  · exact fun k => (blk3_at m c t 3 k).trans ((congrArg (fun i => rdF S8x6x1024 (V m c main_v2) (ix3 i 3 k)) hm).trans (mod_ctx m c 3 k))

end Context

/-- The grid point and the row within its block of a latent row. -/
def ptL (b : Fin 4) (s : Fin 8192) : Fin cfg0.N := ⟨8 * b.val + s.val / 1024, by show _ < 33; omega⟩
def inL (s : Fin 8192) : Fin 1024 := ⟨s.val % 1024, Nat.mod_lt _ (by decide)⟩
/-- The context's grid point, and the row within its block. -/
def ptC : Fin cfg0.N := ⟨32, by show _ < 33; omega⟩
def inC (b : Fin 4) (l : Fin 256) : Fin 1024 := ⟨256 * b.val + l.val, by omega⟩

theorem res6_lat (b : Fin 4) (s : Fin 8192) (d : Fin 1024) : rdF S33792x1024 ((dats m 0 c).arrAt 6 cfg0.N) (ix2 (rowL b s) d) = lat m c b s d := by
  refine (congrArg (fun i => rdF S33792x1024 ((dats m 0 c).arrAt 6 cfg0.N) (ix2 i d)) (latRow b s (ptL b s) rfl (inL s) rfl (by have := point_lt (ptL b s); omega)).symm).trans ?_
  exact (arr6_at m c (ptL b s) (inL s) d).trans (latBlock1 m c b s (ptL b s) rfl (inL s) rfl d)
theorem res6_ctx (b : Fin 4) (s : Fin 256) (d : Fin 1024) : rdF S33792x1024 ((dats m 0 c).arrAt 6 cfg0.N) (ix2 (rowC b s) d) = ctx m c b s d := by
  refine (congrArg (fun i => rdF S33792x1024 ((dats m 0 c).arrAt 6 cfg0.N) (ix2 i d)) (ctxRow b s ptC rfl (inC b s) rfl (by have := point_lt ptC; omega)).symm).trans ?_
  exact (arr6_at m c ptC (inC b s) d).trans (ctxBlock1 m c b s ptC rfl (inC b s) rfl d)

theorem res7_lat (b : Fin 4) (s : Fin 8192) (d : Fin 1024) : rdH S33792x1024 ((dats m 0 c).arrAt 7 cfg0.N) (ix2 (rowL b s) d) = latN m c b s d := by
  refine (congrArg (fun i => rdH S33792x1024 ((dats m 0 c).arrAt 7 cfg0.N) (ix2 i d)) (latRow b s (ptL b s) rfl (inL s) rfl (by have := point_lt (ptL b s); omega)).symm).trans ?_
  exact (arr7_at m c (ptL b s) (inL s) d).trans (latBlock2 m c b s (ptL b s) rfl (inL s) rfl d)
theorem res7_ctx (b : Fin 4) (s : Fin 256) (d : Fin 1024) : rdH S33792x1024 ((dats m 0 c).arrAt 7 cfg0.N) (ix2 (rowC b s) d) = ctxN m c b s d := by
  refine (congrArg (fun i => rdH S33792x1024 ((dats m 0 c).arrAt 7 cfg0.N) (ix2 i d)) (ctxRow b s ptC rfl (inC b s) rfl (by have := point_lt ptC; omega)).symm).trans ?_
  exact (arr7_at m c ptC (inC b s) d).trans (ctxBlock2 m c b s ptC rfl (inC b s) rfl d)

end Cert.Kernel4Ideal.PostAttn

end
-- ==== Proof.AttnOutRef.lean ====
/- The reference of the attention layer's output projection: its two results at every index, in terms of the arguments. -/
module

public import proofs.«01_k».proof.Proof.Gen.Reference4Ideal.Read
public import proofs.«01_k».proof.Proof.PostSpec
public import Idealize.ShloMosaic.Lib.Pointwise.Index
public import Idealize.ShloMosaic.Lib.Pipeline.Value
public import Idealize.ShloMosaic.PureOps.Reduce

@[expose] public section

noncomputable section

namespace Cert.Reference4Ideal.PostAttn

open Idealize.ShloMosaic Idealize.ShloMosaic.TcCoe
open Cert.Reference4Ideal Cert.Reference4Ideal.Gen Cert.Reference4Ideal.Read Cert.PreAttn Cert.Post

variable (x0 : (⟨S4x8192x512, .f32⟩ : BufTy).Contents (Elt Ideal))
  (x1 : (⟨S4x256x512, .f32⟩ : BufTy).Contents (Elt Ideal))
  (x2 : (⟨S4x8192x512, .f32⟩ : BufTy).Contents (Elt Ideal))
  (x3 : (⟨S4x256x512, .f32⟩ : BufTy).Contents (Elt Ideal))
  (x4 : (⟨S4x8192x1024, .f32⟩ : BufTy).Contents (Elt Ideal))
  (x5 : (⟨S4x256x1024, .f32⟩ : BufTy).Contents (Elt Ideal))
  (x6 : (⟨S4x6x1024, .f32⟩ : BufTy).Contents (Elt Ideal))
  (x7 : (⟨S6x1024, .f32⟩ : BufTy).Contents (Elt Ideal))
  (x8 : (⟨S1024, .f32⟩ : BufTy).Contents (Elt Ideal))
  (x9 : (⟨S1024x1024, .f32⟩ : BufTy).Contents (Elt Ideal))

/-- A latent row with the gated product added, of the arguments, and what the next part reads of it. -/
def lat : Fin 4 → Fin 8192 → Fin 1024 → EReal :=
  latS (fun b s k => x0 (ix3 b s k)) (fun b s k => x2 (ix3 b s k)) (fun k n => x9 (ix2 k n)) (fun b s k => x4 (ix3 b s k)) (fun b j k => x6 (ix3 b j k))
def latN (b : Fin 4) (s : Fin 8192) : Fin 1024 → EReal :=
  normed (lat x0 x2 x4 x6 x9 b s) (fun k => x8 (ix1 k)) (fun k => x6 (ix3 b 4 k)) (fun k => x6 (ix3 b 3 k))

theorem latMixed (b : Fin 4) (s : Fin 8192) (n : Fin 1024) :
    (val_main_v1 (F := Ideal) x0 x2 x9 (ix3 b s n) : EReal) = mix (fun k => x0 (ix3 b s k)) (fun k => x2 (ix3 b s k)) (fun k n => x9 (ix2 k n)) n := by
  have el : ∀ k, lidx_main_v1 (ix3 b s n) k = ix3 b s k := fun k => by funext a; fin_cases a <;> rfl
  have er : ∀ k, ridx_main_v1 (ix3 b s n) k = ix2 k n := fun k => by funext a; fin_cases a <;> rfl
  rw [val_main_v1_apply]
  simp only [el, er]
  refine mix_joined (fun k => val_main_v0 (F := Ideal) x0 x2 (ix3 b s k)) _ _ (fun k n => x9 (ix2 k n)) n (fun k => ?_) (fun k => ?_)
  · show val_main_v0 (F := Ideal) x0 x2 (ix3 b s (lo k)) = _
    unfold val_main_v0
    exact concatenate_pair_apply_left 2 _ _ concatenates_S4x8192x512_S4x8192x512_S4x8192x1024_d2 _ rfl (ix3 b s k) (fun a => by fin_cases a <;> rfl)
  · show val_main_v0 (F := Ideal) x0 x2 (ix3 b s (hi k)) = _
    unfold val_main_v0
    exact (concatenate_pair_apply_right 2 _ _ concatenates_S4x8192x512_S4x8192x512_S4x8192x1024_d2 _ rfl rfl (ix3 b s k)
      (fun a ha => by fin_cases a <;> first | rfl | exact absurd rfl ha) (by show k.val + 512 = 512 + k.val; omega))

theorem latStepped (b : Fin 4) (s : Fin 8192) (k : Fin 1024) : (val_main_v9 (F := Ideal) x0 x2 x4 x6 x9 (ix3 b s k) : EReal) = lat x0 x2 x4 x6 x9 b s k := by
  have e2 : idx_main_v4 (idx_main_v5 (idx_main_v6 (idx_main_v7 (ix3 b s k)))) = ix3 b 2 k := by
    funext a; fin_cases a <;> refine Fin.ext ?_
    · show (b.val * 1024 + k.val) / 1024 = b.val; omega
    · rfl
    · show (b.val * 1024 + k.val) % 1024 = k.val; omega
  rw [val_main_v9_apply, val_main_v8_apply, val_main_v7_apply, val_main_v6_apply, val_main_v5_apply, val_main_v4_apply, e2, latMixed]
  rfl

theorem latSquare (b : Fin 4) (s : Fin 8192) :
    (val_main_v11 (F := Ideal) x0 x2 x4 x6 x9 (ix2 b s) : EReal) = ∑ j, lat x0 x2 x4 x6 x9 b s j * lat x0 x2 x4 x6 x9 b s j := by
  have e : ∀ k, idx_main_v11 (ix2 b s) k = ix3 b s k := fun k => by funext a; fin_cases a <;> rfl
  rw [val_main_v11_apply]
  refine (congrArg (fun z : EReal => z + _) zero_word).trans ((zero_add _).trans (Finset.sum_congr rfl fun j _ => ?_))
  rw [e, val_main_v10_apply]
  exact congrArg₂ (fun y z : EReal => y * z) (latStepped x0 x2 x4 x6 x9 b s j) (latStepped x0 x2 x4 x6 x9 b s j)

theorem latRoot (b : Fin 4) (s : Fin 8192) :
    (val_main_v17 (F := Ideal) x0 x2 x4 x6 x9 (ix3 b s 0) : EReal)
      = Ideal.rsqrt (Ideal.div (∑ j, lat x0 x2 x4 x6 x9 b s j * lat x0 x2 x4 x6 x9 b s j) (Ideal.ofBits .f32 0x44800000#32) + Ideal.ofBits .f32 0x358637BD#32) := by
  have e : idx_main_v12 (ix3 b s 0) = ix2 b s := by funext a; fin_cases a <;> rfl
  rw [val_main_v17_apply, val_main_v16_apply, val_main_v14_apply, val_main_v12_apply, e, latSquare, val_main_v13_apply, val_main_v15_apply]
  rfl

theorem latNormed (b : Fin 4) (s : Fin 8192) (k : Fin 1024) : (val_main_v34 (F := Ideal) x0 x2 x4 x6 x8 x9 (ix3 b s k) : EReal) = latN x0 x2 x4 x6 x8 x9 b s k := by
  have e8 : idx_main_v18 (ix3 b s k) = ix3 b s 0 := by funext a; fin_cases a <;> rfl
  have ew : idx_main_v20 (idx_main_v21 (ix3 b s k)) = ix1 k := by funext a; fin_cases a; rfl
  have e4 : idx_main_v26 (idx_main_v27 (idx_main_v28 (idx_main_v31 (ix3 b s k)))) = ix3 b 4 k := by
    funext a; fin_cases a <;> refine Fin.ext ?_
    · show (b.val * 1024 + k.val) / 1024 = b.val; omega
    · rfl
    · show (b.val * 1024 + k.val) % 1024 = k.val; omega
  have e3 : idx_main_v23 (idx_main_v24 (idx_main_v25 (idx_main_v33 (ix3 b s k)))) = ix3 b 3 k := by
    funext a; fin_cases a <;> refine Fin.ext ?_
    · show (b.val * 1024 + k.val) / 1024 = b.val; omega
    · rfl
    · show (b.val * 1024 + k.val) % 1024 = k.val; omega
  rw [val_main_v34_apply, val_main_v32_apply, val_main_v22_apply, val_main_v19_apply, val_main_v18_apply, e8, latRoot, latStepped, val_main_v21_apply, val_main_v20_apply, ew,
    val_main_v31_apply, val_main_v30_apply, val_main_v29_apply, val_main_v28_apply, val_main_v27_apply, val_main_v26_apply, e4,
    val_main_v33_apply, val_main_v25_apply, val_main_v24_apply, val_main_v23_apply, e3]
  rfl

/-- A context row with the gated product added, of the arguments, and what the next part reads of it. -/
def ctx : Fin 4 → Fin 256 → Fin 1024 → EReal :=
  ctxS (fun b s k => x1 (ix3 b s k)) (fun b s k => x3 (ix3 b s k)) (fun k n => x9 (ix2 k n)) (fun b s k => x5 (ix3 b s k)) (fun j k => x7 (ix2 j k))
def ctxN (b : Fin 4) (s : Fin 256) : Fin 1024 → EReal :=
  normed (ctx x1 x3 x5 x7 x9 b s) (fun k => x8 (ix1 k)) (fun k => x7 (ix2 4 k)) (fun k => x7 (ix2 3 k))

theorem ctxMixed (b : Fin 4) (s : Fin 256) (n : Fin 1024) :
    (val_main_v3 (F := Ideal) x1 x3 x9 (ix3 b s n) : EReal) = mix (fun k => x1 (ix3 b s k)) (fun k => x3 (ix3 b s k)) (fun k n => x9 (ix2 k n)) n := by
  have el : ∀ k, lidx_main_v3 (ix3 b s n) k = ix3 b s k := fun k => by funext a; fin_cases a <;> rfl
  have er : ∀ k, ridx_main_v3 (ix3 b s n) k = ix2 k n := fun k => by funext a; fin_cases a <;> rfl
  rw [val_main_v3_apply]
  simp only [el, er]
  refine mix_joined (fun k => val_main_v2 (F := Ideal) x1 x3 (ix3 b s k)) _ _ (fun k n => x9 (ix2 k n)) n (fun k => ?_) (fun k => ?_)
  · show val_main_v2 (F := Ideal) x1 x3 (ix3 b s (lo k)) = _
    unfold val_main_v2
    exact concatenate_pair_apply_left 2 _ _ concatenates_S4x256x512_S4x256x512_S4x256x1024_d2 _ rfl (ix3 b s k) (fun a => by fin_cases a <;> rfl)
  · show val_main_v2 (F := Ideal) x1 x3 (ix3 b s (hi k)) = _
    unfold val_main_v2
    exact (concatenate_pair_apply_right 2 _ _ concatenates_S4x256x512_S4x256x512_S4x256x1024_d2 _ rfl rfl (ix3 b s k)
      (fun a ha => by fin_cases a <;> first | rfl | exact absurd rfl ha) (by show k.val + 512 = 512 + k.val; omega))

theorem ctxStepped (b : Fin 4) (s : Fin 256) (k : Fin 1024) : (val_main_v40 (F := Ideal) x1 x3 x5 x7 x9 (ix3 b s k) : EReal) = ctx x1 x3 x5 x7 x9 b s k := by
  have e2 : idx_main_v35 (idx_main_v36 (idx_main_v37 (idx_main_v38 (ix3 b s k)))) = ix2 2 k := by
    funext a; fin_cases a <;> refine Fin.ext ?_
    · rfl
    · show k.val % 1024 = k.val; omega
  rw [val_main_v40_apply, val_main_v39_apply, val_main_v38_apply, val_main_v37_apply, val_main_v36_apply, val_main_v35_apply, e2, ctxMixed]
  rfl

theorem ctxSquare (b : Fin 4) (s : Fin 256) :
    (val_main_v42 (F := Ideal) x1 x3 x5 x7 x9 (ix2 b s) : EReal) = ∑ j, ctx x1 x3 x5 x7 x9 b s j * ctx x1 x3 x5 x7 x9 b s j := by
  have e : ∀ k, idx_main_v42 (ix2 b s) k = ix3 b s k := fun k => by funext a; fin_cases a <;> rfl
  rw [val_main_v42_apply]
  refine (congrArg (fun z : EReal => z + _) zero_word).trans ((zero_add _).trans (Finset.sum_congr rfl fun j _ => ?_))
  rw [e, val_main_v41_apply]
  exact congrArg₂ (fun y z : EReal => y * z) (ctxStepped x1 x3 x5 x7 x9 b s j) (ctxStepped x1 x3 x5 x7 x9 b s j)

theorem ctxRoot (b : Fin 4) (s : Fin 256) :
    (val_main_v48 (F := Ideal) x1 x3 x5 x7 x9 (ix3 b s 0) : EReal)
      = Ideal.rsqrt (Ideal.div (∑ j, ctx x1 x3 x5 x7 x9 b s j * ctx x1 x3 x5 x7 x9 b s j) (Ideal.ofBits .f32 0x44800000#32) + Ideal.ofBits .f32 0x358637BD#32) := by
  have e : idx_main_v43 (ix3 b s 0) = ix2 b s := by funext a; fin_cases a <;> rfl
  rw [val_main_v48_apply, val_main_v47_apply, val_main_v45_apply, val_main_v43_apply, e, ctxSquare, val_main_v44_apply, val_main_v46_apply]
  rfl

theorem ctxNormed (b : Fin 4) (s : Fin 256) (k : Fin 1024) : (val_main_v65 (F := Ideal) x1 x3 x5 x7 x8 x9 (ix3 b s k) : EReal) = ctxN x1 x3 x5 x7 x8 x9 b s k := by
  have e8 : idx_main_v49 (ix3 b s k) = ix3 b s 0 := by funext a; fin_cases a <;> rfl
  have ew : idx_main_v51 (idx_main_v52 (ix3 b s k)) = ix1 k := by funext a; fin_cases a; rfl
  have e4 : idx_main_v56 (idx_main_v57 (idx_main_v60 (idx_main_v61 (ix3 b s k)))) = ix2 4 k := by
    funext a; fin_cases a <;> refine Fin.ext ?_
    · rfl
    · show k.val % 1024 = k.val; omega
  have e3 : idx_main_v54 (idx_main_v55 (idx_main_v63 (idx_main_v64 (ix3 b s k)))) = ix2 3 k := by
    funext a; fin_cases a <;> refine Fin.ext ?_
    · rfl
    · show k.val % 1024 = k.val; omega
  rw [val_main_v65_apply, val_main_v62_apply, val_main_v53_apply, val_main_v50_apply, val_main_v49_apply, e8, ctxRoot, ctxStepped, val_main_v52_apply, val_main_v51_apply, ew,
    val_main_v61_apply, val_main_v60_apply, val_main_v59_apply, val_main_v58_apply, val_main_v57_apply, val_main_v56_apply, e4,
    val_main_v64_apply, val_main_v63_apply, val_main_v55_apply, val_main_v54_apply, e3]
  rfl

theorem one_lat (b : Fin 4) (s : Fin 8192) (n : Fin 1024) :
    (val_main_v68 (F := Ideal) x0 x1 x2 x3 x4 x5 x6 x7 x9 (ix2 ⟨8192 * b.val + s.val, by omega⟩ n) : EReal) = lat x0 x2 x4 x6 x9 b s n := by
  have e : idx_main_v66 (ix2 ⟨8192 * b.val + s.val, by omega⟩ n) = ix3 b s n := by
    funext a; fin_cases a <;> refine Fin.ext ?_
    · show ((8192 * b.val + s.val) * 1024 + n.val) / 8388608 = b.val; omega
    · show ((8192 * b.val + s.val) * 1024 + n.val) / 1024 % 8192 = s.val; omega
    · show ((8192 * b.val + s.val) * 1024 + n.val) % 1024 = n.val; omega
  unfold val_main_v68
  refine (concatenate_pair_apply_left 0 _ _ concatenates_S32768x1024_S1024x1024_S33792x1024_d0 _ rfl (ix2 ⟨8192 * b.val + s.val, by omega⟩ n) (fun a => by fin_cases a <;> rfl)).trans ?_
  rw [val_main_v66_apply, e, latStepped]

theorem one_ctx (b : Fin 4) (s : Fin 256) (n : Fin 1024) :
    (val_main_v68 (F := Ideal) x0 x1 x2 x3 x4 x5 x6 x7 x9 (ix2 ⟨32768 + (256 * b.val + s.val), by omega⟩ n) : EReal) = ctx x1 x3 x5 x7 x9 b s n := by
  have e : idx_main_v67 (ix2 ⟨256 * b.val + s.val, by omega⟩ n) = ix3 b s n := by
    funext a; fin_cases a <;> refine Fin.ext ?_
    · show ((256 * b.val + s.val) * 1024 + n.val) / 262144 = b.val; omega
    · show ((256 * b.val + s.val) * 1024 + n.val) / 1024 % 256 = s.val; omega
    · show ((256 * b.val + s.val) * 1024 + n.val) % 1024 = n.val; omega
  unfold val_main_v68
  refine (concatenate_pair_apply_right 0 _ _ concatenates_S32768x1024_S1024x1024_S33792x1024_d0 _ rfl rfl (ix2 ⟨256 * b.val + s.val, by omega⟩ n)
    (fun a ha => by fin_cases a <;> first | rfl | exact absurd rfl ha) (by show 256 * b.val + s.val + 32768 = 32768 + (256 * b.val + s.val); omega)).trans ?_
  rw [val_main_v67_apply, e, ctxStepped]

theorem two_lat (b : Fin 4) (s : Fin 8192) (n : Fin 1024) :
    (val_main_v72 (F := Ideal) x0 x1 x2 x3 x4 x5 x6 x7 x8 x9 (ix2 ⟨8192 * b.val + s.val, by omega⟩ n) : EReal) = latN x0 x2 x4 x6 x8 x9 b s n := by
  have e : idx_main_v69 (ix2 ⟨8192 * b.val + s.val, by omega⟩ n) = ix3 b s n := by
    funext a; fin_cases a <;> refine Fin.ext ?_
    · show ((8192 * b.val + s.val) * 1024 + n.val) / 8388608 = b.val; omega
    · show ((8192 * b.val + s.val) * 1024 + n.val) / 1024 % 8192 = s.val; omega
    · show ((8192 * b.val + s.val) * 1024 + n.val) % 1024 = n.val; omega
  rw [val_main_v72_apply]
  unfold val_main_v71
  refine (concatenate_pair_apply_left 0 _ _ concatenates_S32768x1024_S1024x1024_S33792x1024_d0 _ rfl (ix2 ⟨8192 * b.val + s.val, by omega⟩ n) (fun a => by fin_cases a <;> rfl)).trans ?_
  rw [val_main_v69_apply, e, latNormed]

theorem two_ctx (b : Fin 4) (s : Fin 256) (n : Fin 1024) :
    (val_main_v72 (F := Ideal) x0 x1 x2 x3 x4 x5 x6 x7 x8 x9 (ix2 ⟨32768 + (256 * b.val + s.val), by omega⟩ n) : EReal) = ctxN x1 x3 x5 x7 x8 x9 b s n := by
  have e : idx_main_v70 (ix2 ⟨256 * b.val + s.val, by omega⟩ n) = ix3 b s n := by
    funext a; fin_cases a <;> refine Fin.ext ?_
    · show ((256 * b.val + s.val) * 1024 + n.val) / 262144 = b.val; omega
    · show ((256 * b.val + s.val) * 1024 + n.val) / 1024 % 256 = s.val; omega
    · show ((256 * b.val + s.val) * 1024 + n.val) % 1024 = n.val; omega
  rw [val_main_v72_apply]
  unfold val_main_v71
  refine (concatenate_pair_apply_right 0 _ _ concatenates_S32768x1024_S1024x1024_S33792x1024_d0 _ rfl rfl (ix2 ⟨256 * b.val + s.val, by omega⟩ n)
    (fun a ha => by fin_cases a <;> first | rfl | exact absurd rfl ha) (by show 256 * b.val + s.val + 32768 = 32768 + (256 * b.val + s.val); omega)).trans ?_
  rw [val_main_v70_apply, e, ctxNormed]

end Cert.Reference4Ideal.PostAttn

end
-- ==== Proof.AttnOutEquation.lean ====
/- The attention layer's output projection: the kernel's two output arrays are the reference's two results. -/
module

public import proofs.«01_k».proof.Proof.AttnOutKernel
public import proofs.«01_k».proof.Proof.AttnOutRef

@[expose] public section

noncomputable section

namespace Cert.PostAttn

open Idealize.ShloMosaic Idealize.ShloMosaic.TcCoe
open Cert.Kernel4Ideal Cert.Kernel4Ideal.Gen Cert.Kernel4Ideal.PostAttn

theorem row_split (r : Fin 33792) : (∃ b s, r = rowL b s) ∨ ∃ b l, r = rowC b l := by
  by_cases h : r.val < 32768
  · exact .inl ⟨⟨r.val / 8192, by omega⟩, ⟨r.val % 8192, by omega⟩, Fin.ext (by show r.val = 8192 * (r.val / 8192) + r.val % 8192; omega)⟩
  · exact .inr ⟨⟨(r.val - 32768) / 256, by omega⟩, ⟨(r.val - 32768) % 256, by omega⟩,
      Fin.ext (by show r.val = 32768 + (256 * ((r.val - 32768) / 256) + (r.val - 32768) % 256); omega)⟩

variable (m : (ℓ : Loc nD τ sig) → Buf (Elt Ideal) ℓ) (c : Dev nD)

/-- The same array: the rows. -/
theorem same_one : Cert.Reference4Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) = (dats m 0 c).arrAt 6 cfg0.N := by
  have key : ∀ (r : Fin 33792) (d : Fin 1024), (Cert.Reference4Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (ix2 r d) : EReal) = rdF S33792x1024 ((dats m 0 c).arrAt 6 cfg0.N) (ix2 r d) := by
    intro r d
    rcases row_split r with ⟨b, s, rfl⟩ | ⟨b, s, rfl⟩
    · exact (Cert.Reference4Ideal.PostAttn.one_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) b s d).trans (res6_lat m c b s d).symm
    · exact (Cert.Reference4Ideal.PostAttn.one_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) b s d).trans (res6_ctx m c b s d).symm
  funext i
  have hi : i = ix2 (i 0) (i 1) := by funext a; fin_cases a <;> rfl
  rw [hi]
  exact key (i 0) (i 1)

/-- The same array: what the next part reads. -/
theorem same_two : Cert.Reference4Ideal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (dats m 0 c).arrAt 7 cfg0.N := by
  have key : ∀ (r : Fin 33792) (d : Fin 1024), (Cert.Reference4Ideal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r d) : EReal) = rdH S33792x1024 ((dats m 0 c).arrAt 7 cfg0.N) (ix2 r d) := by
    intro r d
    rcases row_split r with ⟨b, s, rfl⟩ | ⟨b, s, rfl⟩
    · exact (Cert.Reference4Ideal.PostAttn.two_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s d).trans (res7_lat m c b s d).symm
    · exact (Cert.Reference4Ideal.PostAttn.two_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s d).trans (res7_ctx m c b s d).symm
  funext i
  have hi : i = ix2 (i 0) (i 1) := by funext a; fin_cases a <;> rfl
  rw [hi]
  exact key (i 0) (i 1)

end Cert.PostAttn

end
-- ==== Proof.RecOutBlock.lean ====
/- What one block of the recurrence layer's output projection computes: its two output blocks, as functions of the block's rows, modulation and
   weights; and which part of the arrays every grid point reads and writes. -/
module

public import proofs.«01_k».proof.Proof.PostSpec
public import proofs.«01_k».proof.Proof.Gen.Kernel5Ideal.Value
public import Idealize.ShloMosaic.Lib.KernelVsHost
public import Idealize.ShloMosaic.Lib.Pipeline.ValueKit.Tiles
public import Idealize.ShloMosaic.Lib.Pipeline.ValueKit.Point

@[expose] public section

noncomputable section

namespace Cert.Kernel5Ideal.PostRec

open Idealize.ShloMosaic Idealize.ShloMosaic.TcCoe
open Cert.Kernel5Ideal Cert.Kernel5Ideal.Gen Cert.PreAttn Cert.Post

/-- The rows after the gated product is added. -/
theorem step_at (f g h : Vec Ideal S1024x512 .f32) (A : Vec Ideal S1024x512 .bf16) (Wt Wb : Vec Ideal S512x1024 .bf16)
    (X : Vec Ideal S1024x1024 .f32) (M : Vec Ideal S1x1x1024 .f32) (r n : Fin 1024) :
    (k0_pay2 f g h A Wt Wb X M (ix2 r n) : EReal)
      = (X (ix2 r n) : EReal) + (M (ix3 0 0 n) : EReal) * ((∑ k, (A (ix2 r k) : EReal) * Wt (ix2 k n))
        + ∑ k, gated (f (ix2 r k)) (g (ix2 r k)) (h (ix2 r k)) * (Wb (ix2 k n) : EReal)) := by
  unfold gated gelu
  pointwise [k0_pay2, Ideal.erf_def]

/-- What the next part reads of them. -/
theorem fed_at (X : Vec Ideal S1024x1024 .f32) (N : Vec Ideal S1x1024 .f32) (Sh Sc : Vec Ideal S1x1x1024 .f32) (r n : Fin 1024) :
    (k0_pay1 X N Sh Sc (ix2 r n) : EReal)
      = normed (fun k => X (ix2 r k)) (fun k => N (ix2 0 k)) (fun k => Sc (ix3 0 0 k)) (fun k => Sh (ix3 0 0 k)) n := by
  unfold normed
  pointwise [k0_pay1]

/-- The rows of a block, of the block's inputs as they are loaded. -/
theorem blockStep_at (x0 : Vec Ideal S1024x512 .bf16) (x1 : Vec Ideal S1024x512 .f32) (x2 : Vec Ideal S1024x512 .f32) (x3 : Vec Ideal S1024x512 .f32) (x4 : Vec Ideal S1024x1024 .f32) (x5 : Vec Ideal S1x6x1024 .f32) (x6 : Vec Ideal S1x1024 .f32) (x7 : Vec Ideal S1024x1024 .bf16) (r n : Fin 1024) :
    (k0_pay2 (View.ld x1 r0_0) (View.ld x2 r0_0) (View.ld x3 r0_0) (View.ld x0 r0_0) (View.ld x7 r0_1) (View.ld x7 r0_2) (View.ld x4 r0_3) (View.ld x5 r0_4) (ix2 r n) : EReal)
      = stepped (fun k => x0 (ix2 r k)) (fun k => gated (x1 (ix2 r k)) (x2 (ix2 r k)) (x3 (ix2 r k))) (fun k n => x7 (ix2 k n)) (fun k => x4 (ix2 r k)) (fun k => x5 (ix3 0 2 k)) n := by
  rw [step_at]
  have e0 : ∀ k, View.ld x0 r0_0 (ix2 r k) = x0 (ix2 r k) := fun k =>
    View.ld_unit_apply_of x0 _ _ _ _ _ (fun a => by fin_cases a <;> exact (Nat.zero_add _).symm)
  have e1 : ∀ k, View.ld x1 r0_0 (ix2 r k) = x1 (ix2 r k) := fun k =>
    View.ld_unit_apply_of x1 _ _ _ _ _ (fun a => by fin_cases a <;> exact (Nat.zero_add _).symm)
  have e2 : ∀ k, View.ld x2 r0_0 (ix2 r k) = x2 (ix2 r k) := fun k =>
    View.ld_unit_apply_of x2 _ _ _ _ _ (fun a => by fin_cases a <;> exact (Nat.zero_add _).symm)
  have e3 : ∀ k, View.ld x3 r0_0 (ix2 r k) = x3 (ix2 r k) := fun k =>
    View.ld_unit_apply_of x3 _ _ _ _ _ (fun a => by fin_cases a <;> exact (Nat.zero_add _).symm)
  have et : ∀ k n, View.ld x7 r0_1 (ix2 k n) = x7 (ix2 (lo k) n) := fun k n =>
    View.ld_unit_apply_of x7 _ _ _ _ _ (fun a => by fin_cases a <;> exact (Nat.zero_add _).symm)
  have eb : ∀ k n, View.ld x7 r0_2 (ix2 k n) = x7 (ix2 (hi k) n) := fun k n =>
    View.ld_unit_apply_of x7 _ _ _ _ _ (fun a => by fin_cases a <;> first | exact (Nat.zero_add _).symm | rfl)
  have ex : ∀ k, View.ld x4 r0_3 (ix2 r k) = x4 (ix2 r k) := fun k =>
    View.ld_unit_apply_of x4 _ _ _ _ _ (fun a => by fin_cases a <;> exact (Nat.zero_add _).symm)
  have eg : ∀ k, View.ld x5 r0_4 (ix3 0 0 k) = x5 (ix3 0 2 k) := fun k =>
    View.ld_unit_apply_of x5 _ _ _ _ _ (fun a => by fin_cases a <;> first | exact (Nat.zero_add _).symm | rfl)
  unfold stepped mix
  simp only [e0, e1, e2, e3, et, eb, ex, eg]

theorem blockFed_at (x0 : Vec Ideal S1024x512 .bf16) (x1 : Vec Ideal S1024x512 .f32) (x2 : Vec Ideal S1024x512 .f32) (x3 : Vec Ideal S1024x512 .f32) (x4 : Vec Ideal S1024x1024 .f32) (x5 : Vec Ideal S1x6x1024 .f32) (x6 : Vec Ideal S1x1024 .f32) (x7 : Vec Ideal S1024x1024 .bf16) (r n : Fin 1024) :
    (k0_pay1 (k0_pay2 (View.ld x1 r0_0) (View.ld x2 r0_0) (View.ld x3 r0_0) (View.ld x0 r0_0) (View.ld x7 r0_1) (View.ld x7 r0_2) (View.ld x4 r0_3) (View.ld x5 r0_4)) (View.ld x6 r0_5) (View.ld x5 r0_6) (View.ld x5 r0_7) (ix2 r n) : EReal)
      = normed (stepped (fun k => x0 (ix2 r k)) (fun k => gated (x1 (ix2 r k)) (x2 (ix2 r k)) (x3 (ix2 r k))) (fun k n => x7 (ix2 k n)) (fun k => x4 (ix2 r k)) (fun k => x5 (ix3 0 2 k))) (fun k => x6 (ix2 0 k)) (fun k => x5 (ix3 0 4 k)) (fun k => x5 (ix3 0 3 k)) n := by
  refine (fed_at (k0_pay2 (View.ld x1 r0_0) (View.ld x2 r0_0) (View.ld x3 r0_0) (View.ld x0 r0_0) (View.ld x7 r0_1) (View.ld x7 r0_2) (View.ld x4 r0_3) (View.ld x5 r0_4)) (View.ld x6 r0_5) (View.ld x5 r0_6) (View.ld x5 r0_7) r n).trans ?_
  refine normed_congr (fun k => blockStep_at x0 x1 x2 x3 x4 x5 x6 x7 r k) (fun k => ?_) (fun k => ?_) (fun k => ?_) n
  · exact View.ld_unit_apply_of x6 _ _ _ _ _ (fun a => by fin_cases a <;> exact (Nat.zero_add _).symm)
  · exact View.ld_unit_apply_of x5 _ _ _ _ _ (fun a => by fin_cases a <;> first | exact (Nat.zero_add _).symm | rfl)
  · exact View.ld_unit_apply_of x5 _ _ _ _ _ (fun a => by fin_cases a <;> first | exact (Nat.zero_add _).symm | rfl)

/-- The first output's block. -/
theorem out8_at (x0 : Vec Ideal S1024x512 .bf16) (x1 : Vec Ideal S1024x512 .f32) (x2 : Vec Ideal S1024x512 .f32) (x3 : Vec Ideal S1024x512 .f32) (x4 : Vec Ideal S1024x1024 .f32) (x5 : Vec Ideal S1x6x1024 .f32) (x6 : Vec Ideal S1x1024 .f32) (x7 : Vec Ideal S1024x1024 .bf16) (r n : Fin 1024) :
    (out0_8 x0 x1 x2 x3 x4 x5 x6 x7 (ix2 r n) : EReal)
      = stepped (fun k => x0 (ix2 r k)) (fun k => gated (x1 (ix2 r k)) (x2 (ix2 r k)) (x3 (ix2 r k))) (fun k n => x7 (ix2 k n)) (fun k => x4 (ix2 r k)) (fun k => x5 (ix3 0 2 k)) n := by
  have h : ∀ (p : Vec Ideal S1024x1024 .f32) (r n : Fin 1024), (View.canon [⟨r0_3, p⟩] : Vec Ideal S1024x1024 .f32) (ix2 r n) = p (ix2 r n) := fun p r n => by
    refine View.canon_apply_of_pieces (Val := Elt Ideal) p _ ?_ (ix2 r n) (cover0_8 _ (ix2 r n))
    intro pc hpc
    rcases List.mem_cons.mp hpc with rfl | hpc
    · intro x
      refine congrArg p (funext fun a => Fin.ext ?_)
      fin_cases a <;> exact ((Nat.zero_add _).trans (Nat.one_mul _)).symm
    · nomatch hpc
  exact (h (k0_pay2 (View.ld x1 r0_0) (View.ld x2 r0_0) (View.ld x3 r0_0) (View.ld x0 r0_0) (View.ld x7 r0_1) (View.ld x7 r0_2) (View.ld x4 r0_3) (View.ld x5 r0_4)) r n).trans (blockStep_at x0 x1 x2 x3 x4 x5 x6 x7 r n)

/-- The second output's block. -/
theorem out9_at (x0 : Vec Ideal S1024x512 .bf16) (x1 : Vec Ideal S1024x512 .f32) (x2 : Vec Ideal S1024x512 .f32) (x3 : Vec Ideal S1024x512 .f32) (x4 : Vec Ideal S1024x1024 .f32) (x5 : Vec Ideal S1x6x1024 .f32) (x6 : Vec Ideal S1x1024 .f32) (x7 : Vec Ideal S1024x1024 .bf16) (r n : Fin 1024) :
    (out0_9 x0 x1 x2 x3 x4 x5 x6 x7 (ix2 r n) : EReal)
      = normed (stepped (fun k => x0 (ix2 r k)) (fun k => gated (x1 (ix2 r k)) (x2 (ix2 r k)) (x3 (ix2 r k))) (fun k n => x7 (ix2 k n)) (fun k => x4 (ix2 r k)) (fun k => x5 (ix3 0 2 k))) (fun k => x6 (ix2 0 k)) (fun k => x5 (ix3 0 4 k)) (fun k => x5 (ix3 0 3 k)) n := by
  have h : ∀ (p : Vec Ideal S1024x1024 .bf16) (r n : Fin 1024), (View.canon [⟨r0_3, p⟩] : Vec Ideal S1024x1024 .bf16) (ix2 r n) = p (ix2 r n) := fun p r n => by
    refine View.canon_apply_of_pieces (Val := Elt Ideal) p _ ?_ (ix2 r n) (cover0_9 _ (ix2 r n))
    intro pc hpc
    rcases List.mem_cons.mp hpc with rfl | hpc
    · intro x
      refine congrArg p (funext fun a => Fin.ext ?_)
      fin_cases a <;> exact ((Nat.zero_add _).trans (Nat.one_mul _)).symm
    · nomatch hpc
  exact (h (k0_pay1 (k0_pay2 (View.ld x1 r0_0) (View.ld x2 r0_0) (View.ld x3 r0_0) (View.ld x0 r0_0) (View.ld x7 r0_1) (View.ld x7 r0_2) (View.ld x4 r0_3) (View.ld x5 r0_4)) (View.ld x6 r0_5) (View.ld x5 r0_6) (View.ld x5 r0_7)) r n).trans (blockFed_at x0 x1 x2 x3 x4 x5 x6 x7 r n)

/-! The grid: point `t` takes rows `1024 t` and on; the first 32 points are latent rows, eight to a batch, and the last is all the context
rows. -/

/-- The modulation a point's rows take: their batch's, or the context's. -/
def modOf (t : ℕ) : ℕ := if t < 32 then t / 8 else 4

theorem point_lt (t : Fin cfg0.N) : t.val < 33 := t.isLt
theorem modOf_lt (t : Fin cfg0.N) : modOf t.val < 8 := by
  unfold modOf; split <;> omega

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![modOf t.val, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel
theorem flush8 : ∀ t : Fin cfg0.N, (cfg0.win 8).flush t = true := by decide +kernel
theorem flush9 : ∀ t : Fin cfg0.N, (cfg0.win 9).flush t = true := by decide +kernel

variable {F : FTy → Type} [FloatOps F]
variable (m : (ℓ : Loc nD τ sig) → Buf (Elt F) ℓ)

theorem blk0_at (c : Dev nD) (t : Fin cfg0.N) (r : Fin 1024) (d : Fin 512) :
    (iblk m c 0 t : Vec F S1024x512 .bf16) (ix2 r d)
      = (V m c main_v6 : Vec F S33792x512 .bf16) (ix2 ⟨1024 * t.val + r.val, by have := point_lt t; omega⟩ d) := by
  blk_ext [iblk, idx0 t]

theorem blk1_at (c : Dev nD) (t : Fin cfg0.N) (r : Fin 1024) (d : Fin 512) :
    (iblk m c 1 t : Vec F S1024x512 .f32) (ix2 r d)
      = (V m c main_v9 : Vec F S33792x512 .f32) (ix2 ⟨1024 * t.val + r.val, by have := point_lt t; omega⟩ d) := by
  blk_ext [iblk, idx1 t]

theorem blk2_at (c : Dev nD) (t : Fin cfg0.N) (r : Fin 1024) (d : Fin 512) :
    (iblk m c 2 t : Vec F S1024x512 .f32) (ix2 r d)
      = (V m c main_v12 : Vec F S33792x512 .f32) (ix2 ⟨1024 * t.val + r.val, by have := point_lt t; omega⟩ d) := by
  blk_ext [iblk, idx2 t]

theorem blk3_at (c : Dev nD) (t : Fin cfg0.N) (r : Fin 1024) (d : Fin 512) :
    (iblk m c 3 t : Vec F S1024x512 .f32) (ix2 r d)
      = (V m c main_v15 : Vec F S33792x512 .f32) (ix2 ⟨1024 * t.val + r.val, by have := point_lt t; omega⟩ d) := by
  blk_ext [iblk, idx3 t]

theorem blk4_at (c : Dev nD) (t : Fin cfg0.N) (r : Fin 1024) (d : Fin 1024) :
    (iblk m c 4 t : Vec F S1024x1024 .f32) (ix2 r d)
      = (V m c main_v18 : Vec F S33792x1024 .f32) (ix2 ⟨1024 * t.val + r.val, by have := point_lt t; omega⟩ d) := by
  blk_ext [iblk, idx4 t]

theorem blk5_at (c : Dev nD) (t : Fin cfg0.N) (j : Fin 6) (d : Fin 1024) :
    (iblk m c 5 t : Vec F S1x6x1024 .f32) (ix3 0 j d)
      = (V m c main_v2 : Vec F S8x6x1024 .f32) (ix3 ⟨modOf t.val, modOf_lt t⟩ j d) := by
  blk_ext [iblk, idx5 t]

theorem blk6_at (c : Dev nD) (t : Fin cfg0.N) (d : Fin 1024) :
    (iblk m c 6 t : Vec F S1x1024 .f32) (ix2 0 d) = (V m c main_v19 : Vec F S1x1024 .f32) (ix2 0 d) := by
  blk_ext [iblk, idx6 t]

theorem blk7_at (c : Dev nD) (t : Fin cfg0.N) (k : Fin 1024) (d : Fin 1024) :
    (iblk m c 7 t : Vec F S1024x1024 .bf16) (ix2 k d) = (V m c main_v20 : Vec F S1024x1024 .bf16) (ix2 k d) := by
  blk_ext [iblk, idx7 t]

/-! What the two output arrays end holding: at every row what the row's point left in the output's buffer. -/

theorem arr8_at (c : Dev nD) (t : Fin cfg0.N) (r : Fin 1024) (d : Fin 1024) :
    ((dats m 0 c).arrAt 8 cfg0.N : Vec F S33792x1024 .f32) (ix2 ⟨1024 * t.val + r.val, by have := point_lt t; omega⟩ d)
      = out0_8 (iblk m c 0 t) (iblk m c 1 t) (iblk m c 2 t) (iblk m c 3 t) (iblk m c 4 t) (iblk m c 5 t) (iblk m c 6 t) (iblk m c 7 t) (ix2 r d) := by
  have h := congrFun ((Value.blocks8 m c t (flush8 t)).trans (Value.flushed8 m c t)) (ix2 r d)
  refine Eq.trans ?_ h
  symm
  blk_ext [idx8 t]

theorem arr9_at (c : Dev nD) (t : Fin cfg0.N) (r : Fin 1024) (d : Fin 1024) :
    ((dats m 0 c).arrAt 9 cfg0.N : Vec F S33792x1024 .bf16) (ix2 ⟨1024 * t.val + r.val, by have := point_lt t; omega⟩ d)
      = out0_9 (iblk m c 0 t) (iblk m c 1 t) (iblk m c 2 t) (iblk m c 3 t) (iblk m c 4 t) (iblk m c 5 t) (iblk m c 6 t) (iblk m c 7 t) (ix2 r d) := by
  have h := congrFun ((Value.blocks9 m c t (flush9 t)).trans (Value.flushed9 m c t)) (ix2 r d)
  refine Eq.trans ?_ h
  symm
  blk_ext [idx9 t]

end Cert.Kernel5Ideal.PostRec

end
-- ==== Proof.RecOutHost.lean ====
/- What the arrays hold that the recurrence layer's output projection is given: the host's rows, modulations and weights, read at an index. -/
module

public import Idealize.ShloMosaic.Lib.StableHlo.RunRead
public import proofs.«01_k».proof.Proof.RecOutBlock

@[expose] public section

noncomputable section

namespace Cert.Kernel5Ideal.PostRec

open Idealize.ShloMosaic Idealize.ShloMosaic.TcCoe
open Cert.Kernel5Ideal Cert.Kernel5Ideal.Gen Cert.PreAttn Cert.Post

variable (m : (ℓ : Loc nD τ sig) → Buf (Elt Ideal) ℓ)

/-- Row `s` of batch `b`, latent. -/
def rowL (b : Fin 4) (s : Fin 8192) : Fin 33792 := ⟨8192 * b.val + s.val, by omega⟩
/-- Row `l` of batch `b`, context. -/
def rowC (b : Fin 4) (l : Fin 256) : Fin 33792 := ⟨32768 + (256 * b.val + l.val), by omega⟩

/-- An array of numbers at an index, as an extended real. -/
abbrev rdF (s : Shape) (v : Vec Ideal s .f32) (i : s.Idx) : EReal := v i
/-- The same of an array in the kernel's operand type. -/
abbrev rdH (s : Shape) (v : Vec Ideal s .bf16) (i : s.Idx) : EReal := v i

section Layout

variable {α : Type}

theorem rows_latent (x : S32768x1024.Idx → α) (y : S1024x1024.Idx → α) (w) (b : Fin 4) (s : Fin 8192) (k : Fin 1024) :
    concatenate S33792x1024 0 [⟨S32768x1024, x⟩, ⟨S1024x1024, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem rows_context (x : S32768x1024.Idx → α) (y : S1024x1024.Idx → α) (w) (b : Fin 4) (l : Fin 256) (k : Fin 1024) :
    concatenate S33792x1024 0 [⟨S32768x1024, x⟩, ⟨S1024x1024, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem flat_latent (v : S4x8192x1024.Idx → α) (b : Fin 4) (s : Fin 8192) (k : Fin 1024) (w) :
    shapeCast S32768x1024 v w (ix2 ⟨8192 * b.val + s.val, by omega⟩ k) = v (ix3 b s k) :=
  shapeCast_apply v w _ _ (by
    rewrite [Shape.rowMajor_val_three, Shape.rowMajor_val_two]
    show (b.val * 8192 + s.val) * 1024 + k.val = (8192 * b.val + s.val) * 1024 + k.val
    omega)

theorem flat_context (v : S4x256x1024.Idx → α) (b : Fin 4) (l : Fin 256) (k : Fin 1024) (w) :
    shapeCast S1024x1024 v w (ix2 ⟨256 * b.val + l.val, by omega⟩ k) = v (ix3 b l k) :=
  shapeCast_apply v w _ _ (by
    rewrite [Shape.rowMajor_val_three, Shape.rowMajor_val_two]
    show (b.val * 256 + l.val) * 1024 + k.val = (256 * b.val + l.val) * 1024 + k.val
    omega)

theorem halfRows_latent (x : S32768x512.Idx → α) (y : S1024x512.Idx → α) (w) (b : Fin 4) (s : Fin 8192) (k : Fin 512) :
    concatenate S33792x512 0 [⟨S32768x512, x⟩, ⟨S1024x512, y⟩] w (ix2 (rowL b s) k) = x (ix2 ⟨8192 * b.val + s.val, by omega⟩ k) :=
  concatenate_pair_apply_left 0 x y w _ rfl _ (fun a => by match a with | ⟨0, _⟩ => rfl | ⟨1, _⟩ => rfl)

theorem halfRows_context (x : S32768x512.Idx → α) (y : S1024x512.Idx → α) (w) (b : Fin 4) (l : Fin 256) (k : Fin 512) :
    concatenate S33792x512 0 [⟨S32768x512, x⟩, ⟨S1024x512, y⟩] w (ix2 (rowC b l) k) = y (ix2 ⟨256 * b.val + l.val, by omega⟩ k) :=
  concatenate_pair_apply_right 0 x y w _ rfl rfl _ (fun a ha => by match a with | ⟨0, _⟩ => exact absurd rfl ha | ⟨1, _⟩ => rfl)
    (by show 256 * b.val + l.val + 32768 = 32768 + (256 * b.val + l.val); omega)

theorem halfFlat_latent (v : S4x8192x512.Idx → α) (b : Fin 4) (s : Fin 8192) (k : Fin 512) (w) :
    shapeCast S32768x512 v w (ix2 ⟨8192 * b.val + s.val, by omega⟩ k) = v (ix3 b s k) :=
  shapeCast_apply v w _ _ (by
    rewrite [Shape.rowMajor_val_three, Shape.rowMajor_val_two]
    show (b.val * 8192 + s.val) * 512 + k.val = (8192 * b.val + s.val) * 512 + k.val
    omega)

theorem halfFlat_context (v : S4x256x512.Idx → α) (b : Fin 4) (l : Fin 256) (k : Fin 512) (w) :
    shapeCast S1024x512 v w (ix2 ⟨256 * b.val + l.val, by omega⟩ k) = v (ix3 b l k) :=
  shapeCast_apply v w _ _ (by
    rewrite [Shape.rowMajor_val_three, Shape.rowMajor_val_two]
    show (b.val * 256 + l.val) * 512 + k.val = (256 * b.val + l.val) * 512 + k.val
    omega)

/-- The modulations: the four batches' and then the context's. -/
theorem mods_latent (x : S4x6x1024.Idx → α) (y : S1x6x1024.Idx → α) (z : S3x6x1024.Idx → α) (w) (b : Fin 4) (j : Fin 6) (k : Fin 1024) :
    concatenate S8x6x1024 0 [⟨S4x6x1024, x⟩, ⟨S1x6x1024, y⟩, ⟨S3x6x1024, z⟩] w (ix3 ⟨b.val, by omega⟩ j k) = x (ix3 b j k) := by
  refine concatenate_apply_piece 0 _ w _ 0 (by simp) S4x6x1024 x rfl rfl 0 rfl (ix3 b j k) ?_ ?_
  · exact fun a ha => by match a with | ⟨0, _⟩ => exact absurd rfl ha | ⟨1, _⟩ => rfl | ⟨2, _⟩ => rfl
  · exact Nat.zero_add _

theorem mods_context (x : S4x6x1024.Idx → α) (y : S1x6x1024.Idx → α) (z : S3x6x1024.Idx → α) (w) (j : Fin 6) (k : Fin 1024) :
    concatenate S8x6x1024 0 [⟨S4x6x1024, x⟩, ⟨S1x6x1024, y⟩, ⟨S3x6x1024, z⟩] w (ix3 4 j k) = y (ix3 0 j k) := by
  refine concatenate_apply_piece 0 _ w _ 1 (by simp) S1x6x1024 y rfl rfl 4 rfl (ix3 0 j k) ?_ ?_
  · exact fun a ha => by match a with | ⟨0, _⟩ => exact absurd rfl ha | ⟨1, _⟩ => rfl | ⟨2, _⟩ => rfl
  · rfl

theorem lift_mod (v : S6x1024.Idx → α) (j : Fin 6) (k : Fin 1024) (w) : broadcastInDim S1x6x1024 ![1, 2] w v (ix3 0 j k) = v (ix2 j k) := by
  pointwise

theorem lift_norm (v : S1024.Idx → α) (k : Fin 1024) (w) : broadcastInDim S1x1024 ![1] w v (ix2 0 k) = v (ix1 k) := by
  pointwise

end Layout

set_option maxRecDepth 8000 in
set_option maxHeartbeats 1000000 in
theorem ps_lat (c : Dev nD) (b : Fin 4) (s : Fin 8192) (k : Fin 512) :
    rdH S33792x512 (V m c main_v6) (ix2 (rowL b s) k) = rdF S4x8192x512 (m ((c : Thread nD τ).loc main_arg0)) (ix3 b s k) := by
  unfold rdF rdH
  entry_read
  exact (halfRows_latent _ _ concatenates_S32768x512_S1024x512_S33792x512_d0 b s k).trans (halfFlat_latent _ b s k _)

set_option maxRecDepth 8000 in
set_option maxHeartbeats 1000000 in
theorem ps_ctx (c : Dev nD) (b : Fin 4) (s : Fin 256) (k : Fin 512) :
    rdH S33792x512 (V m c main_v6) (ix2 (rowC b s) k) = rdF S4x256x512 (m ((c : Thread nD τ).loc main_arg1)) (ix3 b s k) := by
  unfold rdF rdH
  entry_read
  exact (halfRows_context _ _ concatenates_S32768x512_S1024x512_S33792x512_d0 b s k).trans (halfFlat_context _ b s k _)

set_option maxRecDepth 8000 in
set_option maxHeartbeats 1000000 in
theorem fs_lat (c : Dev nD) (b : Fin 4) (s : Fin 8192) (k : Fin 512) :
    rdF S33792x512 (V m c main_v9) (ix2 (rowL b s) k) = rdF S4x8192x512 (m ((c : Thread nD τ).loc main_arg2)) (ix3 b s k) := by
  unfold rdF
  entry_read
  exact (halfRows_latent _ _ concatenates_S32768x512_S1024x512_S33792x512_d0 b s k).trans (halfFlat_latent _ b s k _)

set_option maxRecDepth 8000 in
set_option maxHeartbeats 1000000 in
theorem fs_ctx (c : Dev nD) (b : Fin 4) (s : Fin 256) (k : Fin 512) :
    rdF S33792x512 (V m c main_v9) (ix2 (rowC b s) k) = rdF S4x256x512 (m ((c : Thread nD τ).loc main_arg3)) (ix3 b s k) := by
  unfold rdF
  entry_read
  exact (halfRows_context _ _ concatenates_S32768x512_S1024x512_S33792x512_d0 b s k).trans (halfFlat_context _ b s k _)

set_option maxRecDepth 8000 in
set_option maxHeartbeats 1000000 in
theorem rs_lat (c : Dev nD) (b : Fin 4) (s : Fin 8192) (k : Fin 512) :
    rdF S33792x512 (V m c main_v12) (ix2 (rowL b s) k) = rdF S4x8192x512 (m ((c : Thread nD τ).loc main_arg4)) (ix3 b s k) := by
  unfold rdF
  entry_read
  exact (halfRows_latent _ _ concatenates_S32768x512_S1024x512_S33792x512_d0 b s k).trans (halfFlat_latent _ b s k _)

set_option maxRecDepth 8000 in
set_option maxHeartbeats 1000000 in
theorem rs_ctx (c : Dev nD) (b : Fin 4) (s : Fin 256) (k : Fin 512) :
    rdF S33792x512 (V m c main_v12) (ix2 (rowC b s) k) = rdF S4x256x512 (m ((c : Thread nD τ).loc main_arg5)) (ix3 b s k) := by
  unfold rdF
  entry_read
  exact (halfRows_context _ _ concatenates_S32768x512_S1024x512_S33792x512_d0 b s k).trans (halfFlat_context _ b s k _)

set_option maxRecDepth 8000 in
set_option maxHeartbeats 1000000 in
theorem gs_lat (c : Dev nD) (b : Fin 4) (s : Fin 8192) (k : Fin 512) :
    rdF S33792x512 (V m c main_v15) (ix2 (rowL b s) k) = rdF S4x8192x512 (m ((c : Thread nD τ).loc main_arg6)) (ix3 b s k) := by
  unfold rdF
  entry_read
  exact (halfRows_latent _ _ concatenates_S32768x512_S1024x512_S33792x512_d0 b s k).trans (halfFlat_latent _ b s k _)

set_option maxRecDepth 8000 in
set_option maxHeartbeats 1000000 in
theorem gs_ctx (c : Dev nD) (b : Fin 4) (s : Fin 256) (k : Fin 512) :
    rdF S33792x512 (V m c main_v15) (ix2 (rowC b s) k) = rdF S4x256x512 (m ((c : Thread nD τ).loc main_arg7)) (ix3 b s k) := by
  unfold rdF
  entry_read
  exact (halfRows_context _ _ concatenates_S32768x512_S1024x512_S33792x512_d0 b s k).trans (halfFlat_context _ b s k _)

set_option maxRecDepth 8000 in
set_option maxHeartbeats 1000000 in
theorem xs_lat (c : Dev nD) (b : Fin 4) (s : Fin 8192) (k : Fin 1024) :
    rdF S33792x1024 (V m c main_v18) (ix2 (rowL b s) k) = rdF S4x8192x1024 (m ((c : Thread nD τ).loc main_arg8)) (ix3 b s k) := by
  unfold rdF
  entry_read
  exact (rows_latent _ _ concatenates_S32768x1024_S1024x1024_S33792x1024_d0 b s k).trans (flat_latent _ b s k _)

set_option maxRecDepth 8000 in
set_option maxHeartbeats 1000000 in
theorem xs_ctx (c : Dev nD) (b : Fin 4) (s : Fin 256) (k : Fin 1024) :
    rdF S33792x1024 (V m c main_v18) (ix2 (rowC b s) k) = rdF S4x256x1024 (m ((c : Thread nD τ).loc main_arg9)) (ix3 b s k) := by
  unfold rdF
  entry_read
  exact (rows_context _ _ concatenates_S32768x1024_S1024x1024_S33792x1024_d0 b s k).trans (flat_context _ b s k _)

set_option maxRecDepth 8000 in
set_option maxHeartbeats 1000000 in
theorem mod_lat (c : Dev nD) (b : Fin 4) (j : Fin 6) (k : Fin 1024) :
    rdF S8x6x1024 (V m c main_v2) (ix3 ⟨b.val, by omega⟩ j k) = rdF S4x6x1024 (m ((c : Thread nD τ).loc main_arg10)) (ix3 b j k) := by
  unfold rdF
  after_reads_simp
  exact mods_latent _ _ _ concatenates_S4x6x1024_S1x6x1024_S3x6x1024_S8x6x1024_d0 b j k

set_option maxRecDepth 8000 in
set_option maxHeartbeats 1000000 in
theorem mod_ctx (c : Dev nD) (j : Fin 6) (k : Fin 1024) :
    rdF S8x6x1024 (V m c main_v2) (ix3 4 j k) = rdF S6x1024 (m ((c : Thread nD τ).loc main_arg11)) (ix2 j k) := by
  unfold rdF
  after_reads_simp
  refine (mods_context _ _ _ concatenates_S4x6x1024_S1x6x1024_S3x6x1024_S8x6x1024_d0 j k).trans ?_
  refine (congrFun (StableHlo.unary_result _ _ _ _ _ _) _).trans ?_
  refine (lift_mod _ j k bcast_S6x1024_S1x6x1024_1_2).trans ?_
  after_reads_simp

theorem norm_at (c : Dev nD) (k : Fin 1024) :
    rdF S1x1024 (V m c main_v19) (ix2 0 k) = rdF S1024 (m ((c : Thread nD τ).loc main_arg12)) (ix1 k) := by
  unfold rdF
  entry_read
  exact lift_norm _ k _

theorem weight_at (c : Dev nD) (k : Fin 1024) (d : Fin 1024) :
    rdH S1024x1024 (V m c main_v20) (ix2 k d) = rdF S1024x1024 (m ((c : Thread nD τ).loc main_arg13)) (ix2 k d) := by
  unfold rdF rdH
  entry_read
  rfl

end Cert.Kernel5Ideal.PostRec

end
-- ==== Proof.RecOutKernel.lean ====
/- The two output arrays of the recurrence layer's output projection at every index, in terms of the arguments. -/
module

public import proofs.«01_k».proof.Proof.RecOutBlock
public import proofs.«01_k».proof.Proof.RecOutHost

@[expose] public section

noncomputable section

namespace Cert.Kernel5Ideal.PostRec

open Idealize.ShloMosaic Idealize.ShloMosaic.TcCoe
open Cert.Kernel5Ideal Cert.Kernel5Ideal.Gen Cert.PreAttn Cert.Post

variable (m : (ℓ : Loc nD τ sig) → Buf (Elt Ideal) ℓ) (c : Dev nD)

/-- A latent row with the gated product added, of the arguments. -/
def lat : Fin 4 → Fin 8192 → Fin 1024 → EReal :=
  latS (fun b s k => rdF S4x8192x512 (m ((c : Thread nD τ).loc main_arg0)) (ix3 b s k))
    (fun b s k => gated (rdF S4x8192x512 (m ((c : Thread nD τ).loc main_arg2)) (ix3 b s k)) (rdF S4x8192x512 (m ((c : Thread nD τ).loc main_arg4)) (ix3 b s k)) (rdF S4x8192x512 (m ((c : Thread nD τ).loc main_arg6)) (ix3 b s k)))
    (fun k n => rdF S1024x1024 (m ((c : Thread nD τ).loc main_arg13)) (ix2 k n))
    (fun b s k => rdF S4x8192x1024 (m ((c : Thread nD τ).loc main_arg8)) (ix3 b s k)) (fun b j k => rdF S4x6x1024 (m ((c : Thread nD τ).loc main_arg10)) (ix3 b j k))
/-- A context row with the gated product added, of the arguments. -/
def ctx : Fin 4 → Fin 256 → Fin 1024 → EReal :=
  ctxS (fun b s k => rdF S4x256x512 (m ((c : Thread nD τ).loc main_arg1)) (ix3 b s k))
    (fun b s k => gated (rdF S4x256x512 (m ((c : Thread nD τ).loc main_arg3)) (ix3 b s k)) (rdF S4x256x512 (m ((c : Thread nD τ).loc main_arg5)) (ix3 b s k)) (rdF S4x256x512 (m ((c : Thread nD τ).loc main_arg7)) (ix3 b s k)))
    (fun k n => rdF S1024x1024 (m ((c : Thread nD τ).loc main_arg13)) (ix2 k n))
    (fun b s k => rdF S4x256x1024 (m ((c : Thread nD τ).loc main_arg9)) (ix3 b s k)) (fun j k => rdF S6x1024 (m ((c : Thread nD τ).loc main_arg11)) (ix2 j k))
/-- What the next part reads of them. -/
def latN (b : Fin 4) (s : Fin 8192) : Fin 1024 → EReal :=
  normed (lat m c b s) (fun k => rdF S1024 (m ((c : Thread nD τ).loc main_arg12)) (ix1 k)) (fun k => rdF S4x6x1024 (m ((c : Thread nD τ).loc main_arg10)) (ix3 b 4 k)) (fun k => rdF S4x6x1024 (m ((c : Thread nD τ).loc main_arg10)) (ix3 b 3 k))
def ctxN (b : Fin 4) (s : Fin 256) : Fin 1024 → EReal :=
  normed (ctx m c b s) (fun k => rdF S1024 (m ((c : Thread nD τ).loc main_arg12)) (ix1 k)) (fun k => rdF S6x1024 (m ((c : Thread nD τ).loc main_arg11)) (ix2 4 k)) (fun k => rdF S6x1024 (m ((c : Thread nD τ).loc main_arg11)) (ix2 3 k))

section Latent

variable (b : Fin 4) (s : Fin 8192) (t : Fin cfg0.N) (ht : t.val = 8 * b.val + s.val / 1024) (r : Fin 1024) (hr : r.val = s.val % 1024)
include ht hr

omit hr in
theorem latMod : modOf t.val = b.val := by unfold modOf; rw [if_pos (by omega)]; omega
theorem latRow (h : 1024 * t.val + r.val < 33792) : (⟨1024 * t.val + r.val, h⟩ : Fin 33792) = rowL b s :=
  Fin.ext (by show 1024 * t.val + r.val = 8192 * b.val + s.val; omega)

theorem latStep (n : Fin 1024) :
    stepped (fun k => (iblk m c 0 t) (ix2 r k)) (fun k => gated ((iblk m c 1 t) (ix2 r k)) ((iblk m c 2 t) (ix2 r k)) ((iblk m c 3 t) (ix2 r k))) (fun k n => (iblk m c 7 t) (ix2 k n)) (fun k => (iblk m c 4 t) (ix2 r k)) (fun k => (iblk m c 5 t) (ix3 0 2 k)) n = lat m c b s n := by
  have hm : (⟨modOf t.val, modOf_lt t⟩ : Fin 8) = ⟨b.val, by omega⟩ := Fin.ext (latMod b s t ht)
  unfold lat latS
  refine stepped_congr ?_ ?_ ?_ ?_ ?_ n
  · exact fun k => (blk0_at m c t r k).trans ((congrArg (fun i => rdH S33792x512 (V m c main_v6) (ix2 i k)) (latRow b s t ht r hr _)).trans (ps_lat m c b s k))
  · exact by
      intro k
      have h1 : (iblk m c 1 t (ix2 r k) : EReal) = _ := (blk1_at m c t r k).trans ((congrArg (fun i => rdF S33792x512 (V m c main_v9) (ix2 i k)) (latRow b s t ht r hr _)).trans (fs_lat m c b s k))
      have h2 : (iblk m c 2 t (ix2 r k) : EReal) = _ := (blk2_at m c t r k).trans ((congrArg (fun i => rdF S33792x512 (V m c main_v12) (ix2 i k)) (latRow b s t ht r hr _)).trans (rs_lat m c b s k))
      have h3 : (iblk m c 3 t (ix2 r k) : EReal) = _ := (blk3_at m c t r k).trans ((congrArg (fun i => rdF S33792x512 (V m c main_v15) (ix2 i k)) (latRow b s t ht r hr _)).trans (gs_lat m c b s k))
      rw [h1, h2, h3]
  · exact fun k n => (blk7_at m c t k n).trans (weight_at m c k n)
  · exact fun k => (blk4_at m c t r k).trans ((congrArg (fun i => rdF S33792x1024 (V m c main_v18) (ix2 i k)) (latRow b s t ht r hr _)).trans (xs_lat m c b s k))
  · exact fun k => (blk5_at m c t 2 k).trans ((congrArg (fun i => rdF S8x6x1024 (V m c main_v2) (ix3 i 2 k)) hm).trans (mod_lat m c b 2 k))

theorem latBlock1 (n : Fin 1024) : (out0_8 (iblk m c 0 t) (iblk m c 1 t) (iblk m c 2 t) (iblk m c 3 t) (iblk m c 4 t) (iblk m c 5 t) (iblk m c 6 t) (iblk m c 7 t) (ix2 r n) : EReal) = lat m c b s n :=
  (out8_at (iblk m c 0 t) (iblk m c 1 t) (iblk m c 2 t) (iblk m c 3 t) (iblk m c 4 t) (iblk m c 5 t) (iblk m c 6 t) (iblk m c 7 t) r n).trans (latStep m c b s t ht r hr n)

theorem latBlock2 (n : Fin 1024) : (out0_9 (iblk m c 0 t) (iblk m c 1 t) (iblk m c 2 t) (iblk m c 3 t) (iblk m c 4 t) (iblk m c 5 t) (iblk m c 6 t) (iblk m c 7 t) (ix2 r n) : EReal) = latN m c b s n := by
  have hm : (⟨modOf t.val, modOf_lt t⟩ : Fin 8) = ⟨b.val, by omega⟩ := Fin.ext (latMod b s t ht)
  refine (out9_at (iblk m c 0 t) (iblk m c 1 t) (iblk m c 2 t) (iblk m c 3 t) (iblk m c 4 t) (iblk m c 5 t) (iblk m c 6 t) (iblk m c 7 t) r n).trans ?_
  unfold latN
  refine normed_congr (fun k => latStep m c b s t ht r hr k) ?_ ?_ ?_ n
  · exact fun k => (blk6_at m c t k).trans (norm_at m c k)
  · exact fun k => (blk5_at m c t 4 k).trans ((congrArg (fun i => rdF S8x6x1024 (V m c main_v2) (ix3 i 4 k)) hm).trans (mod_lat m c b 4 k))
  · exact fun k => (blk5_at m c t 3 k).trans ((congrArg (fun i => rdF S8x6x1024 (V m c main_v2) (ix3 i 3 k)) hm).trans (mod_lat m c b 3 k))

end Latent

section Context

variable (b : Fin 4) (s : Fin 256) (t : Fin cfg0.N) (ht : t.val = 32) (r : Fin 1024) (hr : r.val = 256 * b.val + s.val)
include ht hr

omit hr in
theorem ctxMod : modOf t.val = 4 := by unfold modOf; rw [if_neg (by omega)]
theorem ctxRow (h : 1024 * t.val + r.val < 33792) : (⟨1024 * t.val + r.val, h⟩ : Fin 33792) = rowC b s :=
  Fin.ext (by show 1024 * t.val + r.val = 32768 + (256 * b.val + s.val); omega)

theorem ctxStep (n : Fin 1024) :
    stepped (fun k => (iblk m c 0 t) (ix2 r k)) (fun k => gated ((iblk m c 1 t) (ix2 r k)) ((iblk m c 2 t) (ix2 r k)) ((iblk m c 3 t) (ix2 r k))) (fun k n => (iblk m c 7 t) (ix2 k n)) (fun k => (iblk m c 4 t) (ix2 r k)) (fun k => (iblk m c 5 t) (ix3 0 2 k)) n = ctx m c b s n := by
  have hm : (⟨modOf t.val, modOf_lt t⟩ : Fin 8) = 4 := Fin.ext (ctxMod t ht)
  unfold ctx ctxS
  refine stepped_congr ?_ ?_ ?_ ?_ ?_ n
  · exact fun k => (blk0_at m c t r k).trans ((congrArg (fun i => rdH S33792x512 (V m c main_v6) (ix2 i k)) (ctxRow b s t ht r hr _)).trans (ps_ctx m c b s k))
  · exact by
      intro k
      have h1 : (iblk m c 1 t (ix2 r k) : EReal) = _ := (blk1_at m c t r k).trans ((congrArg (fun i => rdF S33792x512 (V m c main_v9) (ix2 i k)) (ctxRow b s t ht r hr _)).trans (fs_ctx m c b s k))
      have h2 : (iblk m c 2 t (ix2 r k) : EReal) = _ := (blk2_at m c t r k).trans ((congrArg (fun i => rdF S33792x512 (V m c main_v12) (ix2 i k)) (ctxRow b s t ht r hr _)).trans (rs_ctx m c b s k))
      have h3 : (iblk m c 3 t (ix2 r k) : EReal) = _ := (blk3_at m c t r k).trans ((congrArg (fun i => rdF S33792x512 (V m c main_v15) (ix2 i k)) (ctxRow b s t ht r hr _)).trans (gs_ctx m c b s k))
      rw [h1, h2, h3]
  · exact fun k n => (blk7_at m c t k n).trans (weight_at m c k n)
  · exact fun k => (blk4_at m c t r k).trans ((congrArg (fun i => rdF S33792x1024 (V m c main_v18) (ix2 i k)) (ctxRow b s t ht r hr _)).trans (xs_ctx m c b s k))
  · exact fun k => (blk5_at m c t 2 k).trans ((congrArg (fun i => rdF S8x6x1024 (V m c main_v2) (ix3 i 2 k)) hm).trans (mod_ctx m c 2 k))

theorem ctxBlock1 (n : Fin 1024) : (out0_8 (iblk m c 0 t) (iblk m c 1 t) (iblk m c 2 t) (iblk m c 3 t) (iblk m c 4 t) (iblk m c 5 t) (iblk m c 6 t) (iblk m c 7 t) (ix2 r n) : EReal) = ctx m c b s n :=
  (out8_at (iblk m c 0 t) (iblk m c 1 t) (iblk m c 2 t) (iblk m c 3 t) (iblk m c 4 t) (iblk m c 5 t) (iblk m c 6 t) (iblk m c 7 t) r n).trans (ctxStep m c b s t ht r hr n)

theorem ctxBlock2 (n : Fin 1024) : (out0_9 (iblk m c 0 t) (iblk m c 1 t) (iblk m c 2 t) (iblk m c 3 t) (iblk m c 4 t) (iblk m c 5 t) (iblk m c 6 t) (iblk m c 7 t) (ix2 r n) : EReal) = ctxN m c b s n := by
  have hm : (⟨modOf t.val, modOf_lt t⟩ : Fin 8) = 4 := Fin.ext (ctxMod t ht)
  refine (out9_at (iblk m c 0 t) (iblk m c 1 t) (iblk m c 2 t) (iblk m c 3 t) (iblk m c 4 t) (iblk m c 5 t) (iblk m c 6 t) (iblk m c 7 t) r n).trans ?_
  unfold ctxN
  refine normed_congr (fun k => ctxStep m c b s t ht r hr k) ?_ ?_ ?_ n
  · exact fun k => (blk6_at m c t k).trans (norm_at m c k)
  · exact fun k => (blk5_at m c t 4 k).trans ((congrArg (fun i => rdF S8x6x1024 (V m c main_v2) (ix3 i 4 k)) hm).trans (mod_ctx m c 4 k))
  · exact fun k => (blk5_at m c t 3 k).trans ((congrArg (fun i => rdF S8x6x1024 (V m c main_v2) (ix3 i 3 k)) hm).trans (mod_ctx m c 3 k))

end Context

/-- The grid point and the row within its block of a latent row. -/
def ptL (b : Fin 4) (s : Fin 8192) : Fin cfg0.N := ⟨8 * b.val + s.val / 1024, by show _ < 33; omega⟩
def inL (s : Fin 8192) : Fin 1024 := ⟨s.val % 1024, Nat.mod_lt _ (by decide)⟩
/-- The context's grid point, and the row within its block. -/
def ptC : Fin cfg0.N := ⟨32, by show _ < 33; omega⟩
def inC (b : Fin 4) (l : Fin 256) : Fin 1024 := ⟨256 * b.val + l.val, by omega⟩

theorem res8_lat (b : Fin 4) (s : Fin 8192) (d : Fin 1024) : rdF S33792x1024 ((dats m 0 c).arrAt 8 cfg0.N) (ix2 (rowL b s) d) = lat m c b s d := by
  refine (congrArg (fun i => rdF S33792x1024 ((dats m 0 c).arrAt 8 cfg0.N) (ix2 i d)) (latRow b s (ptL b s) rfl (inL s) rfl (by have := point_lt (ptL b s); omega)).symm).trans ?_
  exact (arr8_at m c (ptL b s) (inL s) d).trans (latBlock1 m c b s (ptL b s) rfl (inL s) rfl d)
theorem res8_ctx (b : Fin 4) (s : Fin 256) (d : Fin 1024) : rdF S33792x1024 ((dats m 0 c).arrAt 8 cfg0.N) (ix2 (rowC b s) d) = ctx m c b s d := by
  refine (congrArg (fun i => rdF S33792x1024 ((dats m 0 c).arrAt 8 cfg0.N) (ix2 i d)) (ctxRow b s ptC rfl (inC b s) rfl (by have := point_lt ptC; omega)).symm).trans ?_
  exact (arr8_at m c ptC (inC b s) d).trans (ctxBlock1 m c b s ptC rfl (inC b s) rfl d)

theorem res9_lat (b : Fin 4) (s : Fin 8192) (d : Fin 1024) : rdH S33792x1024 ((dats m 0 c).arrAt 9 cfg0.N) (ix2 (rowL b s) d) = latN m c b s d := by
  refine (congrArg (fun i => rdH S33792x1024 ((dats m 0 c).arrAt 9 cfg0.N) (ix2 i d)) (latRow b s (ptL b s) rfl (inL s) rfl (by have := point_lt (ptL b s); omega)).symm).trans ?_
  exact (arr9_at m c (ptL b s) (inL s) d).trans (latBlock2 m c b s (ptL b s) rfl (inL s) rfl d)
theorem res9_ctx (b : Fin 4) (s : Fin 256) (d : Fin 1024) : rdH S33792x1024 ((dats m 0 c).arrAt 9 cfg0.N) (ix2 (rowC b s) d) = ctxN m c b s d := by
  refine (congrArg (fun i => rdH S33792x1024 ((dats m 0 c).arrAt 9 cfg0.N) (ix2 i d)) (ctxRow b s ptC rfl (inC b s) rfl (by have := point_lt ptC; omega)).symm).trans ?_
  exact (arr9_at m c ptC (inC b s) d).trans (ctxBlock2 m c b s ptC rfl (inC b s) rfl d)

end Cert.Kernel5Ideal.PostRec

end
-- ==== Proof.RecOutRef.lean ====
/- The reference of the recurrence layer's output projection: its two results at every index, in terms of the arguments. -/
module

public import proofs.«01_k».proof.Proof.Gen.Reference5Ideal.Read
public import proofs.«01_k».proof.Proof.PostSpec
public import Idealize.ShloMosaic.Lib.Pointwise.Index
public import Idealize.ShloMosaic.Lib.Pipeline.Value
public import Idealize.ShloMosaic.PureOps.Reduce

@[expose] public section

noncomputable section

namespace Cert.Reference5Ideal.PostRec

open Idealize.ShloMosaic Idealize.ShloMosaic.TcCoe
open Cert.Reference5Ideal Cert.Reference5Ideal.Gen Cert.Reference5Ideal.Read Cert.PreAttn Cert.Post

variable (x0 : (⟨S4x8192x512, .f32⟩ : BufTy).Contents (Elt Ideal))
  (x1 : (⟨S4x256x512, .f32⟩ : BufTy).Contents (Elt Ideal))
  (x2 : (⟨S4x8192x512, .f32⟩ : BufTy).Contents (Elt Ideal))
  (x3 : (⟨S4x256x512, .f32⟩ : BufTy).Contents (Elt Ideal))
  (x4 : (⟨S4x8192x512, .f32⟩ : BufTy).Contents (Elt Ideal))
  (x5 : (⟨S4x256x512, .f32⟩ : BufTy).Contents (Elt Ideal))
  (x6 : (⟨S4x8192x512, .f32⟩ : BufTy).Contents (Elt Ideal))
  (x7 : (⟨S4x256x512, .f32⟩ : BufTy).Contents (Elt Ideal))
  (x8 : (⟨S4x8192x1024, .f32⟩ : BufTy).Contents (Elt Ideal))
  (x9 : (⟨S4x256x1024, .f32⟩ : BufTy).Contents (Elt Ideal))
  (x10 : (⟨S4x6x1024, .f32⟩ : BufTy).Contents (Elt Ideal))
  (x11 : (⟨S6x1024, .f32⟩ : BufTy).Contents (Elt Ideal))
  (x12 : (⟨S1024, .f32⟩ : BufTy).Contents (Elt Ideal))
  (x13 : (⟨S1024x1024, .f32⟩ : BufTy).Contents (Elt Ideal))

/-- A latent row with the gated product added, of the arguments, and what the next part reads of it. -/
def lat : Fin 4 → Fin 8192 → Fin 1024 → EReal :=
  latS (fun b s k => x0 (ix3 b s k)) (fun b s k => gated (x2 (ix3 b s k)) (x4 (ix3 b s k)) (x6 (ix3 b s k))) (fun k n => x13 (ix2 k n)) (fun b s k => x8 (ix3 b s k)) (fun b j k => x10 (ix3 b j k))
def latN (b : Fin 4) (s : Fin 8192) : Fin 1024 → EReal :=
  normed (lat x0 x2 x4 x6 x8 x10 x13 b s) (fun k => x12 (ix1 k)) (fun k => x10 (ix3 b 4 k)) (fun k => x10 (ix3 b 3 k))

theorem latGated (b : Fin 4) (s : Fin 8192) (k : Fin 512) : (val_main_v8 (F := Ideal) x2 x4 x6 (ix3 b s k) : EReal) = gated (x2 (ix3 b s k)) (x4 (ix3 b s k)) (x6 (ix3 b s k)) := by
  unfold gated
  rw [← gelu_compl, val_main_v8_apply, val_main_v0_apply, val_main_v7_apply, val_main_v2_apply, val_main_v1_apply, val_main_v6_apply, val_main_v5_apply, val_main_v3_apply, val_main_v4_apply]
  rfl

theorem latMixed (b : Fin 4) (s : Fin 8192) (n : Fin 1024) :
    (val_main_v10 (F := Ideal) x0 x2 x4 x6 x13 (ix3 b s n) : EReal) = mix (fun k => x0 (ix3 b s k)) (fun k => gated (x2 (ix3 b s k)) (x4 (ix3 b s k)) (x6 (ix3 b s k))) (fun k n => x13 (ix2 k n)) n := by
  have el : ∀ k, lidx_main_v10 (ix3 b s n) k = ix3 b s k := fun k => by funext a; fin_cases a <;> rfl
  have er : ∀ k, ridx_main_v10 (ix3 b s n) k = ix2 k n := fun k => by funext a; fin_cases a <;> rfl
  rw [val_main_v10_apply]
  simp only [el, er]
  refine mix_joined (fun k => val_main_v9 (F := Ideal) x0 x2 x4 x6 (ix3 b s k)) _ _ (fun k n => x13 (ix2 k n)) n (fun k => ?_) (fun k => ?_)
  · show val_main_v9 (F := Ideal) x0 x2 x4 x6 (ix3 b s (lo k)) = _
    unfold val_main_v9
    exact concatenate_pair_apply_left 2 _ _ concatenates_S4x8192x512_S4x8192x512_S4x8192x1024_d2 _ rfl (ix3 b s k) (fun a => by fin_cases a <;> rfl)
  · show val_main_v9 (F := Ideal) x0 x2 x4 x6 (ix3 b s (hi k)) = _
    unfold val_main_v9
    exact (concatenate_pair_apply_right 2 _ _ concatenates_S4x8192x512_S4x8192x512_S4x8192x1024_d2 _ rfl rfl (ix3 b s k)
      (fun a ha => by fin_cases a <;> first | rfl | exact absurd rfl ha) (by show k.val + 512 = 512 + k.val; omega)).trans (latGated x2 x4 x6 b s k)

theorem latStepped (b : Fin 4) (s : Fin 8192) (k : Fin 1024) : (val_main_v27 (F := Ideal) x0 x2 x4 x6 x8 x10 x13 (ix3 b s k) : EReal) = lat x0 x2 x4 x6 x8 x10 x13 b s k := by
  have e2 : idx_main_v22 (idx_main_v23 (idx_main_v24 (idx_main_v25 (ix3 b s k)))) = ix3 b 2 k := by
    funext a; fin_cases a <;> refine Fin.ext ?_
    · show (b.val * 1024 + k.val) / 1024 = b.val; omega
    · rfl
    · show (b.val * 1024 + k.val) % 1024 = k.val; omega
  rw [val_main_v27_apply, val_main_v26_apply, val_main_v25_apply, val_main_v24_apply, val_main_v23_apply, val_main_v22_apply, e2, latMixed]
  rfl

theorem latSquare (b : Fin 4) (s : Fin 8192) :
    (val_main_v29 (F := Ideal) x0 x2 x4 x6 x8 x10 x13 (ix2 b s) : EReal) = ∑ j, lat x0 x2 x4 x6 x8 x10 x13 b s j * lat x0 x2 x4 x6 x8 x10 x13 b s j := by
  have e : ∀ k, idx_main_v29 (ix2 b s) k = ix3 b s k := fun k => by funext a; fin_cases a <;> rfl
  rw [val_main_v29_apply]
  refine (congrArg (fun z : EReal => z + _) zero_word).trans ((zero_add _).trans (Finset.sum_congr rfl fun j _ => ?_))
  rw [e, val_main_v28_apply]
  exact congrArg₂ (fun y z : EReal => y * z) (latStepped x0 x2 x4 x6 x8 x10 x13 b s j) (latStepped x0 x2 x4 x6 x8 x10 x13 b s j)

theorem latRoot (b : Fin 4) (s : Fin 8192) :
    (val_main_v35 (F := Ideal) x0 x2 x4 x6 x8 x10 x13 (ix3 b s 0) : EReal)
      = Ideal.rsqrt (Ideal.div (∑ j, lat x0 x2 x4 x6 x8 x10 x13 b s j * lat x0 x2 x4 x6 x8 x10 x13 b s j) (Ideal.ofBits .f32 0x44800000#32) + Ideal.ofBits .f32 0x358637BD#32) := by
  have e : idx_main_v30 (ix3 b s 0) = ix2 b s := by funext a; fin_cases a <;> rfl
  rw [val_main_v35_apply, val_main_v34_apply, val_main_v32_apply, val_main_v30_apply, e, latSquare, val_main_v31_apply, val_main_v33_apply]
  rfl

theorem latNormed (b : Fin 4) (s : Fin 8192) (k : Fin 1024) : (val_main_v52 (F := Ideal) x0 x2 x4 x6 x8 x10 x12 x13 (ix3 b s k) : EReal) = latN x0 x2 x4 x6 x8 x10 x12 x13 b s k := by
  have e8 : idx_main_v36 (ix3 b s k) = ix3 b s 0 := by funext a; fin_cases a <;> rfl
  have ew : idx_main_v38 (idx_main_v39 (ix3 b s k)) = ix1 k := by funext a; fin_cases a; rfl
  have e4 : idx_main_v44 (idx_main_v45 (idx_main_v46 (idx_main_v49 (ix3 b s k)))) = ix3 b 4 k := by
    funext a; fin_cases a <;> refine Fin.ext ?_
    · show (b.val * 1024 + k.val) / 1024 = b.val; omega
    · rfl
    · show (b.val * 1024 + k.val) % 1024 = k.val; omega
  have e3 : idx_main_v41 (idx_main_v42 (idx_main_v43 (idx_main_v51 (ix3 b s k)))) = ix3 b 3 k := by
    funext a; fin_cases a <;> refine Fin.ext ?_
    · show (b.val * 1024 + k.val) / 1024 = b.val; omega
    · rfl
    · show (b.val * 1024 + k.val) % 1024 = k.val; omega
  rw [val_main_v52_apply, val_main_v50_apply, val_main_v40_apply, val_main_v37_apply, val_main_v36_apply, e8, latRoot, latStepped, val_main_v39_apply, val_main_v38_apply, ew,
    val_main_v49_apply, val_main_v48_apply, val_main_v47_apply, val_main_v46_apply, val_main_v45_apply, val_main_v44_apply, e4,
    val_main_v51_apply, val_main_v43_apply, val_main_v42_apply, val_main_v41_apply, e3]
  rfl

/-- A context row with the gated product added, of the arguments, and what the next part reads of it. -/
def ctx : Fin 4 → Fin 256 → Fin 1024 → EReal :=
  ctxS (fun b s k => x1 (ix3 b s k)) (fun b s k => gated (x3 (ix3 b s k)) (x5 (ix3 b s k)) (x7 (ix3 b s k))) (fun k n => x13 (ix2 k n)) (fun b s k => x9 (ix3 b s k)) (fun j k => x11 (ix2 j k))
def ctxN (b : Fin 4) (s : Fin 256) : Fin 1024 → EReal :=
  normed (ctx x1 x3 x5 x7 x9 x11 x13 b s) (fun k => x12 (ix1 k)) (fun k => x11 (ix2 4 k)) (fun k => x11 (ix2 3 k))

theorem ctxGated (b : Fin 4) (s : Fin 256) (k : Fin 512) : (val_main_v19 (F := Ideal) x3 x5 x7 (ix3 b s k) : EReal) = gated (x3 (ix3 b s k)) (x5 (ix3 b s k)) (x7 (ix3 b s k)) := by
  unfold gated
  rw [← gelu_compl, val_main_v19_apply, val_main_v11_apply, val_main_v18_apply, val_main_v13_apply, val_main_v12_apply, val_main_v17_apply, val_main_v16_apply, val_main_v14_apply, val_main_v15_apply]
  rfl

theorem ctxMixed (b : Fin 4) (s : Fin 256) (n : Fin 1024) :
    (val_main_v21 (F := Ideal) x1 x3 x5 x7 x13 (ix3 b s n) : EReal) = mix (fun k => x1 (ix3 b s k)) (fun k => gated (x3 (ix3 b s k)) (x5 (ix3 b s k)) (x7 (ix3 b s k))) (fun k n => x13 (ix2 k n)) n := by
  have el : ∀ k, lidx_main_v21 (ix3 b s n) k = ix3 b s k := fun k => by funext a; fin_cases a <;> rfl
  have er : ∀ k, ridx_main_v21 (ix3 b s n) k = ix2 k n := fun k => by funext a; fin_cases a <;> rfl
  rw [val_main_v21_apply]
  simp only [el, er]
  refine mix_joined (fun k => val_main_v20 (F := Ideal) x1 x3 x5 x7 (ix3 b s k)) _ _ (fun k n => x13 (ix2 k n)) n (fun k => ?_) (fun k => ?_)
  · show val_main_v20 (F := Ideal) x1 x3 x5 x7 (ix3 b s (lo k)) = _
    unfold val_main_v20
    exact concatenate_pair_apply_left 2 _ _ concatenates_S4x256x512_S4x256x512_S4x256x1024_d2 _ rfl (ix3 b s k) (fun a => by fin_cases a <;> rfl)
  · show val_main_v20 (F := Ideal) x1 x3 x5 x7 (ix3 b s (hi k)) = _
    unfold val_main_v20
    exact (concatenate_pair_apply_right 2 _ _ concatenates_S4x256x512_S4x256x512_S4x256x1024_d2 _ rfl rfl (ix3 b s k)
      (fun a ha => by fin_cases a <;> first | rfl | exact absurd rfl ha) (by show k.val + 512 = 512 + k.val; omega)).trans (ctxGated x3 x5 x7 b s k)

theorem ctxStepped (b : Fin 4) (s : Fin 256) (k : Fin 1024) : (val_main_v58 (F := Ideal) x1 x3 x5 x7 x9 x11 x13 (ix3 b s k) : EReal) = ctx x1 x3 x5 x7 x9 x11 x13 b s k := by
  have e2 : idx_main_v53 (idx_main_v54 (idx_main_v55 (idx_main_v56 (ix3 b s k)))) = ix2 2 k := by
    funext a; fin_cases a <;> refine Fin.ext ?_
    · rfl
    · show k.val % 1024 = k.val; omega
  rw [val_main_v58_apply, val_main_v57_apply, val_main_v56_apply, val_main_v55_apply, val_main_v54_apply, val_main_v53_apply, e2, ctxMixed]
  rfl

theorem ctxSquare (b : Fin 4) (s : Fin 256) :
    (val_main_v60 (F := Ideal) x1 x3 x5 x7 x9 x11 x13 (ix2 b s) : EReal) = ∑ j, ctx x1 x3 x5 x7 x9 x11 x13 b s j * ctx x1 x3 x5 x7 x9 x11 x13 b s j := by
  have e : ∀ k, idx_main_v60 (ix2 b s) k = ix3 b s k := fun k => by funext a; fin_cases a <;> rfl
  rw [val_main_v60_apply]
  refine (congrArg (fun z : EReal => z + _) zero_word).trans ((zero_add _).trans (Finset.sum_congr rfl fun j _ => ?_))
  rw [e, val_main_v59_apply]
  exact congrArg₂ (fun y z : EReal => y * z) (ctxStepped x1 x3 x5 x7 x9 x11 x13 b s j) (ctxStepped x1 x3 x5 x7 x9 x11 x13 b s j)

theorem ctxRoot (b : Fin 4) (s : Fin 256) :
    (val_main_v66 (F := Ideal) x1 x3 x5 x7 x9 x11 x13 (ix3 b s 0) : EReal)
      = Ideal.rsqrt (Ideal.div (∑ j, ctx x1 x3 x5 x7 x9 x11 x13 b s j * ctx x1 x3 x5 x7 x9 x11 x13 b s j) (Ideal.ofBits .f32 0x44800000#32) + Ideal.ofBits .f32 0x358637BD#32) := by
  have e : idx_main_v61 (ix3 b s 0) = ix2 b s := by funext a; fin_cases a <;> rfl
  rw [val_main_v66_apply, val_main_v65_apply, val_main_v63_apply, val_main_v61_apply, e, ctxSquare, val_main_v62_apply, val_main_v64_apply]
  rfl

theorem ctxNormed (b : Fin 4) (s : Fin 256) (k : Fin 1024) : (val_main_v83 (F := Ideal) x1 x3 x5 x7 x9 x11 x12 x13 (ix3 b s k) : EReal) = ctxN x1 x3 x5 x7 x9 x11 x12 x13 b s k := by
  have e8 : idx_main_v67 (ix3 b s k) = ix3 b s 0 := by funext a; fin_cases a <;> rfl
  have ew : idx_main_v69 (idx_main_v70 (ix3 b s k)) = ix1 k := by funext a; fin_cases a; rfl
  have e4 : idx_main_v74 (idx_main_v75 (idx_main_v78 (idx_main_v79 (ix3 b s k)))) = ix2 4 k := by
    funext a; fin_cases a <;> refine Fin.ext ?_
    · rfl
    · show k.val % 1024 = k.val; omega
  have e3 : idx_main_v72 (idx_main_v73 (idx_main_v81 (idx_main_v82 (ix3 b s k)))) = ix2 3 k := by
    funext a; fin_cases a <;> refine Fin.ext ?_
    · rfl
    · show k.val % 1024 = k.val; omega
  rw [val_main_v83_apply, val_main_v80_apply, val_main_v71_apply, val_main_v68_apply, val_main_v67_apply, e8, ctxRoot, ctxStepped, val_main_v70_apply, val_main_v69_apply, ew,
    val_main_v79_apply, val_main_v78_apply, val_main_v77_apply, val_main_v76_apply, val_main_v75_apply, val_main_v74_apply, e4,
    val_main_v82_apply, val_main_v81_apply, val_main_v73_apply, val_main_v72_apply, e3]
  rfl

theorem one_lat (b : Fin 4) (s : Fin 8192) (n : Fin 1024) :
    (val_main_v86 (F := Ideal) x0 x1 x2 x3 x4 x5 x6 x7 x8 x9 x10 x11 x13 (ix2 ⟨8192 * b.val + s.val, by omega⟩ n) : EReal) = lat x0 x2 x4 x6 x8 x10 x13 b s n := by
  have e : idx_main_v84 (ix2 ⟨8192 * b.val + s.val, by omega⟩ n) = ix3 b s n := by
    funext a; fin_cases a <;> refine Fin.ext ?_
    · show ((8192 * b.val + s.val) * 1024 + n.val) / 8388608 = b.val; omega
    · show ((8192 * b.val + s.val) * 1024 + n.val) / 1024 % 8192 = s.val; omega
    · show ((8192 * b.val + s.val) * 1024 + n.val) % 1024 = n.val; omega
  unfold val_main_v86
  refine (concatenate_pair_apply_left 0 _ _ concatenates_S32768x1024_S1024x1024_S33792x1024_d0 _ rfl (ix2 ⟨8192 * b.val + s.val, by omega⟩ n) (fun a => by fin_cases a <;> rfl)).trans ?_
  rw [val_main_v84_apply, e, latStepped]

theorem one_ctx (b : Fin 4) (s : Fin 256) (n : Fin 1024) :
    (val_main_v86 (F := Ideal) x0 x1 x2 x3 x4 x5 x6 x7 x8 x9 x10 x11 x13 (ix2 ⟨32768 + (256 * b.val + s.val), by omega⟩ n) : EReal) = ctx x1 x3 x5 x7 x9 x11 x13 b s n := by
  have e : idx_main_v85 (ix2 ⟨256 * b.val + s.val, by omega⟩ n) = ix3 b s n := by
    funext a; fin_cases a <;> refine Fin.ext ?_
    · show ((256 * b.val + s.val) * 1024 + n.val) / 262144 = b.val; omega
    · show ((256 * b.val + s.val) * 1024 + n.val) / 1024 % 256 = s.val; omega
    · show ((256 * b.val + s.val) * 1024 + n.val) % 1024 = n.val; omega
  unfold val_main_v86
  refine (concatenate_pair_apply_right 0 _ _ concatenates_S32768x1024_S1024x1024_S33792x1024_d0 _ rfl rfl (ix2 ⟨256 * b.val + s.val, by omega⟩ n)
    (fun a ha => by fin_cases a <;> first | rfl | exact absurd rfl ha) (by show 256 * b.val + s.val + 32768 = 32768 + (256 * b.val + s.val); omega)).trans ?_
  rw [val_main_v85_apply, e, ctxStepped]

theorem two_lat (b : Fin 4) (s : Fin 8192) (n : Fin 1024) :
    (val_main_v90 (F := Ideal) x0 x1 x2 x3 x4 x5 x6 x7 x8 x9 x10 x11 x12 x13 (ix2 ⟨8192 * b.val + s.val, by omega⟩ n) : EReal) = latN x0 x2 x4 x6 x8 x10 x12 x13 b s n := by
  have e : idx_main_v87 (ix2 ⟨8192 * b.val + s.val, by omega⟩ n) = ix3 b s n := by
    funext a; fin_cases a <;> refine Fin.ext ?_
    · show ((8192 * b.val + s.val) * 1024 + n.val) / 8388608 = b.val; omega
    · show ((8192 * b.val + s.val) * 1024 + n.val) / 1024 % 8192 = s.val; omega
    · show ((8192 * b.val + s.val) * 1024 + n.val) % 1024 = n.val; omega
  rw [val_main_v90_apply]
  unfold val_main_v89
  refine (concatenate_pair_apply_left 0 _ _ concatenates_S32768x1024_S1024x1024_S33792x1024_d0 _ rfl (ix2 ⟨8192 * b.val + s.val, by omega⟩ n) (fun a => by fin_cases a <;> rfl)).trans ?_
  rw [val_main_v87_apply, e, latNormed]

theorem two_ctx (b : Fin 4) (s : Fin 256) (n : Fin 1024) :
    (val_main_v90 (F := Ideal) x0 x1 x2 x3 x4 x5 x6 x7 x8 x9 x10 x11 x12 x13 (ix2 ⟨32768 + (256 * b.val + s.val), by omega⟩ n) : EReal) = ctxN x1 x3 x5 x7 x9 x11 x12 x13 b s n := by
  have e : idx_main_v88 (ix2 ⟨256 * b.val + s.val, by omega⟩ n) = ix3 b s n := by
    funext a; fin_cases a <;> refine Fin.ext ?_
    · show ((256 * b.val + s.val) * 1024 + n.val) / 262144 = b.val; omega
    · show ((256 * b.val + s.val) * 1024 + n.val) / 1024 % 256 = s.val; omega
    · show ((256 * b.val + s.val) * 1024 + n.val) % 1024 = n.val; omega
  rw [val_main_v90_apply]
  unfold val_main_v89
  refine (concatenate_pair_apply_right 0 _ _ concatenates_S32768x1024_S1024x1024_S33792x1024_d0 _ rfl rfl (ix2 ⟨256 * b.val + s.val, by omega⟩ n)
    (fun a ha => by fin_cases a <;> first | rfl | exact absurd rfl ha) (by show 256 * b.val + s.val + 32768 = 32768 + (256 * b.val + s.val); omega)).trans ?_
  rw [val_main_v88_apply, e, ctxNormed]

end Cert.Reference5Ideal.PostRec

end
-- ==== Proof.RecOutEquation.lean ====
/- The recurrence layer's output projection: the kernel's two output arrays are the reference's two results. -/
module

public import proofs.«01_k».proof.Proof.RecOutKernel
public import proofs.«01_k».proof.Proof.RecOutRef

@[expose] public section

noncomputable section

namespace Cert.PostRec

open Idealize.ShloMosaic Idealize.ShloMosaic.TcCoe
open Cert.Kernel5Ideal Cert.Kernel5Ideal.Gen Cert.Kernel5Ideal.PostRec

theorem row_split (r : Fin 33792) : (∃ b s, r = rowL b s) ∨ ∃ b l, r = rowC b l := by
  by_cases h : r.val < 32768
  · exact .inl ⟨⟨r.val / 8192, by omega⟩, ⟨r.val % 8192, by omega⟩, Fin.ext (by show r.val = 8192 * (r.val / 8192) + r.val % 8192; omega)⟩
  · exact .inr ⟨⟨(r.val - 32768) / 256, by omega⟩, ⟨(r.val - 32768) % 256, by omega⟩,
      Fin.ext (by show r.val = 32768 + (256 * ((r.val - 32768) / 256) + (r.val - 32768) % 256); omega)⟩

variable (m : (ℓ : Loc nD τ sig) → Buf (Elt Ideal) ℓ) (c : Dev nD)

/-- The same array: the rows. -/
theorem same_one : Cert.Reference5Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) = (dats m 0 c).arrAt 8 cfg0.N := by
  have key : ∀ (r : Fin 33792) (d : Fin 1024), (Cert.Reference5Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (ix2 r d) : EReal) = rdF S33792x1024 ((dats m 0 c).arrAt 8 cfg0.N) (ix2 r d) := by
    intro r d
    rcases row_split r with ⟨b, s, rfl⟩ | ⟨b, s, rfl⟩
    · exact (Cert.Reference5Ideal.PostRec.one_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) b s d).trans (res8_lat m c b s d).symm
    · exact (Cert.Reference5Ideal.PostRec.one_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) b s d).trans (res8_ctx m c b s d).symm
  funext i
  have hi : i = ix2 (i 0) (i 1) := by funext a; fin_cases a <;> rfl
  rw [hi]
  exact key (i 0) (i 1)

/-- The same array: what the next part reads. -/
theorem same_two : Cert.Reference5Ideal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = (dats m 0 c).arrAt 9 cfg0.N := by
  have key : ∀ (r : Fin 33792) (d : Fin 1024), (Cert.Reference5Ideal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 r d) : EReal) = rdH S33792x1024 ((dats m 0 c).arrAt 9 cfg0.N) (ix2 r d) := by
    intro r d
    rcases row_split r with ⟨b, s, rfl⟩ | ⟨b, s, rfl⟩
    · exact (Cert.Reference5Ideal.PostRec.two_lat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s d).trans (res9_lat m c b s d).symm
    · exact (Cert.Reference5Ideal.PostRec.two_ctx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s d).trans (res9_ctx m c b s d).symm
  funext i
  have hi : i = ix2 (i 0) (i 1) := by funext a; fin_cases a <;> rfl
  rw [hi]
  exact key (i 0) (i 1)

end Cert.PostRec

end
-- ==== Proof.ModSpec.lean ====
/- What the modulation gives for one vector and one column of a layer's weights: the vector's SiLU times the column, plus the bias. In extended
reals. -/
module

public import Idealize.ShloMosaic.PureOps.Ideal.Laws

@[expose] public section

noncomputable section

namespace Cert.Modulation

open Idealize.ShloMosaic

/-- A number times its logistic. -/
def silu (x : EReal) : EReal := x * Ideal.logistic x

/-- One entry of a modulation vector. -/
def entry (x w : Fin 1024 → EReal) (b : EReal) : EReal := (∑ k, silu (x k) * w k) + b

theorem entry_congr {x x' w w' : Fin 1024 → EReal} {b b' : EReal} (hx : ∀ k, x k = x' k) (hw : ∀ k, w k = w' k) (hb : b = b') :
    entry x w b = entry x' w' b' := by
  rw [funext hx, funext hw, hb]

/-- The modulation of the zero vector is the bias. -/
theorem entry_zero (w : Fin 1024 → EReal) (b : EReal) : entry (fun _ => 0) w b = b := by
  unfold entry silu
  simp

/-- The single-precision word for one. -/
theorem one_word : Ideal.ofBits .f32 0x3F800000#32 = 1 := by
  simp [Ideal.ofBits, Ideal.ieee]
  rw [← EReal.coe_mul]
  norm_num

/-- The logistic, as the quotient that the host computes. -/
theorem logistic_quotient (x : EReal) :
    Ideal.div (Ideal.ofBits .f32 0x3F800000#32) (Ideal.ofBits .f32 0x3F800000#32 + Ideal.exp (-x)) = Ideal.logistic x := by
  rw [one_word]
  rfl

end Cert.Modulation

end
-- ==== Proof.ModBlock.lean ====
/- What one grid point of the modulation computes: a block of columns of one layer, as a function of the vectors, the layer's columns and their
biases; and which part of the arrays every grid point reads and writes. -/
module

public import proofs.«01_k».proof.Proof.ModSpec
public import proofs.«01_k».proof.Proof.Gen.Kernel6Ideal.Value
public import Idealize.ShloMosaic.Lib.KernelVsHost
public import Idealize.ShloMosaic.Lib.Pipeline.ValueKit.Tiles
public import Idealize.ShloMosaic.Lib.Pipeline.ValueKit.Point

@[expose] public section

noncomputable section

namespace Cert.Kernel6Ideal.Modulate

open Idealize.ShloMosaic Idealize.ShloMosaic.TcCoe
open Cert.Kernel6Ideal Cert.Kernel6Ideal.Gen Cert.Modulation

theorem pay_at (X : Vec Ideal S8x1024 .f32) (W : Vec Ideal S1x1024x1024 .f32) (B : Vec Ideal S1x1x1024 .f32) (r : Fin 8) (n : Fin 1024) :
    (k0_pay1 X W B (ix3 0 r n) : EReal)
      = entry (fun k => X (ix2 r k)) (fun k => W (ix3 0 k n)) (B (ix3 0 0 n)) := by
  unfold entry silu
  pointwise [k0_pay1]

/-- The block a point computes. -/
theorem out3_at (x0 : Vec Ideal S8x1024 .f32) (x1 : Vec Ideal S1x1024x1024 .f32) (x2 : Vec Ideal S1x1x1024 .f32) (r : Fin 8) (n : Fin 1024) :
    (out0_3 x0 x1 x2 (ix3 0 r n) : EReal) = entry (fun k => x0 (ix2 r k)) (fun k => x1 (ix3 0 k n)) (x2 (ix3 0 0 n)) := by
  have h : ∀ (p : Vec Ideal S1x8x1024 .f32), (View.canon [⟨r0_3, p⟩] : Vec Ideal S1x8x1024 .f32) (ix3 0 r n) = p (ix3 0 r n) := fun p => by
    refine View.canon_apply_of_pieces (Val := Elt Ideal) p _ ?_ (ix3 0 r n) (cover0_3 _ (ix3 0 r n))
    intro pc hpc
    rcases List.mem_cons.mp hpc with rfl | hpc
    · intro x
      refine congrArg p (funext fun a => Fin.ext ?_)
      fin_cases a <;> exact ((Nat.zero_add _).trans (Nat.one_mul _)).symm
    · nomatch hpc
  refine (h (k0_pay1 (View.ld x0 r0_0) (View.ld x1 r0_1) (View.ld x2 r0_2))).trans ?_
  refine (pay_at (View.ld x0 r0_0) (View.ld x1 r0_1) (View.ld x2 r0_2) r n).trans ?_
  refine entry_congr (fun k => ?_) (fun k => ?_) ?_
  · exact View.ld_unit_apply_of x0 _ _ _ _ _ (fun a => by fin_cases a <;> exact (Nat.zero_add _).symm)
  · exact View.ld_unit_apply_of x1 _ _ _ _ _ (fun a => by fin_cases a <;> exact (Nat.zero_add _).symm)
  · exact View.ld_unit_apply_of x2 _ _ _ _ _ (fun a => by fin_cases a <;> exact (Nat.zero_add _).symm)

/-! The grid: point `t` takes the vector `t % 6` of layer `t / 6`. -/

theorem point_lt (t : Fin cfg0.N) : t.val < 24 := t.isLt

/-- The layer of a grid point, and a column of the point's vector. -/
def layer (t : Fin cfg0.N) : Fin 4 := ⟨t.val / 6, by have := point_lt t; omega⟩
def col (t : Fin cfg0.N) (n : Fin 1024) : Fin 6144 := ⟨1024 * (t.val % 6) + n.val, by omega⟩

theorem idx0 : ∀ t : Fin cfg0.N, win0_0.index t = ![0, 0] := by decide +kernel
theorem idx1 : ∀ t : Fin cfg0.N, win0_1.index t = ![t.val / 6, 0, t.val % 6] := by decide +kernel
theorem idx2 : ∀ t : Fin cfg0.N, win0_2.index t = ![t.val / 6, 0, t.val % 6] := by decide +kernel
theorem idx3 : ∀ t : Fin cfg0.N, win0_3.index t = ![t.val / 6, 0, t.val % 6] := by decide +kernel
theorem flush3 : ∀ t : Fin cfg0.N, (cfg0.win 3).flush t = true := by decide +kernel

variable {F : FTy → Type} [FloatOps F]
variable (m : (ℓ : Loc nD τ sig) → Buf (Elt F) ℓ)

theorem blk0_at (c : Dev nD) (t : Fin cfg0.N) (r : Fin 8) (k : Fin 1024) :
    (iblk m c 0 t : Vec F S8x1024 .f32) (ix2 r k) = (V m c main_v4 : Vec F S8x1024 .f32) (ix2 r k) := by
  blk_ext [iblk, idx0 t]

theorem blk1_at (c : Dev nD) (t : Fin cfg0.N) (k n : Fin 1024) :
    (iblk m c 1 t : Vec F S1x1024x1024 .f32) (ix3 0 k n) = (V m c main_arg2 : Vec F S4x1024x6144 .f32) (ix3 (layer t) k (col t n)) := by
  unfold layer col
  blk_ext [iblk, idx1 t]

theorem blk2_at (c : Dev nD) (t : Fin cfg0.N) (n : Fin 1024) :
    (iblk m c 2 t : Vec F S1x1x1024 .f32) (ix3 0 0 n) = (V m c main_v5 : Vec F S4x1x6144 .f32) (ix3 (layer t) 0 (col t n)) := by
  unfold layer col
  blk_ext [iblk, idx2 t]

/-- What the output array ends holding: in every block what the block's point left in the output's buffer. -/
theorem arr3_at (c : Dev nD) (t : Fin cfg0.N) (r : Fin 8) (n : Fin 1024) :
    ((dats m 0 c).arrAt 3 cfg0.N : Vec F S4x8x6144 .f32) (ix3 (layer t) r (col t n))
      = out0_3 (iblk m c 0 t) (iblk m c 1 t) (iblk m c 2 t) (ix3 0 r n) := by
  have h := congrFun ((Value.blocks3 m c t (flush3 t)).trans (Value.flushed3 m c t)) (ix3 0 r n)
  refine Eq.trans ?_ h
  symm
  unfold layer col
  blk_ext [idx3 t]

end Cert.Kernel6Ideal.Modulate

end
-- ==== Proof.ModHost.lean ====
/- What the arrays hold that the modulation is given: the eight vectors and the biases, read at an index. -/
module

public import Idealize.ShloMosaic.Lib.StableHlo.RunRead
public import Idealize.ShloMosaic.Lib.Routing.OpsOne
public import proofs.«01_k».proof.Proof.ModBlock

@[expose] public section

noncomputable section

namespace Cert.Kernel6Ideal.Modulate

open Idealize.ShloMosaic Idealize.ShloMosaic.TcCoe
open Cert.Kernel6Ideal Cert.Kernel6Ideal.Gen Cert.Modulation

/-- An array of numbers at an index, as an extended real. -/
abbrev rdF (s : Shape) (v : Vec Ideal s .f32) (i : s.Idx) : EReal := v i

section Rows

variable {α : Type}

/-- Row `r'` of the four lands on row `r` of the eight exactly when they are the same. -/
theorem four_land (idx : IVec S1 32) (h0 : (idx (ix1 0)).toInt = 0) (r' : Fin 4) (k' : Fin 1024) (r : Fin 8) (k : Fin 1024) :
    scatter_S8x1024_S1_S4x1024_01_n_0_0.resultIdx? (ix2 r' k') idx = some (ix2 r k) ↔ r'.val = r.val ∧ k'.val = k.val := by
  have w0 : scatter_S8x1024_S1_S4x1024_01_n_0_0.window (ix2 r' k') 0 = r'.val := by
    unfold ScatterDims.window
    rw [dif_pos (by decide)]
    rfl
  have w1 : scatter_S8x1024_S1_S4x1024_01_n_0_0.window (ix2 r' k') 1 = k'.val := by
    unfold ScatterDims.window
    rw [dif_pos (by decide)]
    rfl
  have s0 : scatter_S8x1024_S1_S4x1024_01_n_0_0.start (ix2 r' k') idx 0 = 0 := by
    unfold ScatterDims.start
    rw [dif_pos (by decide)]
    refine Eq.trans (congrArg (fun i => (idx i).toInt) (funext fun b => ?_)) h0
    match b with
    | ⟨0, _⟩ => exact Subsingleton.elim (α := Fin 1) _ _
  have s1 : scatter_S8x1024_S1_S4x1024_01_n_0_0.start (ix2 r' k') idx 1 = 0 := by
    unfold ScatterDims.start
    rw [dif_neg (by decide)]
  refine (Routing.resultIdx?_ix2 scatter_S8x1024_S1_S4x1024_01_n_0_0 (ix2 r' k') idx r k).trans ?_
  rw [s0, w0, s1, w1]
  omega

/-- The single vector lands on row four. -/
theorem one_land (idx : IVec S1 32) (h0 : (idx (ix1 0)).toInt = 4) (k' : Fin 1024) (r : Fin 8) (k : Fin 1024) :
    scatter_S8x1024_S1_S1024_0_0_0_0.resultIdx? (ix1 k') idx = some (ix2 r k) ↔ r.val = 4 ∧ k'.val = k.val := by
  have w0 : scatter_S8x1024_S1_S1024_0_0_0_0.window (ix1 k') 0 = 0 := by
    unfold ScatterDims.window
    rw [dif_neg (by decide)]
  have w1 : scatter_S8x1024_S1_S1024_0_0_0_0.window (ix1 k') 1 = k'.val := by
    unfold ScatterDims.window
    rw [dif_pos (by decide)]
    rfl
  have s0 : scatter_S8x1024_S1_S1024_0_0_0_0.start (ix1 k') idx 0 = 4 := by
    unfold ScatterDims.start
    rw [dif_pos (by decide)]
    refine Eq.trans (congrArg (fun i => (idx i).toInt) (funext fun b => ?_)) h0
    match b with
    | ⟨0, _⟩ => exact Subsingleton.elim (α := Fin 1) _ _
  have s1 : scatter_S8x1024_S1_S1024_0_0_0_0.start (ix1 k') idx 1 = 0 := by
    unfold ScatterDims.start
    rw [dif_neg (by decide)]
  refine (Routing.resultIdx?_ix2 scatter_S8x1024_S1_S1024_0_0_0_0 (ix1 k') idx r k).trans ?_
  rw [s0, w0, s1, w1]
  omega

theorem four_in (x : S8x1024.Idx → α) (idx : IVec S1 32) (h0 : (idx (ix1 0)).toInt = 0) (u : S4x1024.Idx → α) (b : Fin 4) (k : Fin 1024) :
    Host.scatter scatter_S8x1024_S1_S4x1024_01_n_0_0 (fun _ y => y) x idx u (ix2 ⟨b.val, by omega⟩ k) = u (ix2 b k) := by
  refine Routing.scatter_set_hit _ x idx u _ _ (fun j hj => ?_) (ix2 b k) ((four_land idx h0 b k _ k).2 ⟨rfl, rfl⟩)
  have e : j = ix2 (j 0) (j 1) := by funext a; fin_cases a <;> rfl
  rw [e] at hj ⊢
  obtain ⟨p, q⟩ := (four_land idx h0 _ _ _ _).1 hj
  exact congrArg u (congrArg₂ ix2 (Fin.ext p) (Fin.ext q))

theorem four_out (x : S8x1024.Idx → α) (idx : IVec S1 32) (h0 : (idx (ix1 0)).toInt = 0) (u : S4x1024.Idx → α) (r : Fin 8) (hr : 4 ≤ r.val) (k : Fin 1024) :
    Host.scatter scatter_S8x1024_S1_S4x1024_01_n_0_0 (fun _ y => y) x idx u (ix2 r k) = x (ix2 r k) := by
  refine Routing.scatter_set_miss _ x idx u _ (fun j hj => ?_)
  have e : j = ix2 (j 0) (j 1) := by funext a; fin_cases a <;> rfl
  rw [e] at hj
  obtain ⟨p, q⟩ := (four_land idx h0 (j 0) (j 1) _ _).1 hj
  have : (j 0).val < 4 := (j 0).isLt
  omega

theorem one_in (x : S8x1024.Idx → α) (idx : IVec S1 32) (h0 : (idx (ix1 0)).toInt = 4) (u : S1024.Idx → α) (k : Fin 1024) :
    Host.scatter scatter_S8x1024_S1_S1024_0_0_0_0 (fun _ y => y) x idx u (ix2 4 k) = u (ix1 k) := by
  refine Routing.scatter_set_hit _ x idx u _ _ (fun j hj => ?_) (ix1 k) ((one_land idx h0 k 4 k).2 ⟨rfl, rfl⟩)
  have e : j = ix1 (j 0) := by funext a; fin_cases a; rfl
  rw [e] at hj ⊢
  exact congrArg u (congrArg ix1 (Fin.ext ((one_land idx h0 _ _ _).1 hj).2))

theorem one_out (x : S8x1024.Idx → α) (idx : IVec S1 32) (h0 : (idx (ix1 0)).toInt = 4) (u : S1024.Idx → α) (r : Fin 8) (hr : r.val ≠ 4) (k : Fin 1024) :
    Host.scatter scatter_S8x1024_S1_S1024_0_0_0_0 (fun _ y => y) x idx u (ix2 r k) = x (ix2 r k) := by
  refine Routing.scatter_set_miss _ x idx u _ (fun j hj => ?_)
  have e : j = ix1 (j 0) := by funext a; fin_cases a; rfl
  rw [e] at hj
  exact hr ((one_land idx h0 (j 0) _ _).1 hj).1

/-- One word broadcast to a one-entry list. -/
theorem word_at (v : BitVec 32) (w) : broadcastInDim S1 ![] w (constantI S_ 32 v) (ix1 0) = v := by
  pointwise

theorem fill_at (x : S_.Idx → α) (v : α) (hv : ∀ i, x i = v) (w) (i : S8x1024.Idx) : broadcastInDim S8x1024 ![] w x i = v := by
  unfold broadcastInDim
  exact hv _

theorem bias_flat (v : S4x6144.Idx → α) (l : Fin 4) (n : Fin 6144) (w) : shapeCast S4x1x6144 v w (ix3 l 0 n) = v (ix2 l n) :=
  shapeCast_apply v w _ _ (by
    rewrite [Shape.rowMajor_val_three, Shape.rowMajor_val_two]
    show l.val * 6144 + n.val = (l.val * 1 + 0) * 6144 + n.val
    omega)

end Rows

variable (m : (ℓ : Loc nD τ sig) → Buf (Elt Ideal) ℓ) (c : Dev nD)

theorem vec_seq (b : Fin 4) (k : Fin 1024) :
    rdF S8x1024 (V m c main_v4) (ix2 ⟨b.val, by omega⟩ k) = rdF S4x1024 (m ((c : Thread nD τ).loc main_arg0)) (ix2 b k) := by
  unfold rdF
  entry_read
  exact (one_out _ _ (by rw [word_at]; rfl) _ _ (by show b.val ≠ 4; omega) k).trans (four_in _ _ (by rw [word_at]; rfl) _ b k)

theorem vec_ctx (k : Fin 1024) :
    rdF S8x1024 (V m c main_v4) (ix2 4 k) = rdF S1024 (m ((c : Thread nD τ).loc main_arg1)) (ix1 k) := by
  unfold rdF
  entry_read
  exact one_in _ _ (by rw [word_at]; rfl) _ k

theorem vec_rest (r : Fin 8) (hr : 4 < r.val) (k : Fin 1024) : rdF S8x1024 (V m c main_v4) (ix2 r k) = 0 := by
  unfold rdF
  entry_read
  refine (one_out _ _ (by rw [word_at]; rfl) _ r (by omega) k).trans ((four_out _ _ (by rw [word_at]; rfl) _ r (by omega) k).trans ?_)
  refine (fill_at _ (Ideal.ofBits .f32 0x00000000#32) (fun _ => rfl) _ _).trans ?_
  simp [Ideal.ofBits, Ideal.ieee]

theorem bias_at (l : Fin 4) (n : Fin 6144) :
    rdF S4x1x6144 (V m c main_v5) (ix3 l 0 n) = rdF S4x6144 (m ((c : Thread nD τ).loc main_arg3)) (ix2 l n) := by
  unfold rdF
  entry_read
  exact bias_flat _ l n _

end Cert.Kernel6Ideal.Modulate

end
-- ==== Proof.ModRef.lean ====
/- The reference's modulation vectors at every index, in terms of the arguments. -/
module

public import proofs.«01_k».proof.Proof.ModSpec
public import proofs.«01_k».proof.Proof.Gen.Reference6Ideal.Read
public import Idealize.ShloMosaic.Lib.Pointwise.Index
public import Idealize.ShloMosaic.Lib.Pipeline.Value

@[expose] public section

noncomputable section

namespace Cert.Reference6Ideal.Modulate

open Idealize.ShloMosaic Idealize.ShloMosaic.TcCoe
open Cert.Reference6Ideal Cert.Reference6Ideal.Gen Cert.Reference6Ideal.Read Cert.Modulation

section Rows

variable {α : Type}

theorem joined_seq (x : S4x4x6144.Idx → α) (y : S4x1x6144.Idx → α) (z : S4x3x6144.Idx → α) (w) (l b : Fin 4) (n : Fin 6144) :
    concatenate S4x8x6144 1 [⟨S4x4x6144, x⟩, ⟨S4x1x6144, y⟩, ⟨S4x3x6144, z⟩] w (ix3 l ⟨b.val, by omega⟩ n) = x (ix3 l b n) := by
  refine concatenate_apply_piece 1 _ w _ 0 (by simp) S4x4x6144 x rfl rfl 0 rfl (ix3 l b n) ?_ ?_
  · exact fun a ha => by match a with | ⟨0, _⟩ => rfl | ⟨1, _⟩ => exact absurd rfl ha | ⟨2, _⟩ => rfl
  · exact Nat.zero_add _

theorem joined_ctx (x : S4x4x6144.Idx → α) (y : S4x1x6144.Idx → α) (z : S4x3x6144.Idx → α) (w) (l : Fin 4) (n : Fin 6144) :
    concatenate S4x8x6144 1 [⟨S4x4x6144, x⟩, ⟨S4x1x6144, y⟩, ⟨S4x3x6144, z⟩] w (ix3 l 4 n) = y (ix3 l 0 n) := by
  refine concatenate_apply_piece 1 _ w _ 1 (by simp) S4x1x6144 y rfl rfl 4 rfl (ix3 l 0 n) ?_ ?_
  · exact fun a ha => by match a with | ⟨0, _⟩ => rfl | ⟨1, _⟩ => exact absurd rfl ha | ⟨2, _⟩ => rfl
  · rfl

theorem joined_rest (x : S4x4x6144.Idx → α) (y : S4x1x6144.Idx → α) (z : S4x3x6144.Idx → α) (w) (l : Fin 4) (r : Fin 3) (n : Fin 6144) :
    concatenate S4x8x6144 1 [⟨S4x4x6144, x⟩, ⟨S4x1x6144, y⟩, ⟨S4x3x6144, z⟩] w (ix3 l ⟨5 + r.val, by omega⟩ n) = z (ix3 l r n) := by
  refine concatenate_apply_piece 1 _ w _ 2 (by simp) S4x3x6144 z rfl rfl 5 rfl (ix3 l r n) ?_ ?_
  · exact fun a ha => by match a with | ⟨0, _⟩ => rfl | ⟨1, _⟩ => exact absurd rfl ha | ⟨2, _⟩ => rfl
  · rfl

end Rows

variable (x0 : (⟨S4x1024, .f32⟩ : BufTy).Contents (Elt Ideal))
  (x1 : (⟨S1024, .f32⟩ : BufTy).Contents (Elt Ideal))
  (x2 : (⟨S4x1024x6144, .f32⟩ : BufTy).Contents (Elt Ideal))
  (x3 : (⟨S4x6144, .f32⟩ : BufTy).Contents (Elt Ideal))

theorem silu_seq (i : S4x1024.Idx) : (val_main_v0 (F := Ideal) x0 i : EReal) = silu (x0 i) := by
  rw [val_main_v0_apply, val_main_call0_v5_apply, val_main_call0_v4_apply, val_main_call0_v3_apply, val_main_call0_v2_apply, val_main_call0_v1_apply,
    val_main_call0_v0_apply]
  exact congrArg (fun z : EReal => (x0 i : EReal) * z) (logistic_quotient (x0 i))

theorem silu_ctx (i : S1024.Idx) : (val_main_v1 (F := Ideal) x1 i : EReal) = silu (x1 i) := by
  rw [val_main_v1_apply, val_main_call1_v5_apply, val_main_call1_v4_apply, val_main_call1_v3_apply, val_main_call1_v2_apply, val_main_call1_v1_apply,
    val_main_call1_v0_apply]
  exact congrArg (fun z : EReal => (x1 i : EReal) * z) (logistic_quotient (x1 i))

theorem seq_at (l b : Fin 4) (n : Fin 6144) :
    (val_main_v6 (F := Ideal) x0 x2 x3 (ix3 l b n) : EReal) = entry (fun k => x0 (ix2 b k)) (fun k => x2 (ix3 l k n)) (x3 (ix2 l n)) := by
  have et : idx_main_v3 (ix3 l b n) = ix3 l n b := by funext a; fin_cases a <;> rfl
  have el : ∀ k, lidx_main_v2 (ix3 l n b) k = ix3 l k n := fun k => by funext a; fin_cases a <;> rfl
  have er : ∀ k, ridx_main_v2 (ix3 l n b) k = ix2 b k := fun k => by funext a; fin_cases a <;> rfl
  have eb : idx_main_v4 (idx_main_v5 (ix3 l b n)) = ix2 l n := by funext a; fin_cases a <;> rfl
  rw [val_main_v6_apply, val_main_v3_apply, et, val_main_v2_apply, val_main_v5_apply, val_main_v4_apply, eb]
  refine congrArg (fun z : EReal => z + (x3 (ix2 l n) : EReal)) (Finset.sum_congr rfl fun k _ => ?_)
  rw [el, er, silu_seq]
  exact mul_comm _ _

theorem ctx_at (l : Fin 4) (n : Fin 6144) :
    (val_main_v8 (F := Ideal) x1 x2 x3 (ix2 l n) : EReal) = entry (fun k => x1 (ix1 k)) (fun k => x2 (ix3 l k n)) (x3 (ix2 l n)) := by
  have el : ∀ k, lidx_main_v7 (ix2 l n) k = ix1 k := fun k => by funext a; fin_cases a; rfl
  have er : ∀ k, ridx_main_v7 (ix2 l n) k = ix3 l k n := fun k => by funext a; fin_cases a <;> rfl
  rw [val_main_v8_apply, val_main_v7_apply]
  refine congrArg (fun z : EReal => z + (x3 (ix2 l n) : EReal)) (Finset.sum_congr rfl fun k _ => ?_)
  rw [el, er, silu_ctx]

theorem row_seq (l b : Fin 4) (n : Fin 6144) :
    (val_main_v12 (F := Ideal) x0 x1 x2 x3 (ix3 l ⟨b.val, by omega⟩ n) : EReal)
      = entry (fun k => x0 (ix2 b k)) (fun k => x2 (ix3 l k n)) (x3 (ix2 l n)) := by
  unfold val_main_v12
  refine Eq.trans ?_ (seq_at x0 x2 x3 l b n)
  exact joined_seq _ _ _ concatenates_S4x4x6144_S4x1x6144_S4x3x6144_S4x8x6144_d1 l b n

theorem row_ctx (l : Fin 4) (n : Fin 6144) :
    (val_main_v12 (F := Ideal) x0 x1 x2 x3 (ix3 l 4 n) : EReal)
      = entry (fun k => x1 (ix1 k)) (fun k => x2 (ix3 l k n)) (x3 (ix2 l n)) := by
  have e : idx_main_v11 (ix3 l 0 n) = ix2 l n := by funext a; fin_cases a <;> rfl
  unfold val_main_v12
  refine Eq.trans ?_ ((val_main_v11_apply x1 x2 x3 (ix3 l 0 n)).trans ((congrArg _ e).trans (ctx_at x1 x2 x3 l n)))
  exact joined_ctx _ _ _ concatenates_S4x4x6144_S4x1x6144_S4x3x6144_S4x8x6144_d1 l n

theorem row_rest (l : Fin 4) (r : Fin 3) (n : Fin 6144) :
    (val_main_v12 (F := Ideal) x0 x1 x2 x3 (ix3 l ⟨5 + r.val, by omega⟩ n) : EReal) = x3 (ix2 l n) := by
  have e : idx_main_v9 (idx_main_v10 (ix3 l r n)) = ix2 l n := by funext a; fin_cases a <;> rfl
  unfold val_main_v12
  refine Eq.trans ?_ ((val_main_v10_apply x3 (ix3 l r n)).trans ((val_main_v9_apply x3 _).trans (congrArg x3 e)))
  exact joined_rest _ _ _ concatenates_S4x4x6144_S4x1x6144_S4x3x6144_S4x8x6144_d1 l r n

end Cert.Reference6Ideal.Modulate

end
-- ==== Proof.ModEquation.lean ====
/- The modulation: the kernel's output array is the reference's. -/
module

public import proofs.«01_k».proof.Proof.ModHost
public import proofs.«01_k».proof.Proof.ModRef

@[expose] public section

noncomputable section

namespace Cert.Modulation

open Idealize.ShloMosaic Idealize.ShloMosaic.TcCoe
open Cert.Kernel6Ideal Cert.Kernel6Ideal.Gen Cert.Kernel6Ideal.Modulate

variable (m : (ℓ : Loc nD τ sig) → Buf (Elt Ideal) ℓ) (c : Dev nD)

/-- The grid point of a layer's column, and the column within its block. -/
def pointOf (l : Fin 4) (n : Fin 6144) : Fin cfg0.N := ⟨6 * l.val + n.val / 1024, by show _ < 24; omega⟩
def within (n : Fin 6144) : Fin 1024 := ⟨n.val % 1024, Nat.mod_lt _ (by decide)⟩

theorem layer_point (l : Fin 4) (n : Fin 6144) : layer (pointOf l n) = l := Fin.ext (by show (6 * l.val + n.val / 1024) / 6 = l.val; omega)
theorem col_point (l : Fin 4) (n : Fin 6144) : col (pointOf l n) (within n) = n :=
  Fin.ext (by show 1024 * ((6 * l.val + n.val / 1024) % 6) + n.val % 1024 = n.val; omega)

/-- The kernel's array: the modulation of row `r` of the eight vectors. -/
theorem kernel_at (l : Fin 4) (r : Fin 8) (n : Fin 6144) :
    rdF S4x8x6144 ((dats m 0 c).arrAt 3 cfg0.N) (ix3 l r n)
      = entry (fun k => rdF S8x1024 (V m c main_v4) (ix2 r k)) (fun k => rdF S4x1024x6144 (m ((c : Thread nD τ).loc main_arg2)) (ix3 l k n))
          (rdF S4x6144 (m ((c : Thread nD τ).loc main_arg3)) (ix2 l n)) := by
  have h := (arr3_at m c (pointOf l n) r (within n)).trans (out3_at (iblk m c 0 (pointOf l n)) (iblk m c 1 (pointOf l n)) (iblk m c 2 (pointOf l n)) r (within n))
  rw [layer_point, col_point] at h
  refine h.trans (entry_congr (fun k => blk0_at m c _ r k) (fun k => ?_) ?_)
  · refine (blk1_at m c (pointOf l n) k (within n)).trans ?_
    rw [layer_point, col_point]
    exact congrFun (V_main_arg2 m c) _
  · refine (blk2_at m c (pointOf l n) (within n)).trans ?_
    rw [layer_point, col_point]
    exact bias_at m c l n

theorem row_split (r : Fin 8) : (∃ b : Fin 4, r = ⟨b.val, by omega⟩) ∨ r = 4 ∨ ∃ q : Fin 3, r = ⟨5 + q.val, by omega⟩ := by
  rcases lt_trichotomy r.val 4 with h | h | h
  · exact .inl ⟨⟨r.val, h⟩, rfl⟩
  · exact .inr (.inl (Fin.ext h))
  · exact .inr (.inr ⟨⟨r.val - 5, by omega⟩, Fin.ext (by show r.val = 5 + (r.val - 5); omega)⟩)

/-- The same array. -/
theorem same : Cert.Reference6Ideal.Read.val_main_v12 (F := Ideal) (m ((c : Thread nD τ).loc main_arg0)) (m ((c : Thread nD τ).loc main_arg1)) (m ((c : Thread nD τ).loc main_arg2)) (m ((c : Thread nD τ).loc main_arg3)) = (dats m 0 c).arrAt 3 cfg0.N := by
  have key : ∀ (l : Fin 4) (r : Fin 8) (n : Fin 6144), (Cert.Reference6Ideal.Read.val_main_v12 (F := Ideal) (m ((c : Thread nD τ).loc main_arg0)) (m ((c : Thread nD τ).loc main_arg1)) (m ((c : Thread nD τ).loc main_arg2)) (m ((c : Thread nD τ).loc main_arg3)) (ix3 l r n) : EReal) = rdF S4x8x6144 ((dats m 0 c).arrAt 3 cfg0.N) (ix3 l r n) := by
    intro l r n
    refine Eq.trans ?_ (kernel_at m c l r n).symm
    rcases row_split r with ⟨b, rfl⟩ | rfl | ⟨q, rfl⟩
    · refine (Cert.Reference6Ideal.Modulate.row_seq (m ((c : Thread nD τ).loc main_arg0)) (m ((c : Thread nD τ).loc main_arg1)) (m ((c : Thread nD τ).loc main_arg2)) (m ((c : Thread nD τ).loc main_arg3)) l b n).trans ?_
      exact entry_congr (fun k => (vec_seq m c b k).symm) (fun k => rfl) rfl
    · refine (Cert.Reference6Ideal.Modulate.row_ctx (m ((c : Thread nD τ).loc main_arg0)) (m ((c : Thread nD τ).loc main_arg1)) (m ((c : Thread nD τ).loc main_arg2)) (m ((c : Thread nD τ).loc main_arg3)) l n).trans ?_
      exact entry_congr (fun k => (vec_ctx m c k).symm) (fun k => rfl) rfl
    · refine (Cert.Reference6Ideal.Modulate.row_rest (m ((c : Thread nD τ).loc main_arg0)) (m ((c : Thread nD τ).loc main_arg1)) (m ((c : Thread nD τ).loc main_arg2)) (m ((c : Thread nD τ).loc main_arg3)) l q n).trans ?_
      refine (entry_zero _ _).symm.trans (entry_congr (fun k => (vec_rest m c _ (by show 4 < 5 + q.val; omega) k).symm) (fun k => rfl) rfl)
  funext i
  have hi : i = ix3 (i 0) (i 1) (i 2) := by funext a; fin_cases a <;> rfl
  rw [hi]
  exact key (i 0) (i 1) (i 2)

end Cert.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Equation
public import proofs.«01_k».proof.Proof.RotaryEquation
public import proofs.«01_k».proof.Proof.RecEquation
public import proofs.«01_k».proof.Proof.AttnOutEquation
public import proofs.«01_k».proof.Proof.RecOutEquation
public import proofs.«01_k».proof.Proof.ModEquation
public import Idealize.ShloMosaic.Adequacy
public import Idealize.ShloMosaic.Init

@[expose] public section

noncomputable section

namespace Cert.Proof

open Idealize.ShloMosaic Idealize.SL.Sem

/-- The frame of the reference: its run, and its counters because it declares none. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: the kernel's result is the array its grid leaves, the reference's is its last operation's, and these agree. -/
theorem algebraic : Cert.algebraic_KernelIdeal_ReferenceIdeal_pre_finite (hPre_finite := Cert.Pre_finite.Gen.facts) := by
  intro m g m' g' hpre hargs
  refine ⟨fun c => (Cert.KernelIdeal.Gen.dats m 0 c).arrAt 7 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v97_eq]
  obtain ⟨a0, a1, a2, a3, a4, a5, a6, a7⟩ := hargs c
  rw [a0, a1, a2, a3, a4, a5, a6, a7]
  exact @Cert.DiffAttn.same_array Cert.Pre_finite.Gen.facts m c (hpre c)

/-- The frame of the projection's reference: its run, and its counters because it declares none. -/
theorem frame_ri2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The projection's value claim: each of the kernel's six results is the array its grid leaves, and that is the reference's. -/
theorem algebraic2 : Cert.algebraic_Kernel2Ideal_Reference2Ideal := by
  intro m g m' g' hpre hargs
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 11 Cert.Kernel2Ideal.cfg0.N,
    Cert.Kernel2Ideal.Value.run_blocks (F := Ideal) m g, ?_⟩
  refine (θ_run Cert.Reference2Ideal.defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference2Ideal.Value.run (F := Ideal) m' g')
  all_goals obtain ⟨a0, a1, a2, a3, a4, a5, a6, a7⟩ := hargs c
  · rw [Cert.Reference2Ideal.Read.val_main_v137_eq, a0, a1, a2, a3, a4, a5, a6, a7]
    exact Cert.PreAttn.same_q m c
  · rw [Cert.Reference2Ideal.Read.val_main_v141_eq, a0, a1, a2, a3, a4, a5, a6, a7]
    exact Cert.PreAttn.same_k m c
  · rw [Cert.Reference2Ideal.Read.val_main_v147_eq, a0, a1, a2, a3, a4, a5, a6, a7]
    exact Cert.PreAttn.same_dq m c
  · rw [Cert.Reference2Ideal.Read.val_main_v151_eq, a0, a1, a2, a3, a4, a5, a6, a7]
    exact Cert.PreAttn.same_dk m c
  · rw [Cert.Reference2Ideal.Read.val_main_v157_eq, a0, a1, a2, a3, a4, a5]
    exact Cert.PreAttn.same_v m c
  · rw [Cert.Reference2Ideal.Read.val_main_v163_eq, a0, a1, a2, a3, a4, a5]
    exact Cert.PreAttn.same_dv m c

/-- The frame of the reference of the recurrence layer's input projection: its run, and its counters because it declares none. -/
theorem frame_ri3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The value claim of the recurrence layer's input projection: each of the kernel's results is the array its grid leaves, and that is the reference's. -/
theorem algebraic3 : Cert.algebraic_Kernel3Ideal_Reference3Ideal := by
  intro m g m' g' hpre hargs
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    Cert.Kernel3Ideal.Value.run_blocks (F := Ideal) m g, ?_⟩
  refine (θ_run Cert.Reference3Ideal.defs _ _).mono (fun r h c => ⟨(h c).1.trans ?_, (h c).2.1.trans ?_, (h c).2.2.1.trans ?_, (h c).2.2.2⟩)
    (Cert.Reference3Ideal.Value.run (F := Ideal) m' g')
  all_goals obtain ⟨a0, a1, a2, a3, a4, a5⟩ := hargs c
  · rw [Cert.Reference3Ideal.Read.val_main_v60_eq, a0, a1, a2, a3, a4, a5]
    exact Cert.PreRec.same_pool m c
  · rw [Cert.Reference3Ideal.Read.val_main_v63_eq, a0, a1, a2, a3, a4, a5]
    exact Cert.PreRec.same_rec m c
  · rw [Cert.Reference3Ideal.Read.val_main_v66_eq, a0, a1, a2, a3, a4, a5]
    exact Cert.PreRec.same_gate m c

/-- The frame of the reference of the attention layer's output projection: its run, and its counters because it declares none. -/
theorem frame_ri4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The value claim of the attention layer's output projection: each of the kernel's results is the array its grid leaves, and that is the reference's. -/
theorem algebraic4 : Cert.algebraic_Kernel4Ideal_Reference4Ideal := by
  intro m g m' g' hpre hargs
  refine ⟨fun c => (Cert.Kernel4Ideal.Gen.dats m 0 c).arrAt 6 Cert.Kernel4Ideal.cfg0.N,
    fun c => (Cert.Kernel4Ideal.Gen.dats m 0 c).arrAt 7 Cert.Kernel4Ideal.cfg0.N,
    Cert.Kernel4Ideal.Value.run_blocks (F := Ideal) m g, ?_⟩
  refine (θ_run Cert.Reference4Ideal.defs _ _).mono (fun r h c => ⟨(h c).1.trans ?_, (h c).2.1.trans ?_, (h c).2.2⟩)
    (Cert.Reference4Ideal.Value.run (F := Ideal) m' g')
  all_goals obtain ⟨a0, a1, a2, a3, a4, a5, a6, a7, a8, a9⟩ := hargs c
  · rw [Cert.Reference4Ideal.Read.val_main_v68_eq, a0, a1, a2, a3, a4, a5, a6, a7, a9]
    exact Cert.PostAttn.same_one m c
  · rw [Cert.Reference4Ideal.Read.val_main_v72_eq, a0, a1, a2, a3, a4, a5, a6, a7, a8, a9]
    exact Cert.PostAttn.same_two m c

/-- The frame of the reference of the recurrence layer's output projection: its run, and its counters because it declares none. -/
theorem frame_ri5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

set_option maxHeartbeats 1000000 in
/-- The value claim of the recurrence layer's output projection: each of the kernel's results is the array its grid leaves, and that is the reference's. -/
theorem algebraic5 : Cert.algebraic_Kernel5Ideal_Reference5Ideal := by
  intro m g m' g' hpre hargs
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    Cert.Kernel5Ideal.Value.run_blocks (F := Ideal) m g, ?_⟩
  refine (θ_run Cert.Reference5Ideal.defs _ _).mono (fun r h c => ⟨(h c).1.trans ?_, (h c).2.1.trans ?_, (h c).2.2⟩)
    (Cert.Reference5Ideal.Value.run (F := Ideal) m' g')
  all_goals obtain ⟨a0, a1, a2, a3, a4, a5, a6, a7, a8, a9, a10, a11, a12, a13⟩ := hargs c
  · rw [Cert.Reference5Ideal.Read.val_main_v86_eq, a0, a1, a2, a3, a4, a5, a6, a7, a8, a9, a10, a11, a13]
    exact Cert.PostRec.same_one m c
  · rw [Cert.Reference5Ideal.Read.val_main_v90_eq, a0, a1, a2, a3, a4, a5, a6, a7, a8, a9, a10, a11, a12, a13]
    exact Cert.PostRec.same_two m c

/-- The frame of the modulation's reference: its run, and its counters because it declares none. -/
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The value claim of the modulation: the kernel's result is the array its grid leaves, and that is the reference's. -/
theorem algebraic6 : Cert.algebraic_Kernel6Ideal_Reference6Ideal := by
  intro m g m' g' hpre hargs
  refine ⟨fun c => (Cert.Kernel6Ideal.Gen.dats m 0 c).arrAt 3 Cert.Kernel6Ideal.cfg0.N,
    Cert.Kernel6Ideal.Value.run_blocks (F := Ideal) m g, ?_⟩
  refine (θ_run Cert.Reference6Ideal.defs _ _).mono (fun r h c => ⟨(h c).1.trans ?_, (h c).2⟩)
    (Cert.Reference6Ideal.Value.run (F := Ideal) m' g')
  obtain ⟨a0, a1, a2, a3⟩ := hargs c
  rw [Cert.Reference6Ideal.Read.val_main_v12_eq, a0, a1, a2, a3]
  exact Cert.Modulation.same m c

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts,
  fun m ρ _ => Cert.Kernel.Gen.frame (F := Bits) m ρ,
  fun m ρ _ => Cert.KernelIdeal.Gen.frame (F := Ideal) m ρ,
  fun m ρ _ => Cert.KernelIdeal.Gen.frame (F := Ideal) m ρ,
  frame_ri,
  fun m ρ _ => frame_ri m ρ trivial,
  fun m ρ _ => Cert.Kernel2.Gen.frame (F := Bits) m ρ,
  fun m ρ _ => Cert.Kernel2Ideal.Gen.frame (F := Ideal) m ρ,
  frame_ri2,
  fun m ρ _ => Cert.Kernel3.Gen.frame (F := Bits) m ρ,
  fun m ρ _ => Cert.Kernel3Ideal.Gen.frame (F := Ideal) m ρ,
  frame_ri3,
  fun m ρ _ => Cert.Kernel4.Gen.frame (F := Bits) m ρ,
  fun m ρ _ => Cert.Kernel4Ideal.Gen.frame (F := Ideal) m ρ,
  frame_ri4,
  fun m ρ _ => Cert.Kernel5.Gen.frame (F := Bits) m ρ,
  fun m ρ _ => Cert.Kernel5Ideal.Gen.frame (F := Ideal) m ρ,
  frame_ri5,
  fun m ρ _ => Cert.Kernel6.Gen.frame (F := Bits) m ρ,
  fun m ρ _ => Cert.Kernel6Ideal.Gen.frame (F := Ideal) m ρ,
  frame_ri6,
  trivial,
  algebraic,
  trivial,
  algebraic2,
  trivial,
  algebraic3,
  trivial,
  algebraic4,
  trivial,
  algebraic5,
  trivial,
  algebraic6⟩

end Cert.Proof

end
